-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts) (hPre_routed : Cert.Pre_routed.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
-- ==== Pre_finite_inputs.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S8x1024 .f32) (main_arg1 : FVec F S1024 .f32) (main_arg2 : FVec F S1x1024x6144 .f32) (main_arg3 : FVec F S1x6144 .f32) : IVec S_ 1 :=
  let main_v0 : FVec F S8x1024 .f32 := subf main_arg0 main_arg0
  let main_cst : FVec F S_ .f32 := constant S_ .f32 0x00000000#32
  let main_v1 : FVec F S8x1024 .f32 := broadcastInDim S8x1024 ![] bcast_S_S8x1024 main_cst
  let main_v2 : IVec S8x1024 1 := cmpf .oeq main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := subf main_arg1 main_arg1
  let main_cst_0 : FVec F S_ .f32 := constant S_ .f32 0x00000000#32
  let main_v5 : FVec F S1024 .f32 := broadcastInDim S1024 ![] bcast_S_S1024 main_cst_0
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x6144 .f32 := subf main_arg2 main_arg2
  let main_cst_2 : FVec F S_ .f32 := constant S_ .f32 0x00000000#32
  let main_v10 : FVec F S1x1024x6144 .f32 := broadcastInDim S1x1024x6144 ![] bcast_S_S1x1024x6144 main_cst_2
  let main_v11 : IVec S1x1024x6144 1 := cmpf .oeq main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  main_v13
-- ==== Pre_routed.lean ====
abbrev S32 : Shape := ⟨1, ![32]⟩
abbrev S81920x1x1024 : Shape := ⟨3, ![81920, 1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩
abbrev S1 : Shape := ⟨1, ![1]⟩
abbrev S31 : Shape := ⟨1, ![31]⟩

class Facts : Prop where
  bcast_S_S32 : S_.BroadcastsInDim S32 (![] : Fin 0 → Fin S32.rank)
  bcast_S_S1 : S_.BroadcastsInDim S1 (![] : Fin 0 → Fin S1.rank)
  slices_S32_S31_0 : S32.Slices ![0] S31
  concatenates_S1_S31_S32_d0 : Shape.Concatenates [S1, S31] S32 0

variable [Facts]

def fn_part1 {F : FTy → Type} [FloatOps F] (main_arg0 : IVec S32 32) (main_v2 : IVec S32 32) (main_v5 : IVec S32 32) (main_v16 : IVec S32 1) (main_c_5 : IVec S_ 32) : IVec S32 1 :=
  let main_v17 : IVec S32 32 := broadcastInDim S32 ![] bcast_S_S32 main_c_5
  let main_v18 : IVec S32 1 := cmpi .sge main_arg0 main_v17
  let main_v19 : IVec S32 1 := andi main_v16 main_v18
  let main_c_6 : IVec S_ 32 := constantI S_ 32 81920#32
  let main_v20 : IVec S32 32 := broadcastInDim S32 ![] bcast_S_S32 main_c_6
  let main_v21 : IVec S32 1 := cmpi .sle main_arg0 main_v20
  let main_v22 : IVec S32 1 := andi main_v19 main_v21
  let main_c_7 : IVec S_ 32 := constantI S_ 32 81920#32
  let main_v23 : IVec S32 32 := broadcastInDim S32 ![] bcast_S_S32 main_c_7
  let main_v24 : IVec S32 1 := cmpi .sle main_v2 main_v23
  let main_v25 : IVec S32 1 := andi main_v22 main_v24
  let main_v26 : IVec S32 1 := cmpi .eq main_arg0 main_v5
  let main_v27 : IVec S32 1 := andi main_v25 main_v26
  main_v27

def fn {F : FTy → Type} [FloatOps F] (main_arg0 : IVec S32 32) (main_arg1 : IVec S32 32) (main_arg2 : IVec S32 32) (main_arg3 : FVec F S81920x1x1024 .f32) (main_arg4 : FVec F S1x32x1024x2048 .f32) (main_arg5 : FVec F S1x32x2048 .f32) (main_arg6 : FVec F S1x32x1024x1024 .f32) (main_arg7 : FVec F S1x32x1024 .f32) : IVec S32 1 :=
  let main_c : IVec S_ 32 := constantI S_ 32 512#32
  let main_v0 : IVec S32 32 := broadcastInDim S32 ![] bcast_S_S32 main_c
  let main_v1 : IVec S32 32 := muli main_v0 main_arg1
  let main_v2 : IVec S32 32 := addi main_arg0 main_v1
  let main_c_0 : IVec S_ 32 := constantI S_ 32 0#32
  let main_v3 : IVec S1 32 := broadcastInDim S1 ![] bcast_S_S1 main_c_0
  let main_v4 : IVec S31 32 := (extractStridedSlice S31 ![0] · slices_S32_S31_0) main_v2
  let main_v5 : IVec S32 32 := (fun a b => concatenate S32 0 [⟨S1, a⟩, ⟨S31, b⟩] concatenates_S1_S31_S32_d0) main_v3 main_v4
  let main_c_1 : IVec S_ 32 := constantI S_ 32 0#32
  let main_v6 : IVec S32 32 := broadcastInDim S32 ![] bcast_S_S32 main_c_1
  let main_v7 : IVec S32 1 := cmpi .sge main_arg1 main_v6
  let main_c_2 : IVec S_ 32 := constantI S_ 32 160#32
  let main_v8 : IVec S32 32 := broadcastInDim S32 ![] bcast_S_S32 main_c_2
  let main_v9 : IVec S32 1 := cmpi .sle main_arg1 main_v8
  let main_v10 : IVec S32 1 := andi main_v7 main_v9
  let main_c_3 : IVec S_ 32 := constantI S_ 32 0#32
  let main_v11 : IVec S32 32 := broadcastInDim S32 ![] bcast_S_S32 main_c_3
  let main_v12 : IVec S32 1 := cmpi .sge main_arg2 main_v11
  let main_v13 : IVec S32 1 := andi main_v10 main_v12
  let main_c_4 : IVec S_ 32 := constantI S_ 32 512#32
  let main_v14 : IVec S32 32 := broadcastInDim S32 ![] bcast_S_S32 main_c_4
  let main_v15 : IVec S32 1 := cmpi .slt main_arg2 main_v14
  let main_v16 : IVec S32 1 := andi main_v13 main_v15
  let main_c_5 : IVec S_ 32 := constantI S_ 32 0#32
  fn_part1 (F := F) main_arg0 main_v2 main_v5 main_v16 main_c_5
-- ==== Kernel.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S16x1024 : Shape := ⟨2, ![16, 1024]⟩
abbrev S1 : Shape := ⟨1, ![1]⟩
abbrev S1024x6144 : Shape := ⟨2, ![1024, 6144]⟩
abbrev S6144 : Shape := ⟨1, ![6144]⟩
abbrev S16x6144 : Shape := ⟨2, ![16, 6144]⟩
abbrev S3x1024x1024 : Shape := ⟨3, ![3, 1024, 1024]⟩
abbrev S3 : Shape := ⟨1, ![3]⟩
abbrev S2x1x1024 : Shape := ⟨3, ![2, 1, 1024]⟩
abbrev S2 : Shape := ⟨1, ![2]⟩
abbrev S2x16x1024 : Shape := ⟨3, ![2, 16, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S32x1024 : Shape := ⟨2, ![32, 1024]⟩
abbrev S1x16x1024 : Shape := ⟨3, ![1, 16, 1024]⟩

abbrev nBuf : Space → Nat
  | .hbm => 16
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S1024x6144, .f32⟩
  | .hbm, ⟨13, _⟩ => ⟨S6144, .f32⟩
  | .hbm, ⟨14, _⟩ => ⟨S1x6144, .f32⟩
  | .hbm, ⟨15, _⟩ => ⟨S16x6144, .f32⟩
  | .local _ .vmem, ⟨0, _⟩ => ⟨S16x1024, .f32⟩
  | .local _ .vmem, ⟨1, _⟩ => ⟨S3x1024x1024, .f32⟩
  | .local _ .vmem, ⟨2, _⟩ => ⟨S2x1x1024, .f32⟩
  | .local _ .vmem, ⟨3, _⟩ => ⟨S2x16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_scoped0 : Ref sig .tc := ⟨.vmem, 0, rfl⟩
abbrev cc0_scoped1 : Ref sig .tc := ⟨.vmem, 1, rfl⟩
abbrev cc0_scoped3 : Ref sig .tc := ⟨.vmem, 2, rfl⟩
abbrev cc0_scoped5 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_19_r0 : BitVec 32 := 0#32
  let c3_i32_r0 : BitVec 32 := 3#32
  let v21_r0 : BitVec 32 := Scalar.remui c0_i32_19_r0 c3_i32_r0
  ![v21_r0.toNat]
def k0_off2 : Fin 3 → Nat :=
  let c0_i32_19_r0 : BitVec 32 := 0#32
  let c3_i32_r0 : BitVec 32 := 3#32
  let v21_r0 : BitVec 32 := Scalar.remui c0_i32_19_r0 c3_i32_r0
  let c0_i32_20_r0 : BitVec 32 := 0#32
  let c0_i32_21_r0 : BitVec 32 := 0#32
  ![v21_r0.toNat, 0, 0]
def k0_off3 : Fin 1 → Nat :=
  let c0_i32_26_r0 : BitVec 32 := 0#32
  let c2_i32_r0 : BitVec 32 := 2#32
  let v28_r0 : BitVec 32 := Scalar.remui c0_i32_26_r0 c2_i32_r0
  ![v28_r0.toNat]
def k0_off4 : Fin 3 → Nat :=
  let c0_i32_26_r0 : BitVec 32 := 0#32
  let c2_i32_r0 : BitVec 32 := 2#32
  let v28_r0 : BitVec 32 := Scalar.remui c0_i32_26_r0 c2_i32_r0
  let c0_i32_27_r0 : BitVec 32 := 0#32
  let c0_i32_28_r0 : BitVec 32 := 0#32
  ![v28_r0.toNat, 0, 0]
def k0_cond1 : BitVec 1 :=
  let true_34_r0 : BitVec 1 := 1#1
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c6_i32_r0 : BitVec 32 := 6#32
  let v8_r0 : BitVec 1 := Scalar.cmpi .eq v7_r0 c6_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let c0_i32_33_r0 : BitVec 32 := 0#32
  let v35_r0 : BitVec 1 := Scalar.cmpi .ne v10_r0 c0_i32_33_r0
  let v36_r0 : BitVec 1 := Scalar.andi true_34_r0 v35_r0
  let true_35_r0 : BitVec 1 := 1#1
  let v37_r0 : BitVec 1 := Scalar.andi v36_r0 true_35_r0
  let v38_r0 : BitVec 32 := Scalar.extui v37_r0
  let c0_i32_36_r0 : BitVec 32 := 0#32
  let v39_r0 : BitVec 1 := Scalar.cmpi .ne v38_r0 c0_i32_36_r0
  v39_r0

def k0_off5 : Fin 1 → Nat :=
  let c0_i32_24_r0 : BitVec 32 := 0#32
  let c1_i32_25_r0 : BitVec 32 := 1#32
  let v27_r0 : BitVec 32 := Scalar.addi c0_i32_24_r0 c1_i32_25_r0
  let c3_i32_78_r0 : BitVec 32 := 3#32
  let v76_r0 : BitVec 32 := Scalar.remui v27_r0 c3_i32_78_r0
  ![v76_r0.toNat]
def k0_off6 : Fin 3 → Nat :=
  let c0_i32_24_r0 : BitVec 32 := 0#32
  let c1_i32_25_r0 : BitVec 32 := 1#32
  let v27_r0 : BitVec 32 := Scalar.addi c0_i32_24_r0 c1_i32_25_r0
  let c3_i32_78_r0 : BitVec 32 := 3#32
  let v76_r0 : BitVec 32 := Scalar.remui v27_r0 c3_i32_78_r0
  let c0_i32_80_r0 : BitVec 32 := 0#32
  let c0_i32_81_r0 : BitVec 32 := 0#32
  ![v76_r0.toNat, 0, 0]
def k0_off7 : Fin 2 → Nat :=
  let c0_i32_82_r0 : BitVec 32 := 0#32
  let c1024_i32_79_r0 : BitVec 32 := 1024#32
  let true_5_r0 : BitVec 1 := 1#1
  let c1_i32_r0 : BitVec 32 := 1#32
  let c0_i32_6_r0 : BitVec 32 := 0#32
  let v7_r0 : BitVec 32 := Scalar.select true_5_r0 c1_i32_r0 c0_i32_6_r0
  let c6_i32_r0 : BitVec 32 := 6#32
  let v8_r0 : BitVec 1 := Scalar.cmpi .eq v7_r0 c6_i32_r0
  let c0_i32_7_r0 : BitVec 32 := 0#32
  let v9_r0 : BitVec 32 := Scalar.select v8_r0 c0_i32_7_r0 v7_r0
  let c0_i32_8_r0 : BitVec 32 := 0#32
  let v10_r0 : BitVec 32 := Scalar.addi v9_r0 c0_i32_8_r0
  let v77_r0 : BitVec 32 := Scalar.muli c1024_i32_79_r0 v10_r0
  ![0, v77_r0.toNat]
@[reducible] def k0_t1_loop : Scf.Loop 32 :=
  let c0_i32_45_r0 : BitVec 32 := 0#32
  let c6_i32_46_r0 : BitVec 32 := 6#32
  let v42_r0 : BitVec 32 := Scalar.addi c0_i32_45_r0 c6_i32_46_r0
  let c1_i32_47_r0 : BitVec 32 := 1#32
  ⟨c0_i32_45_r0, v42_r0, c1_i32_47_r0⟩
def k0_off8 (arg6_r0 : BitVec 32) : Fin 1 → Nat :=
  let c3_i32_158_r0 : BitVec 32 := 3#32
  let v233_r0 : BitVec 32 := Scalar.remui arg6_r0 c3_i32_158_r0
  ![v233_r0.toNat]
def k0_cond2 (k0_t1 : Fin k0_t1_loop.trips) (arg12_r0 : BitVec 32) : BitVec 1 :=
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c6_i32_88_r0 : BitVec 32 := 6#32
  let v86_r0 : BitVec 1 := Scalar.cmpi .eq v85_r0 c6_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let true_92_r0 : BitVec 1 := 1#1
  let c1_i32_91_r0 : BitVec 32 := 1#32
  let v89_r0 : BitVec 32 := Scalar.addi v87_r0 c1_i32_91_r0
  let v90_r0 : BitVec 32 := Scalar.select true_92_r0 v89_r0 v87_r0
  let c6_i32_93_r0 : BitVec 32 := 6#32
  let v91_r0 : BitVec 1 := Scalar.cmpi .eq v90_r0 c6_i32_93_r0
  let c0_i32_94_r0 : BitVec 32 := 0#32
  let v92_r0 : BitVec 32 := Scalar.select v91_r0 c0_i32_94_r0 v90_r0
  let c0_i32_95_r0 : BitVec 32 := 0#32
  let v93_r0 : BitVec 32 := Scalar.addi v92_r0 c0_i32_95_r0
  let v99_r0 : BitVec 1 := Scalar.cmpi .ne v88_r0 v93_r0
  let c0_i32_45_r0 : BitVec 32 := 0#32
  let c1_i32_47_r0 : BitVec 32 := 1#32
  let arg4_r0 : BitVec 32 := Scf.iv c0_i32_45_r0 c1_i32_47_r0 k0_t1
  let c4_i32_r0 : BitVec 32 := 4#32
  let v100_r0 : BitVec 1 := Scalar.cmpi .sge arg4_r0 c4_i32_r0
  let true_101_r0 : BitVec 1 := 1#1
  let v101_r0 : BitVec 1 := Scalar.xori v100_r0 true_101_r0
  let v102_r0 : BitVec 1 := Scalar.andi v99_r0 v101_r0
  let true_102_r0 : BitVec 1 := 1#1
  let v103_r0 : BitVec 1 := Scalar.andi v102_r0 true_102_r0
  let v104_r0 : BitVec 32 := Scalar.extui v103_r0
  let c0_i32_103_r0 : BitVec 32 := 0#32
  let v105_r0 : BitVec 1 := Scalar.cmpi .ne v104_r0 c0_i32_103_r0
  v105_r0

def k0_off9 (arg6_r0 : BitVec 32) : Fin 3 → Nat :=
  let c3_i32_158_r0 : BitVec 32 := 3#32
  let v233_r0 : BitVec 32 := Scalar.remui arg6_r0 c3_i32_158_r0
  let c0_i32_160_r0 : BitVec 32 := 0#32
  let c0_i32_161_r0 : BitVec 32 := 0#32
  ![v233_r0.toNat, 0, 0]
def k0_off10 (arg12_r0 : BitVec 32) : Fin 2 → Nat :=
  let c0_i32_162_r0 : BitVec 32 := 0#32
  let c1024_i32_159_r0 : BitVec 32 := 1024#32
  let true_92_r0 : BitVec 1 := 1#1
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c6_i32_88_r0 : BitVec 32 := 6#32
  let v86_r0 : BitVec 1 := Scalar.cmpi .eq v85_r0 c6_i32_88_r0
  let c0_i32_89_r0 : BitVec 32 := 0#32
  let v87_r0 : BitVec 32 := Scalar.select v86_r0 c0_i32_89_r0 v85_r0
  let c1_i32_91_r0 : BitVec 32 := 1#32
  let v89_r0 : BitVec 32 := Scalar.addi v87_r0 c1_i32_91_r0
  let v90_r0 : BitVec 32 := Scalar.select true_92_r0 v89_r0 v87_r0
  let c6_i32_93_r0 : BitVec 32 := 6#32
  let v91_r0 : BitVec 1 := Scalar.cmpi .eq v90_r0 c6_i32_93_r0
  let c0_i32_94_r0 : BitVec 32 := 0#32
  let v92_r0 : BitVec 32 := Scalar.select v91_r0 c0_i32_94_r0 v90_r0
  let c0_i32_95_r0 : BitVec 32 := 0#32
  let v93_r0 : BitVec 32 := Scalar.addi v92_r0 c0_i32_95_r0
  let v234_r0 : BitVec 32 := Scalar.muli c1024_i32_159_r0 v93_r0
  ![0, v234_r0.toNat]
def k0_off11 (arg8_r0 : BitVec 32) : Fin 1 → Nat :=
  let c2_i32_158_r0 : BitVec 32 := 2#32
  let v233_r0 : BitVec 32 := Scalar.remui arg8_r0 c2_i32_158_r0
  ![v233_r0.toNat]
def k0_cond3 (k0_t1 : Fin k0_t1_loop.trips) (arg12_r0 : BitVec 32) : BitVec 1 :=
  let c0_i32_80_r0 : BitVec 32 := 0#32
  let v78_r0 : BitVec 32 := Scalar.addi arg12_r0 c0_i32_80_r0
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c6_i32_88_r0 : BitVec 32 := 6#32
  let v86_r0 : BitVec 1 := Scalar.cmpi .eq v85_r0 c6_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let v109_r0 : BitVec 1 := Scalar.cmpi .ne v78_r0 v88_r0
  let c0_i32_45_r0 : BitVec 32 := 0#32
  let c1_i32_47_r0 : BitVec 32 := 1#32
  let arg4_r0 : BitVec 32 := Scf.iv c0_i32_45_r0 c1_i32_47_r0 k0_t1
  let c5_i32_106_r0 : BitVec 32 := 5#32
  let v110_r0 : BitVec 1 := Scalar.cmpi .sge arg4_r0 c5_i32_106_r0
  let true_107_r0 : BitVec 1 := 1#1
  let v111_r0 : BitVec 1 := Scalar.xori v110_r0 true_107_r0
  let v112_r0 : BitVec 1 := Scalar.andi v109_r0 v111_r0
  let true_108_r0 : BitVec 1 := 1#1
  let v113_r0 : BitVec 1 := Scalar.andi v112_r0 true_108_r0
  let v114_r0 : BitVec 32 := Scalar.extui v113_r0
  let c0_i32_109_r0 : BitVec 32 := 0#32
  let v115_r0 : BitVec 1 := Scalar.cmpi .ne v114_r0 c0_i32_109_r0
  v115_r0

def k0_off12 (arg8_r0 : BitVec 32) : Fin 3 → Nat :=
  let c2_i32_158_r0 : BitVec 32 := 2#32
  let v233_r0 : BitVec 32 := Scalar.remui arg8_r0 c2_i32_158_r0
  let c0_i32_160_r0 : BitVec 32 := 0#32
  let c0_i32_161_r0 : BitVec 32 := 0#32
  ![v233_r0.toNat, 0, 0]
def k0_off13 (arg12_r0 : BitVec 32) : Fin 2 → Nat :=
  let c0_i32_162_r0 : BitVec 32 := 0#32
  let c1024_i32_159_r0 : BitVec 32 := 1024#32
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c6_i32_88_r0 : BitVec 32 := 6#32
  let v86_r0 : BitVec 1 := Scalar.cmpi .eq v85_r0 c6_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let v234_r0 : BitVec 32 := Scalar.muli c1024_i32_159_r0 v88_r0
  ![0, v234_r0.toNat]
def k0_off14 (arg7_r0 : BitVec 32) : Fin 1 → Nat :=
  let c3_i32_159_r0 : BitVec 32 := 3#32
  let v234_r0 : BitVec 32 := Scalar.remui arg7_r0 c3_i32_159_r0
  ![v234_r0.toNat]
def k0_cond4 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c5_i32_84_r0 : BitVec 32 := 5#32
  let v82_r0 : BitVec 32 := Scalar.select v81_r0 c5_i32_84_r0 v80_r0
  let c0_i32_85_r0 : BitVec 32 := 0#32
  let v83_r0 : BitVec 32 := Scalar.addi v82_r0 c0_i32_85_r0
  let v123_r0 : BitVec 1 := Scalar.cmpi .ne v78_r0 v83_r0
  let c0_i32_45_r0 : BitVec 32 := 0#32
  let c1_i32_47_r0 : BitVec 32 := 1#32
  let arg4_r0 : BitVec 32 := Scf.iv c0_i32_45_r0 c1_i32_47_r0 k0_t1
  let c0_i32_78_r0 : BitVec 32 := 0#32
  let v76_r0 : BitVec 1 := Scalar.cmpi .eq arg4_r0 c0_i32_78_r0
  let v124_r0 : BitVec 1 := Scalar.ori v123_r0 v76_r0
  let c0_i32_114_r0 : BitVec 32 := 0#32
  let v125_r0 : BitVec 1 := Scalar.cmpi .sge arg4_r0 c0_i32_114_r0
  let v126_r0 : BitVec 1 := Scalar.andi v124_r0 v125_r0
  let v127_r0 : BitVec 32 := Scalar.extui v126_r0
  let c0_i32_115_r0 : BitVec 32 := 0#32
  let v128_r0 : BitVec 1 := Scalar.cmpi .ne v127_r0 c0_i32_115_r0
  v128_r0

def k0_off15 (arg7_r0 : BitVec 32) : Fin 3 → Nat :=
  let c3_i32_159_r0 : BitVec 32 := 3#32
  let v234_r0 : BitVec 32 := Scalar.remui arg7_r0 c3_i32_159_r0
  let c0_i32_160_r0 : BitVec 32 := 0#32
  let c0_i32_161_r0 : BitVec 32 := 0#32
  ![v234_r0.toNat, 0, 0]
def k0_off16 (arg12_r0 : BitVec 32) : Fin 2 → Nat :=
  let c0_i32_162_r0 : BitVec 32 := 0#32
  let c1024_i32_158_r0 : BitVec 32 := 1024#32
  let c0_i32_80_r0 : BitVec 32 := 0#32
  let v78_r0 : BitVec 32 := Scalar.addi arg12_r0 c0_i32_80_r0
  let v233_r0 : BitVec 32 := Scalar.muli c1024_i32_158_r0 v78_r0
  ![0, v233_r0.toNat]
def k0_off17 (arg9_r0 : BitVec 32) : Fin 1 → Nat :=
  let c2_i32_159_r0 : BitVec 32 := 2#32
  let v234_r0 : BitVec 32 := Scalar.remui arg9_r0 c2_i32_159_r0
  ![v234_r0.toNat]
def k0_cond5 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c5_i32_84_r0 : BitVec 32 := 5#32
  let v82_r0 : BitVec 32 := Scalar.select v81_r0 c5_i32_84_r0 v80_r0
  let c0_i32_85_r0 : BitVec 32 := 0#32
  let v83_r0 : BitVec 32 := Scalar.addi v82_r0 c0_i32_85_r0
  let v129_r0 : BitVec 1 := Scalar.cmpi .ne v78_r0 v83_r0
  let c0_i32_45_r0 : BitVec 32 := 0#32
  let c1_i32_47_r0 : BitVec 32 := 1#32
  let arg4_r0 : BitVec 32 := Scf.iv c0_i32_45_r0 c1_i32_47_r0 k0_t1
  let c0_i32_78_r0 : BitVec 32 := 0#32
  let v76_r0 : BitVec 1 := Scalar.cmpi .eq arg4_r0 c0_i32_78_r0
  let v130_r0 : BitVec 1 := Scalar.ori v129_r0 v76_r0
  let c0_i32_116_r0 : BitVec 32 := 0#32
  let v131_r0 : BitVec 1 := Scalar.cmpi .sge arg4_r0 c0_i32_116_r0
  let v132_r0 : BitVec 1 := Scalar.andi v130_r0 v131_r0
  let v133_r0 : BitVec 32 := Scalar.extui v132_r0
  let c0_i32_117_r0 : BitVec 32 := 0#32
  let v134_r0 : BitVec 1 := Scalar.cmpi .ne v133_r0 c0_i32_117_r0
  v134_r0

def k0_off18 (arg9_r0 : BitVec 32) : Fin 3 → Nat :=
  let c2_i32_159_r0 : BitVec 32 := 2#32
  let v234_r0 : BitVec 32 := Scalar.remui arg9_r0 c2_i32_159_r0
  let c0_i32_160_r0 : BitVec 32 := 0#32
  let c0_i32_161_r0 : BitVec 32 := 0#32
  ![v234_r0.toNat, 0, 0]
def k0_off19 (arg12_r0 : BitVec 32) : Fin 2 → Nat :=
  let c0_i32_162_r0 : BitVec 32 := 0#32
  let c1024_i32_158_r0 : BitVec 32 := 1024#32
  let c0_i32_80_r0 : BitVec 32 := 0#32
  let v78_r0 : BitVec 32 := Scalar.addi arg12_r0 c0_i32_80_r0
  let v233_r0 : BitVec 32 := Scalar.muli c1024_i32_158_r0 v78_r0
  ![0, v233_r0.toNat]
def k0_off20 (arg7_r0 : BitVec 32) : Fin 3 → Nat :=
  let c3_i32_120_r0 : BitVec 32 := 3#32
  let v141_r0 : BitVec 32 := Scalar.remui arg7_r0 c3_i32_120_r0
  let v158_r0 : Index := Scalar.indexCast v141_r0
  let c0_126_r0 : Index := 0#32
  let c0_127_r0 : Index := 0#32
  ![v158_r0.toNat, 0, 0]

def k0_chk2 (arg7_r0 : BitVec 32) : Prop :=
  (∀ a, (k0_off20 arg7_r0) a + S1x1024x1024.size a ≤ S3x1024x1024.size a)
theorem k0_off20_inb : ∀ (arg7_r0 : BitVec 32) (k0_hw2 : k0_chk2 arg7_r0), ∀ a, (k0_off20 arg7_r0) a + S1x1024x1024.size a ≤ S3x1024x1024.size a := fun arg7_r0 k0_hw2 => k0_hw2

def k0_off21 (arg9_r0 : BitVec 32) : Fin 3 → Nat :=
  let c2_i32_121_r0 : BitVec 32 := 2#32
  let v142_r0 : BitVec 32 := Scalar.remui arg9_r0 c2_i32_121_r0
  let v172_r0 : Index := Scalar.indexCast v142_r0
  let c0_130_r0 : Index := 0#32
  let c0_131_r0 : Index := 0#32
  ![v172_r0.toNat, 0, 0]

def k0_chk3 (arg9_r0 : BitVec 32) : Prop :=
  (∀ a, (k0_off21 arg9_r0) a + S1x1x1024.size a ≤ S2x1x1024.size a)
theorem k0_off21_inb : ∀ (arg9_r0 : BitVec 32) (k0_hw3 : k0_chk3 arg9_r0), ∀ a, (k0_off21 arg9_r0) a + S1x1x1024.size a ≤ S2x1x1024.size a := fun arg9_r0 k0_hw3 => k0_hw3

def k0_off22 (arg10_r0 : BitVec 32) : Fin 3 → Nat :=
  let c2_i32_122_r0 : BitVec 32 := 2#32
  let v143_r0 : BitVec 32 := Scalar.remui arg10_r0 c2_i32_122_r0
  let v177_r0 : Index := Scalar.indexCast v143_r0
  let c0_132_r0 : Index := 0#32
  let c0_133_r0 : Index := 0#32
  ![v177_r0.toNat, 0, 0]

def k0_chk4 (arg10_r0 : BitVec 32) : Prop :=
  (∀ a, (k0_off22 arg10_r0) a + S1x16x1024.size a ≤ S2x16x1024.size a)
theorem k0_off22_inb : ∀ (arg10_r0 : BitVec 32) (k0_hw4 : k0_chk4 arg10_r0), ∀ a, (k0_off22 arg10_r0) a + S1x16x1024.size a ≤ S2x16x1024.size a := fun arg10_r0 k0_hw4 => k0_hw4

def k0_off23 (arg10_r0 : BitVec 32) : Fin 1 → Nat :=
  let c2_i32_158_r0 : BitVec 32 := 2#32
  let v233_r0 : BitVec 32 := Scalar.remui arg10_r0 c2_i32_158_r0
  ![v233_r0.toNat]
def k0_cond9 (k0_t1 : Fin k0_t1_loop.trips) (arg12_r0 : BitVec 32) : BitVec 1 :=
  let c0_i32_80_r0 : BitVec 32 := 0#32
  let v78_r0 : BitVec 32 := Scalar.addi arg12_r0 c0_i32_80_r0
  let true_87_r0 : BitVec 1 := 1#1
  let c1_i32_86_r0 : BitVec 32 := 1#32
  let v84_r0 : BitVec 32 := Scalar.addi arg12_r0 c1_i32_86_r0
  let v85_r0 : BitVec 32 := Scalar.select true_87_r0 v84_r0 arg12_r0
  let c6_i32_88_r0 : BitVec 32 := 6#32
  let v86_r0 : BitVec 1 := Scalar.cmpi .eq v85_r0 c6_i32_88_r0
  let c0_i32_89_r0 : BitVec 32 := 0#32
  let v87_r0 : BitVec 32 := Scalar.select v86_r0 c0_i32_89_r0 v85_r0
  let c0_i32_90_r0 : BitVec 32 := 0#32
  let v88_r0 : BitVec 32 := Scalar.addi v87_r0 c0_i32_90_r0
  let v191_r0 : BitVec 1 := Scalar.cmpi .ne v78_r0 v88_r0
  let c0_i32_45_r0 : BitVec 32 := 0#32
  let c1_i32_47_r0 : BitVec 32 := 1#32
  let arg4_r0 : BitVec 32 := Scf.iv c0_i32_45_r0 c1_i32_47_r0 k0_t1
  let c5_i32_79_r0 : BitVec 32 := 5#32
  let v77_r0 : BitVec 1 := Scalar.cmpi .eq arg4_r0 c5_i32_79_r0
  let v192_r0 : BitVec 1 := Scalar.ori v191_r0 v77_r0
  let v193_r0 : BitVec 32 := Scalar.extui v192_r0
  let c0_i32_137_r0 : BitVec 32 := 0#32
  let v194_r0 : BitVec 1 := Scalar.cmpi .ne v193_r0 c0_i32_137_r0
  v194_r0

def k0_off24 (arg12_r0 : BitVec 32) : Fin 2 → Nat :=
  let c0_i32_160_r0 : BitVec 32 := 0#32
  let c1024_i32_159_r0 : BitVec 32 := 1024#32
  let c0_i32_80_r0 : BitVec 32 := 0#32
  let v78_r0 : BitVec 32 := Scalar.addi arg12_r0 c0_i32_80_r0
  let v234_r0 : BitVec 32 := Scalar.muli c1024_i32_159_r0 v78_r0
  ![0, v234_r0.toNat]
def k0_off25 (arg10_r0 : BitVec 32) : Fin 3 → Nat :=
  let c2_i32_158_r0 : BitVec 32 := 2#32
  let v233_r0 : BitVec 32 := Scalar.remui arg10_r0 c2_i32_158_r0
  let c0_i32_161_r0 : BitVec 32 := 0#32
  let c0_i32_162_r0 : BitVec 32 := 0#32
  ![v233_r0.toNat, 0, 0]
def k0_off26 (arg11_r0 : BitVec 32) : Fin 1 → Nat :=
  let c2_i32_158_r0 : BitVec 32 := 2#32
  let v233_r0 : BitVec 32 := Scalar.remui arg11_r0 c2_i32_158_r0
  ![v233_r0.toNat]
def k0_cond12 (k0_t1 : Fin k0_t1_loop.trips) (arg12_r0 : BitVec 32) : BitVec 1 :=
  let c0_i32_80_r0 : BitVec 32 := 0#32
  let v78_r0 : BitVec 32 := Scalar.addi arg12_r0 c0_i32_80_r0
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c5_i32_84_r0 : BitVec 32 := 5#32
  let v82_r0 : BitVec 32 := Scalar.select v81_r0 c5_i32_84_r0 v80_r0
  let c0_i32_85_r0 : BitVec 32 := 0#32
  let v83_r0 : BitVec 32 := Scalar.addi v82_r0 c0_i32_85_r0
  let v210_r0 : BitVec 1 := Scalar.cmpi .ne v78_r0 v83_r0
  let c0_i32_45_r0 : BitVec 32 := 0#32
  let c1_i32_47_r0 : BitVec 32 := 1#32
  let arg4_r0 : BitVec 32 := Scf.iv c0_i32_45_r0 c1_i32_47_r0 k0_t1
  let c0_i32_78_r0 : BitVec 32 := 0#32
  let v76_r0 : BitVec 1 := Scalar.cmpi .eq arg4_r0 c0_i32_78_r0
  let true_146_r0 : BitVec 1 := 1#1
  let v211_r0 : BitVec 1 := Scalar.xori v76_r0 true_146_r0
  let v212_r0 : BitVec 1 := Scalar.andi v210_r0 v211_r0
  let v213_r0 : BitVec 32 := Scalar.extui v212_r0
  let c0_i32_147_r0 : BitVec 32 := 0#32
  let v214_r0 : BitVec 1 := Scalar.cmpi .ne v213_r0 c0_i32_147_r0
  v214_r0

def k0_off27 (arg12_r0 : BitVec 32) : Fin 2 → Nat :=
  let c0_i32_160_r0 : BitVec 32 := 0#32
  let c1024_i32_159_r0 : BitVec 32 := 1024#32
  let true_82_r0 : BitVec 1 := 1#1
  let c1_i32_81_r0 : BitVec 32 := 1#32
  let v79_r0 : BitVec 32 := Scalar.subi arg12_r0 c1_i32_81_r0
  let v80_r0 : BitVec 32 := Scalar.select true_82_r0 v79_r0 arg12_r0
  let c_m1_i32_83_r0 : BitVec 32 := 4294967295#32
  let v81_r0 : BitVec 1 := Scalar.cmpi .eq v80_r0 c_m1_i32_83_r0
  let c5_i32_84_r0 : BitVec 32 := 5#32
  let v82_r0 : BitVec 32 := Scalar.select v81_r0 c5_i32_84_r0 v80_r0
  let c0_i32_85_r0 : BitVec 32 := 0#32
  let v83_r0 : BitVec 32 := Scalar.addi v82_r0 c0_i32_85_r0
  let v234_r0 : BitVec 32 := Scalar.muli c1024_i32_159_r0 v83_r0
  ![0, v234_r0.toNat]
def k0_off28 (arg11_r0 : BitVec 32) : Fin 3 → Nat :=
  let c2_i32_158_r0 : BitVec 32 := 2#32
  let v233_r0 : BitVec 32 := Scalar.remui arg11_r0 c2_i32_158_r0
  let c0_i32_161_r0 : BitVec 32 := 0#32
  let c0_i32_162_r0 : BitVec 32 := 0#32
  ![v233_r0.toNat, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h2 : k0_cond2 k0_t1 arg12_r0 = 1#1), ∀ a, (k0_off8 arg6_r0) a + S1.size a ≤ S3.size a) ∧
  (∀ (k0_h2 : k0_cond2 k0_t1 arg12_r0 = 1#1), ∀ a, (k0_off9 arg6_r0) a + S1x1024x1024.size a ≤ S3x1024x1024.size a) ∧
  (∀ (k0_h2 : k0_cond2 k0_t1 arg12_r0 = 1#1), ∀ a, (k0_off10 arg12_r0) a + S1024x1024.size a ≤ S1024x6144.size a) ∧
  (∀ (k0_h3 : k0_cond3 k0_t1 arg12_r0 = 1#1), ∀ a, (k0_off11 arg8_r0) a + S1.size a ≤ S2.size a) ∧
  (∀ (k0_h3 : k0_cond3 k0_t1 arg12_r0 = 1#1), ∀ a, (k0_off12 arg8_r0) a + S1x1x1024.size a ≤ S2x1x1024.size a) ∧
  (∀ (k0_h3 : k0_cond3 k0_t1 arg12_r0 = 1#1), ∀ a, (k0_off13 arg12_r0) a + S1x1024.size a ≤ S1x6144.size a) ∧
  (∀ (k0_h4 : k0_cond4 k0_t1 arg12_r0 = 1#1), ∀ a, (k0_off14 arg7_r0) a + S1.size a ≤ S3.size a) ∧
  (∀ (k0_h4 : k0_cond4 k0_t1 arg12_r0 = 1#1), ∀ a, (k0_off15 arg7_r0) a + S1x1024x1024.size a ≤ S3x1024x1024.size a) ∧
  (∀ (k0_h4 : k0_cond4 k0_t1 arg12_r0 = 1#1), ∀ a, (k0_off16 arg12_r0) a + S1024x1024.size a ≤ S1024x6144.size a) ∧
  (∀ (k0_h5 : k0_cond5 k0_t1 arg12_r0 = 1#1), ∀ a, (k0_off17 arg9_r0) a + S1.size a ≤ S2.size a) ∧
  (∀ (k0_h5 : k0_cond5 k0_t1 arg12_r0 = 1#1), ∀ a, (k0_off18 arg9_r0) a + S1x1x1024.size a ≤ S2x1x1024.size a) ∧
  (∀ (k0_h5 : k0_cond5 k0_t1 arg12_r0 = 1#1), ∀ a, (k0_off19 arg12_r0) a + S1x1024.size a ≤ S1x6144.size a) ∧
  (∀ (k0_h9 : k0_cond9 k0_t1 arg12_r0 = 1#1), ∀ a, (k0_off23 arg10_r0) a + S1.size a ≤ S2.size a) ∧
  (∀ (k0_h9 : k0_cond9 k0_t1 arg12_r0 = 1#1), ∀ a, (k0_off24 arg12_r0) a + S16x1024.size a ≤ S16x6144.size a) ∧
  (∀ (k0_h9 : k0_cond9 k0_t1 arg12_r0 = 1#1), ∀ a, (k0_off25 arg10_r0) a + S1x16x1024.size a ≤ S2x16x1024.size a) ∧
  (∀ (k0_h12 : k0_cond12 k0_t1 arg12_r0 = 1#1), ∀ a, (k0_off26 arg11_r0) a + S1.size a ≤ S2.size a) ∧
  (∀ (k0_h12 : k0_cond12 k0_t1 arg12_r0 = 1#1), ∀ a, (k0_off27 arg12_r0) a + S16x1024.size a ≤ S16x6144.size a) ∧
  (∀ (k0_h12 : k0_cond12 k0_t1 arg12_r0 = 1#1), ∀ a, (k0_off28 arg11_r0) a + S1x16x1024.size a ≤ S2x16x1024.size a)
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off8 arg6_r0) a + S1.size a ≤ S3.size a := fun k0_t1 arg6_r0 arg7_r0 arg8_r0 arg9_r0 arg10_r0 arg11_r0 arg12_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off9 arg6_r0) a + S1x1024x1024.size a ≤ S3x1024x1024.size a := fun k0_t1 arg6_r0 arg7_r0 arg8_r0 arg9_r0 arg10_r0 arg11_r0 arg12_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h2 : k0_cond2 k0_t1 arg12_r0 = 1#1), ∀ a, (k0_off10 arg12_r0) a + S1024x1024.size a ≤ S1024x6144.size a := fun k0_t1 arg6_r0 arg7_r0 arg8_r0 arg9_r0 arg10_r0 arg11_r0 arg12_r0 k0_hw1 k0_h2 => k0_hw1.2.2.1 k0_h2
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off11 arg8_r0) a + S1.size a ≤ S2.size a := fun k0_t1 arg6_r0 arg7_r0 arg8_r0 arg9_r0 arg10_r0 arg11_r0 arg12_r0 k0_hw1 k0_h3 => k0_hw1.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off12 arg8_r0) a + S1x1x1024.size a ≤ S2x1x1024.size a := fun k0_t1 arg6_r0 arg7_r0 arg8_r0 arg9_r0 arg10_r0 arg11_r0 arg12_r0 k0_hw1 k0_h3 => k0_hw1.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h3 : k0_cond3 k0_t1 arg12_r0 = 1#1), ∀ a, (k0_off13 arg12_r0) a + S1x1024.size a ≤ S1x6144.size a := fun k0_t1 arg6_r0 arg7_r0 arg8_r0 arg9_r0 arg10_r0 arg11_r0 arg12_r0 k0_hw1 k0_h3 => k0_hw1.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off14 arg7_r0) a + S1.size a ≤ S3.size a := fun k0_t1 arg6_r0 arg7_r0 arg8_r0 arg9_r0 arg10_r0 arg11_r0 arg12_r0 k0_hw1 k0_h4 => k0_hw1.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off15 arg7_r0) a + S1x1024x1024.size a ≤ S3x1024x1024.size a := fun k0_t1 arg6_r0 arg7_r0 arg8_r0 arg9_r0 arg10_r0 arg11_r0 arg12_r0 k0_hw1 k0_h4 => k0_hw1.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h4 : k0_cond4 k0_t1 arg12_r0 = 1#1), ∀ a, (k0_off16 arg12_r0) a + S1024x1024.size a ≤ S1024x6144.size a := fun k0_t1 arg6_r0 arg7_r0 arg8_r0 arg9_r0 arg10_r0 arg11_r0 arg12_r0 k0_hw1 k0_h4 => k0_hw1.2.2.2.2.2.2.2.2.1 k0_h4
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h5 : k0_cond5 k0_t1 arg12_r0 = 1#1), ∀ a, (k0_off17 arg9_r0) a + S1.size a ≤ S2.size a := fun k0_t1 arg6_r0 arg7_r0 arg8_r0 arg9_r0 arg10_r0 arg11_r0 arg12_r0 k0_hw1 k0_h5 => k0_hw1.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h5 : k0_cond5 k0_t1 arg12_r0 = 1#1), ∀ a, (k0_off18 arg9_r0) a + S1x1x1024.size a ≤ S2x1x1024.size a := fun k0_t1 arg6_r0 arg7_r0 arg8_r0 arg9_r0 arg10_r0 arg11_r0 arg12_r0 k0_hw1 k0_h5 => k0_hw1.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h5 : k0_cond5 k0_t1 arg12_r0 = 1#1), ∀ a, (k0_off19 arg12_r0) a + S1x1024.size a ≤ S1x6144.size a := fun k0_t1 arg6_r0 arg7_r0 arg8_r0 arg9_r0 arg10_r0 arg11_r0 arg12_r0 k0_hw1 k0_h5 => k0_hw1.2.2.2.2.2.2.2.2.2.2.2.1 k0_h5
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off23 arg10_r0) a + S1.size a ≤ S2.size a := fun k0_t1 arg6_r0 arg7_r0 arg8_r0 arg9_r0 arg10_r0 arg11_r0 arg12_r0 k0_hw1 k0_h9 => k0_hw1.2.2.2.2.2.2.2.2.2.2.2.2.1 k0_h9
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off24 arg12_r0) a + S16x1024.size a ≤ S16x6144.size a := fun k0_t1 arg6_r0 arg7_r0 arg8_r0 arg9_r0 arg10_r0 arg11_r0 arg12_r0 k0_hw1 k0_h9 => k0_hw1.2.2.2.2.2.2.2.2.2.2.2.2.2.1 k0_h9
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off25 arg10_r0) a + S1x16x1024.size a ≤ S2x16x1024.size a := fun k0_t1 arg6_r0 arg7_r0 arg8_r0 arg9_r0 arg10_r0 arg11_r0 arg12_r0 k0_hw1 k0_h9 => k0_hw1.2.2.2.2.2.2.2.2.2.2.2.2.2.2.1 k0_h9
theorem k0_off26_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off26 arg11_r0) a + S1.size a ≤ S2.size a := fun k0_t1 arg6_r0 arg7_r0 arg8_r0 arg9_r0 arg10_r0 arg11_r0 arg12_r0 k0_hw1 k0_h12 => k0_hw1.2.2.2.2.2.2.2.2.2.2.2.2.2.2.2.1 k0_h12
theorem k0_off27_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off27 arg12_r0) a + S16x1024.size a ≤ S16x6144.size a := fun k0_t1 arg6_r0 arg7_r0 arg8_r0 arg9_r0 arg10_r0 arg11_r0 arg12_r0 k0_hw1 k0_h12 => k0_hw1.2.2.2.2.2.2.2.2.2.2.2.2.2.2.2.2.1 k0_h12
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off28 arg11_r0) a + S1x16x1024.size a ≤ S2x16x1024.size a := fun k0_t1 arg6_r0 arg7_r0 arg8_r0 arg9_r0 arg10_r0 arg11_r0 arg12_r0 k0_hw1 k0_h12 => k0_hw1.2.2.2.2.2.2.2.2.2.2.2.2.2.2.2.2.2 k0_h12

def k0_off29 (v43_6_r0 : BitVec 32) : Fin 1 → Nat :=
  let c2_i32_74_r0 : BitVec 32 := 2#32
  let v69_r0 : BitVec 32 := Scalar.remui v43_6_r0 c2_i32_74_r0
  ![v69_r0.toNat]

def k0_off30 (v43_7_r0 : BitVec 32) : Fin 2 → Nat :=
  let c0_i32_75_r0 : BitVec 32 := 0#32
  let c1024_i32_r0 : BitVec 32 := 1024#32
  let true_50_r0 : BitVec 1 := 1#1
  let c1_i32_49_r0 : BitVec 32 := 1#32
  let v44_r0 : BitVec 32 := Scalar.subi v43_7_r0 c1_i32_49_r0
  let v45_r0 : BitVec 32 := Scalar.select true_50_r0 v44_r0 v43_7_r0
  let c_m1_i32_51_r0 : BitVec 32 := 4294967295#32
  let v46_r0 : BitVec 1 := Scalar.cmpi .eq v45_r0 c_m1_i32_51_r0
  let c5_i32_52_r0 : BitVec 32 := 5#32
  let v47_r0 : BitVec 32 := Scalar.select v46_r0 c5_i32_52_r0 v45_r0
  let c0_i32_53_r0 : BitVec 32 := 0#32
  let v48_r0 : BitVec 32 := Scalar.addi v47_r0 c0_i32_53_r0
  let v70_r0 : BitVec 32 := Scalar.muli c1024_i32_r0 v48_r0
  ![0, v70_r0.toNat]

def k0_chk6 (v43_7_r0 : BitVec 32) : Prop :=
  (∀ a, (k0_off30 v43_7_r0) a + S16x1024.size a ≤ S16x6144.size a)
theorem k0_off30_inb : ∀ (v43_7_r0 : BitVec 32) (k0_hw6 : k0_chk6 v43_7_r0), ∀ a, (k0_off30 v43_7_r0) a + S16x1024.size a ≤ S16x6144.size a := fun v43_7_r0 k0_hw6 => k0_hw6

def k0_off31 (v43_6_r0 : BitVec 32) : Fin 3 → Nat :=
  let c2_i32_74_r0 : BitVec 32 := 2#32
  let v69_r0 : BitVec 32 := Scalar.remui v43_6_r0 c2_i32_74_r0
  let c0_i32_76_r0 : BitVec 32 := 0#32
  let c0_i32_77_r0 : BitVec 32 := 0#32
  ![v69_r0.toNat, 0, 0]

def k0_chk5 (v43_6_r0 : BitVec 32) : Prop :=
  (∀ a, (k0_off29 v43_6_r0) a + S1.size a ≤ S2.size a) ∧
  (∀ a, (k0_off31 v43_6_r0) a + S1x16x1024.size a ≤ S2x16x1024.size a)
theorem k0_off29_inb : ∀ (v43_6_r0 : BitVec 32) (k0_hw5 : k0_chk5 v43_6_r0), ∀ a, (k0_off29 v43_6_r0) a + S1.size a ≤ S2.size a := fun v43_6_r0 k0_hw5 => k0_hw5.1
theorem k0_off31_inb : ∀ (v43_6_r0 : BitVec 32) (k0_hw5 : k0_chk5 v43_6_r0), ∀ a, (k0_off31 v43_6_r0) a + S1x16x1024.size a ≤ S2x16x1024.size a := fun v43_6_r0 k0_hw5 => k0_hw5.2
-- ==== ReferenceIdeal.lean ====
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1024x6144, .f32⟩
  | .hbm, ⟨18, _⟩ => ⟨S16x6144, .f32⟩
  | .hbm, ⟨19, _⟩ => ⟨S6144, .f32⟩
  | .hbm, ⟨20, _⟩ => ⟨S1x6144, .f32⟩
  | .hbm, ⟨21, _⟩ => ⟨S16x6144, .f32⟩
  | .hbm, ⟨22, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel2.lean ====
abbrev S8x2048x1024 : Shape := ⟨3, ![8, 2048, 1024]⟩
abbrev S16x6144 : Shape := ⟨2, ![16, 6144]⟩
abbrev S1x1024 : Shape := ⟨2, ![1, 1024]⟩
abbrev S1x1024x3584 : Shape := ⟨3, ![1, 1024, 3584]⟩
abbrev S96x1x1024 : Shape := ⟨3, ![96, 1, 1024]⟩
abbrev S1024 : Shape := ⟨1, ![1024]⟩
abbrev S1024x3584 : Shape := ⟨2, ![1024, 3584]⟩
abbrev S8x2048x3584 : Shape := ⟨3, ![8, 2048, 3584]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x512 : Shape := ⟨2, ![1024, 512]⟩
abbrev S1x1024x512 : Shape := ⟨3, ![1, 1024, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1x1024, .f32⟩
  | .hbm, ⟨3, _⟩ => ⟨S1x1024x3584, .f32⟩
  | .hbm, ⟨4, _⟩ => ⟨S96x1x1024, .f32⟩
  | .hbm, ⟨5, _⟩ => ⟨S1024, .f32⟩
  | .hbm, ⟨6, _⟩ => ⟨S1x1024, .f32⟩
  | .hbm, ⟨7, _⟩ => ⟨S1024x3584, .f32⟩
  | .hbm, ⟨8, _⟩ => ⟨S1024x3584, .bf16⟩
  | .hbm, ⟨9, _⟩ => ⟨S8x2048x3584, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3584, .bf16⟩
  | .local _ .vmem, ⟨8, _⟩ => ⟨S1x1024x3584, .bf16⟩
  | .local _ .vmem, ⟨9, _⟩ => ⟨S1x1024x3584, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x1024 : Shape := ⟨3, ![8, 2048, 1024]⟩
abbrev S16x6144 : Shape := ⟨2, ![16, 6144]⟩
abbrev S1x1024 : Shape := ⟨2, ![1, 1024]⟩
abbrev S1x1024x3584 : Shape := ⟨3, ![1, 1024, 3584]⟩
abbrev S8x6144 : Shape := ⟨2, ![8, 6144]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3584 : Shape := ⟨2, ![1024, 3584]⟩
abbrev S8x2048x3584 : Shape := ⟨3, ![8, 2048, 3584]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x6144, .f32⟩
  | .hbm, ⟨2, _⟩ => ⟨S1x1024, .f32⟩
  | .hbm, ⟨3, _⟩ => ⟨S1x1024x3584, .f32⟩
  | .hbm, ⟨4, _⟩ => ⟨S8x6144, .f32⟩
  | .hbm, ⟨5, _⟩ => ⟨S8x1x6144, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x3584, .f32⟩
  | .hbm, ⟨37, _⟩ => ⟨S8x2048x3584, .f32⟩
  | .hbm, ⟨38, _⟩ => ⟨S8x2048x3584, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel3.lean ====
abbrev S32 : Shape := ⟨1, ![32]⟩
abbrev S81920x1x1024 : Shape := ⟨3, ![81920, 1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S81920 : Shape := ⟨1, ![81920]⟩
abbrev S81920x1 : Shape := ⟨2, ![81920, 1]⟩
abbrev S_ : Shape := ⟨0, ![]⟩
abbrev S1x32 : Shape := ⟨2, ![1, 32]⟩
abbrev S81920x32 : Shape := ⟨2, ![81920, 32]⟩
abbrev S81920x32x1 : Shape := ⟨3, ![81920, 32, 1]⟩
abbrev S81920x32x1024 : Shape := ⟨3, ![81920, 32, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1024x1x1024 : Shape := ⟨3, ![1024, 1, 1024]⟩
abbrev S512x1024 : Shape := ⟨2, ![512, 1024]⟩
abbrev S2 : Shape := ⟨1, ![2]⟩
abbrev S1 : Shape := ⟨1, ![1]⟩
abbrev S512x1x1024 : Shape := ⟨3, ![512, 1, 1024]⟩
abbrev S1x64x2048 : Shape := ⟨3, ![1, 64, 2048]⟩
abbrev S64x2048 : Shape := ⟨2, ![64, 2048]⟩
abbrev S1x64x1024 : Shape := ⟨3, ![1, 64, 1024]⟩
abbrev S64x1024 : Shape := ⟨2, ![64, 1024]⟩
abbrev S128x1x1024 : Shape := ⟨3, ![128, 1, 1024]⟩
abbrev S128x1024 : Shape := ⟨2, ![128, 1024]⟩
abbrev S1024x512 : Shape := ⟨2, ![1024, 512]⟩
abbrev S128x512 : Shape := ⟨2, ![128, 512]⟩
abbrev S1x1x512 : Shape := ⟨3, ![1, 1, 512]⟩
abbrev S1x512 : Shape := ⟨2, ![1, 512]⟩
abbrev S1x1024 : Shape := ⟨2, ![1, 1024]⟩
abbrev S256x1x1024 : Shape := ⟨3, ![256, 1, 1024]⟩
abbrev S256x1024 : Shape := ⟨2, ![256, 1024]⟩
abbrev S256x512 : Shape := ⟨2, ![256, 512]⟩
abbrev S384x1x1024 : Shape := ⟨3, ![384, 1, 1024]⟩
abbrev S384x1024 : Shape := ⟨2, ![384, 1024]⟩
abbrev S384x512 : Shape := ⟨2, ![384, 512]⟩
abbrev S512x512 : Shape := ⟨2, ![512, 512]⟩
abbrev S81920x1024 : Shape := ⟨2, ![81920, 1024]⟩

abbrev nBuf : Space → Nat
  | .hbm => 36
  | .vmem => 15
  | .smem => 3
  | _ => 0

abbrev bufTy : (tb : Table) → Fin (tcTables nBuf tb) → BufTy
  | .hbm, ⟨0, _⟩ => ⟨S81920x1x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S81920, .i32⟩
  | .hbm, ⟨6, _⟩ => ⟨S81920x1, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S1x32, .i32⟩
  | .hbm, ⟨13, _⟩ => ⟨S81920x32, .i32⟩
  | .hbm, ⟨14, _⟩ => ⟨S81920x32, .i32⟩
  | .hbm, ⟨15, _⟩ => ⟨S81920x32, .i1⟩
  | .hbm, ⟨16, _⟩ => ⟨S1x32, .i32⟩
  | .hbm, ⟨17, _⟩ => ⟨S81920x32, .i32⟩
  | .hbm, ⟨18, _⟩ => ⟨S81920x32, .i32⟩
  | .hbm, ⟨19, _⟩ => ⟨S81920x32, .i1⟩
  | .hbm, ⟨20, _⟩ => ⟨S81920x32, .i1⟩
  | .hbm, ⟨21, _⟩ => ⟨S81920x32x1, .i1⟩
  | .hbm, ⟨22, _⟩ => ⟨S81920x32x1024, .i1⟩
  | .hbm, ⟨23, _⟩ => ⟨S32x1024x2048, .f32⟩
  | .hbm, ⟨24, _⟩ => ⟨S32x2048, .f32⟩
  | .hbm, ⟨25, _⟩ => ⟨S32x1024x1024, .f32⟩
  | .hbm, ⟨26, _⟩ => ⟨S32x1024, .f32⟩
  | .hbm, ⟨27, _⟩ => ⟨S32x1x2048, .f32⟩
  | .hbm, ⟨28, _⟩ => ⟨S32x1x1024, .f32⟩
  | .hbm, ⟨29, _⟩ => ⟨S81920x1x1024, .f32⟩
  | .hbm, ⟨30, _⟩ => ⟨S81920x32x1024, .f32⟩
  | .hbm, ⟨31, _⟩ => ⟨S_, .f32⟩
  | .hbm, ⟨32, _⟩ => ⟨S81920x32x1024, .f32⟩
  | .hbm, ⟨33, _⟩ => ⟨S81920x32x1024, .f32⟩
  | .hbm, ⟨34, _⟩ => ⟨S_, .f32⟩
  | .hbm, ⟨35, _⟩ => ⟨S81920x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .bf16⟩
  | .local _ .vmem, ⟨9, _⟩ => ⟨S1024x1024, .bf16⟩
  | .local _ .vmem, ⟨10, _⟩ => ⟨S1024x1x1024, .f32⟩
  | .local _ .vmem, ⟨11, _⟩ => ⟨S1024x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .smem, ⟨0, _⟩ => ⟨S32, .i32⟩
  | .local _ .smem, ⟨1, _⟩ => ⟨S32, .i32⟩
  | .local _ .smem, ⟨2, _⟩ => ⟨S32, .i32⟩
  | _, _ => ⟨S81920x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 : BitVec 32 :=
  let c0_i32_12 : BitVec 32 := 0#32
  let c1_i32_13 : BitVec 32 := 1#32
  let v29 : BitVec 32 := Scalar.andi c0_i32_12 c1_i32_13
  let c512_i32 : BitVec 32 := 512#32
  let v30 : BitVec 32 := Scalar.muli v29 c512_i32
  v30
def k0_off2 : Fin 1 → Nat :=
  let c0_i32_14 : BitVec 32 := 0#32
  let c1_i32_15 : BitVec 32 := 1#32
  let v32 : BitVec 32 := Scalar.andi c0_i32_14 c1_i32_15
  ![v32.toNat]
def k0_off3 : Fin 3 → Nat :=
  let c0_i32_12 : BitVec 32 := 0#32
  let c1_i32_13 : BitVec 32 := 1#32
  let v29 : BitVec 32 := Scalar.andi c0_i32_12 c1_i32_13
  let c512_i32 : BitVec 32 := 512#32
  let v30 : BitVec 32 := Scalar.muli v29 c512_i32
  let v31 : BitVec 32 := v30
  let c0_i32_16 : BitVec 32 := 0#32
  let c0_i32_17 : BitVec 32 := 0#32
  ![v31.toNat, 0, 0]
@[reducible] def k0_t1_loop : Scf.Loop 32 :=
  let c0_i32_12 : BitVec 32 := 0#32
  let c16_i32 : BitVec 32 := 16#32
  let v29 : BitVec 32 := Scalar.addi c0_i32_12 c16_i32
  let c1_i32_13 : BitVec 32 := 1#32
  ⟨c0_i32_12, v29, c1_i32_13⟩
def k0_mult2 (k0_t1 : Fin k0_t1_loop.trips) : BitVec 32 :=
  let c0_i32_12 : BitVec 32 := 0#32
  let c1_i32_13 : BitVec 32 := 1#32
  let arg19 : BitVec 32 := Scf.iv c0_i32_12 c1_i32_13 k0_t1
  let c64_i32 : BitVec 32 := 64#32
  let v31 : BitVec 32 := Scalar.muli arg19 c64_i32
  v31
def k0_off4 (k0_t1 : Fin k0_t1_loop.trips) : Fin 3 → Nat :=
  let c0 : Index := 0#32
  let c0_i32_12 : BitVec 32 := 0#32
  let c1_i32_13 : BitVec 32 := 1#32
  let arg19 : BitVec 32 := Scf.iv c0_i32_12 c1_i32_13 k0_t1
  let c64_i32 : BitVec 32 := 64#32
  let v31 : BitVec 32 := Scalar.muli arg19 c64_i32
  let v32 : BitVec 32 := v31
  let v33 : Index := Scalar.indexCast v32
  let c0_19 : Index := 0#32
  ![0, v33.toNat, 0]
def k0_off5 (k0_t1 : Fin k0_t1_loop.trips) : Fin 2 → Nat :=
  let c0_i32_12 : BitVec 32 := 0#32
  let c1_i32_13 : BitVec 32 := 1#32
  let arg19 : BitVec 32 := Scf.iv c0_i32_12 c1_i32_13 k0_t1
  let c64_i32 : BitVec 32 := 64#32
  let v31 : BitVec 32 := Scalar.muli arg19 c64_i32
  let v32 : BitVec 32 := v31
  let v37 : Index := Scalar.indexCast v32
  let c0_20 : Index := 0#32
  ![v37.toNat, 0]
@[reducible] def k0_t2_loop : Scf.Loop 32 :=
  let c0_i32_15 : BitVec 32 := 0#32
  let c16_i32_16 : BitVec 32 := 16#32
  let v30 : BitVec 32 := Scalar.addi c0_i32_15 c16_i32_16
  let c1_i32_17 : BitVec 32 := 1#32
  ⟨c0_i32_15, v30, c1_i32_17⟩
def k0_mult3 (k0_t2 : Fin k0_t2_loop.trips) : BitVec 32 :=
  let c0_i32_15 : BitVec 32 := 0#32
  let c1_i32_17 : BitVec 32 := 1#32
  let arg19 : BitVec 32 := Scf.iv c0_i32_15 c1_i32_17 k0_t2
  let c64_i32 : BitVec 32 := 64#32
  let v31 : BitVec 32 := Scalar.muli arg19 c64_i32
  v31
def k0_off6 (k0_t2 : Fin k0_t2_loop.trips) : Fin 3 → Nat :=
  let c0 : Index := 0#32
  let c0_i32_15 : BitVec 32 := 0#32
  let c1_i32_17 : BitVec 32 := 1#32
  let arg19 : BitVec 32 := Scf.iv c0_i32_15 c1_i32_17 k0_t2
  let c64_i32 : BitVec 32 := 64#32
  let v31 : BitVec 32 := Scalar.muli arg19 c64_i32
  let v32 : BitVec 32 := v31
  let v33 : Index := Scalar.indexCast v32
  let c0_19 : Index := 0#32
  ![0, v33.toNat, 0]
def k0_off7 (k0_t2 : Fin k0_t2_loop.trips) : Fin 2 → Nat :=
  let c0_i32_15 : BitVec 32 := 0#32
  let c1_i32_17 : BitVec 32 := 1#32
  let arg19 : BitVec 32 := Scf.iv c0_i32_15 c1_i32_17 k0_t2
  let c64_i32 : BitVec 32 := 64#32
  let v31 : BitVec 32 := Scalar.muli arg19 c64_i32
  let v32 : BitVec 32 := v31
  let v37 : Index := Scalar.indexCast v32
  let c0_20 : Index := 0#32
  ![v37.toNat, 0]
@[reducible] def k0_t3_loop (v1 : BitVec 32) : Scf.Loop 32 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_8 : BitVec 32 := 1#32
  ⟨c0_i32_6, v21, c1_i32_8⟩

def k0_mult4 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_12 : BitVec 32 := 1#32
  let v31 : BitVec 32 := Scalar.andi v29 c1_i32_12
  let c512_i32_13 : BitVec 32 := 512#32
  let v32 : BitVec 32 := Scalar.muli v31 c512_i32_13
  v32

def k0_off8 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_14 : BitVec 32 := 1#32
  let v34 : BitVec 32 := Scalar.andi v29 c1_i32_14
  ![v34.toNat]
def k0_off9 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_12 : BitVec 32 := 1#32
  let v31 : BitVec 32 := Scalar.andi v29 c1_i32_12
  let c512_i32_13 : BitVec 32 := 512#32
  let v32 : BitVec 32 := Scalar.muli v31 c512_i32_13
  let v33 : BitVec 32 := v32
  let c0_i32_15 : BitVec 32 := 0#32
  let c0_i32_16 : BitVec 32 := 0#32
  ![v33.toNat, 0, 0]
def k0_off10 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c512_i32 : BitVec 32 := 512#32
  let v30 : BitVec 32 := Scalar.muli v29 c512_i32
  let c0_i32_17 : BitVec 32 := 0#32
  let c0_i32_18 : BitVec 32 := 0#32
  ![v30.toNat, 0, 0]
def k0_mult5 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.addi v29 c1_i32_35
  let c1_i32_37 : BitVec 32 := 1#32
  let v71 : BitVec 32 := Scalar.andi v69 c1_i32_37
  let c512_i32_38 : BitVec 32 := 512#32
  let v72 : BitVec 32 := Scalar.muli v71 c512_i32_38
  v72
def k0_cond3 (v1 : BitVec 32) (v3 : BitVec 32) (v5 : BitVec 32) (v7 : BitVec 32) (k0_t3 : Fin (k0_t3_loop v1).trips) : BitVec 1 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_19 : BitVec 32 := 1#32
  let v39 : BitVec 32 := Scalar.addi v29 c1_i32_19
  let c9_i32_0 : BitVec 32 := 9#32
  let v6 : BitVec 32 := Scalar.shrui v5 c9_i32_0
  let v8 : BitVec 32 := Scalar.addi v6 v7
  let v40 : BitVec 1 := Scalar.cmpi .slt v39 v8
  let v41 : BitVec 32 := Scalar.extui v40
  let c0_i32_20 : BitVec 32 := 0#32
  let v42 : BitVec 1 := Scalar.cmpi .ne v41 c0_i32_20
  v42

def k0_off11 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.addi v29 c1_i32_35
  let c1_i32_39 : BitVec 32 := 1#32
  let v74 : BitVec 32 := Scalar.andi v69 c1_i32_39
  ![v74.toNat]
def k0_off12 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.addi v29 c1_i32_35
  let c1_i32_37 : BitVec 32 := 1#32
  let v71 : BitVec 32 := Scalar.andi v69 c1_i32_37
  let c512_i32_38 : BitVec 32 := 512#32
  let v72 : BitVec 32 := Scalar.muli v71 c512_i32_38
  let v73 : BitVec 32 := v72
  let c0_i32_40 : BitVec 32 := 0#32
  let c0_i32_41 : BitVec 32 := 0#32
  ![v73.toNat, 0, 0]
def k0_off13 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.addi v29 c1_i32_35
  let c512_i32_36 : BitVec 32 := 512#32
  let v70 : BitVec 32 := Scalar.muli v69 c512_i32_36
  let c0_i32_42 : BitVec 32 := 0#32
  let c0_i32_43 : BitVec 32 := 0#32
  ![v70.toNat, 0, 0]
def k0_mult6 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_35 : BitVec 32 := 1#32
  let v69 : BitVec 32 := Scalar.andi v44 c1_i32_35
  let c512_i32_36 : BitVec 32 := 512#32
  let v70 : BitVec 32 := Scalar.muli v69 c512_i32_36
  v70
def k0_cond4 (v1 : BitVec 32) (v3 : BitVec 32) (k0_t3 : Fin (k0_t3_loop v1).trips) : BitVec 1 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_23 : BitVec 32 := 1#32
  let v45 : BitVec 1 := Scalar.cmpi .eq v29 c1_i32_23
  let c3_i32 : BitVec 32 := 3#32
  let v46 : BitVec 1 := Scalar.cmpi .sge v29 c3_i32
  let v47 : BitVec 1 := Scalar.ori v45 v46
  let v48 : BitVec 32 := Scalar.extui v47
  let c0_i32_24 : BitVec 32 := 0#32
  let v49 : BitVec 1 := Scalar.cmpi .ne v48 c0_i32_24
  v49

def k0_off14 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_38 : BitVec 32 := 1#32
  let v73 : BitVec 32 := Scalar.andi v44 c1_i32_38
  ![v73.toNat]
def k0_off15 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_37 : BitVec 32 := 512#32
  let v72 : BitVec 32 := Scalar.muli v44 c512_i32_37
  let c0_i32_39 : BitVec 32 := 0#32
  let c0_i32_40 : BitVec 32 := 0#32
  ![v72.toNat, 0, 0]
def k0_off16 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_35 : BitVec 32 := 1#32
  let v69 : BitVec 32 := Scalar.andi v44 c1_i32_35
  let c512_i32_36 : BitVec 32 := 512#32
  let v70 : BitVec 32 := Scalar.muli v69 c512_i32_36
  let v71 : BitVec 32 := v70
  let c0_i32_41 : BitVec 32 := 0#32
  let c0_i32_42 : BitVec 32 := 0#32
  ![v71.toNat, 0, 0]
def k0_off17 (i : grid0.Coords) : Fin 1 → Nat :=
  let arg0 : BitVec 32 := BitVec.ofNat 32 (i 0).val
  let v52 : Index := Scalar.indexCast arg0
  ![v52.toNat]
def k0_mult7 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond5 (v1 : BitVec 32) (k0_t3 : Fin (k0_t3_loop v1).trips) (v53 : BitVec 32) : BitVec 1 :=
  let c0_i32_6 : BitVec 32 := 0#32
  let c1_i32_8 : BitVec 32 := 1#32
  let arg19 : BitVec 32 := Scf.iv c0_i32_6 c1_i32_8 k0_t3
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c1_i32_27 : BitVec 32 := 1#32
  let v57 : BitVec 1 := Scalar.cmpi .eq v56 c1_i32_27
  let v58 : BitVec 32 := Scalar.extui v57
  let c0_i32_28 : BitVec 32 := 0#32
  let v59 : BitVec 1 := Scalar.cmpi .ne v58 c0_i32_28
  v59

def k0_off18 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult8 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off19 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult9 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off20 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off21 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off22 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult10 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond6 (v1 : BitVec 32) (k0_t3 : Fin (k0_t3_loop v1).trips) (v53 : BitVec 32) : BitVec 1 :=
  let c0_i32_6 : BitVec 32 := 0#32
  let c1_i32_8 : BitVec 32 := 1#32
  let arg19 : BitVec 32 := Scf.iv c0_i32_6 c1_i32_8 k0_t3
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c2_i32 : BitVec 32 := 2#32
  let v60 : BitVec 1 := Scalar.cmpi .eq v56 c2_i32
  let v61 : BitVec 32 := Scalar.extui v60
  let c0_i32_29 : BitVec 32 := 0#32
  let v62 : BitVec 1 := Scalar.cmpi .ne v61 c0_i32_29
  v62

def k0_off23 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult11 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off24 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult12 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off25 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off26 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off27 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult13 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond7 (v1 : BitVec 32) (k0_t3 : Fin (k0_t3_loop v1).trips) (v53 : BitVec 32) : BitVec 1 :=
  let c0_i32_6 : BitVec 32 := 0#32
  let c1_i32_8 : BitVec 32 := 1#32
  let arg19 : BitVec 32 := Scf.iv c0_i32_6 c1_i32_8 k0_t3
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c3_i32_30 : BitVec 32 := 3#32
  let v63 : BitVec 1 := Scalar.cmpi .eq v56 c3_i32_30
  let v64 : BitVec 32 := Scalar.extui v63
  let c0_i32_31 : BitVec 32 := 0#32
  let v65 : BitVec 1 := Scalar.cmpi .ne v64 c0_i32_31
  v65

def k0_off28 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult14 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off29 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult15 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off30 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off31 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off32 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult16 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond8 (v1 : BitVec 32) (k0_t3 : Fin (k0_t3_loop v1).trips) (v53 : BitVec 32) : BitVec 1 :=
  let c0_i32_6 : BitVec 32 := 0#32
  let c1_i32_8 : BitVec 32 := 1#32
  let arg19 : BitVec 32 := Scf.iv c0_i32_6 c1_i32_8 k0_t3
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c4_i32_32 : BitVec 32 := 4#32
  let v66 : BitVec 1 := Scalar.cmpi .eq v56 c4_i32_32
  let v67 : BitVec 32 := Scalar.extui v66
  let c0_i32_33 : BitVec 32 := 0#32
  let v68 : BitVec 1 := Scalar.cmpi .ne v67 c0_i32_33
  v68

def k0_off33 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult17 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off34 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult18 (v1 : BitVec 32) (v3 : BitVec 32) (k0_t3 : Fin (k0_t3_loop v1).trips) : BitVec 32 :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off35 (v1 : BitVec 32) (v3 : BitVec 32) (k0_t3 : Fin (k0_t3_loop v1).trips) : Fin 1 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off36 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off37 (v1 : BitVec 32) (v3 : BitVec 32) (k0_t3 : Fin (k0_t3_loop v1).trips) : Fin 3 → Nat :=
  let c9_i32 : BitVec 32 := 9#32
  let v4 : BitVec 32 := Scalar.shrui v3 c9_i32
  let c0_i32_6 : BitVec 32 := 0#32
  let c1_i32_8 : BitVec 32 := 1#32
  let arg19 : BitVec 32 := Scf.iv c0_i32_6 c1_i32_8 k0_t3
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]

def k0_chk4 (v1 : BitVec 32) (v3 : BitVec 32) (k0_t3 : Fin (k0_t3_loop v1).trips) (v53 : BitVec 32) : Prop :=
  (∀ (k0_h5 : k0_cond5 v1 k0_t3 v53 = 1#1), 512 ∣ (k0_mult7 v1 v3 k0_t3).toNat) ∧
  (∀ (k0_h5 : k0_cond5 v1 k0_t3 v53 = 1#1), ∀ a, (k0_off18 v1 v3 k0_t3) a + S128x1x1024.size a ≤ S1024x1x1024.size a) ∧
  (∀ (k0_h5 : k0_cond5 v1 k0_t3 v53 = 1#1), 512 ∣ (k0_mult8 v1 v3 k0_t3).toNat) ∧
  (∀ (k0_h5 : k0_cond5 v1 k0_t3 v53 = 1#1), ∀ a, (k0_off19 v1 v3 k0_t3) a + S512x1x1024.size a ≤ S1024x1x1024.size a) ∧
  (∀ (k0_h5 : k0_cond5 v1 k0_t3 v53 = 1#1), 512 ∣ (k0_mult9 v1 v3 k0_t3).toNat) ∧
  (∀ (k0_h5 : k0_cond5 v1 k0_t3 v53 = 1#1), ∀ a, (k0_off20 v1 v3 k0_t3) a + S1.size a ≤ S2.size a) ∧
  (∀ (k0_h5 : k0_cond5 v1 k0_t3 v53 = 1#1), ∀ a, (k0_off21 v1 v3 k0_t3) a + S512x1x1024.size a ≤ S81920x1x1024.size a) ∧
  (∀ (k0_h5 : k0_cond5 v1 k0_t3 v53 = 1#1), ∀ a, (k0_off22 v1 v3 k0_t3) a + S512x1x1024.size a ≤ S1024x1x1024.size a) ∧
  (∀ (k0_h6 : k0_cond6 v1 k0_t3 v53 = 1#1), 512 ∣ (k0_mult10 v1 v3 k0_t3).toNat) ∧
  (∀ (k0_h6 : k0_cond6 v1 k0_t3 v53 = 1#1), ∀ a, (k0_off23 v1 v3 k0_t3) a + S256x1x1024.size a ≤ S1024x1x1024.size a) ∧
  (∀ (k0_h6 : k0_cond6 v1 k0_t3 v53 = 1#1), 512 ∣ (k0_mult11 v1 v3 k0_t3).toNat) ∧
  (∀ (k0_h6 : k0_cond6 v1 k0_t3 v53 = 1#1), ∀ a, (k0_off24 v1 v3 k0_t3) a + S512x1x1024.size a ≤ S1024x1x1024.size a) ∧
  (∀ (k0_h6 : k0_cond6 v1 k0_t3 v53 = 1#1), 512 ∣ (k0_mult12 v1 v3 k0_t3).toNat) ∧
  (∀ (k0_h6 : k0_cond6 v1 k0_t3 v53 = 1#1), ∀ a, (k0_off25 v1 v3 k0_t3) a + S1.size a ≤ S2.size a) ∧
  (∀ (k0_h6 : k0_cond6 v1 k0_t3 v53 = 1#1), ∀ a, (k0_off26 v1 v3 k0_t3) a + S512x1x1024.size a ≤ S81920x1x1024.size a) ∧
  (∀ (k0_h6 : k0_cond6 v1 k0_t3 v53 = 1#1), ∀ a, (k0_off27 v1 v3 k0_t3) a + S512x1x1024.size a ≤ S1024x1x1024.size a) ∧
  (∀ (k0_h7 : k0_cond7 v1 k0_t3 v53 = 1#1), 512 ∣ (k0_mult13 v1 v3 k0_t3).toNat) ∧
  (∀ (k0_h7 : k0_cond7 v1 k0_t3 v53 = 1#1), ∀ a, (k0_off28 v1 v3 k0_t3) a + S384x1x1024.size a ≤ S1024x1x1024.size a) ∧
  (∀ (k0_h7 : k0_cond7 v1 k0_t3 v53 = 1#1), 512 ∣ (k0_mult14 v1 v3 k0_t3).toNat) ∧
  (∀ (k0_h7 : k0_cond7 v1 k0_t3 v53 = 1#1), ∀ a, (k0_off29 v1 v3 k0_t3) a + S512x1x1024.size a ≤ S1024x1x1024.size a) ∧
  (∀ (k0_h7 : k0_cond7 v1 k0_t3 v53 = 1#1), 512 ∣ (k0_mult15 v1 v3 k0_t3).toNat) ∧
  (∀ (k0_h7 : k0_cond7 v1 k0_t3 v53 = 1#1), ∀ a, (k0_off30 v1 v3 k0_t3) a + S1.size a ≤ S2.size a) ∧
  (∀ (k0_h7 : k0_cond7 v1 k0_t3 v53 = 1#1), ∀ a, (k0_off31 v1 v3 k0_t3) a + S512x1x1024.size a ≤ S81920x1x1024.size a) ∧
  (∀ (k0_h7 : k0_cond7 v1 k0_t3 v53 = 1#1), ∀ a, (k0_off32 v1 v3 k0_t3) a + S512x1x1024.size a ≤ S1024x1x1024.size a) ∧
  (∀ (k0_h8 : k0_cond8 v1 k0_t3 v53 = 1#1), 512 ∣ (k0_mult16 v1 v3 k0_t3).toNat) ∧
  (∀ (k0_h8 : k0_cond8 v1 k0_t3 v53 = 1#1), ∀ a, (k0_off33 v1 v3 k0_t3) a + S512x1x1024.size a ≤ S1024x1x1024.size a) ∧
  (∀ (k0_h8 : k0_cond8 v1 k0_t3 v53 = 1#1), 512 ∣ (k0_mult17 v1 v3 k0_t3).toNat) ∧
  (∀ (k0_h8 : k0_cond8 v1 k0_t3 v53 = 1#1), ∀ a, (k0_off34 v1 v3 k0_t3) a + S512x1x1024.size a ≤ S1024x1x1024.size a) ∧
  (∀ (k0_h8 : k0_cond8 v1 k0_t3 v53 = 1#1), 512 ∣ (k0_mult18 v1 v3 k0_t3).toNat) ∧
  (∀ (k0_h8 : k0_cond8 v1 k0_t3 v53 = 1#1), ∀ a, (k0_off35 v1 v3 k0_t3) a + S1.size a ≤ S2.size a) ∧
  (∀ (k0_h8 : k0_cond8 v1 k0_t3 v53 = 1#1), ∀ a, (k0_off36 v1 v3 k0_t3) a + S512x1x1024.size a ≤ S81920x1x1024.size a) ∧
  (∀ (k0_h8 : k0_cond8 v1 k0_t3 v53 = 1#1), ∀ a, (k0_off37 v1 v3 k0_t3) a + S512x1x1024.size a ≤ S1024x1x1024.size a)
theorem k0_mult7_dvd : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), 512 ∣ (k0_mult7 v1 v3 k0_t3).toNat := fun v1 v3 k0_t3 v53 k0_hw4 k0_h5 => k0_hw4.1 k0_h5
theorem k0_off18_inb : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), ∀ a, (k0_off18 v1 v3 k0_t3) a + S128x1x1024.size a ≤ S1024x1x1024.size a := fun v1 v3 k0_t3 v53 k0_hw4 k0_h5 => k0_hw4.2.1 k0_h5
theorem k0_mult8_dvd : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), 512 ∣ (k0_mult8 v1 v3 k0_t3).toNat := fun v1 v3 k0_t3 v53 k0_hw4 k0_h5 => k0_hw4.2.2.1 k0_h5
theorem k0_off19_inb : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), ∀ a, (k0_off19 v1 v3 k0_t3) a + S512x1x1024.size a ≤ S1024x1x1024.size a := fun v1 v3 k0_t3 v53 k0_hw4 k0_h5 => k0_hw4.2.2.2.1 k0_h5
theorem k0_mult9_dvd : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), 512 ∣ (k0_mult9 v1 v3 k0_t3).toNat := fun v1 v3 k0_t3 v53 k0_hw4 k0_h5 => k0_hw4.2.2.2.2.1 k0_h5
theorem k0_off20_inb : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), ∀ a, (k0_off20 v1 v3 k0_t3) a + S1.size a ≤ S2.size a := fun v1 v3 k0_t3 v53 k0_hw4 k0_h5 => k0_hw4.2.2.2.2.2.1 k0_h5
theorem k0_off21_inb : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), ∀ a, (k0_off21 v1 v3 k0_t3) a + S512x1x1024.size a ≤ S81920x1x1024.size a := fun v1 v3 k0_t3 v53 k0_hw4 k0_h5 => k0_hw4.2.2.2.2.2.2.1 k0_h5
theorem k0_off22_inb : ∀ (v1 : BitVec 32) (v3 : BitVec 32) (k0_t3 : Fin (k0_t3_loop v1).trips) (v53 : BitVec 32) (k0_hw4 : k0_chk4 v1 v3 k0_t3 v53), ∀ (k0_h5 : k0_cond5 v1 k0_t3 v53 = 1#1), ∀ a, (k0_off22 v1 v3 k0_t3) a + S512x1x1024.size a ≤ S1024x1x1024.size a := fun v1 v3 k0_t3 v53 k0_hw4 k0_h5 => k0_hw4.2.2.2.2.2.2.2.1 k0_h5
theorem k0_mult10_dvd : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), 512 ∣ (k0_mult10 v1 v3 k0_t3).toNat := fun v1 v3 k0_t3 v53 k0_hw4 k0_h6 => k0_hw4.2.2.2.2.2.2.2.2.1 k0_h6
theorem k0_off23_inb : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), ∀ a, (k0_off23 v1 v3 k0_t3) a + S256x1x1024.size a ≤ S1024x1x1024.size a := fun v1 v3 k0_t3 v53 k0_hw4 k0_h6 => k0_hw4.2.2.2.2.2.2.2.2.2.1 k0_h6
theorem k0_mult11_dvd : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), 512 ∣ (k0_mult11 v1 v3 k0_t3).toNat := fun v1 v3 k0_t3 v53 k0_hw4 k0_h6 => k0_hw4.2.2.2.2.2.2.2.2.2.2.1 k0_h6
theorem k0_off24_inb : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), ∀ a, (k0_off24 v1 v3 k0_t3) a + S512x1x1024.size a ≤ S1024x1x1024.size a := fun v1 v3 k0_t3 v53 k0_hw4 k0_h6 => k0_hw4.2.2.2.2.2.2.2.2.2.2.2.1 k0_h6
theorem k0_mult12_dvd : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), 512 ∣ (k0_mult12 v1 v3 k0_t3).toNat := fun v1 v3 k0_t3 v53 k0_hw4 k0_h6 => k0_hw4.2.2.2.2.2.2.2.2.2.2.2.2.1 k0_h6
theorem k0_off25_inb : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), ∀ a, (k0_off25 v1 v3 k0_t3) a + S1.size a ≤ S2.size a := fun v1 v3 k0_t3 v53 k0_hw4 k0_h6 => k0_hw4.2.2.2.2.2.2.2.2.2.2.2.2.2.1 k0_h6
theorem k0_off26_inb : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), ∀ a, (k0_off26 v1 v3 k0_t3) a + S512x1x1024.size a ≤ S81920x1x1024.size a := fun v1 v3 k0_t3 v53 k0_hw4 k0_h6 => k0_hw4.2.2.2.2.2.2.2.2.2.2.2.2.2.2.1 k0_h6
theorem k0_off27_inb : ∀ (v1 : BitVec 32) (v3 : BitVec 32) (k0_t3 : Fin (k0_t3_loop v1).trips) (v53 : BitVec 32) (k0_hw4 : k0_chk4 v1 v3 k0_t3 v53), ∀ (k0_h6 : k0_cond6 v1 k0_t3 v53 = 1#1), ∀ a, (k0_off27 v1 v3 k0_t3) a + S512x1x1024.size a ≤ S1024x1x1024.size a := fun v1 v3 k0_t3 v53 k0_hw4 k0_h6 => k0_hw4.2.2.2.2.2.2.2.2.2.2.2.2.2.2.2.1 k0_h6
theorem k0_mult13_dvd : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), 512 ∣ (k0_mult13 v1 v3 k0_t3).toNat := fun v1 v3 k0_t3 v53 k0_hw4 k0_h7 => k0_hw4.2.2.2.2.2.2.2.2.2.2.2.2.2.2.2.2.1 k0_h7
theorem k0_off28_inb : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), ∀ a, (k0_off28 v1 v3 k0_t3) a + S384x1x1024.size a ≤ S1024x1x1024.size a := fun v1 v3 k0_t3 v53 k0_hw4 k0_h7 => k0_hw4.2.2.2.2.2.2.2.2.2.2.2.2.2.2.2.2.2.1 k0_h7
theorem k0_mult14_dvd : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), 512 ∣ (k0_mult14 v1 v3 k0_t3).toNat := fun v1 v3 k0_t3 v53 k0_hw4 k0_h7 => k0_hw4.2.2.2.2.2.2.2.2.2.2.2.2.2.2.2.2.2.2.1 k0_h7
theorem k0_off29_inb : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), ∀ a, (k0_off29 v1 v3 k0_t3) a + S512x1x1024.size a ≤ S1024x1x1024.size a := fun v1 v3 k0_t3 v53 k0_hw4 k0_h7 => k0_hw4.2.2.2.2.2.2.2.2.2.2.2.2.2.2.2.2.2.2.2.1 k0_h7
theorem k0_mult15_dvd : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), 512 ∣ (k0_mult15 v1 v3 k0_t3).toNat := fun v1 v3 k0_t3 v53 k0_hw4 k0_h7 => k0_hw4.2.2.2.2.2.2.2.2.2.2.2.2.2.2.2.2.2.2.2.2.1 k0_h7
theorem k0_off30_inb : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), ∀ a, (k0_off30 v1 v3 k0_t3) a + S1.size a ≤ S2.size a := fun v1 v3 k0_t3 v53 k0_hw4 k0_h7 => k0_hw4.2.2.2.2.2.2.2.2.2.2.2.2.2.2.2.2.2.2.2.2.2.1 k0_h7
theorem k0_off31_inb : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), ∀ a, (k0_off31 v1 v3 k0_t3) a + S512x1x1024.size a ≤ S81920x1x1024.size a := fun v1 v3 k0_t3 v53 k0_hw4 k0_h7 => k0_hw4.2.2.2.2.2.2.2.2.2.2.2.2.2.2.2.2.2.2.2.2.2.2.1 k0_h7
theorem k0_off32_inb : ∀ (v1 : BitVec 32) (v3 : BitVec 32) (k0_t3 : Fin (k0_t3_loop v1).trips) (v53 : BitVec 32) (k0_hw4 : k0_chk4 v1 v3 k0_t3 v53), ∀ (k0_h7 : k0_cond7 v1 k0_t3 v53 = 1#1), ∀ a, (k0_off32 v1 v3 k0_t3) a + S512x1x1024.size a ≤ S1024x1x1024.size a := fun v1 v3 k0_t3 v53 k0_hw4 k0_h7 => k0_hw4.2.2.2.2.2.2.2.2.2.2.2.2.2.2.2.2.2.2.2.2.2.2.2.1 k0_h7
theorem k0_mult16_dvd : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), 512 ∣ (k0_mult16 v1 v3 k0_t3).toNat := fun v1 v3 k0_t3 v53 k0_hw4 k0_h8 => k0_hw4.2.2.2.2.2.2.2.2.2.2.2.2.2.2.2.2.2.2.2.2.2.2.2.2.1 k0_h8
theorem k0_off33_inb : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), ∀ a, (k0_off33 v1 v3 k0_t3) a + S512x1x1024.size a ≤ S1024x1x1024.size a := fun v1 v3 k0_t3 v53 k0_hw4 k0_h8 => k0_hw4.2.2.2.2.2.2.2.2.2.2.2.2.2.2.2.2.2.2.2.2.2.2.2.2.2.1 k0_h8
theorem k0_mult17_dvd : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), 512 ∣ (k0_mult17 v1 v3 k0_t3).toNat := fun v1 v3 k0_t3 v53 k0_hw4 k0_h8 => k0_hw4.2.2.2.2.2.2.2.2.2.2.2.2.2.2.2.2.2.2.2.2.2.2.2.2.2.2.1 k0_h8
theorem k0_off34_inb : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), ∀ a, (k0_off34 v1 v3 k0_t3) a + S512x1x1024.size a ≤ S1024x1x1024.size a := fun v1 v3 k0_t3 v53 k0_hw4 k0_h8 => k0_hw4.2.2.2.2.2.2.2.2.2.2.2.2.2.2.2.2.2.2.2.2.2.2.2.2.2.2.2.1 k0_h8
theorem k0_mult18_dvd : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), 512 ∣ (k0_mult18 v1 v3 k0_t3).toNat := fun v1 v3 k0_t3 v53 k0_hw4 k0_h8 => k0_hw4.2.2.2.2.2.2.2.2.2.2.2.2.2.2.2.2.2.2.2.2.2.2.2.2.2.2.2.2.1 k0_h8
theorem k0_off35_inb : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), ∀ a, (k0_off35 v1 v3 k0_t3) a + S1.size a ≤ S2.size a := fun v1 v3 k0_t3 v53 k0_hw4 k0_h8 => k0_hw4.2.2.2.2.2.2.2.2.2.2.2.2.2.2.2.2.2.2.2.2.2.2.2.2.2.2.2.2.2.1 k0_h8
theorem k0_off36_inb : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), ∀ a, (k0_off36 v1 v3 k0_t3) a + S512x1x1024.size a ≤ S81920x1x1024.size a := fun v1 v3 k0_t3 v53 k0_hw4 k0_h8 => k0_hw4.2.2.2.2.2.2.2.2.2.2.2.2.2.2.2.2.2.2.2.2.2.2.2.2.2.2.2.2.2.2.1 k0_h8
theorem k0_off37_inb : ∀ (v1 : BitVec 32) (v3 : BitVec 32) (k0_t3 : Fin (k0_t3_loop v1).trips) (v53 : BitVec 32) (k0_hw4 : k0_chk4 v1 v3 k0_t3 v53), ∀ (k0_h8 : k0_cond8 v1 k0_t3 v53 = 1#1), ∀ a, (k0_off37 v1 v3 k0_t3) a + S512x1x1024.size a ≤ S1024x1x1024.size a := fun v1 v3 k0_t3 v53 k0_hw4 k0_h8 => k0_hw4.2.2.2.2.2.2.2.2.2.2.2.2.2.2.2.2.2.2.2.2.2.2.2.2.2.2.2.2.2.2.2 k0_h8

@[reducible] def k0_t4_loop (v1 : BitVec 32) : Scf.Loop 32 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let v18 : BitVec 32 := Scalar.addi c0_i32_6 v17
  let c1_i32_9 : BitVec 32 := 1#32
  ⟨v21, v18, c1_i32_9⟩

def k0_chk1 (v1 : BitVec 32) : Prop :=
  ((k0_t3_loop v1).OK) ∧
  ((k0_t4_loop v1).OK)
theorem k0_t3_ok : ∀ (v1 : BitVec 32) (k0_hw1 : k0_chk1 v1), (k0_t3_loop v1).OK := fun v1 k0_hw1 => k0_hw1.1
theorem k0_t4_ok : ∀ (v1 : BitVec 32) (k0_hw1 : k0_chk1 v1), (k0_t4_loop v1).OK := fun v1 k0_hw1 => k0_hw1.2

def k0_mult19 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_12 : BitVec 32 := 1#32
  let v31 : BitVec 32 := Scalar.andi v29 c1_i32_12
  let c512_i32_13 : BitVec 32 := 512#32
  let v32 : BitVec 32 := Scalar.muli v31 c512_i32_13
  v32
def k0_off38 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_14 : BitVec 32 := 1#32
  let v34 : BitVec 32 := Scalar.andi v29 c1_i32_14
  ![v34.toNat]
def k0_off39 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_12 : BitVec 32 := 1#32
  let v31 : BitVec 32 := Scalar.andi v29 c1_i32_12
  let c512_i32_13 : BitVec 32 := 512#32
  let v32 : BitVec 32 := Scalar.muli v31 c512_i32_13
  let v33 : BitVec 32 := v32
  let c0_i32_15 : BitVec 32 := 0#32
  let c0_i32_16 : BitVec 32 := 0#32
  ![v33.toNat, 0, 0]
def k0_off40 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c512_i32 : BitVec 32 := 512#32
  let v30 : BitVec 32 := Scalar.muli v29 c512_i32
  let c0_i32_17 : BitVec 32 := 0#32
  let c0_i32_18 : BitVec 32 := 0#32
  ![v30.toNat, 0, 0]
def k0_mult20 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.addi v29 c1_i32_35
  let c1_i32_37 : BitVec 32 := 1#32
  let v71 : BitVec 32 := Scalar.andi v69 c1_i32_37
  let c512_i32_38 : BitVec 32 := 512#32
  let v72 : BitVec 32 := Scalar.muli v71 c512_i32_38
  v72
def k0_cond9 (v1 : BitVec 32) (v3 : BitVec 32) (v5 : BitVec 32) (v7 : BitVec 32) (k0_t4 : Fin (k0_t4_loop v1).trips) : BitVec 1 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_19 : BitVec 32 := 1#32
  let v39 : BitVec 32 := Scalar.addi v29 c1_i32_19
  let c9_i32_0 : BitVec 32 := 9#32
  let v6 : BitVec 32 := Scalar.shrui v5 c9_i32_0
  let v8 : BitVec 32 := Scalar.addi v6 v7
  let v40 : BitVec 1 := Scalar.cmpi .slt v39 v8
  let v41 : BitVec 32 := Scalar.extui v40
  let c0_i32_20 : BitVec 32 := 0#32
  let v42 : BitVec 1 := Scalar.cmpi .ne v41 c0_i32_20
  v42

def k0_off41 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.addi v29 c1_i32_35
  let c1_i32_39 : BitVec 32 := 1#32
  let v74 : BitVec 32 := Scalar.andi v69 c1_i32_39
  ![v74.toNat]
def k0_off42 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.addi v29 c1_i32_35
  let c1_i32_37 : BitVec 32 := 1#32
  let v71 : BitVec 32 := Scalar.andi v69 c1_i32_37
  let c512_i32_38 : BitVec 32 := 512#32
  let v72 : BitVec 32 := Scalar.muli v71 c512_i32_38
  let v73 : BitVec 32 := v72
  let c0_i32_40 : BitVec 32 := 0#32
  let c0_i32_41 : BitVec 32 := 0#32
  ![v73.toNat, 0, 0]
def k0_off43 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.addi v29 c1_i32_35
  let c512_i32_36 : BitVec 32 := 512#32
  let v70 : BitVec 32 := Scalar.muli v69 c512_i32_36
  let c0_i32_42 : BitVec 32 := 0#32
  let c0_i32_43 : BitVec 32 := 0#32
  ![v70.toNat, 0, 0]
def k0_mult21 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_35 : BitVec 32 := 1#32
  let v69 : BitVec 32 := Scalar.andi v44 c1_i32_35
  let c512_i32_36 : BitVec 32 := 512#32
  let v70 : BitVec 32 := Scalar.muli v69 c512_i32_36
  v70
def k0_cond10 (v1 : BitVec 32) (v3 : BitVec 32) (k0_t4 : Fin (k0_t4_loop v1).trips) : BitVec 1 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_23 : BitVec 32 := 1#32
  let v45 : BitVec 1 := Scalar.cmpi .eq v29 c1_i32_23
  let c3_i32 : BitVec 32 := 3#32
  let v46 : BitVec 1 := Scalar.cmpi .sge v29 c3_i32
  let v47 : BitVec 1 := Scalar.ori v45 v46
  let v48 : BitVec 32 := Scalar.extui v47
  let c0_i32_24 : BitVec 32 := 0#32
  let v49 : BitVec 1 := Scalar.cmpi .ne v48 c0_i32_24
  v49

def k0_off44 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_38 : BitVec 32 := 1#32
  let v73 : BitVec 32 := Scalar.andi v44 c1_i32_38
  ![v73.toNat]
def k0_off45 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_37 : BitVec 32 := 512#32
  let v72 : BitVec 32 := Scalar.muli v44 c512_i32_37
  let c0_i32_39 : BitVec 32 := 0#32
  let c0_i32_40 : BitVec 32 := 0#32
  ![v72.toNat, 0, 0]
def k0_off46 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_35 : BitVec 32 := 1#32
  let v69 : BitVec 32 := Scalar.andi v44 c1_i32_35
  let c512_i32_36 : BitVec 32 := 512#32
  let v70 : BitVec 32 := Scalar.muli v69 c512_i32_36
  let v71 : BitVec 32 := v70
  let c0_i32_41 : BitVec 32 := 0#32
  let c0_i32_42 : BitVec 32 := 0#32
  ![v71.toNat, 0, 0]

def k0_chk2 (v1 : BitVec 32) (v3 : BitVec 32) : Prop :=
  (∀ k0_t3 : Fin (k0_t3_loop v1).trips, 512 ∣ (k0_mult4 v1 v3 k0_t3).toNat) ∧
  (∀ k0_t3 : Fin (k0_t3_loop v1).trips, ∀ a, (k0_off8 v1 v3 k0_t3) a + S1.size a ≤ S2.size a) ∧
  (∀ k0_t3 : Fin (k0_t3_loop v1).trips, ∀ a, (k0_off9 v1 v3 k0_t3) a + S512x1x1024.size a ≤ S1024x1x1024.size a) ∧
  (∀ k0_t3 : Fin (k0_t3_loop v1).trips, ∀ a, (k0_off10 v1 v3 k0_t3) a + S512x1x1024.size a ≤ S81920x1x1024.size a) ∧
  (∀ k0_t3 : Fin (k0_t3_loop v1).trips, ∀ (k0_h4 : k0_cond4 v1 v3 k0_t3 = 1#1), 512 ∣ (k0_mult6 v1 v3 k0_t3).toNat) ∧
  (∀ k0_t3 : Fin (k0_t3_loop v1).trips, ∀ (k0_h4 : k0_cond4 v1 v3 k0_t3 = 1#1), ∀ a, (k0_off14 v1 v3 k0_t3) a + S1.size a ≤ S2.size a) ∧
  (∀ k0_t3 : Fin (k0_t3_loop v1).trips, ∀ (k0_h4 : k0_cond4 v1 v3 k0_t3 = 1#1), ∀ a, (k0_off15 v1 v3 k0_t3) a + S512x1x1024.size a ≤ S81920x1x1024.size a) ∧
  (∀ k0_t3 : Fin (k0_t3_loop v1).trips, ∀ (k0_h4 : k0_cond4 v1 v3 k0_t3 = 1#1), ∀ a, (k0_off16 v1 v3 k0_t3) a + S512x1x1024.size a ≤ S1024x1x1024.size a) ∧
  (∀ k0_t4 : Fin (k0_t4_loop v1).trips, 512 ∣ (k0_mult19 v1 v3 k0_t4).toNat) ∧
  (∀ k0_t4 : Fin (k0_t4_loop v1).trips, ∀ a, (k0_off38 v1 v3 k0_t4) a + S1.size a ≤ S2.size a) ∧
  (∀ k0_t4 : Fin (k0_t4_loop v1).trips, ∀ a, (k0_off39 v1 v3 k0_t4) a + S512x1x1024.size a ≤ S1024x1x1024.size a) ∧
  (∀ k0_t4 : Fin (k0_t4_loop v1).trips, ∀ a, (k0_off40 v1 v3 k0_t4) a + S512x1x1024.size a ≤ S81920x1x1024.size a) ∧
  (∀ k0_t4 : Fin (k0_t4_loop v1).trips, ∀ (k0_h10 : k0_cond10 v1 v3 k0_t4 = 1#1), 512 ∣ (k0_mult21 v1 v3 k0_t4).toNat) ∧
  (∀ k0_t4 : Fin (k0_t4_loop v1).trips, ∀ (k0_h10 : k0_cond10 v1 v3 k0_t4 = 1#1), ∀ a, (k0_off44 v1 v3 k0_t4) a + S1.size a ≤ S2.size a) ∧
  (∀ k0_t4 : Fin (k0_t4_loop v1).trips, ∀ (k0_h10 : k0_cond10 v1 v3 k0_t4 = 1#1), ∀ a, (k0_off45 v1 v3 k0_t4) a + S512x1x1024.size a ≤ S81920x1x1024.size a) ∧
  (∀ k0_t4 : Fin (k0_t4_loop v1).trips, ∀ (k0_h10 : k0_cond10 v1 v3 k0_t4 = 1#1), ∀ a, (k0_off46 v1 v3 k0_t4) a + S512x1x1024.size a ≤ S1024x1x1024.size a)
theorem k0_mult4_dvd : ∀ (v1 : BitVec 32) (v3 : BitVec 32) (k0_hw2 : k0_chk2 v1 v3) (k0_t3 : Fin (k0_t3_loop v1).trips), 512 ∣ (k0_mult4 v1 v3 k0_t3).toNat := fun v1 v3 k0_hw2 k0_t3 => k0_hw2.1 k0_t3
theorem k0_off8_inb : ∀ (v1 : BitVec 32) (v3 : BitVec 32) (k0_hw2 : k0_chk2 v1 v3) (k0_t3 : Fin (k0_t3_loop v1).trips), ∀ a, (k0_off8 v1 v3 k0_t3) a + S1.size a ≤ S2.size a := fun v1 v3 k0_hw2 k0_t3 => k0_hw2.2.1 k0_t3
theorem k0_off9_inb : ∀ (v1 : BitVec 32) (v3 : BitVec 32) (k0_hw2 : k0_chk2 v1 v3) (k0_t3 : Fin (k0_t3_loop v1).trips), ∀ a, (k0_off9 v1 v3 k0_t3) a + S512x1x1024.size a ≤ S1024x1x1024.size a := fun v1 v3 k0_hw2 k0_t3 => k0_hw2.2.2.1 k0_t3
theorem k0_off10_inb : ∀ (v1 : BitVec 32) (v3 : BitVec 32) (k0_hw2 : k0_chk2 v1 v3) (k0_t3 : Fin (k0_t3_loop v1).trips), ∀ a, (k0_off10 v1 v3 k0_t3) a + S512x1x1024.size a ≤ S81920x1x1024.size a := fun v1 v3 k0_hw2 k0_t3 => k0_hw2.2.2.2.1 k0_t3
theorem k0_mult6_dvd : ∀ (v1 : BitVec 32) (v3 : BitVec 32) (k0_hw2 : k0_chk2 v1 v3) (k0_t3 : Fin (k0_t3_loop v1).trips), ∀ (k0_h4 : k0_cond4 v1 v3 k0_t3 = 1#1), 512 ∣ (k0_mult6 v1 v3 k0_t3).toNat := fun v1 v3 k0_hw2 k0_t3 k0_h4 => k0_hw2.2.2.2.2.1 k0_t3 k0_h4
theorem k0_off14_inb : ∀ (v1 : BitVec 32) (v3 : BitVec 32) (k0_hw2 : k0_chk2 v1 v3) (k0_t3 : Fin (k0_t3_loop v1).trips), ∀ (k0_h4 : k0_cond4 v1 v3 k0_t3 = 1#1), ∀ a, (k0_off14 v1 v3 k0_t3) a + S1.size a ≤ S2.size a := fun v1 v3 k0_hw2 k0_t3 k0_h4 => k0_hw2.2.2.2.2.2.1 k0_t3 k0_h4
theorem k0_off15_inb : ∀ (v1 : BitVec 32) (v3 : BitVec 32) (k0_hw2 : k0_chk2 v1 v3) (k0_t3 : Fin (k0_t3_loop v1).trips), ∀ (k0_h4 : k0_cond4 v1 v3 k0_t3 = 1#1), ∀ a, (k0_off15 v1 v3 k0_t3) a + S512x1x1024.size a ≤ S81920x1x1024.size a := fun v1 v3 k0_hw2 k0_t3 k0_h4 => k0_hw2.2.2.2.2.2.2.1 k0_t3 k0_h4
theorem k0_off16_inb : ∀ (v1 : BitVec 32) (v3 : BitVec 32) (k0_hw2 : k0_chk2 v1 v3) (k0_t3 : Fin (k0_t3_loop v1).trips), ∀ (k0_h4 : k0_cond4 v1 v3 k0_t3 = 1#1), ∀ a, (k0_off16 v1 v3 k0_t3) a + S512x1x1024.size a ≤ S1024x1x1024.size a := fun v1 v3 k0_hw2 k0_t3 k0_h4 => k0_hw2.2.2.2.2.2.2.2.1 k0_t3 k0_h4
theorem k0_mult19_dvd : ∀ (v1 : BitVec 32) (v3 : BitVec 32) (k0_hw2 : k0_chk2 v1 v3) (k0_t4 : Fin (k0_t4_loop v1).trips), 512 ∣ (k0_mult19 v1 v3 k0_t4).toNat := fun v1 v3 k0_hw2 k0_t4 => k0_hw2.2.2.2.2.2.2.2.2.1 k0_t4
theorem k0_off38_inb : ∀ (v1 : BitVec 32) (v3 : BitVec 32) (k0_hw2 : k0_chk2 v1 v3) (k0_t4 : Fin (k0_t4_loop v1).trips), ∀ a, (k0_off38 v1 v3 k0_t4) a + S1.size a ≤ S2.size a := fun v1 v3 k0_hw2 k0_t4 => k0_hw2.2.2.2.2.2.2.2.2.2.1 k0_t4
theorem k0_off39_inb : ∀ (v1 : BitVec 32) (v3 : BitVec 32) (k0_hw2 : k0_chk2 v1 v3) (k0_t4 : Fin (k0_t4_loop v1).trips), ∀ a, (k0_off39 v1 v3 k0_t4) a + S512x1x1024.size a ≤ S1024x1x1024.size a := fun v1 v3 k0_hw2 k0_t4 => k0_hw2.2.2.2.2.2.2.2.2.2.2.1 k0_t4
theorem k0_off40_inb : ∀ (v1 : BitVec 32) (v3 : BitVec 32) (k0_hw2 : k0_chk2 v1 v3) (k0_t4 : Fin (k0_t4_loop v1).trips), ∀ a, (k0_off40 v1 v3 k0_t4) a + S512x1x1024.size a ≤ S81920x1x1024.size a := fun v1 v3 k0_hw2 k0_t4 => k0_hw2.2.2.2.2.2.2.2.2.2.2.2.1 k0_t4
theorem k0_mult21_dvd : ∀ (v1 : BitVec 32) (v3 : BitVec 32) (k0_hw2 : k0_chk2 v1 v3) (k0_t4 : Fin (k0_t4_loop v1).trips), ∀ (k0_h10 : k0_cond10 v1 v3 k0_t4 = 1#1), 512 ∣ (k0_mult21 v1 v3 k0_t4).toNat := fun v1 v3 k0_hw2 k0_t4 k0_h10 => k0_hw2.2.2.2.2.2.2.2.2.2.2.2.2.1 k0_t4 k0_h10
theorem k0_off44_inb : ∀ (v1 : BitVec 32) (v3 : BitVec 32) (k0_hw2 : k0_chk2 v1 v3) (k0_t4 : Fin (k0_t4_loop v1).trips), ∀ (k0_h10 : k0_cond10 v1 v3 k0_t4 = 1#1), ∀ a, (k0_off44 v1 v3 k0_t4) a + S1.size a ≤ S2.size a := fun v1 v3 k0_hw2 k0_t4 k0_h10 => k0_hw2.2.2.2.2.2.2.2.2.2.2.2.2.2.1 k0_t4 k0_h10
theorem k0_off45_inb : ∀ (v1 : BitVec 32) (v3 : BitVec 32) (k0_hw2 : k0_chk2 v1 v3) (k0_t4 : Fin (k0_t4_loop v1).trips), ∀ (k0_h10 : k0_cond10 v1 v3 k0_t4 = 1#1), ∀ a, (k0_off45 v1 v3 k0_t4) a + S512x1x1024.size a ≤ S81920x1x1024.size a := fun v1 v3 k0_hw2 k0_t4 k0_h10 => k0_hw2.2.2.2.2.2.2.2.2.2.2.2.2.2.2.1 k0_t4 k0_h10
theorem k0_off46_inb : ∀ (v1 : BitVec 32) (v3 : BitVec 32) (k0_hw2 : k0_chk2 v1 v3) (k0_t4 : Fin (k0_t4_loop v1).trips), ∀ (k0_h10 : k0_cond10 v1 v3 k0_t4 = 1#1), ∀ a, (k0_off46 v1 v3 k0_t4) a + S512x1x1024.size a ≤ S1024x1x1024.size a := fun v1 v3 k0_hw2 k0_t4 k0_h10 => k0_hw2.2.2.2.2.2.2.2.2.2.2.2.2.2.2.2 k0_t4 k0_h10

def k0_off47 (i : grid0.Coords) : Fin 1 → Nat :=
  let arg0 : BitVec 32 := BitVec.ofNat 32 (i 0).val
  let v52 : Index := Scalar.indexCast arg0
  ![v52.toNat]
def k0_mult22 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond11 (v1 : BitVec 32) (k0_t4 : Fin (k0_t4_loop v1).trips) (v53 : BitVec 32) : BitVec 1 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c1_i32_27 : BitVec 32 := 1#32
  let v57 : BitVec 1 := Scalar.cmpi .eq v56 c1_i32_27
  let v58 : BitVec 32 := Scalar.extui v57
  let c0_i32_28 : BitVec 32 := 0#32
  let v59 : BitVec 1 := Scalar.cmpi .ne v58 c0_i32_28
  v59

def k0_off48 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult23 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off49 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult24 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off50 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off51 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off52 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult25 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond12 (v1 : BitVec 32) (k0_t4 : Fin (k0_t4_loop v1).trips) (v53 : BitVec 32) : BitVec 1 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c2_i32 : BitVec 32 := 2#32
  let v60 : BitVec 1 := Scalar.cmpi .eq v56 c2_i32
  let v61 : BitVec 32 := Scalar.extui v60
  let c0_i32_29 : BitVec 32 := 0#32
  let v62 : BitVec 1 := Scalar.cmpi .ne v61 c0_i32_29
  v62

def k0_off53 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult26 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off54 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult27 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off55 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off56 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off57 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult28 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond13 (v1 : BitVec 32) (k0_t4 : Fin (k0_t4_loop v1).trips) (v53 : BitVec 32) : BitVec 1 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c3_i32_30 : BitVec 32 := 3#32
  let v63 : BitVec 1 := Scalar.cmpi .eq v56 c3_i32_30
  let v64 : BitVec 32 := Scalar.extui v63
  let c0_i32_31 : BitVec 32 := 0#32
  let v65 : BitVec 1 := Scalar.cmpi .ne v64 c0_i32_31
  v65

def k0_off58 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult29 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off59 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult30 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off60 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off61 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off62 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]
def k0_mult31 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  v70
def k0_cond14 (v1 : BitVec 32) (k0_t4 : Fin (k0_t4_loop v1).trips) (v53 : BitVec 32) : BitVec 1 :=
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let c1_i32_25 : BitVec 32 := 1#32
  let v50 : BitVec 32 := Scalar.subi v1 c1_i32_25
  let v51 : BitVec 1 := Scalar.cmpi .eq arg19 v50
  let c4_i32 : BitVec 32 := 4#32
  let c128_i32 : BitVec 32 := 128#32
  let v54 : BitVec 32 := Scalar.divsi v53 c128_i32
  let v55 : BitVec 32 := Scalar.subi c4_i32 v54
  let c4_i32_26 : BitVec 32 := 4#32
  let v56 : BitVec 32 := Scalar.select v51 v55 c4_i32_26
  let c4_i32_32 : BitVec 32 := 4#32
  let v66 : BitVec 1 := Scalar.cmpi .eq v56 c4_i32_32
  let v67 : BitVec 32 := Scalar.extui v66
  let c0_i32_33 : BitVec 32 := 0#32
  let v68 : BitVec 1 := Scalar.cmpi .ne v67 c0_i32_33
  v68

def k0_off63 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_35 : BitVec 32 := 1#32
  let v69 : BitVec 32 := Scalar.andi v29 c1_i32_35
  let c512_i32_36 : BitVec 32 := 512#32
  let v70 : BitVec 32 := Scalar.muli v69 c512_i32_36
  let v71 : BitVec 32 := v70
  let v72 : Index := Scalar.indexCast v71
  let c0 : Index := 0#32
  let c0_37 : Index := 0#32
  ![v72.toNat, 0, 0]
def k0_mult32 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  v83
def k0_off64 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_44 : BitVec 32 := 1#32
  let v82 : BitVec 32 := Scalar.andi v44 c1_i32_44
  let c512_i32_45 : BitVec 32 := 512#32
  let v83 : BitVec 32 := Scalar.muli v82 c512_i32_45
  let v84 : BitVec 32 := v83
  let v85 : Index := Scalar.indexCast v84
  let c0_46 : Index := 0#32
  let c0_47 : Index := 0#32
  ![v85.toNat, 0, 0]
def k0_mult33 (v1 : BitVec 32) (v3 : BitVec 32) (k0_t4 : Fin (k0_t4_loop v1).trips) : BitVec 32 :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  v90
def k0_off65 (v1 : BitVec 32) (v3 : BitVec 32) (k0_t4 : Fin (k0_t4_loop v1).trips) : Fin 1 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_51 : BitVec 32 := 1#32
  let v93 : BitVec 32 := Scalar.andi v44 c1_i32_51
  ![v93.toNat]
def k0_off66 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c512_i32_50 : BitVec 32 := 512#32
  let v92 : BitVec 32 := Scalar.muli v44 c512_i32_50
  let c0_i32_52 : BitVec 32 := 0#32
  let c0_i32_53 : BitVec 32 := 0#32
  ![v92.toNat, 0, 0]
def k0_off67 (v1 : BitVec 32) (v3 : BitVec 32) (k0_t4 : Fin (k0_t4_loop v1).trips) : Fin 3 → Nat :=
  let c9_i32 : BitVec 32 := 9#32
  let v4 : BitVec 32 := Scalar.shrui v3 c9_i32
  let c0_i32_6 : BitVec 32 := 0#32
  let v17 : BitVec 32 := Scalar.subi v1 c0_i32_6
  let c1_i32 : BitVec 32 := 1#32
  let v19 : BitVec 32 := Scalar.divsi v17 c1_i32
  let v20 : BitVec 32 := Scalar.muli v19 c1_i32
  let v21 : BitVec 32 := Scalar.addi c0_i32_6 v20
  let c1_i32_9 : BitVec 32 := 1#32
  let arg19 : BitVec 32 := Scf.iv v21 c1_i32_9 k0_t4
  let v29 : BitVec 32 := Scalar.addi v4 arg19
  let c1_i32_21 : BitVec 32 := 1#32
  let v43 : BitVec 32 := Scalar.subi v29 c1_i32_21
  let c0_i32_22 : BitVec 32 := 0#32
  let v44 : BitVec 32 := Scalar.maxsi v43 c0_i32_22
  let c1_i32_48 : BitVec 32 := 1#32
  let v89 : BitVec 32 := Scalar.andi v44 c1_i32_48
  let c512_i32_49 : BitVec 32 := 512#32
  let v90 : BitVec 32 := Scalar.muli v89 c512_i32_49
  let v91 : BitVec 32 := v90
  let c0_i32_54 : BitVec 32 := 0#32
  let c0_i32_55 : BitVec 32 := 0#32
  ![v91.toNat, 0, 0]

def k0_chk5 (v1 : BitVec 32) (v3 : BitVec 32) (k0_t4 : Fin (k0_t4_loop v1).trips) (v53 : BitVec 32) : Prop :=
  (∀ (k0_h11 : k0_cond11 v1 k0_t4 v53 = 1#1), 512 ∣ (k0_mult22 v1 v3 k0_t4).toNat) ∧
  (∀ (k0_h11 : k0_cond11 v1 k0_t4 v53 = 1#1), ∀ a, (k0_off48 v1 v3 k0_t4) a + S128x1x1024.size a ≤ S1024x1x1024.size a) ∧
  (∀ (k0_h11 : k0_cond11 v1 k0_t4 v53 = 1#1), 512 ∣ (k0_mult23 v1 v3 k0_t4).toNat) ∧
  (∀ (k0_h11 : k0_cond11 v1 k0_t4 v53 = 1#1), ∀ a, (k0_off49 v1 v3 k0_t4) a + S512x1x1024.size a ≤ S1024x1x1024.size a) ∧
  (∀ (k0_h11 : k0_cond11 v1 k0_t4 v53 = 1#1), 512 ∣ (k0_mult24 v1 v3 k0_t4).toNat) ∧
  (∀ (k0_h11 : k0_cond11 v1 k0_t4 v53 = 1#1), ∀ a, (k0_off50 v1 v3 k0_t4) a + S1.size a ≤ S2.size a) ∧
  (∀ (k0_h11 : k0_cond11 v1 k0_t4 v53 = 1#1), ∀ a, (k0_off51 v1 v3 k0_t4) a + S512x1x1024.size a ≤ S81920x1x1024.size a) ∧
  (∀ (k0_h11 : k0_cond11 v1 k0_t4 v53 = 1#1), ∀ a, (k0_off52 v1 v3 k0_t4) a + S512x1x1024.size a ≤ S1024x1x1024.size a) ∧
  (∀ (k0_h12 : k0_cond12 v1 k0_t4 v53 = 1#1), 512 ∣ (k0_mult25 v1 v3 k0_t4).toNat) ∧
  (∀ (k0_h12 : k0_cond12 v1 k0_t4 v53 = 1#1), ∀ a, (k0_off53 v1 v3 k0_t4) a + S256x1x1024.size a ≤ S1024x1x1024.size a) ∧
  (∀ (k0_h12 : k0_cond12 v1 k0_t4 v53 = 1#1), 512 ∣ (k0_mult26 v1 v3 k0_t4).toNat) ∧
  (∀ (k0_h12 : k0_cond12 v1 k0_t4 v53 = 1#1), ∀ a, (k0_off54 v1 v3 k0_t4) a + S512x1x1024.size a ≤ S1024x1x1024.size a) ∧
  (∀ (k0_h12 : k0_cond12 v1 k0_t4 v53 = 1#1), 512 ∣ (k0_mult27 v1 v3 k0_t4).toNat) ∧
  (∀ (k0_h12 : k0_cond12 v1 k0_t4 v53 = 1#1), ∀ a, (k0_off55 v1 v3 k0_t4) a + S1.size a ≤ S2.size a) ∧
  (∀ (k0_h12 : k0_cond12 v1 k0_t4 v53 = 1#1), ∀ a, (k0_off56 v1 v3 k0_t4) a + S512x1x1024.size a ≤ S81920x1x1024.size a) ∧
  (∀ (k0_h12 : k0_cond12 v1 k0_t4 v53 = 1#1), ∀ a, (k0_off57 v1 v3 k0_t4) a + S512x1x1024.size a ≤ S1024x1x1024.size a) ∧
  (∀ (k0_h13 : k0_cond13 v1 k0_t4 v53 = 1#1), 512 ∣ (k0_mult28 v1 v3 k0_t4).toNat) ∧
  (∀ (k0_h13 : k0_cond13 v1 k0_t4 v53 = 1#1), ∀ a, (k0_off58 v1 v3 k0_t4) a + S384x1x1024.size a ≤ S1024x1x1024.size a) ∧
  (∀ (k0_h13 : k0_cond13 v1 k0_t4 v53 = 1#1), 512 ∣ (k0_mult29 v1 v3 k0_t4).toNat) ∧
  (∀ (k0_h13 : k0_cond13 v1 k0_t4 v53 = 1#1), ∀ a, (k0_off59 v1 v3 k0_t4) a + S512x1x1024.size a ≤ S1024x1x1024.size a) ∧
  (∀ (k0_h13 : k0_cond13 v1 k0_t4 v53 = 1#1), 512 ∣ (k0_mult30 v1 v3 k0_t4).toNat) ∧
  (∀ (k0_h13 : k0_cond13 v1 k0_t4 v53 = 1#1), ∀ a, (k0_off60 v1 v3 k0_t4) a + S1.size a ≤ S2.size a) ∧
  (∀ (k0_h13 : k0_cond13 v1 k0_t4 v53 = 1#1), ∀ a, (k0_off61 v1 v3 k0_t4) a + S512x1x1024.size a ≤ S81920x1x1024.size a) ∧
  (∀ (k0_h13 : k0_cond13 v1 k0_t4 v53 = 1#1), ∀ a, (k0_off62 v1 v3 k0_t4) a + S512x1x1024.size a ≤ S1024x1x1024.size a) ∧
  (∀ (k0_h14 : k0_cond14 v1 k0_t4 v53 = 1#1), 512 ∣ (k0_mult31 v1 v3 k0_t4).toNat) ∧
  (∀ (k0_h14 : k0_cond14 v1 k0_t4 v53 = 1#1), ∀ a, (k0_off63 v1 v3 k0_t4) a + S512x1x1024.size a ≤ S1024x1x1024.size a) ∧
  (∀ (k0_h14 : k0_cond14 v1 k0_t4 v53 = 1#1), 512 ∣ (k0_mult32 v1 v3 k0_t4).toNat) ∧
  (∀ (k0_h14 : k0_cond14 v1 k0_t4 v53 = 1#1), ∀ a, (k0_off64 v1 v3 k0_t4) a + S512x1x1024.size a ≤ S1024x1x1024.size a) ∧
  (∀ (k0_h14 : k0_cond14 v1 k0_t4 v53 = 1#1), 512 ∣ (k0_mult33 v1 v3 k0_t4).toNat) ∧
  (∀ (k0_h14 : k0_cond14 v1 k0_t4 v53 = 1#1), ∀ a, (k0_off65 v1 v3 k0_t4) a + S1.size a ≤ S2.size a) ∧
  (∀ (k0_h14 : k0_cond14 v1 k0_t4 v53 = 1#1), ∀ a, (k0_off66 v1 v3 k0_t4) a + S512x1x1024.size a ≤ S81920x1x1024.size a) ∧
  (∀ (k0_h14 : k0_cond14 v1 k0_t4 v53 = 1#1), ∀ a, (k0_off67 v1 v3 k0_t4) a + S512x1x1024.size a ≤ S1024x1x1024.size a)
theorem k0_mult22_dvd : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), 512 ∣ (k0_mult22 v1 v3 k0_t4).toNat := fun v1 v3 k0_t4 v53 k0_hw5 k0_h11 => k0_hw5.1 k0_h11
theorem k0_off48_inb : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), ∀ a, (k0_off48 v1 v3 k0_t4) a + S128x1x1024.size a ≤ S1024x1x1024.size a := fun v1 v3 k0_t4 v53 k0_hw5 k0_h11 => k0_hw5.2.1 k0_h11
theorem k0_mult23_dvd : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), 512 ∣ (k0_mult23 v1 v3 k0_t4).toNat := fun v1 v3 k0_t4 v53 k0_hw5 k0_h11 => k0_hw5.2.2.1 k0_h11
theorem k0_off49_inb : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), ∀ a, (k0_off49 v1 v3 k0_t4) a + S512x1x1024.size a ≤ S1024x1x1024.size a := fun v1 v3 k0_t4 v53 k0_hw5 k0_h11 => k0_hw5.2.2.2.1 k0_h11
theorem k0_mult24_dvd : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), 512 ∣ (k0_mult24 v1 v3 k0_t4).toNat := fun v1 v3 k0_t4 v53 k0_hw5 k0_h11 => k0_hw5.2.2.2.2.1 k0_h11
theorem k0_off50_inb : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), ∀ a, (k0_off50 v1 v3 k0_t4) a + S1.size a ≤ S2.size a := fun v1 v3 k0_t4 v53 k0_hw5 k0_h11 => k0_hw5.2.2.2.2.2.1 k0_h11
theorem k0_off51_inb : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), ∀ a, (k0_off51 v1 v3 k0_t4) a + S512x1x1024.size a ≤ S81920x1x1024.size a := fun v1 v3 k0_t4 v53 k0_hw5 k0_h11 => k0_hw5.2.2.2.2.2.2.1 k0_h11
theorem k0_off52_inb : ∀ (v1 : BitVec 32) (v3 : BitVec 32) (k0_t4 : Fin (k0_t4_loop v1).trips) (v53 : BitVec 32) (k0_hw5 : k0_chk5 v1 v3 k0_t4 v53), ∀ (k0_h11 : k0_cond11 v1 k0_t4 v53 = 1#1), ∀ a, (k0_off52 v1 v3 k0_t4) a + S512x1x1024.size a ≤ S1024x1x1024.size a := fun v1 v3 k0_t4 v53 k0_hw5 k0_h11 => k0_hw5.2.2.2.2.2.2.2.1 k0_h11
theorem k0_mult25_dvd : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), 512 ∣ (k0_mult25 v1 v3 k0_t4).toNat := fun v1 v3 k0_t4 v53 k0_hw5 k0_h12 => k0_hw5.2.2.2.2.2.2.2.2.1 k0_h12
theorem k0_off53_inb : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), ∀ a, (k0_off53 v1 v3 k0_t4) a + S256x1x1024.size a ≤ S1024x1x1024.size a := fun v1 v3 k0_t4 v53 k0_hw5 k0_h12 => k0_hw5.2.2.2.2.2.2.2.2.2.1 k0_h12
theorem k0_mult26_dvd : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), 512 ∣ (k0_mult26 v1 v3 k0_t4).toNat := fun v1 v3 k0_t4 v53 k0_hw5 k0_h12 => k0_hw5.2.2.2.2.2.2.2.2.2.2.1 k0_h12
theorem k0_off54_inb : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), ∀ a, (k0_off54 v1 v3 k0_t4) a + S512x1x1024.size a ≤ S1024x1x1024.size a := fun v1 v3 k0_t4 v53 k0_hw5 k0_h12 => k0_hw5.2.2.2.2.2.2.2.2.2.2.2.1 k0_h12
theorem k0_mult27_dvd : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), 512 ∣ (k0_mult27 v1 v3 k0_t4).toNat := fun v1 v3 k0_t4 v53 k0_hw5 k0_h12 => k0_hw5.2.2.2.2.2.2.2.2.2.2.2.2.1 k0_h12
theorem k0_off55_inb : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), ∀ a, (k0_off55 v1 v3 k0_t4) a + S1.size a ≤ S2.size a := fun v1 v3 k0_t4 v53 k0_hw5 k0_h12 => k0_hw5.2.2.2.2.2.2.2.2.2.2.2.2.2.1 k0_h12
theorem k0_off56_inb : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), ∀ a, (k0_off56 v1 v3 k0_t4) a + S512x1x1024.size a ≤ S81920x1x1024.size a := fun v1 v3 k0_t4 v53 k0_hw5 k0_h12 => k0_hw5.2.2.2.2.2.2.2.2.2.2.2.2.2.2.1 k0_h12
theorem k0_off57_inb : ∀ (v1 : BitVec 32) (v3 : BitVec 32) (k0_t4 : Fin (k0_t4_loop v1).trips) (v53 : BitVec 32) (k0_hw5 : k0_chk5 v1 v3 k0_t4 v53), ∀ (k0_h12 : k0_cond12 v1 k0_t4 v53 = 1#1), ∀ a, (k0_off57 v1 v3 k0_t4) a + S512x1x1024.size a ≤ S1024x1x1024.size a := fun v1 v3 k0_t4 v53 k0_hw5 k0_h12 => k0_hw5.2.2.2.2.2.2.2.2.2.2.2.2.2.2.2.1 k0_h12
theorem k0_mult28_dvd : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), 512 ∣ (k0_mult28 v1 v3 k0_t4).toNat := fun v1 v3 k0_t4 v53 k0_hw5 k0_h13 => k0_hw5.2.2.2.2.2.2.2.2.2.2.2.2.2.2.2.2.1 k0_h13
theorem k0_off58_inb : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), ∀ a, (k0_off58 v1 v3 k0_t4) a + S384x1x1024.size a ≤ S1024x1x1024.size a := fun v1 v3 k0_t4 v53 k0_hw5 k0_h13 => k0_hw5.2.2.2.2.2.2.2.2.2.2.2.2.2.2.2.2.2.1 k0_h13
theorem k0_mult29_dvd : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), 512 ∣ (k0_mult29 v1 v3 k0_t4).toNat := fun v1 v3 k0_t4 v53 k0_hw5 k0_h13 => k0_hw5.2.2.2.2.2.2.2.2.2.2.2.2.2.2.2.2.2.2.1 k0_h13
theorem k0_off59_inb : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), ∀ a, (k0_off59 v1 v3 k0_t4) a + S512x1x1024.size a ≤ S1024x1x1024.size a := fun v1 v3 k0_t4 v53 k0_hw5 k0_h13 => k0_hw5.2.2.2.2.2.2.2.2.2.2.2.2.2.2.2.2.2.2.2.1 k0_h13
theorem k0_mult30_dvd : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), 512 ∣ (k0_mult30 v1 v3 k0_t4).toNat := fun v1 v3 k0_t4 v53 k0_hw5 k0_h13 => k0_hw5.2.2.2.2.2.2.2.2.2.2.2.2.2.2.2.2.2.2.2.2.1 k0_h13
theorem k0_off60_inb : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), ∀ a, (k0_off60 v1 v3 k0_t4) a + S1.size a ≤ S2.size a := fun v1 v3 k0_t4 v53 k0_hw5 k0_h13 => k0_hw5.2.2.2.2.2.2.2.2.2.2.2.2.2.2.2.2.2.2.2.2.2.1 k0_h13
theorem k0_off61_inb : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), ∀ a, (k0_off61 v1 v3 k0_t4) a + S512x1x1024.size a ≤ S81920x1x1024.size a := fun v1 v3 k0_t4 v53 k0_hw5 k0_h13 => k0_hw5.2.2.2.2.2.2.2.2.2.2.2.2.2.2.2.2.2.2.2.2.2.2.1 k0_h13
theorem k0_off62_inb : ∀ (v1 : BitVec 32) (v3 : BitVec 32) (k0_t4 : Fin (k0_t4_loop v1).trips) (v53 : BitVec 32) (k0_hw5 : k0_chk5 v1 v3 k0_t4 v53), ∀ (k0_h13 : k0_cond13 v1 k0_t4 v53 = 1#1), ∀ a, (k0_off62 v1 v3 k0_t4) a + S512x1x1024.size a ≤ S1024x1x1024.size a := fun v1 v3 k0_t4 v53 k0_hw5 k0_h13 => k0_hw5.2.2.2.2.2.2.2.2.2.2.2.2.2.2.2.2.2.2.2.2.2.2.2.1 k0_h13
theorem k0_mult31_dvd : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), 512 ∣ (k0_mult31 v1 v3 k0_t4).toNat := fun v1 v3 k0_t4 v53 k0_hw5 k0_h14 => k0_hw5.2.2.2.2.2.2.2.2.2.2.2.2.2.2.2.2.2.2.2.2.2.2.2.2.1 k0_h14
theorem k0_off63_inb : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), ∀ a, (k0_off63 v1 v3 k0_t4) a + S512x1x1024.size a ≤ S1024x1x1024.size a := fun v1 v3 k0_t4 v53 k0_hw5 k0_h14 => k0_hw5.2.2.2.2.2.2.2.2.2.2.2.2.2.2.2.2.2.2.2.2.2.2.2.2.2.1 k0_h14
theorem k0_mult32_dvd : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), 512 ∣ (k0_mult32 v1 v3 k0_t4).toNat := fun v1 v3 k0_t4 v53 k0_hw5 k0_h14 => k0_hw5.2.2.2.2.2.2.2.2.2.2.2.2.2.2.2.2.2.2.2.2.2.2.2.2.2.2.1 k0_h14
theorem k0_off64_inb : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), ∀ a, (k0_off64 v1 v3 k0_t4) a + S512x1x1024.size a ≤ S1024x1x1024.size a := fun v1 v3 k0_t4 v53 k0_hw5 k0_h14 => k0_hw5.2.2.2.2.2.2.2.2.2.2.2.2.2.2.2.2.2.2.2.2.2.2.2.2.2.2.2.1 k0_h14
theorem k0_mult33_dvd : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), 512 ∣ (k0_mult33 v1 v3 k0_t4).toNat := fun v1 v3 k0_t4 v53 k0_hw5 k0_h14 => k0_hw5.2.2.2.2.2.2.2.2.2.2.2.2.2.2.2.2.2.2.2.2.2.2.2.2.2.2.2.2.1 k0_h14
theorem k0_off65_inb : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), ∀ a, (k0_off65 v1 v3 k0_t4) a + S1.size a ≤ S2.size a := fun v1 v3 k0_t4 v53 k0_hw5 k0_h14 => k0_hw5.2.2.2.2.2.2.2.2.2.2.2.2.2.2.2.2.2.2.2.2.2.2.2.2.2.2.2.2.2.1 k0_h14
theorem k0_off66_inb : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), ∀ a, (k0_off66 v1 v3 k0_t4) a + S512x1x1024.size a ≤ S81920x1x1024.size a := fun v1 v3 k0_t4 v53 k0_hw5 k0_h14 => k0_hw5.2.2.2.2.2.2.2.2.2.2.2.2.2.2.2.2.2.2.2.2.2.2.2.2.2.2.2.2.2.2.1 k0_h14
theorem k0_off67_inb : ∀ (v1 : BitVec 32) (v3 : BitVec 32) (k0_t4 : Fin (k0_t4_loop v1).trips) (v53 : BitVec 32) (k0_hw5 : k0_chk5 v1 v3 k0_t4 v53), ∀ (k0_h14 : k0_cond14 v1 k0_t4 v53 = 1#1), ∀ a, (k0_off67 v1 v3 k0_t4) a + S512x1x1024.size a ≤ S1024x1x1024.size a := fun v1 v3 k0_t4 v53 k0_hw5 k0_h14 => k0_hw5.2.2.2.2.2.2.2.2.2.2.2.2.2.2.2.2.2.2.2.2.2.2.2.2.2.2.2.2.2.2.2 k0_h14

def k0_mult34 (v5 : BitVec 32) (v7 : BitVec 32) : BitVec 32 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.andi v29 c1_i32_37
  let c512_i32_38 : BitVec 32 := 512#32
  let v64 : BitVec 32 := Scalar.muli v63 c512_i32_38
  v64
def k0_cond15 (i : grid0.Coords) (v5 : BitVec 32) (v7 : BitVec 32) : BitVec 1 :=
  let arg0 : BitVec 32 := BitVec.ofNat 32 (i 0).val
  let c31_i32 : BitVec 32 := 31#32
  let v24 : BitVec 1 := Scalar.cmpi .eq arg0 c31_i32
  let c9_i32_0 : BitVec 32 := 9#32
  let v6 : BitVec 32 := Scalar.shrui v5 c9_i32_0
  let v8 : BitVec 32 := Scalar.addi v6 v7
  let c0_i32_10 : BitVec 32 := 0#32
  let v25 : BitVec 1 := Scalar.cmpi .sgt v8 c0_i32_10
  let v26 : BitVec 1 := Scalar.andi v24 v25
  let v27 : BitVec 32 := Scalar.extui v26
  let c0_i32_11 : BitVec 32 := 0#32
  let v28 : BitVec 1 := Scalar.cmpi .ne v27 c0_i32_11
  v28

def k0_cond16 (v5 : BitVec 32) (v7 : BitVec 32) : BitVec 1 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_13 : BitVec 32 := 1#32
  let v30 : BitVec 1 := Scalar.cmpi .ne v29 c1_i32_13
  let v31 : BitVec 32 := Scalar.extui v30
  let c0_i32_14 : BitVec 32 := 0#32
  let v32 : BitVec 1 := Scalar.cmpi .ne v31 c0_i32_14
  v32

def k0_off68 (v5 : BitVec 32) (v7 : BitVec 32) : Fin 1 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_40 : BitVec 32 := 1#32
  let v67 : BitVec 32 := Scalar.andi v29 c1_i32_40
  ![v67.toNat]
def k0_off69 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c512_i32_39 : BitVec 32 := 512#32
  let v66 : BitVec 32 := Scalar.muli v29 c512_i32_39
  let c0_i32_41 : BitVec 32 := 0#32
  let c0_i32_42 : BitVec 32 := 0#32
  ![v66.toNat, 0, 0]
def k0_off70 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.andi v29 c1_i32_37
  let c512_i32_38 : BitVec 32 := 512#32
  let v64 : BitVec 32 := Scalar.muli v63 c512_i32_38
  let v65 : BitVec 32 := v64
  let c0_i32_43 : BitVec 32 := 0#32
  let c0_i32_44 : BitVec 32 := 0#32
  ![v65.toNat, 0, 0]
def k0_mult35 (v5 : BitVec 32) (v7 : BitVec 32) : BitVec 32 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_16 : BitVec 32 := 1#32
  let v35 : BitVec 32 := Scalar.andi v29 c1_i32_16
  let c512_i32 : BitVec 32 := 512#32
  let v36 : BitVec 32 := Scalar.muli v35 c512_i32
  v36
def k0_off71 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_16 : BitVec 32 := 1#32
  let v35 : BitVec 32 := Scalar.andi v29 c1_i32_16
  let c512_i32 : BitVec 32 := 512#32
  let v36 : BitVec 32 := Scalar.muli v35 c512_i32
  let v37 : BitVec 32 := v36
  let v38 : Index := Scalar.indexCast v37
  let c0_17 : Index := 0#32
  let c0_18 : Index := 0#32
  ![v38.toNat, 0, 0]
def k0_mult36 (v5 : BitVec 32) (v7 : BitVec 32) : BitVec 32 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_19 : BitVec 32 := 1#32
  let v42 : BitVec 32 := Scalar.andi v29 c1_i32_19
  let c512_i32_20 : BitVec 32 := 512#32
  let v43 : BitVec 32 := Scalar.muli v42 c512_i32_20
  v43
def k0_off72 (v5 : BitVec 32) (v7 : BitVec 32) : Fin 1 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_22 : BitVec 32 := 1#32
  let v46 : BitVec 32 := Scalar.andi v29 c1_i32_22
  ![v46.toNat]
def k0_off73 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c512_i32_21 : BitVec 32 := 512#32
  let v45 : BitVec 32 := Scalar.muli v29 c512_i32_21
  let c0_i32_23 : BitVec 32 := 0#32
  let c0_i32_24 : BitVec 32 := 0#32
  ![v45.toNat, 0, 0]
def k0_off74 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_19 : BitVec 32 := 1#32
  let v42 : BitVec 32 := Scalar.andi v29 c1_i32_19
  let c512_i32_20 : BitVec 32 := 512#32
  let v43 : BitVec 32 := Scalar.muli v42 c512_i32_20
  let v44 : BitVec 32 := v43
  let c0_i32_25 : BitVec 32 := 0#32
  let c0_i32_26 : BitVec 32 := 0#32
  ![v44.toNat, 0, 0]
def k0_mult37 (v5 : BitVec 32) (v7 : BitVec 32) : BitVec 32 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_27 : BitVec 32 := 1#32
  let v51 : BitVec 32 := Scalar.andi v29 c1_i32_27
  let c512_i32_28 : BitVec 32 := 512#32
  let v52 : BitVec 32 := Scalar.muli v51 c512_i32_28
  v52
def k0_mult38 (v5 : BitVec 32) (v7 : BitVec 32) : BitVec 32 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.subi v29 c1_i32_37
  let c1_i32_38 : BitVec 32 := 1#32
  let v64 : BitVec 32 := Scalar.andi v63 c1_i32_38
  let c512_i32_39 : BitVec 32 := 512#32
  let v65 : BitVec 32 := Scalar.muli v64 c512_i32_39
  v65
def k0_cond17 (v5 : BitVec 32) (v7 : BitVec 32) : BitVec 1 :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_35 : BitVec 32 := 1#32
  let v60 : BitVec 1 := Scalar.cmpi .sge v29 c1_i32_35
  let v61 : BitVec 32 := Scalar.extui v60
  let c0_i32_36 : BitVec 32 := 0#32
  let v62 : BitVec 1 := Scalar.cmpi .ne v61 c0_i32_36
  v62

def k0_off75 (v5 : BitVec 32) (v7 : BitVec 32) : Fin 1 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.subi v29 c1_i32_37
  let c1_i32_41 : BitVec 32 := 1#32
  let v68 : BitVec 32 := Scalar.andi v63 c1_i32_41
  ![v68.toNat]
def k0_off76 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.subi v29 c1_i32_37
  let c512_i32_40 : BitVec 32 := 512#32
  let v67 : BitVec 32 := Scalar.muli v63 c512_i32_40
  let c0_i32_42 : BitVec 32 := 0#32
  let c0_i32_43 : BitVec 32 := 0#32
  ![v67.toNat, 0, 0]
def k0_off77 (v5 : BitVec 32) (v7 : BitVec 32) : Fin 3 → Nat :=
  let c9_i32_0 : BitVec 32 := 9#32
  let v6 : BitVec 32 := Scalar.shrui v5 c9_i32_0
  let v8 : BitVec 32 := Scalar.addi v6 v7
  let c1_i32_12 : BitVec 32 := 1#32
  let v29 : BitVec 32 := Scalar.subi v8 c1_i32_12
  let c1_i32_37 : BitVec 32 := 1#32
  let v63 : BitVec 32 := Scalar.subi v29 c1_i32_37
  let c1_i32_38 : BitVec 32 := 1#32
  let v64 : BitVec 32 := Scalar.andi v63 c1_i32_38
  let c512_i32_39 : BitVec 32 := 512#32
  let v65 : BitVec 32 := Scalar.muli v64 c512_i32_39
  let v66 : BitVec 32 := v65
  let c0_i32_44 : BitVec 32 := 0#32
  let c0_i32_45 : BitVec 32 := 0#32
  ![v66.toNat, 0, 0]

def k0_chk3 (i : grid0.Coords) (v1 : BitVec 32) (v3 : BitVec 32) (v5 : BitVec 32) (v7 : BitVec 32) : Prop :=
  (∀ k0_t3 : Fin (k0_t3_loop v1).trips, ∀ (k0_h3 : k0_cond3 v1 v3 v5 v7 k0_t3 = 1#1), 512 ∣ (k0_mult5 v1 v3 k0_t3).toNat) ∧
  (∀ k0_t3 : Fin (k0_t3_loop v1).trips, ∀ (k0_h3 : k0_cond3 v1 v3 v5 v7 k0_t3 = 1#1), ∀ a, (k0_off11 v1 v3 k0_t3) a + S1.size a ≤ S2.size a) ∧
  (∀ k0_t3 : Fin (k0_t3_loop v1).trips, ∀ (k0_h3 : k0_cond3 v1 v3 v5 v7 k0_t3 = 1#1), ∀ a, (k0_off12 v1 v3 k0_t3) a + S512x1x1024.size a ≤ S1024x1x1024.size a) ∧
  (∀ k0_t3 : Fin (k0_t3_loop v1).trips, ∀ (k0_h3 : k0_cond3 v1 v3 v5 v7 k0_t3 = 1#1), ∀ a, (k0_off13 v1 v3 k0_t3) a + S512x1x1024.size a ≤ S81920x1x1024.size a) ∧
  (∀ k0_t4 : Fin (k0_t4_loop v1).trips, ∀ (k0_h9 : k0_cond9 v1 v3 v5 v7 k0_t4 = 1#1), 512 ∣ (k0_mult20 v1 v3 k0_t4).toNat) ∧
  (∀ k0_t4 : Fin (k0_t4_loop v1).trips, ∀ (k0_h9 : k0_cond9 v1 v3 v5 v7 k0_t4 = 1#1), ∀ a, (k0_off41 v1 v3 k0_t4) a + S1.size a ≤ S2.size a) ∧
  (∀ k0_t4 : Fin (k0_t4_loop v1).trips, ∀ (k0_h9 : k0_cond9 v1 v3 v5 v7 k0_t4 = 1#1), ∀ a, (k0_off42 v1 v3 k0_t4) a + S512x1x1024.size a ≤ S1024x1x1024.size a) ∧
  (∀ k0_t4 : Fin (k0_t4_loop v1).trips, ∀ (k0_h9 : k0_cond9 v1 v3 v5 v7 k0_t4 = 1#1), ∀ a, (k0_off43 v1 v3 k0_t4) a + S512x1x1024.size a ≤ S81920x1x1024.size a) ∧
  (∀ (k0_h15 : k0_cond15 i v5 v7 = 1#1), ∀ (k0_h16 : k0_cond16 v5 v7 = 1#1), 512 ∣ (k0_mult34 v5 v7).toNat) ∧
  (∀ (k0_h15 : k0_cond15 i v5 v7 = 1#1), ∀ (k0_h16 : k0_cond16 v5 v7 = 1#1), ∀ a, (k0_off68 v5 v7) a + S1.size a ≤ S2.size a) ∧
  (∀ (k0_h15 : k0_cond15 i v5 v7 = 1#1), ∀ (k0_h16 : k0_cond16 v5 v7 = 1#1), ∀ a, (k0_off69 v5 v7) a + S512x1x1024.size a ≤ S81920x1x1024.size a) ∧
  (∀ (k0_h15 : k0_cond15 i v5 v7 = 1#1), ∀ (k0_h16 : k0_cond16 v5 v7 = 1#1), ∀ a, (k0_off70 v5 v7) a + S512x1x1024.size a ≤ S1024x1x1024.size a) ∧
  (∀ (k0_h15 : k0_cond15 i v5 v7 = 1#1), 512 ∣ (k0_mult35 v5 v7).toNat) ∧
  (∀ (k0_h15 : k0_cond15 i v5 v7 = 1#1), ∀ a, (k0_off71 v5 v7) a + S512x1x1024.size a ≤ S1024x1x1024.size a) ∧
  (∀ (k0_h15 : k0_cond15 i v5 v7 = 1#1), 512 ∣ (k0_mult36 v5 v7).toNat) ∧
  (∀ (k0_h15 : k0_cond15 i v5 v7 = 1#1), ∀ a, (k0_off72 v5 v7) a + S1.size a ≤ S2.size a) ∧
  (∀ (k0_h15 : k0_cond15 i v5 v7 = 1#1), ∀ a, (k0_off73 v5 v7) a + S512x1x1024.size a ≤ S81920x1x1024.size a) ∧
  (∀ (k0_h15 : k0_cond15 i v5 v7 = 1#1), ∀ a, (k0_off74 v5 v7) a + S512x1x1024.size a ≤ S1024x1x1024.size a) ∧
  (∀ (k0_h15 : k0_cond15 i v5 v7 = 1#1), 512 ∣ (k0_mult37 v5 v7).toNat) ∧
  (∀ (k0_h15 : k0_cond15 i v5 v7 = 1#1), ∀ (k0_h17 : k0_cond17 v5 v7 = 1#1), 512 ∣ (k0_mult38 v5 v7).toNat) ∧
  (∀ (k0_h15 : k0_cond15 i v5 v7 = 1#1), ∀ (k0_h17 : k0_cond17 v5 v7 = 1#1), ∀ a, (k0_off75 v5 v7) a + S1.size a ≤ S2.size a) ∧
  (∀ (k0_h15 : k0_cond15 i v5 v7 = 1#1), ∀ (k0_h17 : k0_cond17 v5 v7 = 1#1), ∀ a, (k0_off76 v5 v7) a + S512x1x1024.size a ≤ S81920x1x1024.size a) ∧
  (∀ (k0_h15 : k0_cond15 i v5 v7 = 1#1), ∀ (k0_h17 : k0_cond17 v5 v7 = 1#1), ∀ a, (k0_off77 v5 v7) a + S512x1x1024.size a ≤ S1024x1x1024.size a)
theorem k0_mult5_dvd : ∀ (i : grid0.Coords) (v1 : BitVec 32) (v3 : BitVec 32) (v5 : BitVec 32) (v7 : BitVec 32) (k0_hw3 : k0_chk3 i v1 v3 v5 v7) (k0_t3 : Fin (k0_t3_loop v1).trips), ∀ (k0_h3 : k0_cond3 v1 v3 v5 v7 k0_t3 = 1#1), 512 ∣ (k0_mult5 v1 v3 k0_t3).toNat := fun i v1 v3 v5 v7 k0_hw3 k0_t3 k0_h3 => k0_hw3.1 k0_t3 k0_h3
theorem k0_off11_inb : ∀ (i : grid0.Coords) (v1 : BitVec 32) (v3 : BitVec 32) (v5 : BitVec 32) (v7 : BitVec 32) (k0_hw3 : k0_chk3 i v1 v3 v5 v7) (k0_t3 : Fin (k0_t3_loop v1).trips), ∀ (k0_h3 : k0_cond3 v1 v3 v5 v7 k0_t3 = 1#1), ∀ a, (k0_off11 v1 v3 k0_t3) a + S1.size a ≤ S2.size a := fun i v1 v3 v5 v7 k0_hw3 k0_t3 k0_h3 => k0_hw3.2.1 k0_t3 k0_h3
theorem k0_off12_inb : ∀ (i : grid0.Coords) (v1 : BitVec 32) (v3 : BitVec 32) (v5 : BitVec 32) (v7 : BitVec 32) (k0_hw3 : k0_chk3 i v1 v3 v5 v7) (k0_t3 : Fin (k0_t3_loop v1).trips), ∀ (k0_h3 : k0_cond3 v1 v3 v5 v7 k0_t3 = 1#1), ∀ a, (k0_off12 v1 v3 k0_t3) a + S512x1x1024.size a ≤ S1024x1x1024.size a := fun i v1 v3 v5 v7 k0_hw3 k0_t3 k0_h3 => k0_hw3.2.2.1 k0_t3 k0_h3
theorem k0_off13_inb : ∀ (i : grid0.Coords) (v1 : BitVec 32) (v3 : BitVec 32) (v5 : BitVec 32) (v7 : BitVec 32) (k0_hw3 : k0_chk3 i v1 v3 v5 v7) (k0_t3 : Fin (k0_t3_loop v1).trips), ∀ (k0_h3 : k0_cond3 v1 v3 v5 v7 k0_t3 = 1#1), ∀ a, (k0_off13 v1 v3 k0_t3) a + S512x1x1024.size a ≤ S81920x1x1024.size a := fun i v1 v3 v5 v7 k0_hw3 k0_t3 k0_h3 => k0_hw3.2.2.2.1 k0_t3 k0_h3
theorem k0_mult20_dvd : ∀ (i : grid0.Coords) (v1 : BitVec 32) (v3 : BitVec 32) (v5 : BitVec 32) (v7 : BitVec 32) (k0_hw3 : k0_chk3 i v1 v3 v5 v7) (k0_t4 : Fin (k0_t4_loop v1).trips), ∀ (k0_h9 : k0_cond9 v1 v3 v5 v7 k0_t4 = 1#1), 512 ∣ (k0_mult20 v1 v3 k0_t4).toNat := fun i v1 v3 v5 v7 k0_hw3 k0_t4 k0_h9 => k0_hw3.2.2.2.2.1 k0_t4 k0_h9
theorem k0_off41_inb : ∀ (i : grid0.Coords) (v1 : BitVec 32) (v3 : BitVec 32) (v5 : BitVec 32) (v7 : BitVec 32) (k0_hw3 : k0_chk3 i v1 v3 v5 v7) (k0_t4 : Fin (k0_t4_loop v1).trips), ∀ (k0_h9 : k0_cond9 v1 v3 v5 v7 k0_t4 = 1#1), ∀ a, (k0_off41 v1 v3 k0_t4) a + S1.size a ≤ S2.size a := fun i v1 v3 v5 v7 k0_hw3 k0_t4 k0_h9 => k0_hw3.2.2.2.2.2.1 k0_t4 k0_h9
theorem k0_off42_inb : ∀ (i : grid0.Coords) (v1 : BitVec 32) (v3 : BitVec 32) (v5 : BitVec 32) (v7 : BitVec 32) (k0_hw3 : k0_chk3 i v1 v3 v5 v7) (k0_t4 : Fin (k0_t4_loop v1).trips), ∀ (k0_h9 : k0_cond9 v1 v3 v5 v7 k0_t4 = 1#1), ∀ a, (k0_off42 v1 v3 k0_t4) a + S512x1x1024.size a ≤ S1024x1x1024.size a := fun i v1 v3 v5 v7 k0_hw3 k0_t4 k0_h9 => k0_hw3.2.2.2.2.2.2.1 k0_t4 k0_h9
theorem k0_off43_inb : ∀ (i : grid0.Coords) (v1 : BitVec 32) (v3 : BitVec 32) (v5 : BitVec 32) (v7 : BitVec 32) (k0_hw3 : k0_chk3 i v1 v3 v5 v7) (k0_t4 : Fin (k0_t4_loop v1).trips), ∀ (k0_h9 : k0_cond9 v1 v3 v5 v7 k0_t4 = 1#1), ∀ a, (k0_off43 v1 v3 k0_t4) a + S512x1x1024.size a ≤ S81920x1x1024.size a := fun i v1 v3 v5 v7 k0_hw3 k0_t4 k0_h9 => k0_hw3.2.2.2.2.2.2.2.1 k0_t4 k0_h9
theorem k0_mult34_dvd : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h16 : k0_cond16 v5 v7 = 1#1), 512 ∣ (k0_mult34 v5 v7).toNat := fun i v1 v3 v5 v7 k0_hw3 k0_h15 k0_h16 => k0_hw3.2.2.2.2.2.2.2.2.1 k0_h15 k0_h16
theorem k0_off68_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h16 : k0_cond16 v5 v7 = 1#1), ∀ a, (k0_off68 v5 v7) a + S1.size a ≤ S2.size a := fun i v1 v3 v5 v7 k0_hw3 k0_h15 k0_h16 => k0_hw3.2.2.2.2.2.2.2.2.2.1 k0_h15 k0_h16
theorem k0_off69_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h16 : k0_cond16 v5 v7 = 1#1), ∀ a, (k0_off69 v5 v7) a + S512x1x1024.size a ≤ S81920x1x1024.size a := fun i v1 v3 v5 v7 k0_hw3 k0_h15 k0_h16 => k0_hw3.2.2.2.2.2.2.2.2.2.2.1 k0_h15 k0_h16
theorem k0_off70_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h16 : k0_cond16 v5 v7 = 1#1), ∀ a, (k0_off70 v5 v7) a + S512x1x1024.size a ≤ S1024x1x1024.size a := fun i v1 v3 v5 v7 k0_hw3 k0_h15 k0_h16 => k0_hw3.2.2.2.2.2.2.2.2.2.2.2.1 k0_h15 k0_h16
theorem k0_mult35_dvd : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), 512 ∣ (k0_mult35 v5 v7).toNat := fun i v1 v3 v5 v7 k0_hw3 k0_h15 => k0_hw3.2.2.2.2.2.2.2.2.2.2.2.2.1 k0_h15
theorem k0_off71_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ a, (k0_off71 v5 v7) a + S512x1x1024.size a ≤ S1024x1x1024.size a := fun i v1 v3 v5 v7 k0_hw3 k0_h15 => k0_hw3.2.2.2.2.2.2.2.2.2.2.2.2.2.1 k0_h15
theorem k0_mult36_dvd : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), 512 ∣ (k0_mult36 v5 v7).toNat := fun i v1 v3 v5 v7 k0_hw3 k0_h15 => k0_hw3.2.2.2.2.2.2.2.2.2.2.2.2.2.2.1 k0_h15
theorem k0_off72_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ a, (k0_off72 v5 v7) a + S1.size a ≤ S2.size a := fun i v1 v3 v5 v7 k0_hw3 k0_h15 => k0_hw3.2.2.2.2.2.2.2.2.2.2.2.2.2.2.2.1 k0_h15
theorem k0_off73_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ a, (k0_off73 v5 v7) a + S512x1x1024.size a ≤ S81920x1x1024.size a := fun i v1 v3 v5 v7 k0_hw3 k0_h15 => k0_hw3.2.2.2.2.2.2.2.2.2.2.2.2.2.2.2.2.1 k0_h15
theorem k0_off74_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ a, (k0_off74 v5 v7) a + S512x1x1024.size a ≤ S1024x1x1024.size a := fun i v1 v3 v5 v7 k0_hw3 k0_h15 => k0_hw3.2.2.2.2.2.2.2.2.2.2.2.2.2.2.2.2.2.1 k0_h15
theorem k0_mult37_dvd : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), 512 ∣ (k0_mult37 v5 v7).toNat := fun i v1 v3 v5 v7 k0_hw3 k0_h15 => k0_hw3.2.2.2.2.2.2.2.2.2.2.2.2.2.2.2.2.2.2.1 k0_h15
theorem k0_mult38_dvd : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h17 : k0_cond17 v5 v7 = 1#1), 512 ∣ (k0_mult38 v5 v7).toNat := fun i v1 v3 v5 v7 k0_hw3 k0_h15 k0_h17 => k0_hw3.2.2.2.2.2.2.2.2.2.2.2.2.2.2.2.2.2.2.2.1 k0_h15 k0_h17
theorem k0_off75_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h17 : k0_cond17 v5 v7 = 1#1), ∀ a, (k0_off75 v5 v7) a + S1.size a ≤ S2.size a := fun i v1 v3 v5 v7 k0_hw3 k0_h15 k0_h17 => k0_hw3.2.2.2.2.2.2.2.2.2.2.2.2.2.2.2.2.2.2.2.2.1 k0_h15 k0_h17
theorem k0_off76_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h17 : k0_cond17 v5 v7 = 1#1), ∀ a, (k0_off76 v5 v7) a + S512x1x1024.size a ≤ S81920x1x1024.size a := fun i v1 v3 v5 v7 k0_hw3 k0_h15 k0_h17 => k0_hw3.2.2.2.2.2.2.2.2.2.2.2.2.2.2.2.2.2.2.2.2.2.1 k0_h15 k0_h17
theorem k0_off77_inb : ∀ (i : grid0.Coords) (v1 : BitVec 32) (v3 : BitVec 32) (v5 : BitVec 32) (v7 : BitVec 32) (k0_hw3 : k0_chk3 i v1 v3 v5 v7), ∀ (k0_h15 : k0_cond15 i v5 v7 = 1#1), ∀ (k0_h17 : k0_cond17 v5 v7 = 1#1), ∀ a, (k0_off77 v5 v7) a + S512x1x1024.size a ≤ S1024x1x1024.size a := fun i v1 v3 v5 v7 k0_hw3 k0_h15 k0_h17 => k0_hw3.2.2.2.2.2.2.2.2.2.2.2.2.2.2.2.2.2.2.2.2.2.2 k0_h15 k0_h17

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32 : Shape := ⟨1, ![32]⟩
abbrev S81920x1x1024 : Shape := ⟨3, ![81920, 1, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S81920 : Shape := ⟨1, ![81920]⟩
abbrev S81920x1 : Shape := ⟨2, ![81920, 1]⟩
abbrev S_ : Shape := ⟨0, ![]⟩
abbrev S1x32 : Shape := ⟨2, ![1, 32]⟩
abbrev S81920x32 : Shape := ⟨2, ![81920, 32]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S81920x32x2048 : Shape := ⟨3, ![81920, 32, 2048]⟩
abbrev S32x1x2048 : Shape := ⟨3, ![32, 1, 2048]⟩
abbrev S32x81920x2048 : Shape := ⟨3, ![32, 81920, 2048]⟩
abbrev S32x81920x1024 : Shape := ⟨3, ![32, 81920, 1024]⟩
abbrev S32x1x1024 : Shape := ⟨3, ![32, 1, 1024]⟩
abbrev S81920x32x1024 : Shape := ⟨3, ![81920, 32, 1024]⟩
abbrev S81920x32x1 : Shape := ⟨3, ![81920, 32, 1]⟩

abbrev nBuf : Space → Nat
  | .hbm => 76
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S32, .i32⟩
  | .hbm, ⟨3, _⟩ => ⟨S81920x1x1024, .f32⟩
  | .hbm, ⟨4, _⟩ => ⟨S1x32x1024x2048, .f32⟩
  | .hbm, ⟨5, _⟩ => ⟨S1x32x2048, .f32⟩
  | .hbm, ⟨6, _⟩ => ⟨S1x32x1024x1024, .f32⟩
  | .hbm, ⟨7, _⟩ => ⟨S1x32x1024, .f32⟩
  | .hbm, ⟨8, _⟩ => ⟨S81920, .i32⟩
  | .hbm, ⟨9, _⟩ => ⟨S81920x1, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S1x32, .i32⟩
  | .hbm, ⟨16, _⟩ => ⟨S81920x32, .i32⟩
  | .hbm, ⟨17, _⟩ => ⟨S81920x32, .i32⟩
  | .hbm, ⟨18, _⟩ => ⟨S81920x32, .i1⟩
  | .hbm, ⟨19, _⟩ => ⟨S1x32, .i32⟩
  | .hbm, ⟨20, _⟩ => ⟨S81920x32, .i32⟩
  | .hbm, ⟨21, _⟩ => ⟨S81920x32, .i32⟩
  | .hbm, ⟨22, _⟩ => ⟨S81920x32, .i1⟩
  | .hbm, ⟨23, _⟩ => ⟨S81920x32, .i1⟩
  | .hbm, ⟨24, _⟩ => ⟨S81920x1024, .f32⟩
  | .hbm, ⟨25, _⟩ => ⟨S32x1024x2048, .f32⟩
  | .hbm, ⟨26, _⟩ => ⟨S32x2048, .f32⟩
  | .hbm, ⟨27, _⟩ => ⟨S32x1024x1024, .f32⟩
  | .hbm, ⟨28, _⟩ => ⟨S32x1024, .f32⟩
  | .hbm, ⟨29, _⟩ => ⟨S81920x32x2048, .f32⟩
  | .hbm, ⟨30, _⟩ => ⟨S32x1x2048, .f32⟩
  | .hbm, ⟨31, _⟩ => ⟨S32x81920x2048, .f32⟩
  | .hbm, ⟨32, _⟩ => ⟨S32x81920x2048, .f32⟩
  | .hbm, ⟨33, _⟩ => ⟨S32x81920x2048, .f32⟩
  | .hbm, ⟨34, _⟩ => ⟨S32x81920x1024, .f32⟩
  | .hbm, ⟨35, _⟩ => ⟨S32x81920x1024, .f32⟩
  | .hbm, ⟨36, _⟩ => ⟨S_, .f32⟩
  | .hbm, ⟨37, _⟩ => ⟨S32x81920x1024, .f32⟩
  | .hbm, ⟨38, _⟩ => ⟨S32x81920x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S32x81920x1024, .f32⟩
  | .hbm, ⟨43, _⟩ => ⟨S32x81920x1024, .f32⟩
  | .hbm, ⟨44, _⟩ => ⟨S_, .f32⟩
  | .hbm, ⟨45, _⟩ => ⟨S32x81920x1024, .f32⟩
  | .hbm, ⟨46, _⟩ => ⟨S32x81920x1024, .f32⟩
  | .hbm, ⟨47, _⟩ => ⟨S_, .f32⟩
  | .hbm, ⟨48, _⟩ => ⟨S32x81920x1024, .f32⟩
  | .hbm, ⟨49, _⟩ => ⟨S32x81920x1024, .f32⟩
  | .hbm, ⟨50, _⟩ => ⟨S32x81920x1024, .f32⟩
  | .hbm, ⟨51, _⟩ => ⟨S32x81920x1024, .f32⟩
  | .hbm, ⟨52, _⟩ => ⟨S_, .f32⟩
  | .hbm, ⟨53, _⟩ => ⟨S32x81920x1024, .f32⟩
  | .hbm, ⟨54, _⟩ => ⟨S32x81920x1024, .f32⟩
  | .hbm, ⟨55, _⟩ => ⟨S_, .f32⟩
  | .hbm, ⟨56, _⟩ => ⟨S32x81920x1024, .f32⟩
  | .hbm, ⟨57, _⟩ => ⟨S32x81920x1024, .f32⟩
  | .hbm, ⟨58, _⟩ => ⟨S32x81920x1024, .f32⟩
  | .hbm, ⟨59, _⟩ => ⟨S_, .f32⟩
  | .hbm, ⟨60, _⟩ => ⟨S32x81920x1024, .f32⟩
  | .hbm, ⟨61, _⟩ => ⟨S32x81920x1024, .f32⟩
  | .hbm, ⟨62, _⟩ => ⟨S32x81920x1024, .f32⟩
  | .hbm, ⟨63, _⟩ => ⟨S32x81920x1024, .f32⟩
  | .hbm, ⟨64, _⟩ => ⟨S32x1x1024, .f32⟩
  | .hbm, ⟨65, _⟩ => ⟨S32x81920x1024, .f32⟩
  | .hbm, ⟨66, _⟩ => ⟨S32x81920x1024, .f32⟩
  | .hbm, ⟨67, _⟩ => ⟨S81920x32x1024, .f32⟩
  | .hbm, ⟨68, _⟩ => ⟨S81920x32x1, .i1⟩
  | .hbm, ⟨69, _⟩ => ⟨S_, .f32⟩
  | .hbm, ⟨70, _⟩ => ⟨S_, .f32⟩
  | .hbm, ⟨71, _⟩ => ⟨S81920x32x1024, .i1⟩
  | .hbm, ⟨72, _⟩ => ⟨S81920x32x1024, .f32⟩
  | .hbm, ⟨73, _⟩ => ⟨S81920x32x1024, .f32⟩
  | .hbm, ⟨74, _⟩ => ⟨S_, .f32⟩
  | .hbm, ⟨75, _⟩ => ⟨S81920x1024, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_cst_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.ModNames.lean ====
/-
  The modulation call, its names: the column blocks of the weight, the bias and the result in HBM, the ring slots they pass
  through in VMEM, the slots' DMA semaphores; the words the pipeline's loop carries before trip `k`; and the equations that
  say each slice the body takes is one of these.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Tactic

@[expose] public section

noncomputable section

namespace Cert.Proof.Mod

open Cert.KernelIdeal Cert.KernelIdeal.Gen
open Idealize.ShloMosaic
open Idealize.ShloMosaic.TcCoe Idealize.ShloMosaic.Tactic

/-! ## The buffers -/

abbrev cM : Memref sig .tc .hbm S16x1024 .f32 := Memref.whole main_v4
abbrev wM : Memref sig .tc .hbm S1024x6144 .f32 := Memref.whole main_v5
abbrev bM : Memref sig .tc .hbm S1x6144 .f32 := Memref.whole main_v7
abbrev oM : Memref sig .tc .hbm S16x6144 .f32 := Memref.whole main_v8
abbrev cbM : Memref sig .tc .vmem S16x1024 .f32 := Memref.whole cc0_scoped0
abbrev wbM : Memref sig .tc .vmem S3x1024x1024 .f32 := Memref.whole cc0_scoped1
abbrev bbM : Memref sig .tc .vmem S2x1x1024 .f32 := Memref.whole cc0_scoped3
abbrev obM : Memref sig .tc .vmem S2x16x1024 .f32 := Memref.whole cc0_scoped5

/-! ## Offsets -/

/-- Column block `b` starts at column `1024 b`. -/
abbrev colOff (b : Fin 6) : Fin 2 → Nat := ![0, b.val * 1024]
abbrev slot3Off (s : Fin 3) : Fin 3 → Nat := ![s.val, 0, 0]
abbrev slot2Off (s : Fin 2) : Fin 3 → Nat := ![s.val, 0, 0]
abbrev sem3Off (s : Fin 3) : Fin 1 → Nat := ![s.val]
abbrev sem2Off (s : Fin 2) : Fin 1 → Nat := ![s.val]

theorem wCol_inb (b : Fin 6) : ∀ a, colOff b a + S1024x1024.size a ≤ S1024x6144.size a := by
  have := b.isLt; intro a; fin_cases a
  · show 0 + 1024 ≤ 1024; omega
  · show b.val * 1024 + 1024 ≤ 6144; omega
theorem bCol_inb (b : Fin 6) : ∀ a, colOff b a + S1x1024.size a ≤ S1x6144.size a := by
  have := b.isLt; intro a; fin_cases a
  · show 0 + 1 ≤ 1; omega
  · show b.val * 1024 + 1024 ≤ 6144; omega
theorem oCol_inb (b : Fin 6) : ∀ a, colOff b a + S16x1024.size a ≤ S16x6144.size a := by
  have := b.isLt; intro a; fin_cases a
  · show 0 + 16 ≤ 16; omega
  · show b.val * 1024 + 1024 ≤ 6144; omega
theorem wSlot_inb (s : Fin 3) : ∀ a, slot3Off s a + S1x1024x1024.size a ≤ S3x1024x1024.size a := by
  have := s.isLt; intro a; fin_cases a
  · show s.val + 1 ≤ 3; omega
  · show 0 + 1024 ≤ 1024; omega
  · show 0 + 1024 ≤ 1024; omega
theorem bSlot_inb (s : Fin 2) : ∀ a, slot2Off s a + S1x1x1024.size a ≤ S2x1x1024.size a := by
  have := s.isLt; intro a; fin_cases a
  · show s.val + 1 ≤ 2; omega
  · show 0 + 1 ≤ 1; omega
  · show 0 + 1024 ≤ 1024; omega
theorem oSlot_inb (s : Fin 2) : ∀ a, slot2Off s a + S1x16x1024.size a ≤ S2x16x1024.size a := by
  have := s.isLt; intro a; fin_cases a
  · show s.val + 1 ≤ 2; omega
  · show 0 + 16 ≤ 16; omega
  · show 0 + 1024 ≤ 1024; omega
theorem sem3_inb (s : Fin 3) : ∀ a, sem3Off s a + S1.size a ≤ S3.size a := by
  have := s.isLt; intro a; fin_cases a; show s.val + 1 ≤ 3; omega
theorem sem2_inb (s : Fin 2) : ∀ a, sem2Off s a + S1.size a ≤ S2.size a := by
  have := s.isLt; intro a; fin_cases a; show s.val + 1 ≤ 2; omega

/-! ## Blocks, slots and cells -/

/-- Column block `b` of the weight, of the bias and of the result. -/
def wB (b : Fin 6) : Memref sig .tc .hbm S1024x1024 .f32 :=
  wM.slice (Rect.unit (s := S1024x6144) (colOff b) S1024x1024.size (wCol_inb b)) (fun _ => rfl)
def bB (b : Fin 6) : Memref sig .tc .hbm S1x1024 .f32 :=
  bM.slice (Rect.unit (s := S1x6144) (colOff b) S1x1024.size (bCol_inb b)) (fun _ => rfl)
def oB (b : Fin 6) : Memref sig .tc .hbm S16x1024 .f32 :=
  oM.slice (Rect.unit (s := S16x6144) (colOff b) S16x1024.size (oCol_inb b)) (fun _ => rfl)

/-- Slot `s` of the weight's ring, of the bias's and of the result's. -/
def wS (s : Fin 3) : Memref sig .tc .vmem S1024x1024 .f32 :=
  (wbM.slice (Rect.unit (s := S3x1024x1024) (slot3Off s) S1x1024x1024.size (wSlot_inb s)) (fun _ => rfl)).squeeze S1024x1024 squeezes_S1x1024x1024_S1024x1024
def bS (s : Fin 2) : Memref sig .tc .vmem S1x1024 .f32 :=
  (bbM.slice (Rect.unit (s := S2x1x1024) (slot2Off s) S1x1x1024.size (bSlot_inb s)) (fun _ => rfl)).squeeze S1x1024 squeezes_S1x1x1024_S1x1024
def oS (s : Fin 2) : Memref sig .tc .vmem S16x1024 .f32 :=
  (obM.slice (Rect.unit (s := S2x16x1024) (slot2Off s) S1x16x1024.size (oSlot_inb s)) (fun _ => rfl)).squeeze S16x1024 squeezes_S1x16x1024_S16x1024

/-- The slots' DMA semaphores. -/
def wC (s : Fin 3) : DmaSems sig S_ := (cc0_scoped2.slice (Rect.unit (s := S3) (sem3Off s) S1.size (sem3_inb s))).squeeze S_ squeezes_S1_S_
def bC (s : Fin 2) : DmaSems sig S_ := (cc0_scoped4.slice (Rect.unit (s := S2) (sem2Off s) S1.size (sem2_inb s))).squeeze S_ squeezes_S1_S_
def oC (s : Fin 2) : DmaSems sig S_ := (cc0_scoped6.slice (Rect.unit (s := S2) (sem2Off s) S1.size (sem2_inb s))).squeeze S_ squeezes_S1_S_

instance (s : Fin 3) : ClosedOff (slot3Off s) := ⟨slot3Off s, rfl⟩
instance (s : Fin 2) : ClosedOff (slot2Off s) := ⟨slot2Off s, rfl⟩
instance (b : Fin 6) : ClosedOff (colOff b) := ⟨colOff b, rfl⟩

/-! ## The words the loop carries before trip `k`

In the order carried: the conditioning operand's slot count, the weight's blocks started and waited, the bias's started and
waited, the result's blocks started and waited, and the grid point. -/

def w5 (k : ℕ) : BitVec 32 := BitVec.ofNat 32 (k / 6)
def w6 (k : ℕ) : BitVec 32 := BitVec.ofNat 32 (min (k + 2) 6)
def w7 (k : ℕ) : BitVec 32 := BitVec.ofNat 32 k
def w8 (k : ℕ) : BitVec 32 := BitVec.ofNat 32 (min (k + 1) 6)
def w9 (k : ℕ) : BitVec 32 := BitVec.ofNat 32 k
def w10 (k : ℕ) : BitVec 32 := BitVec.ofNat 32 k
def w11 (k : ℕ) : BitVec 32 := BitVec.ofNat 32 (k - 1)
def w12 (k : ℕ) : BitVec 32 := BitVec.ofNat 32 (k % 6)

abbrev Words : Type := BitVec 32 × BitVec 32 × BitVec 32 × BitVec 32 × BitVec 32 × BitVec 32 × BitVec 32 × BitVec 32
def accAt (k : ℕ) : Words := (w5 k, w6 k, w7 k, w8 k, w9 k, w10 k, w11 k, w12 k)

abbrev Trip : Type := Fin k0_t1_loop.trips

/-! ### The checks and the conditions, over the six trips -/

theorem chk1_at : ∀ k : Trip, k0_chk1 k (w6 k.val) (w7 k.val) (w8 k.val) (w9 k.val) (w10 k.val) (w11 k.val) (w12 k.val) := by decide
theorem chk2_at : ∀ k : Trip, k0_chk2 (w7 k.val) := by decide
theorem chk3_at : ∀ k : Trip, k0_chk3 (w9 k.val) := by decide
theorem chk4_at : ∀ k : Trip, k0_chk4 (w10 k.val) := by decide

theorem cond2_pos : ∀ k : Trip, k.val + 2 < 6 → k0_cond2 k (w12 k.val) = 1#1 := by decide
theorem cond2_neg : ∀ k : Trip, 6 ≤ k.val + 2 → ¬ k0_cond2 k (w12 k.val) = 1#1 := by decide
theorem cond3_pos : ∀ k : Trip, k.val + 1 < 6 → k0_cond3 k (w12 k.val) = 1#1 := by decide
theorem cond3_neg : ∀ k : Trip, 6 ≤ k.val + 1 → ¬ k0_cond3 k (w12 k.val) = 1#1 := by decide
theorem cond4_at : ∀ k : Trip, k0_cond4 k (w12 k.val) = 1#1 := by decide
theorem cond5_at : ∀ k : Trip, k0_cond5 k (w12 k.val) = 1#1 := by decide
theorem cond9_at : ∀ k : Trip, k0_cond9 k (w12 k.val) = 1#1 := by decide
theorem cond12_pos : ∀ k : Trip, 1 ≤ k.val → k0_cond12 k (w12 k.val) = 1#1 := by decide
theorem cond12_neg : ∀ k : Trip, k.val < 1 → ¬ k0_cond12 k (w12 k.val) = 1#1 := by decide

/-! ### The offsets, over the six trips -/

theorem off8_at : ∀ k : Trip, k.val + 2 < 6 → k0_off8 (w6 k.val) = sem3Off (Ring.sl 3 (k.val + 2)) := by decide
theorem off9_at : ∀ k : Trip, k.val + 2 < 6 → k0_off9 (w6 k.val) = slot3Off (Ring.sl 3 (k.val + 2)) := by decide
theorem off10_at : ∀ k : Trip, k.val + 2 < 6 → k0_off10 (w12 k.val) = colOff (Ring.bk 6 (k.val + 2)) := by decide
theorem off11_at : ∀ k : Trip, k.val + 1 < 6 → k0_off11 (w8 k.val) = sem2Off (Ring.sl 2 (k.val + 1)) := by decide
theorem off12_at : ∀ k : Trip, k.val + 1 < 6 → k0_off12 (w8 k.val) = slot2Off (Ring.sl 2 (k.val + 1)) := by decide
theorem off13_at : ∀ k : Trip, k.val + 1 < 6 → k0_off13 (w12 k.val) = colOff (Ring.bk 6 (k.val + 1)) := by decide
theorem off14_at : ∀ k : Trip, k0_off14 (w7 k.val) = sem3Off (Ring.sl 3 k.val) := by decide
theorem off15_at : ∀ k : Trip, k0_off15 (w7 k.val) = slot3Off (Ring.sl 3 k.val) := by decide
theorem off16_at : ∀ k : Trip, k0_off16 (w12 k.val) = colOff (Ring.bk 6 k.val) := by decide
theorem off17_at : ∀ k : Trip, k0_off17 (w9 k.val) = sem2Off (Ring.sl 2 k.val) := by decide
theorem off18_at : ∀ k : Trip, k0_off18 (w9 k.val) = slot2Off (Ring.sl 2 k.val) := by decide
theorem off19_at : ∀ k : Trip, k0_off19 (w12 k.val) = colOff (Ring.bk 6 k.val) := by decide
theorem off20_at : ∀ k : Trip, k0_off20 (w7 k.val) = slot3Off (Ring.sl 3 k.val) := by decide
theorem off21_at : ∀ k : Trip, k0_off21 (w9 k.val) = slot2Off (Ring.sl 2 k.val) := by decide
theorem off22_at : ∀ k : Trip, k0_off22 (w10 k.val) = slot2Off (Ring.sl 2 k.val) := by decide
theorem off23_at : ∀ k : Trip, k0_off23 (w10 k.val) = sem2Off (Ring.sl 2 k.val) := by decide
theorem off24_at : ∀ k : Trip, k0_off24 (w12 k.val) = colOff (Ring.bk 6 k.val) := by decide
theorem off25_at : ∀ k : Trip, k0_off25 (w10 k.val) = slot2Off (Ring.sl 2 k.val) := by decide
theorem off26_at : ∀ k : Trip, 1 ≤ k.val → k0_off26 (w11 k.val) = sem2Off (Ring.sl 2 (k.val + 1)) := by decide
theorem off27_at : ∀ k : Trip, 1 ≤ k.val → k0_off27 (w12 k.val) = colOff (Ring.bk 6 (k.val - 1)) := by decide
theorem off28_at : ∀ k : Trip, 1 ≤ k.val → k0_off28 (w11 k.val) = slot2Off (Ring.sl 2 (k.val + 1)) := by decide

instance (k : Trip) : ClosedOff (k0_off20 (w7 k.val)) := ⟨slot3Off (Ring.sl 3 k.val), off20_at k⟩
instance (k : Trip) : ClosedOff (k0_off21 (w9 k.val)) := ⟨slot2Off (Ring.sl 2 k.val), off21_at k⟩
instance (k : Trip) : ClosedOff (k0_off22 (w10 k.val)) := ⟨slot2Off (Ring.sl 2 k.val), off22_at k⟩

/-! ### The canonical-name equations -/

section Canon

private theorem wC_congr {off : Fin 1 → Nat} {s : Fin 3} (e : off = sem3Off s) (hh) :
    (cc0_scoped2.slice (Rect.unit (s := S3) off S1.size hh)).squeeze S_ squeezes_S1_S_ = wC s :=
  congrArg (fun A : DmaSems sig S1 => A.squeeze S_ squeezes_S1_S_) (SemArray.slice_unit_congr _ e _ _)
private theorem bC_congr {off : Fin 1 → Nat} {s : Fin 2} (e : off = sem2Off s) (hh) :
    (cc0_scoped4.slice (Rect.unit (s := S2) off S1.size hh)).squeeze S_ squeezes_S1_S_ = bC s :=
  congrArg (fun A : DmaSems sig S1 => A.squeeze S_ squeezes_S1_S_) (SemArray.slice_unit_congr _ e _ _)
private theorem oC_congr {off : Fin 1 → Nat} {s : Fin 2} (e : off = sem2Off s) (hh) :
    (cc0_scoped6.slice (Rect.unit (s := S2) off S1.size hh)).squeeze S_ squeezes_S1_S_ = oC s :=
  congrArg (fun A : DmaSems sig S1 => A.squeeze S_ squeezes_S1_S_) (SemArray.slice_unit_congr _ e _ _)
private theorem wS_congr {off : Fin 3 → Nat} {s : Fin 3} (e : off = slot3Off s) (hh hs) :
    (wbM.slice (Rect.unit (s := S3x1024x1024) off S1x1024x1024.size hh) hs).squeeze S1024x1024 squeezes_S1x1024x1024_S1024x1024 = wS s :=
  congrArg (fun M : Memref sig .tc .vmem S1x1024x1024 .f32 => M.squeeze S1024x1024 squeezes_S1x1024x1024_S1024x1024) (Memref.slice_unit_congr _ e _ _ _ _)
private theorem bS_congr {off : Fin 3 → Nat} {s : Fin 2} (e : off = slot2Off s) (hh hs) :
    (bbM.slice (Rect.unit (s := S2x1x1024) off S1x1x1024.size hh) hs).squeeze S1x1024 squeezes_S1x1x1024_S1x1024 = bS s :=
  congrArg (fun M : Memref sig .tc .vmem S1x1x1024 .f32 => M.squeeze S1x1024 squeezes_S1x1x1024_S1x1024) (Memref.slice_unit_congr _ e _ _ _ _)
private theorem oS_congr {off : Fin 3 → Nat} {s : Fin 2} (e : off = slot2Off s) (hh hs) :
    (obM.slice (Rect.unit (s := S2x16x1024) off S1x16x1024.size hh) hs).squeeze S16x1024 squeezes_S1x16x1024_S16x1024 = oS s :=
  congrArg (fun M : Memref sig .tc .vmem S1x16x1024 .f32 => M.squeeze S16x1024 squeezes_S1x16x1024_S16x1024) (Memref.slice_unit_congr _ e _ _ _ _)
private theorem wB_congr {off : Fin 2 → Nat} {b : Fin 6} (e : off = colOff b) (hh hs) :
    wM.slice (Rect.unit (s := S1024x6144) off S1024x1024.size hh) hs = wB b := Memref.slice_unit_congr _ e _ _ _ (fun _ => rfl)
private theorem bB_congr {off : Fin 2 → Nat} {b : Fin 6} (e : off = colOff b) (hh hs) :
    bM.slice (Rect.unit (s := S1x6144) off S1x1024.size hh) hs = bB b := Memref.slice_unit_congr _ e _ _ _ (fun _ => rfl)
private theorem oB_congr {off : Fin 2 → Nat} {b : Fin 6} (e : off = colOff b) (hh hs) :
    oM.slice (Rect.unit (s := S16x6144) off S16x1024.size hh) hs = oB b := Memref.slice_unit_congr _ e _ _ _ (fun _ => rfl)

/-- The prologue's literal slices: the weight's blocks 0 and 1, the bias's block 0, their slots and cells. -/
@[sl_canon] theorem wC_p0 (hh) : (cc0_scoped2.slice (Rect.unit (s := S3) k0_off1 S1.size hh)).squeeze S_ squeezes_S1_S_ = wC 0 := wC_congr (by decide) _
@[sl_canon] theorem wC_p1 (hh) : (cc0_scoped2.slice (Rect.unit (s := S3) k0_off5 S1.size hh)).squeeze S_ squeezes_S1_S_ = wC 1 := wC_congr (by decide) _
@[sl_canon] theorem wS_p0 (hh hs) : (wbM.slice (Rect.unit (s := S3x1024x1024) k0_off2 S1x1024x1024.size hh) hs).squeeze S1024x1024 squeezes_S1x1024x1024_S1024x1024 = wS 0 := wS_congr (by decide) _ _
@[sl_canon] theorem wS_p1 (hh hs) : (wbM.slice (Rect.unit (s := S3x1024x1024) k0_off6 S1x1024x1024.size hh) hs).squeeze S1024x1024 squeezes_S1x1024x1024_S1024x1024 = wS 1 := wS_congr (by decide) _ _
@[sl_canon] theorem wB_p0 (hh hs) : wM.slice (Rect.unit (s := S1024x6144) ![0, 0] S1024x1024.size hh) hs = wB 0 := wB_congr (by decide) _ _
@[sl_canon] theorem wB_p1 (hh hs) : wM.slice (Rect.unit (s := S1024x6144) k0_off7 S1024x1024.size hh) hs = wB 1 := wB_congr (by decide) _ _
@[sl_canon] theorem bC_p0 (hh) : (cc0_scoped4.slice (Rect.unit (s := S2) k0_off3 S1.size hh)).squeeze S_ squeezes_S1_S_ = bC 0 := bC_congr (by decide) _
@[sl_canon] theorem bS_p0 (hh hs) : (bbM.slice (Rect.unit (s := S2x1x1024) k0_off4 S1x1x1024.size hh) hs).squeeze S1x1024 squeezes_S1x1x1024_S1x1024 = bS 0 := bS_congr (by decide) _ _
@[sl_canon] theorem bB_p0 (hh hs) : bM.slice (Rect.unit (s := S1x6144) ![0, 0] S1x1024.size hh) hs = bB 0 := bB_congr (by decide) _ _

/-- Trip `k`: the weight's block `k + 2` and the bias's block `k + 1` started, -/
@[sl_canon] theorem wC_i (k : Trip) (h : k.val + 2 < 6) (hh) : (cc0_scoped2.slice (Rect.unit (s := S3) (k0_off8 (w6 k.val)) S1.size hh)).squeeze S_ squeezes_S1_S_ = wC (Ring.sl 3 (k.val + 2)) := wC_congr (off8_at k h) _
@[sl_canon] theorem wS_i (k : Trip) (h : k.val + 2 < 6) (hh hs) : (wbM.slice (Rect.unit (s := S3x1024x1024) (k0_off9 (w6 k.val)) S1x1024x1024.size hh) hs).squeeze S1024x1024 squeezes_S1x1024x1024_S1024x1024 = wS (Ring.sl 3 (k.val + 2)) := wS_congr (off9_at k h) _ _
@[sl_canon] theorem wB_i (k : Trip) (h : k.val + 2 < 6) (hh hs) : wM.slice (Rect.unit (s := S1024x6144) (k0_off10 (w12 k.val)) S1024x1024.size hh) hs = wB (Ring.bk 6 (k.val + 2)) := wB_congr (off10_at k h) _ _
@[sl_canon] theorem bC_i (k : Trip) (h : k.val + 1 < 6) (hh) : (cc0_scoped4.slice (Rect.unit (s := S2) (k0_off11 (w8 k.val)) S1.size hh)).squeeze S_ squeezes_S1_S_ = bC (Ring.sl 2 (k.val + 1)) := bC_congr (off11_at k h) _
@[sl_canon] theorem bS_i (k : Trip) (h : k.val + 1 < 6) (hh hs) : (bbM.slice (Rect.unit (s := S2x1x1024) (k0_off12 (w8 k.val)) S1x1x1024.size hh) hs).squeeze S1x1024 squeezes_S1x1x1024_S1x1024 = bS (Ring.sl 2 (k.val + 1)) := bS_congr (off12_at k h) _ _
@[sl_canon] theorem bB_i (k : Trip) (h : k.val + 1 < 6) (hh hs) : bM.slice (Rect.unit (s := S1x6144) (k0_off13 (w12 k.val)) S1x1024.size hh) hs = bB (Ring.bk 6 (k.val + 1)) := bB_congr (off13_at k h) _ _
/-- block `k` of both waited, -/
@[sl_canon] theorem wC_w (k : Trip) (hh) : (cc0_scoped2.slice (Rect.unit (s := S3) (k0_off14 (w7 k.val)) S1.size hh)).squeeze S_ squeezes_S1_S_ = wC (Ring.sl 3 k.val) := wC_congr (off14_at k) _
@[sl_canon] theorem wS_w (k : Trip) (hh hs) : (wbM.slice (Rect.unit (s := S3x1024x1024) (k0_off15 (w7 k.val)) S1x1024x1024.size hh) hs).squeeze S1024x1024 squeezes_S1x1024x1024_S1024x1024 = wS (Ring.sl 3 k.val) := wS_congr (off15_at k) _ _
@[sl_canon] theorem wB_w (k : Trip) (hh hs) : wM.slice (Rect.unit (s := S1024x6144) (k0_off16 (w12 k.val)) S1024x1024.size hh) hs = wB (Ring.bk 6 k.val) := wB_congr (off16_at k) _ _
@[sl_canon] theorem bC_w (k : Trip) (hh) : (cc0_scoped4.slice (Rect.unit (s := S2) (k0_off17 (w9 k.val)) S1.size hh)).squeeze S_ squeezes_S1_S_ = bC (Ring.sl 2 k.val) := bC_congr (off17_at k) _
@[sl_canon] theorem bS_w (k : Trip) (hh hs) : (bbM.slice (Rect.unit (s := S2x1x1024) (k0_off18 (w9 k.val)) S1x1x1024.size hh) hs).squeeze S1x1024 squeezes_S1x1x1024_S1x1024 = bS (Ring.sl 2 k.val) := bS_congr (off18_at k) _ _
@[sl_canon] theorem bB_w (k : Trip) (hh hs) : bM.slice (Rect.unit (s := S1x6144) (k0_off19 (w12 k.val)) S1x1024.size hh) hs = bB (Ring.bk 6 k.val) := bB_congr (off19_at k) _ _
/-- the result's block `k` started, its block `k - 1` waited. -/
@[sl_canon] theorem oC_i (k : Trip) (hh) : (cc0_scoped6.slice (Rect.unit (s := S2) (k0_off23 (w10 k.val)) S1.size hh)).squeeze S_ squeezes_S1_S_ = oC (Ring.sl 2 k.val) := oC_congr (off23_at k) _
@[sl_canon] theorem oS_i (k : Trip) (hh hs) : (obM.slice (Rect.unit (s := S2x16x1024) (k0_off25 (w10 k.val)) S1x16x1024.size hh) hs).squeeze S16x1024 squeezes_S1x16x1024_S16x1024 = oS (Ring.sl 2 k.val) := oS_congr (off25_at k) _ _
@[sl_canon] theorem oB_i (k : Trip) (hh hs) : oM.slice (Rect.unit (s := S16x6144) (k0_off24 (w12 k.val)) S16x1024.size hh) hs = oB (Ring.bk 6 k.val) := oB_congr (off24_at k) _ _
@[sl_canon] theorem oC_w (k : Trip) (h : 1 ≤ k.val) (hh) : (cc0_scoped6.slice (Rect.unit (s := S2) (k0_off26 (w11 k.val)) S1.size hh)).squeeze S_ squeezes_S1_S_ = oC (Ring.sl 2 (k.val + 1)) := oC_congr (off26_at k h) _
@[sl_canon] theorem oS_w (k : Trip) (h : 1 ≤ k.val) (hh hs) : (obM.slice (Rect.unit (s := S2x16x1024) (k0_off28 (w11 k.val)) S1x16x1024.size hh) hs).squeeze S16x1024 squeezes_S1x16x1024_S16x1024 = oS (Ring.sl 2 (k.val + 1)) := oS_congr (off28_at k h) _ _
@[sl_canon] theorem oB_w (k : Trip) (h : 1 ≤ k.val) (hh hs) : oM.slice (Rect.unit (s := S16x6144) (k0_off27 (w12 k.val)) S16x1024.size hh) hs = oB (Ring.bk 6 (k.val - 1)) := oB_congr (off27_at k h) _ _

/-- The epilogue: the result's last block waited, from the words carried out of the loop. -/
@[sl_canon] theorem oC_e (hh) : (cc0_scoped6.slice (Rect.unit (s := S2) (k0_off29 (w11 6)) S1.size hh)).squeeze S_ squeezes_S1_S_ = oC 1 := oC_congr (by decide) _
@[sl_canon] theorem oS_e (hh hs) : (obM.slice (Rect.unit (s := S2x16x1024) (k0_off31 (w11 6)) S1x16x1024.size hh) hs).squeeze S16x1024 squeezes_S1x16x1024_S16x1024 = oS 1 := oS_congr (by decide) _ _
@[sl_canon] theorem oB_e (hh hs) : oM.slice (Rect.unit (s := S16x6144) (k0_off30 (w12 6)) S16x1024.size hh) hs = oB 5 := oB_congr (by decide) _ _

end Canon

end Cert.Proof.Mod

end
-- ==== Proof.ModViews.lean ====
/-
  The modulation call, what its ring slots read: a slot that a block landed in, read through the whole buffer, is the block;
  a slot written through the whole buffer is read back as what was written.
-/
module

public import proofs.«01_k».proof.Proof.ModNames

@[expose] public section

noncomputable section

namespace Cert.Proof.Mod

open Cert.KernelIdeal Cert.KernelIdeal.Gen
open Idealize.ShloMosaic
open Idealize.ShloMosaic.TcCoe

section

variable {Val : EltTy → Type}

/-- A slice re-indexed to another shape, read through the slice: the payload re-indexed. -/
theorem read_of_reshape {κ : Kind} {sp : Space} {s s' : Shape} {e : EltTy} (v : View sig κ sp s e) (h : s'.numel = s.numel)
    (f : v.ty.Contents Val) (x : s'.Idx → Val e) (hx : (v.reshape s' h).read Val f = x) : v.read Val f = fun y => x (Shape.reshapeEquiv h.symm y) := by
  funext y
  have e1 : Shape.reshapeEquiv h (Shape.reshapeEquiv h.symm y) = y := by rw [Shape.reshapeEquiv_reshapeEquiv, Shape.reshapeEquiv_self]
  have e2 := congrFun hx (Shape.reshapeEquiv h.symm y)
  rw [← e2]
  show v.read Val f y = v.read Val f (Shape.reshapeEquiv h (Shape.reshapeEquiv h.symm y))
  rw [e1]

/-- A slot of the weight's ring holding `x`, loaded through the ring buffer. -/
theorem wSlot_load {off : Fin 3 → Nat} {s : Fin 3} (h : off = slot3Off s) (inb) (f : (wS s).view.ty.Contents Val) (x : S1024x1024.Idx → Val .f32)
    (hx : (wS s).view.read Val f = x) :
    wbM.view.readAt Val (Rect.unit (s := S3x1024x1024) off S1x1024x1024.size inb).toLoadRect f = shapeCast S1x1024x1024 x (by decide) := by
  subst h
  exact read_of_reshape (wbM.slice (Rect.unit (s := S3x1024x1024) (slot3Off s) S1x1024x1024.size (wSlot_inb s)) (fun _ => rfl)).view _ f x hx
/-- A slot of the bias's. -/
theorem bSlot_load {off : Fin 3 → Nat} {s : Fin 2} (h : off = slot2Off s) (inb) (f : (bS s).view.ty.Contents Val) (x : S1x1024.Idx → Val .f32)
    (hx : (bS s).view.read Val f = x) :
    bbM.view.readAt Val (Rect.unit (s := S2x1x1024) off S1x1x1024.size inb).toLoadRect f = shapeCast S1x1x1024 x (by decide) := by
  subst h
  exact read_of_reshape (bbM.slice (Rect.unit (s := S2x1x1024) (slot2Off s) S1x1x1024.size (bSlot_inb s)) (fun _ => rfl)).view _ f x hx
/-- A slot of the result's ring, stored through the ring buffer. -/
theorem oSlot_stored {off : Fin 3 → Nat} {s : Fin 2} (h : off = slot2Off s) (inb) (f : (oS s).view.ty.Contents Val) (p : S1x16x1024.Idx → Val .f32) :
    (oS s).view.read Val ((obM.access (Rect.unit (s := S2x16x1024) off S1x16x1024.size inb)).write Val f p Finset.univ) = shapeCast S16x1024 p (by decide) := by
  subst h
  funext y
  exact congrFun (View.read_write_univ (v := (obM.access (Rect.unit (s := S2x16x1024) (slot2Off s) S1x16x1024.size inb))) f p) _

end

end Cert.Proof.Mod

end
-- ==== Proof.ModRing.lean ====
/-
  The three rings of the pipeline, over abstract states of their slots and blocks: what each holds before trip `k`, what a
  trip takes off it and what it puts back.
-/
module

public import Idealize.ShloMosaic.Lib.Ring.Trips
public import Idealize.ShloMosaic.Lib.Tactic

@[expose] public section

noncomputable section

namespace Cert.Proof.Mod

open Idealize.ShloMosaic
open Idealize.SL Idealize.SL.RA Idealize.SL.BI
open scoped Idealize.SL.BI
open Idealize.SL.BI.BIBase Idealize.SL.BI.Laws Idealize.SL.ProofMode Idealize.SL.Sem

variable {M : Type _} [URA M]

theorem ent_of_eq {P Q : sProp M} (e : P = Q) : P ⊢ Q := e ▸ .rfl

theorem bigSep_put {i : Fin 6} {s : Finset (Fin 6)} (h : i ∉ s) (P : Fin 6 → sProp M) :
    bigSep (insert i s) P = iprop(P i ∗ bigSep s P) := bigSep_insert h
theorem bk6_zero : Ring.bk 6 0 = 0 := Fin.ext (by rfl)
theorem bk6_one : Ring.bk 6 1 = 1 := Fin.ext (by rfl)
theorem bk6_five : Ring.bk 6 5 = 5 := Fin.ext (by rfl)

/-! ## A read ring of three slots, two blocks ahead -/

section Three

variable (home : Fin 6 → sProp M) (free : Fin 3 → sProp M) (infl : Fin 3 → Fin 6 → sProp M)

def ring3 (k : ℕ) : sProp M :=
  iprop(bigSep (Ring.homeSet 2 k) home ∗ Ring.roleAt (free (Ring.sl 3 k)) (infl (Ring.sl 3 k)) k
    ∗ Ring.roleAt (free (Ring.sl 3 (k + 1))) (infl (Ring.sl 3 (k + 1))) (k + 1) ∗ free (Ring.sl 3 (k + 2)))

/-- While block `k + 2` exists a trip takes it and the free slot, and block `k`'s slot in flight; -/
theorem ring3_step (k : ℕ) (h : k + 2 < 6) : ∃ R : sProp M,
    (ring3 home free infl k ⊢ iprop(infl (Ring.sl 3 k) (Ring.bk 6 k) ∗ home (Ring.bk 6 (k + 2)) ∗ free (Ring.sl 3 (k + 2)) ∗ R))
    ∧ (iprop(free (Ring.sl 3 k) ∗ home (Ring.bk 6 k) ∗ infl (Ring.sl 3 (k + 2)) (Ring.bk 6 (k + 2)) ∗ R) ⊢ ring3 home free infl (k + 1)) := by
  refine ⟨iprop(infl (Ring.sl 3 (k + 1)) (Ring.bk 6 (k + 1)) ∗ bigSep ((Ring.homeSet 2 k).erase (Ring.bk 6 (k + 2))) home), ?_, ?_⟩
  · unfold ring3
    rw [Ring.roleAt_of_lt _ _ k (by omega), Ring.roleAt_of_lt _ _ (k + 1) (by omega), Ring.homeSet_out 2 k h, bigSep_put (Ring.bkL_not_mem_erase 2 k),
      Finset.erase_insert (Ring.bkL_not_mem_erase 2 k)]
    iintro ⟨⟨Hh, Hr⟩, Hk, Hk1, Hf⟩
    isplitl [Hk]; · iexact Hk
    isplitl [Hh]; · iexact Hh
    isplitl [Hf]; · iexact Hf
    isplitl [Hk1]; · iexact Hk1
    iexact Hr
  · unfold ring3
    rw [Ring.roleAt_of_lt _ _ (k + 1) (by omega), Ring.roleAt_of_lt _ _ (k + 1 + 1) (by omega), Ring.homeSet_succ 2 k h,
      bigSep_put (Ring.bk_not_mem_erase 2 k (by omega) (by decide)), Ring.sl_succ_add 3 k 2 rfl]
    iintro ⟨Hf, Hh, Hi, Hk1, Hr⟩
    isplitl [Hh Hr]
    · isplitl [Hh]; · iexact Hh
      iexact Hr
    isplitl [Hk1]; · iexact Hk1
    isplitl [Hi]; · iexact Hi
    iexact Hf

/-- past it, block `k`'s slot alone. -/
theorem ring3_tail (k : ℕ) (h : 6 ≤ k + 2) (hk : k < 6) : ∃ R : sProp M,
    (ring3 home free infl k ⊢ iprop(infl (Ring.sl 3 k) (Ring.bk 6 k) ∗ R))
    ∧ (iprop(free (Ring.sl 3 k) ∗ home (Ring.bk 6 k) ∗ R) ⊢ ring3 home free infl (k + 1)) := by
  refine ⟨iprop(bigSep (Ring.homeSet 2 k) home ∗ Ring.roleAt (free (Ring.sl 3 (k + 1))) (infl (Ring.sl 3 (k + 1))) (k + 1) ∗ free (Ring.sl 3 (k + 2))), ?_, ?_⟩
  · unfold ring3
    rw [Ring.roleAt_of_lt _ _ k hk]
    iintro ⟨Hr, Hk, Hk1, Hf⟩
    isplitl [Hk]; · iexact Hk
    isplitl [Hr]; · iexact Hr
    isplitl [Hk1]; · iexact Hk1
    iexact Hf
  · unfold ring3
    rw [Ring.roleAt_of_le _ _ (k + 1 + 1) (by omega), Ring.homeSet_succ_tail 2 k h hk,
      bigSep_put (Ring.bk_not_mem_homeSet 2 k (by omega) (by decide)), Ring.sl_succ_add 3 k 2 rfl]
    iintro ⟨Hf, Hh, Hr, Hk1, Hf2⟩
    isplitl [Hh Hr]
    · isplitl [Hh]; · iexact Hh
      iexact Hr
    isplitl [Hk1]; · iexact Hk1
    isplitl [Hf2]; · iexact Hf2
    iexact Hf

/-- Before the first trip: blocks 0 and 1 in flight; after the last: every block home, every slot free. -/
theorem ring3_start : iprop(infl 0 0 ∗ infl 1 1 ∗ free 2 ∗ bigSep (Ring.homeSet 2 0) home) ⊢ ring3 home free infl 0 := by
  unfold ring3
  rw [Ring.roleAt_of_lt _ _ 0 (by omega), Ring.roleAt_of_lt _ _ (0 + 1) (by omega)]
  iintro ⟨H0, H1, Hf, Hr⟩
  isplitl [Hr]; · iexact Hr
  isplitl [H0]; · iexact H0
  isplitl [H1]; · iexact H1
  iexact Hf
theorem ring3_end : ring3 home free infl 6 ⊢ iprop(bigSep Finset.univ home ∗ free 0 ∗ free 1 ∗ free 2) := by
  unfold ring3
  rw [Ring.roleAt_of_le _ _ 6 le_rfl, Ring.roleAt_of_le _ _ (6 + 1) (by omega), Ring.homeSet_last 2 6 le_rfl]
  exact .rfl
theorem homes3_zero : bigSep Finset.univ home = iprop(home 0 ∗ home 1 ∗ bigSep (Ring.homeSet 2 0) home) := by
  have e : (Finset.univ : Finset (Fin 6)) = insert 0 (insert 1 (Ring.homeSet (NB := 6) 2 0)) := by decide
  rw [e, bigSep_put (by decide), bigSep_put (by decide)]

end Three

/-! ## A read ring of two slots, one block ahead -/

section Two

variable (home : Fin 6 → sProp M) (free : Fin 2 → sProp M) (infl : Fin 2 → Fin 6 → sProp M)

def ring2 (k : ℕ) : sProp M :=
  iprop(bigSep (Ring.homeSet 1 k) home ∗ Ring.roleAt (free (Ring.sl 2 k)) (infl (Ring.sl 2 k)) k ∗ free (Ring.sl 2 (k + 1)))

theorem ring2_step (k : ℕ) (h : k + 1 < 6) : ∃ R : sProp M,
    (ring2 home free infl k ⊢ iprop(infl (Ring.sl 2 k) (Ring.bk 6 k) ∗ home (Ring.bk 6 (k + 1)) ∗ free (Ring.sl 2 (k + 1)) ∗ R))
    ∧ (iprop(free (Ring.sl 2 k) ∗ home (Ring.bk 6 k) ∗ infl (Ring.sl 2 (k + 1)) (Ring.bk 6 (k + 1)) ∗ R) ⊢ ring2 home free infl (k + 1)) := by
  refine ⟨bigSep ((Ring.homeSet 1 k).erase (Ring.bk 6 (k + 1))) home, ?_, ?_⟩
  · unfold ring2
    rw [Ring.roleAt_of_lt _ _ k (by omega), Ring.homeSet_out 1 k h, bigSep_put (Ring.bkL_not_mem_erase 1 k),
      Finset.erase_insert (Ring.bkL_not_mem_erase 1 k)]
    iintro ⟨⟨Hh, Hr⟩, Hk, Hf⟩
    isplitl [Hk]; · iexact Hk
    isplitl [Hh]; · iexact Hh
    isplitl [Hf]; · iexact Hf
    iexact Hr
  · unfold ring2
    rw [Ring.roleAt_of_lt _ _ (k + 1) (by omega), Ring.homeSet_succ 1 k h,
      bigSep_put (Ring.bk_not_mem_erase 1 k (by omega) (by decide)), Ring.sl_succ_add 2 k 1 rfl]
    iintro ⟨Hf, Hh, Hi, Hr⟩
    isplitl [Hh Hr]
    · isplitl [Hh]; · iexact Hh
      iexact Hr
    isplitl [Hi]; · iexact Hi
    iexact Hf

theorem ring2_tail (k : ℕ) (h : 6 ≤ k + 1) (hk : k < 6) : ∃ R : sProp M,
    (ring2 home free infl k ⊢ iprop(infl (Ring.sl 2 k) (Ring.bk 6 k) ∗ R))
    ∧ (iprop(free (Ring.sl 2 k) ∗ home (Ring.bk 6 k) ∗ R) ⊢ ring2 home free infl (k + 1)) := by
  refine ⟨iprop(bigSep (Ring.homeSet 1 k) home ∗ free (Ring.sl 2 (k + 1))), ?_, ?_⟩
  · unfold ring2
    rw [Ring.roleAt_of_lt _ _ k hk]
    iintro ⟨Hr, Hk, Hf⟩
    isplitl [Hk]; · iexact Hk
    isplitl [Hr]; · iexact Hr
    iexact Hf
  · unfold ring2
    rw [Ring.roleAt_of_le _ _ (k + 1) (by omega), Ring.homeSet_succ_tail 1 k h hk,
      bigSep_put (Ring.bk_not_mem_homeSet 1 k (by omega) (by decide)), Ring.sl_succ_add 2 k 1 rfl]
    iintro ⟨Hf, Hh, Hr, Hf2⟩
    isplitl [Hh Hr]
    · isplitl [Hh]; · iexact Hh
      iexact Hr
    isplitl [Hf2]; · iexact Hf2
    iexact Hf

theorem ring2_start : iprop(infl 0 0 ∗ free 1 ∗ bigSep (Ring.homeSet 1 0) home) ⊢ ring2 home free infl 0 := by
  unfold ring2
  rw [Ring.roleAt_of_lt _ _ 0 (by omega)]
  iintro ⟨H0, Hf, Hr⟩
  isplitl [Hr]; · iexact Hr
  isplitl [H0]; · iexact H0
  iexact Hf
theorem ring2_end : ring2 home free infl 6 ⊢ iprop(bigSep Finset.univ home ∗ free 0 ∗ free 1) := by
  unfold ring2
  rw [Ring.roleAt_of_le _ _ 6 le_rfl, Ring.homeSet_last 1 6 le_rfl]
  exact .rfl
theorem homes2_zero : bigSep Finset.univ home = iprop(home 0 ∗ bigSep (Ring.homeSet 1 0) home) := by
  have e : (Finset.univ : Finset (Fin 6)) = insert 0 (Ring.homeSet (NB := 6) 1 0) := by decide
  rw [e, bigSep_put (by decide)]

end Two

/-! ## A write ring of two slots, waited one trip later -/

section Out

variable (ahead behind : Fin 6 → sProp M) (free : Fin 2 → sProp M) (infl : Fin 2 → Fin 6 → sProp M)

def ringO (k : ℕ) : sProp M :=
  iprop(bigSep (Ring.rangeSet 6 k 6) ahead ∗ bigSep (Ring.rangeSet 6 0 (k - 1)) behind ∗ free (Ring.sl 2 k)
    ∗ Ring.roleBAt 1 (free (Ring.sl 2 (k + 1))) (infl (Ring.sl 2 (k + 1))) k)

/-- The first trip takes block 0 and its slot; -/
theorem ringO_first (k : ℕ) (h : k < 1) : ∃ R : sProp M,
    (ringO ahead behind free infl k ⊢ iprop(ahead (Ring.bk 6 k) ∗ free (Ring.sl 2 k) ∗ R))
    ∧ (iprop(infl (Ring.sl 2 k) (Ring.bk 6 k) ∗ R) ⊢ ringO ahead behind free infl (k + 1)) := by
  obtain rfl : k = 0 := by omega
  refine ⟨iprop(bigSep (Ring.rangeSet 6 1 6) ahead ∗ bigSep (Ring.rangeSet 6 0 0) behind ∗ free (Ring.sl 2 1)), ?_, ?_⟩
  · unfold ringO
    rw [Ring.roleBAt_of_lt 1 _ _ 0 (by omega), Ring.bigSep_rangeSet_head (by omega) (by omega : 0 < 6), Ring.bk_eq_mk (by omega : 0 < 6)]
    iintro ⟨⟨Ha, Hr⟩, Hb, Hf, Hf1⟩
    isplitl [Ha]; · iexact Ha
    isplitl [Hf]; · iexact Hf
    isplitl [Hr]; · iexact Hr
    isplitl [Hb]; · iexact Hb
    iexact Hf1
  · unfold ringO
    rw [Ring.roleBAt_of_le 1 _ _ (0 + 1) (by omega), Ring.sl_succ_add 2 0 1 rfl]
    iintro ⟨Hi, Hr, Hb, Hf1⟩
    isplitl [Hr]; · iexact Hr
    isplitl [Hb]; · iexact Hb
    isplitl [Hf1]; · iexact Hf1
    iexact Hi

/-- a later one block `k`, its slot, and the slot in flight with block `k - 1`. -/
theorem ringO_step (k : ℕ) (h : 1 ≤ k) (hk : k < 6) : ∃ R : sProp M,
    (ringO ahead behind free infl k ⊢ iprop(ahead (Ring.bk 6 k) ∗ free (Ring.sl 2 k) ∗ infl (Ring.sl 2 (k + 1)) (Ring.bk 6 (k - 1)) ∗ R))
    ∧ (iprop(infl (Ring.sl 2 k) (Ring.bk 6 k) ∗ behind (Ring.bk 6 (k - 1)) ∗ free (Ring.sl 2 (k + 1)) ∗ R) ⊢ ringO ahead behind free infl (k + 1)) := by
  refine ⟨iprop(bigSep (Ring.rangeSet 6 (k + 1) 6) ahead ∗ bigSep (Ring.rangeSet 6 0 (k - 1)) behind), ?_, ?_⟩
  · unfold ringO
    rw [Ring.roleBAt_of_le 1 _ _ k h, Ring.bigSep_rangeSet_head hk hk, Ring.bk_eq_mk hk]
    iintro ⟨⟨Ha, Hr⟩, Hb, Hf, Hi⟩
    isplitl [Ha]; · iexact Ha
    isplitl [Hf]; · iexact Hf
    isplitl [Hi]; · iexact Hi
    isplitl [Hr]; · iexact Hr
    iexact Hb
  · unfold ringO
    rw [Ring.roleBAt_of_le 1 _ _ (k + 1) (by omega), Ring.sl_succ_add 2 k 1 rfl, Nat.add_sub_cancel,
      Ring.bigSep_rangeSet_last (by omega : 0 < k) (by omega), Ring.bk_eq_mk (by omega : k - 1 < 6)]
    iintro ⟨Hi, Hb1, Hf, Hr, Hb⟩
    isplitl [Hr]; · iexact Hr
    isplitl [Hb1 Hb]
    · isplitl [Hb1]; · iexact Hb1
      iexact Hb
    isplitl [Hf]; · iexact Hf
    iexact Hi

theorem ringO_start : iprop(bigSep Finset.univ ahead ∗ free 0 ∗ free 1) ⊢ ringO ahead behind free infl 0 := by
  unfold ringO
  rw [Ring.roleBAt_of_lt 1 _ _ 0 (by omega), Ring.rangeSet_univ, Ring.bigSep_rangeSet_empty (by omega)]
  iintro ⟨Ha, H0, H1⟩
  isplitl [Ha]; · iexact Ha
  isplitr; · iempintro
  isplitl [H0]; · iexact H0
  iexact H1
/-- After the last trip block 5 is in flight. -/
theorem ringO_end : ringO ahead behind free infl 6 ⊢ iprop(infl 1 5 ∗ free 0 ∗ bigSep (Ring.rangeSet 6 0 5) behind) := by
  unfold ringO
  rw [Ring.roleBAt_of_le 1 _ _ 6 (by omega)]
  have e1 : Ring.sl 2 (6 + 1) = 1 := by decide
  have e2 : Ring.bk 6 (6 - 1) = 5 := by decide
  have e3 : Ring.sl 2 6 = 0 := by decide
  rw [e1, e2, e3]
  iintro ⟨-, Hb, Hf, Hi⟩
  isplitl [Hi]; · iexact Hi
  isplitl [Hf]; · iexact Hf
  iexact Hb
theorem ringO_done : iprop(behind 5 ∗ bigSep (Ring.rangeSet 6 0 5) behind) ⊢ bigSep Finset.univ behind := by
  have e : (Finset.univ : Finset (Fin 6)) = insert 5 (Ring.rangeSet 6 0 5) := by decide
  rw [e, bigSep_put (by decide)]

end Out

end Cert.Proof.Mod

end
-- ==== Proof.ModTrip.lean ====
/-
  The modulation call, one trip of its pipeline's loop.
-/
module

public import proofs.«01_k».proof.Proof.ModViews
public import proofs.«01_k».proof.Proof.ModRing
public import Idealize.ShloMosaic.Lib.VecWindow

@[expose] public section

noncomputable section

namespace Cert.Proof.Mod

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The pieces -/

section Pieces

variable (c : Dev nD)
  (XC : Buf (Elt F) (cbM.view.loc (c : Thread nD τ)))
  (XW : Buf (Elt F) (wM.view.loc (c : Thread nD τ)))
  (XB : Buf (Elt F) (bM.view.loc (c : Thread nD τ)))

/-- The conditioning operand in VMEM. -/
abbrev condP : sProp 𝕄 := cbM.view.loc (c : Thread nD τ) ↦[cbM.view.set]{fullShare} XC

/-! ### The weight's ring -/

abbrev wCellP (s : Fin 3) : sProp 𝕄 := semVal ((c : Thread nD τ), SemLoc.dma (wC s).sem) 0
abbrev wSlotP (s : Fin 3) (f : Buf (Elt F) ((wS s).view.loc (c : Thread nD τ))) : sProp 𝕄 :=
  (wS s).view.loc (c : Thread nD τ) ↦[(wS s).view.set]{fullShare} f
abbrev wHomeP (b : Fin 6) : sProp 𝕄 := (wB b).view.loc (c : Thread nD τ) ↦[(wB b).view.set]{fullShare} XW
/-- The words of the weight's block `b`. -/
abbrev wBlk (b : Fin 6) : S1024x1024.Idx → Elt F .f32 := ReadAs.same.apply ((wB b).view.read (Elt F) XW)
abbrev wLanded (s : Fin 3) (b : Fin 6) (f : Buf (Elt F) ((wS s).view.loc (c : Thread nD τ))) : Buf (Elt F) ((wS s).view.loc (c : Thread nD τ)) :=
  (wS s).view.writes (Elt F) f [⟨Rect.whole S1024x1024, wBlk c XW b⟩]
abbrev wFlightP (s : Fin 3) (b : Fin 6) (f : Buf (Elt F) ((wS s).view.loc (c : Thread nD τ))) : sProp 𝕄 :=
  Transfers.Flight countersEmb (c : Thread nD τ) (SemLoc.dma (wC s).sem) () 131072 iprop(wSlotP c s (wLanded c XW s b f) ∗ wHomeP c XW b)
/-- A slot free, and a slot in flight with a block. -/
abbrev wFree (s : Fin 3) : sProp 𝕄 := iprop(wCellP c s ∗ ∃ f, wSlotP c s f)
abbrev wInfl (s : Fin 3) (b : Fin 6) : sProp 𝕄 := iprop(∃ f, wFlightP c XW s b f)

/-! ### The bias's ring -/

abbrev bCellP (s : Fin 2) : sProp 𝕄 := semVal ((c : Thread nD τ), SemLoc.dma (bC s).sem) 0
abbrev bSlotP (s : Fin 2) (f : Buf (Elt F) ((bS s).view.loc (c : Thread nD τ))) : sProp 𝕄 :=
  (bS s).view.loc (c : Thread nD τ) ↦[(bS s).view.set]{fullShare} f
abbrev bHomeP (b : Fin 6) : sProp 𝕄 := (bB b).view.loc (c : Thread nD τ) ↦[(bB b).view.set]{fullShare} XB
abbrev bBlk (b : Fin 6) : S1x1024.Idx → Elt F .f32 := ReadAs.same.apply ((bB b).view.read (Elt F) XB)
abbrev bLanded (s : Fin 2) (b : Fin 6) (f : Buf (Elt F) ((bS s).view.loc (c : Thread nD τ))) : Buf (Elt F) ((bS s).view.loc (c : Thread nD τ)) :=
  (bS s).view.writes (Elt F) f [⟨Rect.whole S1x1024, bBlk c XB b⟩]
abbrev bFlightP (s : Fin 2) (b : Fin 6) (f : Buf (Elt F) ((bS s).view.loc (c : Thread nD τ))) : sProp 𝕄 :=
  Transfers.Flight countersEmb (c : Thread nD τ) (SemLoc.dma (bC s).sem) () 128 iprop(bSlotP c s (bLanded c XB s b f) ∗ bHomeP c XB b)
abbrev bFree (s : Fin 2) : sProp 𝕄 := iprop(bCellP c s ∗ ∃ f, bSlotP c s f)
abbrev bInfl (s : Fin 2) (b : Fin 6) : sProp 𝕄 := iprop(∃ f, bFlightP c XB s b f)

/-! ### The result's ring -/

/-- Block `b` of the result, as the call computes it. -/
def outBlk (b : Fin 6) : S16x1024.Idx → Elt F .f32 :=
  shapeCast S16x1024 (k0_pay1 (cbM.view.read (Elt F) XC)
    (shapeCast S1x1024x1024 (wBlk c XW b) (by decide)) (shapeCast S1x1x1024 (bBlk c XB b) (by decide))) (by decide)

abbrev oCellP (s : Fin 2) : sProp 𝕄 := semVal ((c : Thread nD τ), SemLoc.dma (oC s).sem) 0
abbrev oSlotP (s : Fin 2) (f : Buf (Elt F) ((oS s).view.loc (c : Thread nD τ))) : sProp 𝕄 :=
  (oS s).view.loc (c : Thread nD τ) ↦[(oS s).view.set]{fullShare} f
abbrev oHomeP (b : Fin 6) (f : Buf (Elt F) ((oB b).view.loc (c : Thread nD τ))) : sProp 𝕄 :=
  (oB b).view.loc (c : Thread nD τ) ↦[(oB b).view.set]{fullShare} f
/-- What lands in block `b` of the result, over `f`, from a slot that holds `g`. -/
abbrev oLanded (s : Fin 2) (b : Fin 6) (g : Buf (Elt F) ((oS s).view.loc (c : Thread nD τ))) (f : Buf (Elt F) ((oB b).view.loc (c : Thread nD τ))) :
    Buf (Elt F) ((oB b).view.loc (c : Thread nD τ)) :=
  (oB b).view.writes (Elt F) f [⟨Rect.whole S16x1024, ReadAs.same.apply ((oS s).view.read (Elt F) g)⟩]
abbrev oFlightP (s : Fin 2) (b : Fin 6) (g : Buf (Elt F) ((oS s).view.loc (c : Thread nD τ))) (f : Buf (Elt F) ((oB b).view.loc (c : Thread nD τ))) : sProp 𝕄 :=
  Transfers.Flight countersEmb (c : Thread nD τ) (SemLoc.dma (oC s).sem) () 2048 iprop(oHomeP c b (oLanded c s b g f) ∗ oSlotP c s g)
abbrev oFree (s : Fin 2) : sProp 𝕄 := iprop(oCellP c s ∗ ∃ f, oSlotP c s f)
abbrev oInfl (s : Fin 2) (b : Fin 6) : sProp 𝕄 :=
  iprop(∃ g, ∃ f, ⌜(oS s).view.read (Elt F) g = outBlk c XC XW XB b⌝ ∗ oFlightP c s b g f)
/-- A block of the result not yet written, and one that is. -/
abbrev oAhead (b : Fin 6) : sProp 𝕄 := iprop(∃ f, oHomeP c b f)
abbrev oBehind (b : Fin 6) : sProp 𝕄 := iprop(∃ f, ⌜(oB b).view.read (Elt F) f = outBlk c XC XW XB b⌝ ∗ oHomeP c b f)

end Pieces

section Trip

variable (c : Dev nD)
  (XC : Buf (Elt F) (cbM.view.loc (c : Thread nD τ)))
  (XW : Buf (Elt F) (wM.view.loc (c : Thread nD τ)))
  (XB : Buf (Elt F) (bM.view.loc (c : Thread nD τ)))
  (v10 v27 z t : BitVec 32)

abbrev tripG (k : Trip) (a : Words) : Prog (TpuEff nD τ sig (Elt F) Λ₀ .tc) Words :=
  k0_t1_body (F := F) cM (Memref.isWhole_whole _) wM (Memref.isWhole_whole _) bM (Memref.isWhole_whole _) oM (Memref.isWhole_whole _)
    cbM (Memref.isWhole_whole _) wbM (Memref.isWhole_whole _) cc0_scoped2 bbM (Memref.isWhole_whole _) cc0_scoped4 obM (Memref.isWhole_whole _) cc0_scoped6
    cc0_scoped7 v10 v27 z t k a

/-- What a trip stores in its slot of the result's ring is the block: the operands it loads are what the copies landed. -/
theorem stored_eq (k : Trip) (hc hw hb ho) (fw : Buf (Elt F) ((wS (Ring.sl 3 k.val)).view.loc (c : Thread nD τ)))
    (fb : Buf (Elt F) ((bS (Ring.sl 2 k.val)).view.loc (c : Thread nD τ))) (go : Buf (Elt F) ((oS (Ring.sl 2 k.val)).view.loc (c : Thread nD τ)))
    (b : Fin 6) (hfw : (wS (Ring.sl 3 k.val)).view.read (Elt F) fw = wBlk c XW b) (hfb : (bS (Ring.sl 2 k.val)).view.read (Elt F) fb = bBlk c XB b) :
    (oS (Ring.sl 2 k.val)).view.read (Elt F)
      ((obM.access (Rect.unit (s := S2x16x1024) (k0_off22 (w10 k.val)) S1x16x1024.size ho)).write (Elt F) go
        (k0_pay1 (cbM.view.readAt (Elt F) (Rect.unit (s := S16x1024) ![0, 0] S16x1024.size hc).toLoadRect XC)
          (wbM.view.readAt (Elt F) (Rect.unit (s := S3x1024x1024) (k0_off20 (w7 k.val)) S1x1024x1024.size hw).toLoadRect fw)
          (bbM.view.readAt (Elt F) (Rect.unit (s := S2x1x1024) (k0_off21 (w9 k.val)) S1x1x1024.size hb).toLoadRect fb)) Finset.univ)
      = outBlk c XC XW XB b := by
  rw [oSlot_stored (off22_at k), wSlot_load (off20_at k) _ _ _ hfw, bSlot_load (off21_at k) _ _ _ hfb]
  have e : cbM.view.readAt (Elt F) (Rect.unit (s := S16x1024) ![0, 0] S16x1024.size hc).toLoadRect XC = cbM.view.read (Elt F) XC :=
    View.readAt_full _ _ _
  rw [e]
  rfl

/-- What every trip is given, and what it gives back. -/
abbrev tripIn (k : ℕ) : sProp 𝕄 :=
  iprop(condP c XC ∗ (∃ W, owes (c : Thread nD τ) 0 W) ∗ wInfl c XW (Ring.sl 3 k) (Ring.bk 6 k) ∗ bInfl c XB (Ring.sl 2 k) (Ring.bk 6 k)
    ∗ oAhead c (Ring.bk 6 k) ∗ oFree c (Ring.sl 2 k))
abbrev tripOut (k : ℕ) : sProp 𝕄 :=
  iprop(condP c XC ∗ (∃ W, owes (c : Thread nD τ) 0 W) ∗ (wFree c (Ring.sl 3 k) ∗ wHomeP c XW (Ring.bk 6 k)) ∗ (bFree c (Ring.sl 2 k) ∗ bHomeP c XB (Ring.bk 6 k))
    ∗ oInfl c XC XW XB (Ring.sl 2 k) (Ring.bk 6 k))

/-- In the middle the weight's block `k + 2` and the bias's block `k + 1` are started too, and the result's block `k - 1` waited. -/
theorem trip_mid (k : Trip) (hk1 : 1 ≤ k.val) (hk2 : k.val + 2 < 6) :
    iprop(tripIn c XC XW XB k.val ∗ (wHomeP c XW (Ring.bk 6 (k.val + 2)) ∗ wFree c (Ring.sl 3 (k.val + 2))) ∗ (bHomeP c XB (Ring.bk 6 (k.val + 1)) ∗ bFree c (Ring.sl 2 (k.val + 1))) ∗ oInfl c XC XW XB (Ring.sl 2 (k.val + 1)) (Ring.bk 6 (k.val - 1)))
     ⊢ wp frame (wpE (defs₀ (F := F)) 𝒱₀ (c : Thread nD τ) none) Set.univ (tripG v10 v27 z t k (accAt k.val))
        (fun a => iprop(⌜a = accAt (k.val + 1)⌝ ∗ tripOut c XC XW XB k.val ∗ wInfl c XW (Ring.sl 3 (k.val + 2)) (Ring.bk 6 (k.val + 2)) ∗ bInfl c XB (Ring.sl 2 (k.val + 1)) (Ring.bk 6 (k.val + 1)) ∗ oBehind c XC XW XB (Ring.bk 6 (k.val - 1)) ∗ oFree c (Ring.sl 2 (k.val + 1)))) := by
  have e1 := chk1_at k
  have e2 := chk2_at k
  have e3 := chk3_at k
  have e4 := chk4_at k
  have e5 := cond2_pos k (by omega)
  have e6 := cond3_pos k (by omega)
  have e7 := cond4_at k
  have e8 := cond5_at k
  have e9 := cond9_at k
  have e10 := cond12_pos k (by omega)
  have hkk : k.val + 1 < 6 := by omega
  iintro ⟨⟨HC, ⟨%W, HW⟩, ⟨%fw, HwF⟩, ⟨%fb, HbF⟩, ⟨%fo, HoH⟩, ⟨HoC, ⟨%go, HoS⟩⟩⟩, ⟨HwH, HwC, ⟨%gw, HwS⟩⟩, ⟨HbH, HbC, ⟨%gb, HbS⟩⟩, ⟨%g', %f', %hg', HoF⟩⟩
  dsimp only [tripG, accAt]
  sl_unfold [k0_t1_body]
  sl_exec
  sl_step
  have hz : (oS (Ring.sl 2 k.val)).view.read (Elt F) (trip_mid.sl.HoS_w1 c XC XW XB k e2 e3 e4 go) = outBlk c XC XW XB (Ring.bk 6 k.val) := by
    unfold trip_mid.sl.HoS_w1
    exact stored_eq c XC XW XB k _ _ _ _ (wLanded c XW _ _ (wS (Ring.sl 3 k.val)).view.junk) (bLanded c XB _ _ (bS (Ring.sl 2 k.val)).view.junk) go _
      (View.read_writes_whole _ _ _) (View.read_writes_whole _ _ _)
  have hv0 : ∀ k : Trip, trip_mid.sl.v220_r0 k = w5 (k.val + 1) := by decide
  have hv1 : ∀ k : Trip, k.val + 2 < 6 → trip_mid.sl.v108_r0 k = w6 (k.val + 1) := by decide
  have hv2 : ∀ k : Trip, trip_mid.sl.v224_r0 k = w7 (k.val + 1) := by decide
  have hv3 : ∀ k : Trip, k.val + 2 < 6 → trip_mid.sl.v118_r0 k = w8 (k.val + 1) := by decide
  have hv4 : ∀ k : Trip, trip_mid.sl.v228_r0 k = w9 (k.val + 1) := by decide
  have hv5 : ∀ k : Trip, trip_mid.sl.v197_r0 k = w10 (k.val + 1) := by decide
  have hv6 : ∀ k : Trip, 1 ≤ k.val → trip_mid.sl.v217_r0 k = w11 (k.val + 1) := by decide
  have hv7 : ∀ k : Trip, trip_mid.sl.v87_r0 k = w12 (k.val + 1) := by decide
  rw [hv0, hv1 k hk2, hv2, hv3 k hk2, hv4, hv5, hv6 k hk1, hv7]
  isplitr; · ipureintro; rfl
  isplitl [HC HW HwF HwF_dst HwF_src HbF HbF_dst HbF_src HoC]
  · isplitl [HC]; · iexact HC
    isplitl [HW]; · iexists _; iexact HW
    isplitl [HwF HwF_dst HwF_src]
    · isplitl [HwF HwF_dst]
      · isplitl [HwF]; · iexact HwF
        iexists _; iexact HwF_dst
      iexact HwF_src
    isplitl [HbF HbF_dst HbF_src]
    · isplitl [HbF HbF_dst]
      · isplitl [HbF]; · iexact HbF
        iexists _; iexact HbF_dst
      iexact HbF_src
    iexists (trip_mid.sl.HoS_w1 c XC XW XB k e2 e3 e4 go), fo
    isplitr; · ipureintro; exact hz
    iexact HoC
  isplitl [HwC]; · iexists gw; iexact HwC
  isplitl [HbC]; · iexists gb; iexact HbC
  isplitl [HoF_dst]
  · iexists (oLanded c (Ring.sl 2 (k.val + 1)) (Ring.bk 6 (k.val - 1)) g' f')
    isplitr; · ipureintro; exact (View.read_writes_whole _ _ _).trans hg'
    iexact HoF_dst
  isplitl [HoF]; · iexact HoF
  iexists _; iexact HoF_src

/-- The first trip waits no block of the result; -/
theorem trip_first (k : Trip) (hk1 : k.val < 1) :
    iprop(tripIn c XC XW XB k.val ∗ (wHomeP c XW (Ring.bk 6 (k.val + 2)) ∗ wFree c (Ring.sl 3 (k.val + 2))) ∗ (bHomeP c XB (Ring.bk 6 (k.val + 1)) ∗ bFree c (Ring.sl 2 (k.val + 1))))
     ⊢ wp frame (wpE (defs₀ (F := F)) 𝒱₀ (c : Thread nD τ) none) Set.univ (tripG v10 v27 z t k (accAt k.val))
        (fun a => iprop(⌜a = accAt (k.val + 1)⌝ ∗ tripOut c XC XW XB k.val ∗ wInfl c XW (Ring.sl 3 (k.val + 2)) (Ring.bk 6 (k.val + 2)) ∗ bInfl c XB (Ring.sl 2 (k.val + 1)) (Ring.bk 6 (k.val + 1)))) := by
  have e1 := chk1_at k
  have e2 := chk2_at k
  have e3 := chk3_at k
  have e4 := chk4_at k
  have e5 := cond2_pos k (by omega)
  have e6 := cond3_pos k (by omega)
  have e7 := cond4_at k
  have e8 := cond5_at k
  have e9 := cond9_at k
  have e10 := cond12_neg k (by omega)
  have hkk : k.val + 1 < 6 := by omega
  have hkk2 : k.val + 2 < 6 := by omega
  iintro ⟨⟨HC, ⟨%W, HW⟩, ⟨%fw, HwF⟩, ⟨%fb, HbF⟩, ⟨%fo, HoH⟩, ⟨HoC, ⟨%go, HoS⟩⟩⟩, ⟨HwH, HwC, ⟨%gw, HwS⟩⟩, ⟨HbH, HbC, ⟨%gb, HbS⟩⟩⟩
  dsimp only [tripG, accAt]
  sl_unfold [k0_t1_body]
  sl_exec
  sl_step
  have hz : (oS (Ring.sl 2 k.val)).view.read (Elt F) (trip_first.sl.HoS_w1 c XC XW XB k e2 e3 e4 go) = outBlk c XC XW XB (Ring.bk 6 k.val) := by
    unfold trip_first.sl.HoS_w1
    exact stored_eq c XC XW XB k _ _ _ _ (wLanded c XW _ _ (wS (Ring.sl 3 k.val)).view.junk) (bLanded c XB _ _ (bS (Ring.sl 2 k.val)).view.junk) go _
      (View.read_writes_whole _ _ _) (View.read_writes_whole _ _ _)
  have hv0 : ∀ k : Trip, trip_first.sl.v220_r0 k = w5 (k.val + 1) := by decide
  have hv1 : ∀ k : Trip, k.val < 1 → trip_first.sl.v108_r0 k = w6 (k.val + 1) := by decide
  have hv2 : ∀ k : Trip, trip_first.sl.v224_r0 k = w7 (k.val + 1) := by decide
  have hv3 : ∀ k : Trip, k.val < 1 → trip_first.sl.v118_r0 k = w8 (k.val + 1) := by decide
  have hv4 : ∀ k : Trip, trip_first.sl.v228_r0 k = w9 (k.val + 1) := by decide
  have hv5 : ∀ k : Trip, trip_first.sl.v197_r0 k = w10 (k.val + 1) := by decide
  have hv6 : ∀ k : Trip, k.val < 1 → trip_first.sl.v217_r0 k = w11 (k.val + 1) := by decide
  have hv7 : ∀ k : Trip, trip_first.sl.v87_r0 k = w12 (k.val + 1) := by decide
  rw [hv0, hv1 k hk1, hv2, hv3 k hk1, hv4, hv5, hv6 k hk1, hv7]
  isplitr; · ipureintro; rfl
  isplitl [HC HW HwF HwF_dst HwF_src HbF HbF_dst HbF_src HoC]
  · isplitl [HC]; · iexact HC
    isplitl [HW]; · iexists _; iexact HW
    isplitl [HwF HwF_dst HwF_src]
    · isplitl [HwF HwF_dst]
      · isplitl [HwF]; · iexact HwF
        iexists _; iexact HwF_dst
      iexact HwF_src
    isplitl [HbF HbF_dst HbF_src]
    · isplitl [HbF HbF_dst]
      · isplitl [HbF]; · iexact HbF
        iexists _; iexact HbF_dst
      iexact HbF_src
    iexists (trip_first.sl.HoS_w1 c XC XW XB k e2 e3 e4 go), fo
    isplitr; · ipureintro; exact hz
    iexact HoC
  isplitl [HwC]; · iexists gw; iexact HwC
  iexists gb; iexact HbC

/-- the last but one starts no block of the weight; -/
theorem trip_late (k : Trip) (hk1 : 6 ≤ k.val + 2) (hk2 : k.val + 1 < 6) :
    iprop(tripIn c XC XW XB k.val ∗ (bHomeP c XB (Ring.bk 6 (k.val + 1)) ∗ bFree c (Ring.sl 2 (k.val + 1))) ∗ oInfl c XC XW XB (Ring.sl 2 (k.val + 1)) (Ring.bk 6 (k.val - 1)))
     ⊢ wp frame (wpE (defs₀ (F := F)) 𝒱₀ (c : Thread nD τ) none) Set.univ (tripG v10 v27 z t k (accAt k.val))
        (fun a => iprop(⌜a = accAt (k.val + 1)⌝ ∗ tripOut c XC XW XB k.val ∗ bInfl c XB (Ring.sl 2 (k.val + 1)) (Ring.bk 6 (k.val + 1)) ∗ oBehind c XC XW XB (Ring.bk 6 (k.val - 1)) ∗ oFree c (Ring.sl 2 (k.val + 1)))) := by
  have e1 := chk1_at k
  have e2 := chk2_at k
  have e3 := chk3_at k
  have e4 := chk4_at k
  have e5 := cond2_neg k (by omega)
  have e6 := cond3_pos k (by omega)
  have e7 := cond4_at k
  have e8 := cond5_at k
  have e9 := cond9_at k
  have e10 := cond12_pos k (by omega)
  have hko : 1 ≤ k.val := by omega
  iintro ⟨⟨HC, ⟨%W, HW⟩, ⟨%fw, HwF⟩, ⟨%fb, HbF⟩, ⟨%fo, HoH⟩, ⟨HoC, ⟨%go, HoS⟩⟩⟩, ⟨HbH, HbC, ⟨%gb, HbS⟩⟩, ⟨%g', %f', %hg', HoF⟩⟩
  dsimp only [tripG, accAt]
  sl_unfold [k0_t1_body]
  sl_exec
  sl_step
  have hz : (oS (Ring.sl 2 k.val)).view.read (Elt F) (trip_late.sl.HoS_w1 c XC XW XB k e2 e3 e4 go) = outBlk c XC XW XB (Ring.bk 6 k.val) := by
    unfold trip_late.sl.HoS_w1
    exact stored_eq c XC XW XB k _ _ _ _ (wLanded c XW _ _ (wS (Ring.sl 3 k.val)).view.junk) (bLanded c XB _ _ (bS (Ring.sl 2 k.val)).view.junk) go _
      (View.read_writes_whole _ _ _) (View.read_writes_whole _ _ _)
  have hv0 : ∀ k : Trip, trip_late.sl.v220_r0 k = w5 (k.val + 1) := by decide
  have hv1 : ∀ k : Trip, 6 ≤ k.val + 2 ∧ k.val + 1 < 6 → trip_late.sl.v108_r0 k = w6 (k.val + 1) := by decide
  have hv2 : ∀ k : Trip, trip_late.sl.v224_r0 k = w7 (k.val + 1) := by decide
  have hv3 : ∀ k : Trip, 6 ≤ k.val + 2 ∧ k.val + 1 < 6 → trip_late.sl.v118_r0 k = w8 (k.val + 1) := by decide
  have hv4 : ∀ k : Trip, trip_late.sl.v228_r0 k = w9 (k.val + 1) := by decide
  have hv5 : ∀ k : Trip, trip_late.sl.v197_r0 k = w10 (k.val + 1) := by decide
  have hv6 : ∀ k : Trip, 6 ≤ k.val + 2 ∧ k.val + 1 < 6 → trip_late.sl.v217_r0 k = w11 (k.val + 1) := by decide
  have hv7 : ∀ k : Trip, trip_late.sl.v87_r0 k = w12 (k.val + 1) := by decide
  rw [hv0, hv1 k ⟨hk1, hk2⟩, hv2, hv3 k ⟨hk1, hk2⟩, hv4, hv5, hv6 k ⟨hk1, hk2⟩, hv7]
  isplitr; · ipureintro; rfl
  isplitl [HC HW HwF HwF_dst HwF_src HbF HbF_dst HbF_src HoC]
  · isplitl [HC]; · iexact HC
    isplitl [HW]; · iexists _; iexact HW
    isplitl [HwF HwF_dst HwF_src]
    · isplitl [HwF HwF_dst]
      · isplitl [HwF]; · iexact HwF
        iexists _; iexact HwF_dst
      iexact HwF_src
    isplitl [HbF HbF_dst HbF_src]
    · isplitl [HbF HbF_dst]
      · isplitl [HbF]; · iexact HbF
        iexists _; iexact HbF_dst
      iexact HbF_src
    iexists (trip_late.sl.HoS_w1 c XC XW XB k e2 e3 e4 go), fo
    isplitr; · ipureintro; exact hz
    iexact HoC
  isplitl [HbC]; · iexists gb; iexact HbC
  isplitl [HoF_dst]
  · iexists (oLanded c (Ring.sl 2 (k.val + 1)) (Ring.bk 6 (k.val - 1)) g' f')
    isplitr; · ipureintro; exact (View.read_writes_whole _ _ _).trans hg'
    iexact HoF_dst
  isplitl [HoF]; · iexact HoF
  iexists _; iexact HoF_src

/-- the last starts none. -/
theorem trip_last (k : Trip) (hk1 : 6 ≤ k.val + 1) :
    iprop(tripIn c XC XW XB k.val ∗ oInfl c XC XW XB (Ring.sl 2 (k.val + 1)) (Ring.bk 6 (k.val - 1)))
     ⊢ wp frame (wpE (defs₀ (F := F)) 𝒱₀ (c : Thread nD τ) none) Set.univ (tripG v10 v27 z t k (accAt k.val))
        (fun a => iprop(⌜a = accAt (k.val + 1)⌝ ∗ tripOut c XC XW XB k.val ∗ oBehind c XC XW XB (Ring.bk 6 (k.val - 1)) ∗ oFree c (Ring.sl 2 (k.val + 1)))) := by
  have e1 := chk1_at k
  have e2 := chk2_at k
  have e3 := chk3_at k
  have e4 := chk4_at k
  have e5 := cond2_neg k (by omega)
  have e6 := cond3_neg k (by omega)
  have e7 := cond4_at k
  have e8 := cond5_at k
  have e9 := cond9_at k
  have e10 := cond12_pos k (by omega)
  have hko : 1 ≤ k.val := by omega
  iintro ⟨⟨HC, ⟨%W, HW⟩, ⟨%fw, HwF⟩, ⟨%fb, HbF⟩, ⟨%fo, HoH⟩, ⟨HoC, ⟨%go, HoS⟩⟩⟩, ⟨%g', %f', %hg', HoF⟩⟩
  dsimp only [tripG, accAt]
  sl_unfold [k0_t1_body]
  sl_exec
  sl_step
  have hz : (oS (Ring.sl 2 k.val)).view.read (Elt F) (trip_last.sl.HoS_w1 c XC XW XB k e2 e3 e4 go) = outBlk c XC XW XB (Ring.bk 6 k.val) := by
    unfold trip_last.sl.HoS_w1
    exact stored_eq c XC XW XB k _ _ _ _ (wLanded c XW _ _ (wS (Ring.sl 3 k.val)).view.junk) (bLanded c XB _ _ (bS (Ring.sl 2 k.val)).view.junk) go _
      (View.read_writes_whole _ _ _) (View.read_writes_whole _ _ _)
  have hv0 : ∀ k : Trip, trip_last.sl.v220_r0 k = w5 (k.val + 1) := by decide
  have hv1 : ∀ k : Trip, 6 ≤ k.val + 1 → trip_last.sl.v108_r0 k = w6 (k.val + 1) := by decide
  have hv2 : ∀ k : Trip, trip_last.sl.v224_r0 k = w7 (k.val + 1) := by decide
  have hv3 : ∀ k : Trip, 6 ≤ k.val + 1 → trip_last.sl.v118_r0 k = w8 (k.val + 1) := by decide
  have hv4 : ∀ k : Trip, trip_last.sl.v228_r0 k = w9 (k.val + 1) := by decide
  have hv5 : ∀ k : Trip, trip_last.sl.v197_r0 k = w10 (k.val + 1) := by decide
  have hv6 : ∀ k : Trip, 6 ≤ k.val + 1 → trip_last.sl.v217_r0 k = w11 (k.val + 1) := by decide
  have hv7 : ∀ k : Trip, trip_last.sl.v87_r0 k = w12 (k.val + 1) := by decide
  rw [hv0, hv1 k hk1, hv2, hv3 k hk1, hv4, hv5, hv6 k hk1, hv7]
  isplitr; · ipureintro; rfl
  isplitl [HC HW HwF HwF_dst HwF_src HbF HbF_dst HbF_src HoC]
  · isplitl [HC]; · iexact HC
    isplitl [HW]; · iexists _; iexact HW
    isplitl [HwF HwF_dst HwF_src]
    · isplitl [HwF HwF_dst]
      · isplitl [HwF]; · iexact HwF
        iexists _; iexact HwF_dst
      iexact HwF_src
    isplitl [HbF HbF_dst HbF_src]
    · isplitl [HbF HbF_dst]
      · isplitl [HbF]; · iexact HbF
        iexists _; iexact HbF_dst
      iexact HbF_src
    iexists (trip_last.sl.HoS_w1 c XC XW XB k e2 e3 e4 go), fo
    isplitr; · ipureintro; exact hz
    iexact HoC
  isplitl [HoF_dst]
  · iexists (oLanded c (Ring.sl 2 (k.val + 1)) (Ring.bk 6 (k.val - 1)) g' f')
    isplitr; · ipureintro; exact (View.read_writes_whole _ _ _).trans hg'
    iexact HoF_dst
  isplitl [HoF]; · iexact HoF
  iexists _; iexact HoF_src

end Trip

end Cert.Proof.Mod

end
-- ==== Proof.ModBody.lean ====
/-
  The modulation call's body: its pipeline's loop by an invariant over the three rings, then the whole body.
-/
module

public import proofs.«01_k».proof.Proof.ModTrip

@[expose] public section

noncomputable section

namespace Cert.Proof.Mod

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Loop

variable (c : Dev nD)
  (XC : Buf (Elt F) (cbM.view.loc (c : Thread nD τ)))
  (XW : Buf (Elt F) (wM.view.loc (c : Thread nD τ)))
  (XB : Buf (Elt F) (bM.view.loc (c : Thread nD τ)))
  (v10 v27 z t : BitVec 32)

def wRing (k : ℕ) : sProp 𝕄 := ring3 (wHomeP c XW) (wFree c) (wInfl c XW) k
def bRing (k : ℕ) : sProp 𝕄 := ring2 (bHomeP c XB) (bFree c) (bInfl c XB) k
def oRing (k : ℕ) : sProp 𝕄 := ringO (oAhead c) (oBehind c XC XW XB) (oFree c) (oInfl c XC XW XB) k

/-- What the loop holds before trip `k`. -/
def invAt (k : ℕ) (a : Words) : sProp 𝕄 :=
  iprop(⌜a = accAt k⌝ ∗ condP c XC ∗ (∃ W, owes (c : Thread nD τ) 0 W) ∗ wRing c XW k ∗ bRing c XB k ∗ oRing c XC XW XB k)

/-- One trip, whichever: the rings step. -/
theorem trip (k : Trip) (a : Words) :
    invAt c XC XW XB k.val a ⊢ wp frame (wpE (defs₀ (F := F)) 𝒱₀ (c : Thread nD τ) none) Set.univ (tripG v10 v27 z t k a)
        (fun a => invAt c XC XW XB (k.val + 1) a) := by
  have hk : k.val < 6 := lt_of_lt_of_le k.isLt (by decide)
  unfold invAt wRing bRing oRing
  iintro ⟨%ha, HC, HW, Hw, Hb, Ho⟩
  subst ha
  by_cases h2 : k.val + 2 < 6
  · obtain ⟨Rw, ow, cw⟩ := ring3_step (wHomeP c XW) (wFree c) (wInfl c XW) k.val h2
    obtain ⟨Rb, ob, cb⟩ := ring2_step (bHomeP c XB) (bFree c) (bInfl c XB) k.val (by omega)
    ihave Hw := ow $$ Hw
    ihave Hb := ob $$ Hb
    icases Hw with ⟨Hw, HwH, HwF, HwR⟩
    icases Hb with ⟨Hb, HbH, HbF, HbR⟩
    by_cases h1 : 1 ≤ k.val
    · obtain ⟨Ro, oo, co⟩ := ringO_step (oAhead c) (oBehind c XC XW XB) (oFree c) (oInfl c XC XW XB) k.val h1 hk
      ihave Ho := oo $$ Ho
      icases Ho with ⟨HoA, HoF, HoI, HoR⟩
      iapply (wp_wand_r Idealize.ShloMosaic.frame (wpE (defs₀ (F := F)) 𝒱₀ (c : Thread nD τ) none) Set.univ)
      isplitl [HC HW Hw Hb HoA HoF HwH HwF HbH HbF HoI]
      · iapply (trip_mid c XC XW XB v10 v27 z t k h1 h2)
        isplitl [HC HW Hw Hb HoA HoF]
        · isplitl [HC]; · iexact HC
          isplitl [HW]; · iexact HW
          isplitl [Hw]; · iexact Hw
          isplitl [Hb]; · iexact Hb
          isplitl [HoA]; · iexact HoA
          iexact HoF
        isplitl [HwH HwF]
        · isplitl [HwH]; · iexact HwH
          iexact HwF
        isplitl [HbH HbF]
        · isplitl [HbH]; · iexact HbH
          iexact HbF
        iexact HoI
      · iintro %a ⟨%ha, ⟨HC, HW, ⟨HwF, HwH⟩, ⟨HbF, HbH⟩, HoI⟩, Hw, Hb, HoB, HoF⟩
        isplitr; · ipureintro; exact ha
        isplitl [HC]; · iexact HC
        isplitl [HW]; · iexact HW
        isplitl [HwF HwH Hw HwR]
        · iapply cw
          isplitl [HwF]; · iexact HwF
          isplitl [HwH]; · iexact HwH
          isplitl [Hw]; · iexact Hw
          iexact HwR
        isplitl [HbF HbH Hb HbR]
        · iapply cb
          isplitl [HbF]; · iexact HbF
          isplitl [HbH]; · iexact HbH
          isplitl [Hb]; · iexact Hb
          iexact HbR
        iapply co
        isplitl [HoI]; · iexact HoI
        isplitl [HoB]; · iexact HoB
        isplitl [HoF]; · iexact HoF
        iexact HoR
    · obtain ⟨Ro, oo, co⟩ := ringO_first (oAhead c) (oBehind c XC XW XB) (oFree c) (oInfl c XC XW XB) k.val (by omega)
      ihave Ho := oo $$ Ho
      icases Ho with ⟨HoA, HoF, HoR⟩
      iapply (wp_wand_r Idealize.ShloMosaic.frame (wpE (defs₀ (F := F)) 𝒱₀ (c : Thread nD τ) none) Set.univ)
      isplitl [HC HW Hw Hb HoA HoF HwH HwF HbH HbF]
      · iapply (trip_first c XC XW XB v10 v27 z t k (by omega))
        isplitl [HC HW Hw Hb HoA HoF]
        · isplitl [HC]; · iexact HC
          isplitl [HW]; · iexact HW
          isplitl [Hw]; · iexact Hw
          isplitl [Hb]; · iexact Hb
          isplitl [HoA]; · iexact HoA
          iexact HoF
        isplitl [HwH HwF]
        · isplitl [HwH]; · iexact HwH
          iexact HwF
        isplitl [HbH]; · iexact HbH
        iexact HbF
      · iintro %a ⟨%ha, ⟨HC, HW, ⟨HwF, HwH⟩, ⟨HbF, HbH⟩, HoI⟩, Hw, Hb⟩
        isplitr; · ipureintro; exact ha
        isplitl [HC]; · iexact HC
        isplitl [HW]; · iexact HW
        isplitl [HwF HwH Hw HwR]
        · iapply cw
          isplitl [HwF]; · iexact HwF
          isplitl [HwH]; · iexact HwH
          isplitl [Hw]; · iexact Hw
          iexact HwR
        isplitl [HbF HbH Hb HbR]
        · iapply cb
          isplitl [HbF]; · iexact HbF
          isplitl [HbH]; · iexact HbH
          isplitl [Hb]; · iexact Hb
          iexact HbR
        iapply co
        isplitl [HoI]; · iexact HoI
        iexact HoR
  · obtain ⟨Rw, ow, cw⟩ := ring3_tail (wHomeP c XW) (wFree c) (wInfl c XW) k.val (by omega) hk
    obtain ⟨Ro, oo, co⟩ := ringO_step (oAhead c) (oBehind c XC XW XB) (oFree c) (oInfl c XC XW XB) k.val (by omega) hk
    ihave Hw := ow $$ Hw
    ihave Ho := oo $$ Ho
    icases Hw with ⟨Hw, HwR⟩
    icases Ho with ⟨HoA, HoF, HoI, HoR⟩
    by_cases h1 : k.val + 1 < 6
    · obtain ⟨Rb, ob, cb⟩ := ring2_step (bHomeP c XB) (bFree c) (bInfl c XB) k.val h1
      ihave Hb := ob $$ Hb
      icases Hb with ⟨Hb, HbH, HbF, HbR⟩
      iapply (wp_wand_r Idealize.ShloMosaic.frame (wpE (defs₀ (F := F)) 𝒱₀ (c : Thread nD τ) none) Set.univ)
      isplitl [HC HW Hw Hb HoA HoF HbH HbF HoI]
      · iapply (trip_late c XC XW XB v10 v27 z t k (by omega) h1)
        isplitl [HC HW Hw Hb HoA HoF]
        · isplitl [HC]; · iexact HC
          isplitl [HW]; · iexact HW
          isplitl [Hw]; · iexact Hw
          isplitl [Hb]; · iexact Hb
          isplitl [HoA]; · iexact HoA
          iexact HoF
        isplitl [HbH HbF]
        · isplitl [HbH]; · iexact HbH
          iexact HbF
        iexact HoI
      · iintro %a ⟨%ha, ⟨HC, HW, ⟨HwF, HwH⟩, ⟨HbF, HbH⟩, HoI⟩, Hb, HoB, HoF⟩
        isplitr; · ipureintro; exact ha
        isplitl [HC]; · iexact HC
        isplitl [HW]; · iexact HW
        isplitl [HwF HwH HwR]
        · iapply cw
          isplitl [HwF]; · iexact HwF
          isplitl [HwH]; · iexact HwH
          iexact HwR
        isplitl [HbF HbH Hb HbR]
        · iapply cb
          isplitl [HbF]; · iexact HbF
          isplitl [HbH]; · iexact HbH
          isplitl [Hb]; · iexact Hb
          iexact HbR
        iapply co
        isplitl [HoI]; · iexact HoI
        isplitl [HoB]; · iexact HoB
        isplitl [HoF]; · iexact HoF
        iexact HoR
    · obtain ⟨Rb, ob, cb⟩ := ring2_tail (bHomeP c XB) (bFree c) (bInfl c XB) k.val (by omega) hk
      ihave Hb := ob $$ Hb
      icases Hb with ⟨Hb, HbR⟩
      iapply (wp_wand_r Idealize.ShloMosaic.frame (wpE (defs₀ (F := F)) 𝒱₀ (c : Thread nD τ) none) Set.univ)
      isplitl [HC HW Hw Hb HoA HoF HoI]
      · iapply (trip_last c XC XW XB v10 v27 z t k (by omega))
        isplitl [HC HW Hw Hb HoA HoF]
        · isplitl [HC]; · iexact HC
          isplitl [HW]; · iexact HW
          isplitl [Hw]; · iexact Hw
          isplitl [Hb]; · iexact Hb
          isplitl [HoA]; · iexact HoA
          iexact HoF
        iexact HoI
      · iintro %a ⟨%ha, ⟨HC, HW, ⟨HwF, HwH⟩, ⟨HbF, HbH⟩, HoI⟩, HoB, HoF⟩
        isplitr; · ipureintro; exact ha
        isplitl [HC]; · iexact HC
        isplitl [HW]; · iexact HW
        isplitl [HwF HwH HwR]
        · iapply cw
          isplitl [HwF]; · iexact HwF
          isplitl [HwH]; · iexact HwH
          iexact HwR
        isplitl [HbF HbH HbR]
        · iapply cb
          isplitl [HbF]; · iexact HbF
          isplitl [HbH]; · iexact HbH
          iexact HbR
        iapply co
        isplitl [HoI]; · iexact HoI
        isplitl [HoB]; · iexact HoB
        isplitl [HoF]; · iexact HoF
        iexact HoR

end Loop

/-! ## The body -/

section Body

variable (c : Dev nD)
  (X4 : Buf (Elt F) (cM.view.loc (c : Thread nD τ)))
  (XW : Buf (Elt F) (wM.view.loc (c : Thread nD τ)))
  (XB : Buf (Elt F) (bM.view.loc (c : Thread nD τ)))

abbrev cHomeP : sProp 𝕄 := cM.view.loc (c : Thread nD τ) ↦[cM.view.set]{fullShare} X4
abbrev condAnyP : sProp 𝕄 := iprop(∃ f : Buf (Elt F) (cbM.view.loc (c : Thread nD τ)), condP c f)
abbrev cCellP : sProp 𝕄 := semVal ((c : Thread nD τ), SemLoc.dma (cc0_scoped7).sem) 0
/-- The conditioning operand's buffer after its copy. -/
abbrev condAt : Buf (Elt F) (cbM.view.loc (c : Thread nD τ)) :=
  cbM.view.writes (Elt F) cbM.view.junk [⟨Rect.whole S16x1024, ReadAs.same.apply (cM.view.read (Elt F) X4)⟩]

/-- What the body is handed, and what it hands back. -/
abbrev bodyIn : sProp 𝕄 :=
  iprop(cHomeP c X4 ∗ bigSep Finset.univ (wHomeP c XW) ∗ bigSep Finset.univ (bHomeP c XB) ∗ bigSep Finset.univ (oAhead (F := F) c)
    ∗ (condAnyP (F := F) c ∗ cCellP (F := F) c) ∗ (wFree (F := F) c 0 ∗ wFree (F := F) c 1 ∗ wFree (F := F) c 2) ∗ (bFree (F := F) c 0 ∗ bFree (F := F) c 1) ∗ (oFree (F := F) c 0 ∗ oFree (F := F) c 1))
abbrev bodyOut : sProp 𝕄 :=
  iprop(cHomeP c X4 ∗ bigSep Finset.univ (wHomeP c XW) ∗ bigSep Finset.univ (bHomeP c XB) ∗ bigSep Finset.univ (oBehind c (condAt c X4) XW XB)
    ∗ (condAnyP (F := F) c ∗ cCellP (F := F) c) ∗ (wFree (F := F) c 0 ∗ wFree (F := F) c 1 ∗ wFree (F := F) c 2) ∗ (bFree (F := F) c 0 ∗ bFree (F := F) c 1) ∗ (oFree (F := F) c 0 ∗ oFree (F := F) c 1))

theorem bodyRun (t : Fin cfg0.N) (W : Waits sig Unit) :
    iprop(bodyIn c X4 XW XB ∗ owes (c : Thread nD τ) 0 W)
      ⊢ wp frame (wpE (defs₀ (F := F)) 𝒱₀ (c : Thread nD τ) none) Set.univ (bodyAt0 (F := F) t)
          (fun _ => iprop(bodyOut c X4 XW XB ∗ ∃ W, owes (c : Thread nD τ) 0 W)) := by
  have e1 : k0_cond1 = 1#1 := by decide
  iintro ⟨⟨HC4, HwH, HbH, HoA, ⟨⟨%fc, HC⟩, Hcc⟩, ⟨⟨HwC0, ⟨%fw0, HwS0⟩⟩, ⟨HwC1, ⟨%fw1, HwS1⟩⟩, HwF2⟩, ⟨⟨HbC0, ⟨%fb0, HbS0⟩⟩, HbF1⟩, HoF0, HoF1⟩, HW⟩
  ihave HwH := (ent_of_eq (homes3_zero (wHomeP c XW))) $$ HwH
  ihave HbH := (ent_of_eq (homes2_zero (bHomeP c XB))) $$ HbH
  icases HwH with ⟨HwH0, HwH1, HwH⟩
  icases HbH with ⟨HbH0, HbH⟩
  dsimp only [bodyAt0]
  sl_exec
  -- the rings before the first trip
  ihave Hw := (ring3_start (wHomeP c XW) (wFree c) (wInfl c XW)) $$ [HwC0 HwC1 HwF2 HwH]
  · isplitl [HwC0]; · iexists fw0; iexact HwC0
    isplitl [HwC1]; · iexists fw1; iexact HwC1
    isplitl [HwF2]; · iexact HwF2
    iexact HwH
  ihave Hb := (ring2_start (bHomeP c XB) (bFree c) (bInfl c XB)) $$ [HbC0 HbF1 HbH]
  · isplitl [HbC0]; · iexists fb0; iexact HbC0
    isplitl [HbF1]; · iexact HbF1
    iexact HbH
  ihave Ho := (ringO_start (oAhead c) (oBehind c (condAt c X4) XW XB) (oFree c) (oInfl c (condAt c X4) XW XB)) $$ [HoA HoF0 HoF1]
  · isplitl [HoA]; · iexact HoA
    isplitl [HoF0]; · iexact HoF0
    iexact HoF1
  ihave Hinv := (show iprop(condP c (condAt c X4) ∗ (∃ W, owes (c : Thread nD τ) 0 W) ∗ wRing c XW 0 ∗ bRing c XB 0 ∗ oRing c (condAt c X4) XW XB 0)
      ⊢ invAt c (condAt c X4) XW XB 0 (0#32, 2#32, 0#32, 1#32, 0#32, 0#32, 0#32, 0#32) from by
    unfold invAt
    iintro H
    isplitr; · ipureintro; rfl
    iexact H) $$ [HC HW Hw Hb Ho]
  · isplitl [HC]; · iexact HC
    isplitl [HW]; · iexists _; iexact HW
    isplitl [Hw]; · iapply (show ring3 (wHomeP c XW) (wFree c) (wInfl c XW) 0 ⊢ wRing c XW 0 from .rfl); iexact Hw
    isplitl [Hb]; · iapply (show ring2 (bHomeP c XB) (bFree c) (bInfl c XB) 0 ⊢ bRing c XB 0 from .rfl); iexact Hb
    iapply (show ringO (oAhead c) (oBehind c (condAt c X4) XW XB) (oFree c) (oInfl c (condAt c X4) XW XB) 0 ⊢ oRing c (condAt c X4) XW XB 0 from .rfl); iexact Ho
  iapply (Scf.wp_for_bind Idealize.ShloMosaic.frame (wpE (defs₀ (F := F)) 𝒱₀ (c : Thread nD τ) none) Set.univ _ _ _ _ _ _ (invAt c (condAt c X4) XW XB)
    (fun k a => trip c (condAt c X4) XW XB _ _ _ _ k a)) $$ [Hinv]
  · iexact Hinv
  iintro %a Hinv
  -- past the last: every block of the operands home, the result's last block in flight
  have et : Scf.trips k0_t1_loop.lb k0_t1_loop.ub k0_t1_loop.st = 6 := by decide
  rw [et]
  have c6 : k0_chk6 (w12 6) := by decide
  have c5 : k0_chk5 (w11 6) := by decide
  ihave Hinv := (show invAt c (condAt c X4) XW XB 6 a ⊢ iprop(⌜a = accAt 6⌝ ∗ condP c (condAt c X4) ∗ (∃ W, owes (c : Thread nD τ) 0 W)
      ∗ ring3 (wHomeP c XW) (wFree c) (wInfl c XW) 6 ∗ ring2 (bHomeP c XB) (bFree c) (bInfl c XB) 6
      ∗ ringO (oAhead c) (oBehind c (condAt c X4) XW XB) (oFree c) (oInfl c (condAt c X4) XW XB) 6) from .rfl) $$ Hinv
  icases Hinv with ⟨%ha, HC, ⟨%W2, HW⟩, Hw, Hb, Ho⟩
  subst ha
  ihave Hw := (ring3_end (wHomeP c XW) (wFree c) (wInfl c XW)) $$ Hw
  ihave Hb := (ring2_end (bHomeP c XB) (bFree c) (bInfl c XB)) $$ Hb
  ihave Ho := (ringO_end (oAhead c) (oBehind c (condAt c X4) XW XB) (oFree c) (oInfl c (condAt c X4) XW XB)) $$ Ho
  icases Ho with ⟨⟨%g', %f', %hg', HoI⟩, HoF0, HoB⟩
  dsimp only [accAt]
  sl_exec
  sl_step
  icases Hw with ⟨HwH, HwF⟩
  icases Hb with ⟨HbH, HbF⟩
  isplitr [HW]
  · isplitl [HC4]; · iexact HC4
    isplitl [HwH]; · iexact HwH
    isplitl [HbH]; · iexact HbH
    isplitl [HoB HoI_dst]
    · iapply (ringO_done (oBehind c (condAt c X4) XW XB))
      isplitl [HoI_dst]
      · iexists (oLanded c 1 5 g' f')
        isplitr; · ipureintro; exact (View.read_writes_whole _ _ _).trans hg'
        iexact HoI_dst
      iexact HoB
    isplitl [HC Hcc]
    · isplitl [HC]; · iexists _; iexact HC
      iexact Hcc
    isplitl [HwF]; · iexact HwF
    isplitl [HbF]; · iexact HbF
    isplitl [HoF0]; · iexact HoF0
    isplitl [HoI]; · iexact HoI
    iexists g'; iexact HoI_src
  iexists _; iexact HW

end Body

end Cert.Proof.Mod

end
-- ==== Proof.ModResult.lean ====
/-
  The modulation call, its arrays as blocks: the weight, the bias and the result are their six column blocks, the ring
  buffers their slots; and the result as one array, each column block the block the call computes.
-/
module

public import proofs.«01_k».proof.Proof.ModBody
public import Idealize.ShloMosaic.Lib.ValueIdxCore

@[expose] public section

noncomputable section

namespace Cert.Proof.Mod

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UU nD τ) ℕ

/-! ## Element sets -/

abbrev wSet (b : Fin 6) : Finset S1024x6144.Idx := (Rect.unit (s := S1024x6144) (colOff b) S1024x1024.size (wCol_inb b)).set
abbrev bSet (b : Fin 6) : Finset S1x6144.Idx := (Rect.unit (s := S1x6144) (colOff b) S1x1024.size (bCol_inb b)).set
abbrev oSet (b : Fin 6) : Finset S16x6144.Idx := (Rect.unit (s := S16x6144) (colOff b) S16x1024.size (oCol_inb b)).set
abbrev wSSet (s : Fin 3) : Finset S3x1024x1024.Idx := (Rect.unit (s := S3x1024x1024) (slot3Off s) S1x1024x1024.size (wSlot_inb s)).set
abbrev bSSet (s : Fin 2) : Finset S2x1x1024.Idx := (Rect.unit (s := S2x1x1024) (slot2Off s) S1x1x1024.size (bSlot_inb s)).set
abbrev oSSet (s : Fin 2) : Finset S2x16x1024.Idx := (Rect.unit (s := S2x16x1024) (slot2Off s) S1x16x1024.size (oSlot_inb s)).set

theorem wB_set (b : Fin 6) : (wB b).view.set = wSet b := View.set_slice_whole _ _
theorem bB_set (b : Fin 6) : (bB b).view.set = bSet b := View.set_slice_whole _ _
theorem oB_set (b : Fin 6) : (oB b).view.set = oSet b := View.set_slice_whole _ _
theorem wS_set (s : Fin 3) : (wS s).view.set = wSSet s := (View.set_reshape _ _).trans (View.set_slice_whole _ _)
theorem bS_set (s : Fin 2) : (bS s).view.set = bSSet s := (View.set_reshape _ _).trans (View.set_slice_whole _ _)
theorem oS_set (s : Fin 2) : (oS s).view.set = oSSet s := (View.set_reshape _ _).trans (View.set_slice_whole _ _)

/-- An element of a two-dimensional array lies in column block `b` when its column does, -/
theorem mem_col {n m : ℕ} {y0 y1 b : ℕ} (h0 : y0 < n) : ((0 ≤ y0 ∧ y0 < 0 + n) ∧ (b * 1024 ≤ y1 ∧ y1 < b * 1024 + 1024)) ↔ y1 / 1024 = b := by omega

theorem mem_wSet (b : Fin 6) (y : S1024x6144.Idx) : y ∈ wSet b ↔ (y 1).val / 1024 = b.val := by
  rw [Rect.mem_set_unit]; have := (y 0).isLt
  exact (Fin.forall_fin_two (p := fun a => colOff b a ≤ (y a).val ∧ (y a).val < colOff b a + S1024x1024.size a)).trans (mem_col (m := 0) (n := 1024) this)
theorem mem_bSet (b : Fin 6) (y : S1x6144.Idx) : y ∈ bSet b ↔ (y 1).val / 1024 = b.val := by
  rw [Rect.mem_set_unit]; have := (y 0).isLt
  exact (Fin.forall_fin_two (p := fun a => colOff b a ≤ (y a).val ∧ (y a).val < colOff b a + S1x1024.size a)).trans (mem_col (m := 0) (n := 1) this)
theorem mem_oSet (b : Fin 6) (y : S16x6144.Idx) : y ∈ oSet b ↔ (y 1).val / 1024 = b.val := by
  rw [Rect.mem_set_unit]; have := (y 0).isLt
  exact (Fin.forall_fin_two (p := fun a => colOff b a ≤ (y a).val ∧ (y a).val < colOff b a + S16x1024.size a)).trans (mem_col (m := 0) (n := 16) this)

/-- and of a ring buffer in slot `s` when its first coordinate is `s`. -/
theorem mem_slot {n m y0 y1 y2 s : ℕ} (h1 : y1 < n) (h2 : y2 < m) :
    ((s ≤ y0 ∧ y0 < s + 1) ∧ (0 ≤ y1 ∧ y1 < 0 + n) ∧ (0 ≤ y2 ∧ y2 < 0 + m)) ↔ y0 = s := by omega
theorem forall_fin_three {p : Fin 3 → Prop} : (∀ a, p a) ↔ (p 0 ∧ p 1 ∧ p 2) :=
  ⟨fun h => ⟨h 0, h 1, h 2⟩, fun h a => by fin_cases a; exacts [h.1, h.2.1, h.2.2]⟩

theorem mem_wSSet (s : Fin 3) (y : S3x1024x1024.Idx) : y ∈ wSSet s ↔ (y 0).val = s.val := by
  rw [Rect.mem_set_unit]; have h1 := (y 1).isLt; have h2 := (y 2).isLt
  exact (forall_fin_three (p := fun a => slot3Off s a ≤ (y a).val ∧ (y a).val < slot3Off s a + S1x1024x1024.size a)).trans (mem_slot (n := 1024) (m := 1024) h1 h2)
theorem mem_bSSet (s : Fin 2) (y : S2x1x1024.Idx) : y ∈ bSSet s ↔ (y 0).val = s.val := by
  rw [Rect.mem_set_unit]; have h1 := (y 1).isLt; have h2 := (y 2).isLt
  exact (forall_fin_three (p := fun a => slot2Off s a ≤ (y a).val ∧ (y a).val < slot2Off s a + S1x1x1024.size a)).trans (mem_slot (n := 1) (m := 1024) h1 h2)
theorem mem_oSSet (s : Fin 2) (y : S2x16x1024.Idx) : y ∈ oSSet s ↔ (y 0).val = s.val := by
  rw [Rect.mem_set_unit]; have h1 := (y 1).isLt; have h2 := (y 2).isLt
  exact (forall_fin_three (p := fun a => slot2Off s a ≤ (y a).val ∧ (y a).val < slot2Off s a + S1x16x1024.size a)).trans (mem_slot (n := 16) (m := 1024) h1 h2)

/-- Sets told apart by a number of their elements are disjoint, and cover when every number is one of theirs. -/
theorem disjoint_of_mem {ι : Type} [DecidableEq ι] {n : ℕ} (S : Fin n → Finset ι) (g : ι → ℕ) (h : ∀ b y, y ∈ S b ↔ g y = b.val) :
    ∀ b b', b ≠ b' → Disjoint (S b) (S b') := by
  intro b b' hne; rw [Finset.disjoint_left]; intro y hy hy'; rw [h] at hy hy'; exact hne (Fin.ext (hy.symm.trans hy'))
theorem cover_of_mem {ι : Type} [DecidableEq ι] [Fintype ι] {n : ℕ} (S : Fin n → Finset ι) (g : ι → ℕ) (h : ∀ b y, y ∈ S b ↔ g y = b.val) (hg : ∀ y, g y < n) :
    (Finset.univ : Finset (Fin n)).biUnion S = Finset.univ := by
  ext y; simp only [Finset.mem_biUnion, Finset.mem_univ, true_and, iff_true]; exact ⟨⟨g y, hg y⟩, (h _ _).2 rfl⟩

/-! ## The arrays as their blocks -/

variable (c : Dev nD)

theorem col_lt {y : ℕ} (h : y < 6144) : y / 1024 < 6 := by omega

theorem w_blocks (XW : Buf (Elt F) (wM.view.loc (c : Thread nD τ))) :
    (((c : Thread nD τ).loc main_v5) ↦{fullShare} XW : sProp 𝕄) = bigSep Finset.univ (wHomeP c XW) := by
  rw [Ring.pointsTo_blocks (ℓ := (c : Thread nD τ).loc main_v5) wSet (disjoint_of_mem wSet _ mem_wSet) (cover_of_mem wSet _ mem_wSet fun y => col_lt (y 1).isLt)]
  exact bigSep_congr fun b _ => by rw [← wB_set]; rfl
theorem b_blocks (XB : Buf (Elt F) (bM.view.loc (c : Thread nD τ))) :
    (((c : Thread nD τ).loc main_v7) ↦{fullShare} XB : sProp 𝕄) = bigSep Finset.univ (bHomeP c XB) := by
  rw [Ring.pointsTo_blocks (ℓ := (c : Thread nD τ).loc main_v7) bSet (disjoint_of_mem bSet _ mem_bSet) (cover_of_mem bSet _ mem_bSet fun y => col_lt (y 1).isLt)]
  exact bigSep_congr fun b _ => by rw [← bB_set]; rfl
theorem o_blocks (f : Buf (Elt F) (oM.view.loc (c : Thread nD τ))) :
    (((c : Thread nD τ).loc main_v8) ↦{fullShare} f : sProp 𝕄) = bigSep Finset.univ (fun b => oHomeP c b f) := by
  rw [Ring.pointsTo_blocks (ℓ := (c : Thread nD τ).loc main_v8) oSet (disjoint_of_mem oSet _ mem_oSet) (cover_of_mem oSet _ mem_oSet fun y => col_lt (y 1).isLt)]
  exact bigSep_congr fun b _ => by rw [← oB_set]; rfl

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

theorem wSlotP_eq (s : Fin 3) (f) : (((c : Thread nD τ).loc cc0_scoped1) ↦[wSSet s]{fullShare} f : sProp 𝕄) = wSlotP c s f :=
  congrArg (fun S => (_ ↦[S]{fullShare} f : sProp 𝕄)) (wS_set s).symm
theorem bSlotP_eq (s : Fin 2) (f) : (((c : Thread nD τ).loc cc0_scoped3) ↦[bSSet s]{fullShare} f : sProp 𝕄) = bSlotP c s f :=
  congrArg (fun S => (_ ↦[S]{fullShare} f : sProp 𝕄)) (bS_set s).symm
theorem oSlotP_eq (s : Fin 2) (f) : (((c : Thread nD τ).loc cc0_scoped5) ↦[oSSet s]{fullShare} f : sProp 𝕄) = oSlotP c s f :=
  congrArg (fun S => (_ ↦[S]{fullShare} f : sProp 𝕄)) (oS_set s).symm

/-- A ring buffer whole is its slots, and back. -/
theorem w_split : iprop(∃ f : Buf (Elt F) ((c : Thread nD τ).loc cc0_scoped1), ((c : Thread nD τ).loc cc0_scoped1) ↦{fullShare} f)
      ⊢ (iprop((∃ f, wSlotP c 0 f) ∗ (∃ f, wSlotP c 1 f) ∗ ∃ f, wSlotP c 2 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped1) wSSet
    (disjoint_of_mem wSSet _ mem_wSSet) (cover_of_mem wSSet _ mem_wSSet fun y => (y 0).isLt) f).trans (bigSep_three _))) $$ H
  icases H2 with ⟨H0, H1, H2⟩
  isplitl [H0]; · iexists f; iapply (ent_of_eq (wSlotP_eq c 0 f)); iexact H0
  isplitl [H1]; · iexists f; iapply (ent_of_eq (wSlotP_eq c 1 f)); iexact H1
  iexists f; iapply (ent_of_eq (wSlotP_eq c 2 f)); iexact H2
theorem w_join : (iprop((∃ f, wSlotP c 0 f) ∗ (∃ f, wSlotP c 1 f) ∗ ∃ f, wSlotP c 2 f) : sProp 𝕄)
      ⊢ iprop(∃ f : Buf (Elt F) ((c : Thread nD τ).loc cc0_scoped1), ((c : Thread nD τ).loc cc0_scoped1) ↦{fullShare} f) := by
  iintro ⟨⟨%f0, H0⟩, ⟨%f1, H1⟩, ⟨%f2, H2⟩⟩
  iapply (Ring.pointsTo_blocks_join_exists (ℓ := (c : Thread nD τ).loc cc0_scoped1) wSSet (disjoint_of_mem wSSet _ mem_wSSet) (cover_of_mem wSSet _ mem_wSSet fun y => (y 0).isLt) f0)
  irw [bigSep_three]
  isplitl [H0]; · iexists f0; iapply (ent_of_eq (wSlotP_eq c 0 f0).symm); iexact H0
  isplitl [H1]; · iexists f1; iapply (ent_of_eq (wSlotP_eq c 1 f1).symm); iexact H1
  iexists f2; iapply (ent_of_eq (wSlotP_eq c 2 f2).symm); iexact H2
theorem b_split : iprop(∃ f : Buf (Elt F) ((c : Thread nD τ).loc cc0_scoped3), ((c : Thread nD τ).loc cc0_scoped3) ↦{fullShare} f)
      ⊢ (iprop((∃ f, bSlotP c 0 f) ∗ ∃ f, bSlotP c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped3) bSSet
    (disjoint_of_mem bSSet _ mem_bSSet) (cover_of_mem bSSet _ mem_bSSet fun y => (y 0).isLt) f).trans (bigSep_two _))) $$ H
  icases H2 with ⟨H0, H1⟩
  isplitl [H0]; · iexists f; iapply (ent_of_eq (bSlotP_eq c 0 f)); iexact H0
  iexists f; iapply (ent_of_eq (bSlotP_eq c 1 f)); iexact H1
theorem b_join : (iprop((∃ f, bSlotP c 0 f) ∗ ∃ f, bSlotP c 1 f) : sProp 𝕄)
      ⊢ iprop(∃ f : Buf (Elt F) ((c : Thread nD τ).loc cc0_scoped3), ((c : Thread nD τ).loc cc0_scoped3) ↦{fullShare} f) := by
  iintro ⟨⟨%f0, H0⟩, ⟨%f1, H1⟩⟩
  iapply (Ring.pointsTo_blocks_join_exists (ℓ := (c : Thread nD τ).loc cc0_scoped3) bSSet (disjoint_of_mem bSSet _ mem_bSSet) (cover_of_mem bSSet _ mem_bSSet fun y => (y 0).isLt) f0)
  irw [bigSep_two]
  isplitl [H0]; · iexists f0; iapply (ent_of_eq (bSlotP_eq c 0 f0).symm); iexact H0
  iexists f1; iapply (ent_of_eq (bSlotP_eq c 1 f1).symm); iexact H1
theorem o_split : iprop(∃ f : Buf (Elt F) ((c : Thread nD τ).loc cc0_scoped5), ((c : Thread nD τ).loc cc0_scoped5) ↦{fullShare} f)
      ⊢ (iprop((∃ f, oSlotP c 0 f) ∗ ∃ f, oSlotP c 1 f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scoped5) oSSet
    (disjoint_of_mem oSSet _ mem_oSSet) (cover_of_mem oSSet _ mem_oSSet fun y => (y 0).isLt) f).trans (bigSep_two _))) $$ H
  icases H2 with ⟨H0, H1⟩
  isplitl [H0]; · iexists f; iapply (ent_of_eq (oSlotP_eq c 0 f)); iexact H0
  iexists f; iapply (ent_of_eq (oSlotP_eq c 1 f)); iexact H1
theorem o_join : (iprop((∃ f, oSlotP c 0 f) ∗ ∃ f, oSlotP c 1 f) : sProp 𝕄)
      ⊢ iprop(∃ f : Buf (Elt F) ((c : Thread nD τ).loc cc0_scoped5), ((c : Thread nD τ).loc cc0_scoped5) ↦{fullShare} f) := by
  iintro ⟨⟨%f0, H0⟩, ⟨%f1, H1⟩⟩
  iapply (Ring.pointsTo_blocks_join_exists (ℓ := (c : Thread nD τ).loc cc0_scoped5) oSSet (disjoint_of_mem oSSet _ mem_oSSet) (cover_of_mem oSSet _ mem_oSSet fun y => (y 0).isLt) f0)
  irw [bigSep_two]
  isplitl [H0]; · iexists f0; iapply (ent_of_eq (oSlotP_eq c 0 f0).symm); iexact H0
  iexists f1; iapply (ent_of_eq (oSlotP_eq c 1 f1).symm); iexact H1

/-! ## The result -/

variable
  (XC : Buf (Elt F) (cbM.view.loc (c : Thread nD τ)))
  (XW : Buf (Elt F) (wM.view.loc (c : Thread nD τ)))
  (XB : Buf (Elt F) (bM.view.loc (c : Thread nD τ)))

/-- An element's place within its column block. -/
def colIdx (y : S16x6144.Idx) : S16x1024.Idx := ix2 (n0 := 16) (n1 := 1024) (y 0) ⟨(y 1).val % 1024, Nat.mod_lt _ (by decide)⟩

/-- The call's result as one array: column `j` is column `j % 1024` of block `j / 1024`. -/
def resultOf : Buf (Elt F) (oM.view.loc (c : Thread nD τ)) := fun (y : S16x6144.Idx) =>
  outBlk c XC XW XB ⟨(y 1).val / 1024, col_lt (y 1).isLt⟩ (colIdx y)

/-- An element of column block `b` in the result. -/
def oEmb (b : Fin 6) (x : S16x1024.Idx) : S16x6144.Idx := (oB b).view.emb x
theorem oB_emb_row (b : Fin 6) (x : S16x1024.Idx) : (oEmb b x 0).val = (x 0).val := by
  refine (Rect.emb_apply (Rect.unit (s := S16x6144) (colOff b) S16x1024.size (oCol_inb b)) x 0).trans ?_; show 0 + 1 * (x 0).val = _; omega
theorem oB_emb_col (b : Fin 6) (x : S16x1024.Idx) : (oEmb b x 1).val = b.val * 1024 + (x 1).val := by
  refine (Rect.emb_apply (Rect.unit (s := S16x6144) (colOff b) S16x1024.size (oCol_inb b)) x 1).trans ?_; show b.val * 1024 + 1 * (x 1).val = _; omega

theorem colIdx_emb (b : Fin 6) (x : S16x1024.Idx) : colIdx (oEmb b x) = x := by
  funext a
  match a with
  | 0 => exact Fin.ext (oB_emb_row b x)
  | 1 =>
    refine Fin.ext ?_
    show (oEmb b x 1).val % 1024 = _
    have := (x 1).isLt; rw [oB_emb_col]; have h' : (x 1).val < 1024 := this; omega

/-- Block `b` of the result. -/
theorem resultOf_emb (b : Fin 6) (x : S16x1024.Idx) : resultOf c XC XW XB (oEmb b x) = outBlk c XC XW XB b x := by
  have hb : (⟨(oEmb b x 1).val / 1024, col_lt (oEmb b x 1).isLt⟩ : Fin 6) = b := by
    refine Fin.ext ?_
    have h := (x 1).isLt; have h2 := oB_emb_col b x
    show (oEmb b x 1).val / 1024 = b.val
    rw [h2]; have h' : (x 1).val < 1024 := h; omega
  unfold resultOf; rw [colIdx_emb, hb]

/-- A block of the result holding what the call computes is that block of `resultOf`. -/
theorem oBehind_result (b : Fin 6) : oBehind c XC XW XB b ⊢ oHomeP c b (resultOf c XC XW XB) := by
  iintro ⟨%f, %hf, H⟩
  iapply (ent_of_eq (pointsTo_congr (f := f) (g := resultOf c XC XW XB) (I := (oB b).view.set) (fun i hi => by
    obtain ⟨x, -, rfl⟩ := Finset.mem_map.1 hi
    exact (congrFun hf x).trans (resultOf_emb c XC XW XB b x).symm)))
  iexact H

end Cert.Proof.Mod

end
-- ==== Proof.ModLaunch.lean ====
/-
  The modulation call's run: from any memory, for any float values, every fair execution ends with the arguments as
  they were, the result as its blocks say, and every counter at zero.
-/
module

public import proofs.«01_k».proof.Proof.ModResult
public import proofs.«01_k».proof.Proof.Gen.KernelIdeal.Frame

@[expose] public section

noncomputable section

namespace Cert.Proof.Mod

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The call's own semaphores -/

abbrev osem : Fin 8 → SemLoc sig :=
  ![.dma (wC 0).sem, .dma (wC 1).sem, .dma (wC 2).sem, .dma (bC 0).sem, .dma (bC 1).sem, .dma (oC 0).sem, .dma (oC 1).sem, .dma (cc0_scoped7).sem]
theorem ownSemFacts : Pipeline.OwnSemFacts (cfg0.spec) osem := by decide

theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem ownSems0_eq (c : Dev nD) : (Pipeline.ownSems0 (Ix := Unit) (Name := ℕ) (U := UU nD τ) (Lvl := ℕ) (Val := Elt F) (τ := τ) osem c : sProp 𝕄)
    = iprop(wCellP c 0 ∗ wCellP c 1 ∗ wCellP c 2 ∗ bCellP c 0 ∗ bCellP c 1 ∗ oCellP c 0 ∗ oCellP c 1 ∗ cCellP c) := by
  unfold Pipeline.ownSems0; rw [bigSep_eight]; rfl

/-! ## The region's data -/

/-- The operands as the call finds them: the condition, the weight, the bias; -/
abbrev X4 (c : Dev nD) : Buf (Elt F) (cM.view.loc (c : Thread nD τ)) := V m c main_v4
abbrev XW (c : Dev nD) : Buf (Elt F) (wM.view.loc (c : Thread nD τ)) := V m c main_v5
abbrev XB (c : Dev nD) : Buf (Elt F) (bM.view.loc (c : Thread nD τ)) := V m c main_v7
/-- and what it computes of them. -/
def result (c : Dev nD) : Buf (Elt F) (oM.view.loc (c : Thread nD τ)) := resultOf c (condAt c (X4 m c)) (XW m c) (XB m c)

def Φ (c : Dev nD) (t : Fin (cfg0.N + 1)) : sProp 𝕄 :=
  if t.val = 0 then bodyIn c (X4 m c) (XW m c) (XB m c) else bodyOut c (X4 m c) (XW m c) (XB m c)

theorem Φ_in (c : Dev nD) {t : Fin (cfg0.N + 1)} (h : t.val = 0) : Φ m c t = bodyIn c (X4 m c) (XW m c) (XB m c) := by unfold Φ; rw [if_pos h]
theorem Φ_out (c : Dev nD) {t : Fin (cfg0.N + 1)} (h : t.val ≠ 0) : Φ m c t = bodyOut c (X4 m c) (XW m c) (XB m c) := by unfold Φ; rw [if_neg h]

def dats (_ : Fin 1) (c : Dev nD) : Dat τ (Elt F) Unit ℕ (UU nD τ) ℕ cfg0 c where
  A w := w.elim0
  after w _ := w.elim0
  Φ t := Φ m c t
  q _ := fullShare
  owed _ := 0

theorem defs_tc : (defs₀ (F := F)) .tc cfg0.body = fun a => bodyAt0 (F := F) t0_0 := rfl
theorem prog_eq (t : Fin cfg0.N) : (defs₀ (F := F)) .tc cfg0.body (cfg0.bodyArgs t (cfg0.slots t)) = bodyAt0 t :=
  (congrFun defs_tc _).trans rfl

set_option backward.isDefEq.respectTransparency.types false in
theorem body_obligation (c : Dev nD) : BodyObligation (dats (F := F) m 0 c) (defs₀ (F := F)) 𝒱₀ () Set.univ := fun t => by
  have h0 : t.castSucc.val = 0 := by
    show t.val = 0
    exact congrArg Fin.val (fin_N0 t)
  have h1 : t.succ.val ≠ 0 := Nat.succ_ne_zero _
  rw [show (dats m 0 c).Φ t.castSucc = Φ m c t.castSucc from rfl, show (dats m 0 c).Φ t.succ = Φ m c t.succ from rfl, Φ_in m c h0, Φ_out m c h1]
  unfold Dat.owesAt Pipeline.owesWithin
  rw [show (dats m 0 c).owed t.castSucc = 0 from rfl, show (dats m 0 c).owed t.succ = 0 from rfl]
  iintro ⟨HΦ, ⟨%W, -, HW⟩, -⟩
  sl_rw [prog_eq t]
  iapply (wp_wand_r Idealize.ShloMosaic.frame (wpE (defs₀ (F := F)) 𝒱₀ (c : Thread nD τ) none) Set.univ)
  isplitl [HΦ HW]
  · iapply (bodyRun c (X4 m c) (XW m c) (XB m c) t W)
    isplitl [HΦ]; · iexact HΦ
    iexact HW
  iintro %_ ⟨HΦ, ⟨%W', HW⟩⟩
  isplitl [HΦ]; · iexact HΦ
  isplitl [HW]
  · iexists W'; isplitr; · ipureintro; exact fun _ _ => Or.inl trivial
    iexact HW
  irw [show (Finset.univ : Finset (Fin cfg0.W)) = ∅ from rfl, bigSep_empty]
  iempintro

/-! ## The run -/

def intoΦ (c : Dev nD) : sProp 𝕄 :=
  iprop(cHomeP c (X4 m c) ∗ bigSep Finset.univ (wHomeP c (XW m c)) ∗ bigSep Finset.univ (bHomeP c (XB m c)) ∗ bigSep Finset.univ (oAhead (F := F) c)
    ∗ Pipeline.ownSems0 osem c)
def outOfΦ (c : Dev nD) : sProp 𝕄 := ((c : Thread nD τ).loc main_v8) ↦{fullShare} result m c
def aside (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1))
    ∗ (((c : Thread nD τ).loc main_arg2) ↦{fullShare} m ((c : Thread nD τ).loc main_arg2)) ∗ (((c : Thread nD τ).loc main_arg3) ↦{fullShare} m ((c : Thread nD τ).loc main_arg3)))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_v8) = result m c

theorem cHome_eq (c : Dev nD) (X : Buf (Elt F) (cM.view.loc (c : Thread nD τ))) : (((c : Thread nD τ).loc main_v4) ↦{fullShare} X : sProp 𝕄) = cHomeP c X := by
  unfold cHomeP; rw [show cM.view.set = Finset.univ from View.set_whole _]
theorem condP_eq (c : Dev nD) (X : Buf (Elt F) (cbM.view.loc (c : Thread nD τ))) : (((c : Thread nD τ).loc cc0_scoped0) ↦{fullShare} X : sProp 𝕄) = condP c X := by
  unfold condP; rw [show cbM.view.set = Finset.univ from View.set_whole _]

theorem o_any (c : Dev nD) (b : Fin 6) (f : Buf (Elt F) (oM.view.loc (c : Thread nD τ))) : (oHomeP c b f : sProp 𝕄) ⊢ oAhead c b := by
  iintro H; iexists f; iexact H

/-- The result's blocks, each as the call leaves it, are the result. -/
theorem result_of_blocks (c : Dev nD) :
    bigSep Finset.univ (oBehind c (condAt c (X4 m c)) (XW m c) (XB m c)) ⊢ ((((c : Thread nD τ).loc main_v8) ↦{fullShare} result m c : sProp 𝕄)) := by
  rw [o_blocks c (result m c)]
  exact bigSep_mono fun b _ => oBehind_result c _ _ _ b

set_option maxHeartbeats 800000 in
theorem hmain' : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hA := fun _ w => w.elim0)
    (X := intoΦ m) (Y := outOfΦ m) (Z := aside m)
    (hX := fun c => by
      rw [unscopedRest0_eq, V_main_arg0, V_main_arg1, V_main_arg2, V_main_arg3]
      unfold intoΦ aside
      iintro ⟨⟨H0, H1, H2, H3, -, -, -, -, -, -, -, H4, H5, -, H7, H8⟩, HS, -, -, -⟩; imodintro
      isplitl [H4 H5 H7 H8 HS]
      · isplitl [H4]; · iapply (ent_of_eq (cHome_eq c (X4 m c))); iexact H4
        isplitl [H5]; · iapply (ent_of_eq (w_blocks c (XW m c))); iexact H5
        isplitl [H7]; · iapply (ent_of_eq (b_blocks c (XB m c))); iexact H7
        isplitl [H8]
        · iapply (show bigSep Finset.univ (fun b => oHomeP c b (V m c main_v8)) ⊢ bigSep Finset.univ (oAhead (F := F) c) from
            bigSep_mono fun b _ => o_any c b _)
          iapply (ent_of_eq (o_blocks c (V m c main_v8))); iexact H8
        iexact HS
      isplitl [H0]; · iexact H0
      isplitl [H1]; · iexact H1
      isplitl [H2]; · iexact H2
      iexact H3)
    (hin := fun c => by
      rw [scopedRest0_eq, show (dats m 0 c).Φ 0 = Φ m c 0 from rfl, Φ_in m c rfl]
      unfold intoΦ; rw [ownSems0_eq]
      iintro ⟨⟨H4, H5, H7, H8, Hw0, Hw1, Hw2, Hb0, Hb1, Ho0, Ho1, Hc⟩, ⟨%f, Hcb⟩, Sw, Sb, So⟩
      ihave Sw := (w_split c) $$ Sw
      ihave Sb := (b_split c) $$ Sb
      ihave So := (o_split c) $$ So
      icases Sw with ⟨Sw0, Sw1, Sw2⟩
      icases Sb with ⟨Sb0, Sb1⟩
      icases So with ⟨So0, So1⟩
      isplitl [H4]; · iexact H4
      isplitl [H5]; · iexact H5
      isplitl [H7]; · iexact H7
      isplitl [H8]; · iexact H8
      isplitl [Hcb Hc]
      · isplitl [Hcb]; · iexists f; iapply (ent_of_eq (condP_eq c f)); iexact Hcb
        iexact Hc
      isplitl [Hw0 Hw1 Hw2 Sw0 Sw1 Sw2]
      · isplitl [Hw0 Sw0]; · isplitl [Hw0]; · iexact Hw0
                             iexact Sw0
        isplitl [Hw1 Sw1]; · isplitl [Hw1]; · iexact Hw1
                             iexact Sw1
        isplitl [Hw2]; · iexact Hw2
        iexact Sw2
      isplitl [Hb0 Hb1 Sb0 Sb1]
      · isplitl [Hb0 Sb0]; · isplitl [Hb0]; · iexact Hb0
                             iexact Sb0
        isplitl [Hb1]; · iexact Hb1
        iexact Sb1
      isplitl [Ho0 So0]; · isplitl [Ho0]; · iexact Ho0
                           iexact So0
      isplitl [Ho1]; · iexact Ho1
      iexact So1)
    (hout := fun c => by
      rw [scopedRest0_eq, show (dats m 0 c).Φ (Fin.last (cfgs 0).N) = Φ m c (Fin.last cfg0.N) from rfl, Φ_out m c (by decide), ownSems0_eq]
      unfold outOfΦ
      iintro ⟨-, -, -, H8, ⟨⟨%f, Hcb⟩, Hc⟩, ⟨⟨Hw0, Sw0⟩, ⟨Hw1, Sw1⟩, ⟨Hw2, Sw2⟩⟩, ⟨⟨Hb0, Sb0⟩, ⟨Hb1, Sb1⟩⟩, ⟨⟨Ho0, So0⟩, ⟨Ho1, So1⟩⟩⟩
      isplitl [H8]; · iapply (result_of_blocks m c); iexact H8
      isplitl [Hw0 Hw1 Hw2 Hb0 Hb1 Ho0 Ho1 Hc]
      · isplitl [Hw0]; · iexact Hw0
        isplitl [Hw1]; · iexact Hw1
        isplitl [Hw2]; · iexact Hw2
        isplitl [Hb0]; · iexact Hb0
        isplitl [Hb1]; · iexact Hb1
        isplitl [Ho0]; · iexact Ho0
        isplitl [Ho1]; · iexact Ho1
        iexact Hc
      isplitl [Hcb]; · iexists f; iapply (ent_of_eq (condP_eq c f).symm); iexact Hcb
      isplitl [Sw0 Sw1 Sw2]
      · iapply (w_join c)
        isplitl [Sw0]; · iexact Sw0
        isplitl [Sw1]; · iexact Sw1
        iexact Sw2
      isplitl [Sb0 Sb1]
      · iapply (b_join c)
        isplitl [Sb0]; · iexact Sb0
        iexact Sb1
      iapply (o_join c)
      isplitl [So0]; · iexact So0
      iexact So1)
    (QY := QY m)
    (hY := fun c s' => by
      unfold outOfΦ aside
      iintro ⟨H8, ⟨H0, H1, H2, H3⟩, HSI⟩
      icombine HSI H8 gives %h8
      icombine HSI H0 gives %h0
      icombine HSI H1 gives %h1
      icombine HSI H2 gives %h2
      icombine HSI H3 gives %h3
      imodintro
      isplitr
      · ipureintro
        exact ⟨Buf.eq_of_forall_mem_univ h0, Buf.eq_of_forall_mem_univ h1, Buf.eq_of_forall_mem_univ h2, Buf.eq_of_forall_mem_univ h3, Buf.eq_of_forall_mem_univ h8⟩
      iexact HSI)
    (hQ := fun _ hh hz => ⟨fun c => (hh c).2, hz⟩)

end Cert.Proof.Mod

end
-- ==== Proof.Frames.lean ====
/-
  The frames: each program runs, its arguments end as they were, and every counter ends at zero.
-/
module

public import proofs.«01_k».proof.Proof.ModLaunch
public import proofs.«01_k».proof.Defs
public import proofs.«01_k».proof.Proof.Gen.Kernel
public import proofs.«01_k».proof.Proof.Gen.Pre_finite_inputs
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run

@[expose] public section

noncomputable section

namespace Cert.Proof

open Idealize.ShloMosaic Idealize.ShloMosaic.TcCoe Idealize.SL.Sem

/-- The modulation call at the float values as they are, and at the ideal ones: one run over any of them. -/
theorem frame_kernel : Cert.quiescent_Kernel := fun m ρ _ =>
  (θ_run Cert.KernelIdeal.defs _ _).mono (fun _ h => ⟨fun c => ⟨(h.1 c).1, (h.1 c).2.1, (h.1 c).2.2.1, (h.1 c).2.2.2.1⟩, h.2⟩) (Mod.run_main (F := Bits) m ρ)

theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩) (Mod.run_main (F := Ideal) m ρ)

theorem frame_kernelIdeal_pre : Cert.quiescent_KernelIdeal_pre_finite_inputs := fun m ρ _ => frame_kernelIdeal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_inputs := fun m ρ _ => frame_reference m ρ trivial

theorem frame_kernel2 : Cert.quiescent_Kernel2 := fun m ρ _ => Cert.Kernel2.Gen.frame m ρ
theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Proof

end
-- ==== Proof.ExpNames.lean ====
/-
  The experts' call, its names: the row blocks of the buffer it works in, the slots of its two rings, the slots' DMA
  semaphores; the block a trip is at, as the words say it; and the equations that say each slice the body takes is one of these.
-/
module

public import proofs.«01_k».proof.Proof.Gen.Kernel3Ideal.Launch
public import proofs.«01_k».proof.Proof.Gen.Kernel3Ideal.Skeleton
public import proofs.«01_k».proof.Proof.Gen.Kernel3Ideal.Loops
public import Idealize.ShloMosaic.Lib.Pipeline.KitQuiescent
public import Idealize.ShloMosaic.Lib.Ring
public import Idealize.ShloMosaic.Lib.Ring.Trips
public import Idealize.ShloMosaic.Lib.WordCmp
public import Idealize.ShloMosaic.Lib.Tactic

@[expose] public section

noncomputable section

namespace Cert.Proof.Exp

open Cert.Kernel3Ideal Cert.Kernel3Ideal.Gen
open Idealize.ShloMosaic
open Idealize.ShloMosaic.TcCoe Idealize.ShloMosaic.Tactic

/-! ## The buffers -/

/-- The rows, which the call reads and writes in place; -/
abbrev yM : Memref sig .tc .hbm S81920x1x1024 .f32 := Memref.whole main_v23
/-- the weights in the matmuls' format; -/
abbrev w1M : Memref sig .tc .vmem S1024x2048 .bf16 := Memref.whole cc0_scratch0
abbrev w2M : Memref sig .tc .vmem S1024x1024 .bf16 := Memref.whole cc0_scratch1
/-- the ring the blocks are read into, and the ring they are written from; -/
abbrev lrM : Memref sig .tc .vmem S1024x1x1024 .f32 := Memref.whole cc0_scratch2
abbrev srM : Memref sig .tc .vmem S1024x1x1024 .f32 := Memref.whole cc0_scratch3
/-- a block's rows, its results, and its activations. -/
abbrev xM : Memref sig .tc .vmem S512x1024 .f32 := Memref.whole cc0_scratch4
abbrev oM : Memref sig .tc .vmem S512x1024 .f32 := Memref.whole cc0_scratch5
abbrev aM : Memref sig .tc .vmem S512x1024 .bf16 := Memref.whole cc0_scratch6
/-- The three tables: the experts' first rows, their blocks, and what pads their last block. -/
abbrev startM : Memref sig .tc .smem S32 .i32 := Memref.whole main_arg0
abbrev blocksM : Memref sig .tc .smem S32 .i32 := Memref.whole main_arg1
abbrev padM : Memref sig .tc .smem S32 .i32 := Memref.whole main_arg2

/-! ## Offsets -/

abbrev blkOff (b : Fin 160) : Fin 3 → Nat := ![b.val * 512, 0, 0]
abbrev slotOff (s : Fin 2) : Fin 3 → Nat := ![s.val * 512, 0, 0]
abbrev semOff (s : Fin 2) : Fin 1 → Nat := ![s.val]

theorem blk_inb (b : Fin 160) : ∀ a, blkOff b a + S512x1x1024.size a ≤ S81920x1x1024.size a := by
  have := b.isLt; intro a; fin_cases a
  · show b.val * 512 + 512 ≤ 81920; omega
  · show 0 + 1 ≤ 1; omega
  · show 0 + 1024 ≤ 1024; omega
theorem slot_inb (s : Fin 2) : ∀ a, slotOff s a + S512x1x1024.size a ≤ S1024x1x1024.size a := by
  have := s.isLt; intro a; fin_cases a
  · show s.val * 512 + 512 ≤ 1024; omega
  · show 0 + 1 ≤ 1; omega
  · show 0 + 1024 ≤ 1024; omega
theorem slot_inb_sub (s : Fin 2) (n : Fin 3 → Nat) (hn : ∀ a, n a ≤ S512x1x1024.size a) : ∀ a, slotOff s a + n a ≤ S1024x1x1024.size a :=
  fun a => (Nat.add_le_add_left (hn a) _).trans (slot_inb s a)
theorem sem_inb (s : Fin 2) : ∀ a, semOff s a + S1.size a ≤ S2.size a := by
  have := s.isLt; intro a; fin_cases a; show s.val + 1 ≤ 2; omega

/-! ## Blocks, slots and cells -/

/-- Block `b` of the rows. -/
def yB (b : Fin 160) : Memref sig .tc .hbm S512x1x1024 .f32 :=
  yM.slice (Rect.unit (s := S81920x1x1024) (blkOff b) S512x1x1024.size (blk_inb b)) (fun _ => rfl)
/-- Slot `s` of the ring read into, and of the ring written from. -/
def lS (s : Fin 2) : Memref sig .tc .vmem S512x1x1024 .f32 :=
  lrM.slice (Rect.unit (s := S1024x1x1024) (slotOff s) S512x1x1024.size (slot_inb s)) (fun _ => rfl)
def sS (s : Fin 2) : Memref sig .tc .vmem S512x1x1024 .f32 :=
  srM.slice (Rect.unit (s := S1024x1x1024) (slotOff s) S512x1x1024.size (slot_inb s)) (fun _ => rfl)
/-- The slots' DMA semaphores. -/
def lC (s : Fin 2) : DmaSems sig S_ := (cc0_scratch7.slice (Rect.unit (s := S2) (semOff s) S1.size (sem_inb s))).squeeze S_ squeezes_S1_S_
def sC (s : Fin 2) : DmaSems sig S_ := (cc0_scratch8.slice (Rect.unit (s := S2) (semOff s) S1.size (sem_inb s))).squeeze S_ squeezes_S1_S_

instance (s : Fin 2) : ClosedOff (slotOff s) := ⟨slotOff s, rfl⟩
instance (b : Fin 160) : ClosedOff (blkOff b) := ⟨blkOff b, rfl⟩

/-! ## The block a trip is at -/

abbrev Trip (v1 : BitVec 32) : Type := Fin (k0_t3_loop v1).trips

/-- The word of the block trip `t` is at, and its number. -/
abbrev gW (v1 v3 : BitVec 32) (t : Trip v1) : BitVec 32 := Scalar.addi (Scalar.shrui v3 9#32) (Scf.iv 0#32 1#32 t)
def gN (v1 v3 : BitVec 32) (t : Trip v1) : ℕ := (gW v1 v3 t).toNat
/-- The word of the number of blocks in use, and the number. -/
abbrev nW (v5 v7 : BitVec 32) : BitVec 32 := Scalar.addi (Scalar.shrui v5 9#32) v7
def nN (v5 v7 : BitVec 32) : ℕ := (nW v5 v7).toNat

/-- What holds of every block number's word holds of the trip's. -/
theorem at_g (p : BitVec 32 → ℕ → Prop) (key : ∀ g : Fin 160, p (BitVec.ofNat 32 g.val) g.val) {v1 v3 : BitVec 32} {t : Trip v1}
    (h : gN v1 v3 t < 160) : p (gW v1 v3 t) (gN v1 v3 t) := by
  have e : BitVec.ofNat 32 (gN v1 v3 t) = gW v1 v3 t := BitVec.eq_of_toNat_eq (by
    rw [BitVec.toNat_ofNat]; exact Nat.mod_eq_of_lt (gW v1 v3 t).isLt)
  have k := key ⟨_, h⟩
  rwa [show BitVec.ofNat 32 (⟨gN v1 v3 t, h⟩ : Fin 160).val = gW v1 v3 t from e] at k
/-- The same of the number of blocks in use, when it is not zero. -/
theorem at_n (p : BitVec 32 → ℕ → Prop) (key : ∀ g : Fin 160, p (BitVec.ofNat 32 (g.val + 1)) (g.val + 1)) {v5 v7 : BitVec 32}
    (h1 : 1 ≤ nN v5 v7) (h : nN v5 v7 ≤ 160) : p (nW v5 v7) (nN v5 v7) := by
  obtain ⟨k, hk⟩ : ∃ k, nN v5 v7 = k + 1 := ⟨nN v5 v7 - 1, by omega⟩
  have e : BitVec.ofNat 32 (k + 1) = nW v5 v7 := BitVec.eq_of_toNat_eq (by
    rw [BitVec.toNat_ofNat, ← hk]; exact Nat.mod_eq_of_lt (nW v5 v7).isLt)
  have k' := key ⟨k, by omega⟩
  rw [hk]
  rwa [show BitVec.ofNat 32 ((⟨k, by omega⟩ : Fin 160).val + 1) = nW v5 v7 from e] at k'

section Offsets

variable {v1 v3 : BitVec 32} {t : Trip v1}

theorem off8_at (h : gN v1 v3 t < 160) : k0_off8 v1 v3 t = semOff (Ring.sl 2 (gN v1 v3 t)) :=
  at_g (fun w n => ![(Scalar.andi w 1#32).toNat] = semOff (Ring.sl 2 n)) (by decide +kernel) h
theorem off9_at (h : gN v1 v3 t < 160) : k0_off9 v1 v3 t = slotOff (Ring.sl 2 (gN v1 v3 t)) :=
  at_g (fun w n => ![(Scalar.muli (Scalar.andi w 1#32) 512#32).toNat, 0, 0] = slotOff (Ring.sl 2 n)) (by decide +kernel) h
theorem off10_at (h : gN v1 v3 t < 160) : k0_off10 v1 v3 t = blkOff (Ring.bk 160 (gN v1 v3 t)) :=
  at_g (fun w n => ![(Scalar.muli w 512#32).toNat, 0, 0] = blkOff (Ring.bk 160 n)) (by decide +kernel) h
theorem off11_at (h : gN v1 v3 t < 160) (h1 : gN v1 v3 t + 1 < 160) : k0_off11 v1 v3 t = semOff (Ring.sl 2 ((gN v1 v3 t) + 1)) :=
  at_g (fun w n => n + 1 < 160 → ![(Scalar.andi (Scalar.addi w 1#32) 1#32).toNat] = semOff (Ring.sl 2 (n + 1))) (by decide +kernel) h h1
theorem off12_at (h : gN v1 v3 t < 160) (h1 : gN v1 v3 t + 1 < 160) : k0_off12 v1 v3 t = slotOff (Ring.sl 2 ((gN v1 v3 t) + 1)) :=
  at_g (fun w n => n + 1 < 160 → ![(Scalar.muli (Scalar.andi (Scalar.addi w 1#32) 1#32) 512#32).toNat, 0, 0] = slotOff (Ring.sl 2 (n + 1))) (by decide +kernel) h h1
theorem off13_at (h : gN v1 v3 t < 160) (h1 : gN v1 v3 t + 1 < 160) : k0_off13 v1 v3 t = blkOff (Ring.bk 160 ((gN v1 v3 t) + 1)) :=
  at_g (fun w n => n + 1 < 160 → ![(Scalar.muli (Scalar.addi w 1#32) 512#32).toNat, 0, 0] = blkOff (Ring.bk 160 (n + 1))) (by decide +kernel) h h1
theorem off14_at (h : gN v1 v3 t < 160) : k0_off14 v1 v3 t = semOff (Ring.sl 2 ((gN v1 v3 t) - 1)) :=
  at_g (fun w n => ![(Scalar.andi (Scalar.maxsi (Scalar.subi w 1#32) 0#32) 1#32).toNat] = semOff (Ring.sl 2 (n - 1))) (by decide +kernel) h
theorem off15_at (h : gN v1 v3 t < 160) : k0_off15 v1 v3 t = blkOff (Ring.bk 160 ((gN v1 v3 t) - 1)) :=
  at_g (fun w n => ![(Scalar.muli (Scalar.maxsi (Scalar.subi w 1#32) 0#32) 512#32).toNat, 0, 0] = blkOff (Ring.bk 160 (n - 1))) (by decide +kernel) h
theorem off16_at (h : gN v1 v3 t < 160) : k0_off16 v1 v3 t = slotOff (Ring.sl 2 ((gN v1 v3 t) - 1)) :=
  at_g (fun w n => ![(Scalar.muli (Scalar.andi (Scalar.maxsi (Scalar.subi w 1#32) 0#32) 1#32) 512#32).toNat, 0, 0] = slotOff (Ring.sl 2 (n - 1))) (by decide +kernel) h
theorem off18_at (h : gN v1 v3 t < 160) : k0_off18 v1 v3 t = slotOff (Ring.sl 2 (gN v1 v3 t)) :=
  at_g (fun w n => ![(Scalar.indexCast (Scalar.muli (Scalar.andi w 1#32) 512#32)).toNat, 0, 0] = slotOff (Ring.sl 2 n)) (by decide +kernel) h
theorem off19_at (h : gN v1 v3 t < 160) : k0_off19 v1 v3 t = slotOff (Ring.sl 2 ((gN v1 v3 t) - 1)) :=
  at_g (fun w n => ![(Scalar.indexCast (Scalar.muli (Scalar.andi (Scalar.maxsi (Scalar.subi w 1#32) 0#32) 1#32) 512#32)).toNat, 0, 0] = slotOff (Ring.sl 2 (n - 1))) (by decide +kernel) h
theorem off23_at (h : gN v1 v3 t < 160) : k0_off23 v1 v3 t = slotOff (Ring.sl 2 (gN v1 v3 t)) := off18_at h
theorem off24_at (h : gN v1 v3 t < 160) : k0_off24 v1 v3 t = slotOff (Ring.sl 2 (gN v1 v3 t - 1)) := off19_at h
theorem off28_at (h : gN v1 v3 t < 160) : k0_off28 v1 v3 t = slotOff (Ring.sl 2 (gN v1 v3 t)) := off18_at h
theorem off29_at (h : gN v1 v3 t < 160) : k0_off29 v1 v3 t = slotOff (Ring.sl 2 (gN v1 v3 t - 1)) := off19_at h
theorem off33_at (h : gN v1 v3 t < 160) : k0_off33 v1 v3 t = slotOff (Ring.sl 2 (gN v1 v3 t)) := off18_at h
theorem off34_at (h : gN v1 v3 t < 160) : k0_off34 v1 v3 t = slotOff (Ring.sl 2 (gN v1 v3 t - 1)) := off19_at h
theorem off20_at (h : gN v1 v3 t < 160) : k0_off20 v1 v3 t = semOff (Ring.sl 2 (gN v1 v3 t - 1)) := off14_at h
theorem off21_at (h : gN v1 v3 t < 160) : k0_off21 v1 v3 t = blkOff (Ring.bk 160 (gN v1 v3 t - 1)) := off15_at h
theorem off22_at (h : gN v1 v3 t < 160) : k0_off22 v1 v3 t = slotOff (Ring.sl 2 (gN v1 v3 t - 1)) := off16_at h
theorem off25_at (h : gN v1 v3 t < 160) : k0_off25 v1 v3 t = semOff (Ring.sl 2 (gN v1 v3 t - 1)) := off14_at h
theorem off26_at (h : gN v1 v3 t < 160) : k0_off26 v1 v3 t = blkOff (Ring.bk 160 (gN v1 v3 t - 1)) := off15_at h
theorem off27_at (h : gN v1 v3 t < 160) : k0_off27 v1 v3 t = slotOff (Ring.sl 2 (gN v1 v3 t - 1)) := off16_at h
theorem off30_at (h : gN v1 v3 t < 160) : k0_off30 v1 v3 t = semOff (Ring.sl 2 (gN v1 v3 t - 1)) := off14_at h
theorem off31_at (h : gN v1 v3 t < 160) : k0_off31 v1 v3 t = blkOff (Ring.bk 160 (gN v1 v3 t - 1)) := off15_at h
theorem off32_at (h : gN v1 v3 t < 160) : k0_off32 v1 v3 t = slotOff (Ring.sl 2 (gN v1 v3 t - 1)) := off16_at h
theorem off35_at (h : gN v1 v3 t < 160) : k0_off35 v1 v3 t = semOff (Ring.sl 2 (gN v1 v3 t - 1)) := off14_at h
theorem off36_at (h : gN v1 v3 t < 160) : k0_off36 v1 v3 t = blkOff (Ring.bk 160 (gN v1 v3 t - 1)) := off15_at h
theorem off37_at (h : gN v1 v3 t < 160) : k0_off37 v1 v3 t = slotOff (Ring.sl 2 (gN v1 v3 t - 1)) := off16_at h

theorem mult4_at (h : gN v1 v3 t < 160) : 512 ∣ (k0_mult4 v1 v3 t).toNat :=
  at_g (fun w n => 512 ∣ (Scalar.muli (Scalar.andi w 1#32) 512#32).toNat) (by decide +kernel) h
theorem mult5_at (h : gN v1 v3 t < 160) : 512 ∣ (k0_mult5 v1 v3 t).toNat :=
  at_g (fun w n => 512 ∣ (Scalar.muli (Scalar.andi (Scalar.addi w 1#32) 1#32) 512#32).toNat) (by decide +kernel) h
theorem mult6_at (h : gN v1 v3 t < 160) : 512 ∣ (k0_mult6 v1 v3 t).toNat :=
  at_g (fun w n => 512 ∣ (Scalar.muli (Scalar.andi (Scalar.maxsi (Scalar.subi w 1#32) 0#32) 1#32) 512#32).toNat) (by decide +kernel) h

theorem cond4_iff (h : gN v1 v3 t < 160) : k0_cond4 v1 v3 t = 1#1 ↔ (gN v1 v3 t = 1 ∨ 3 ≤ gN v1 v3 t) :=
  at_g (fun w n => Scalar.cmpi .ne (Scalar.extui (Scalar.ori (Scalar.cmpi .eq w 1#32) (Scalar.cmpi .sge w 3#32)) : BitVec 32) 0#32 = 1#1 ↔ (n = 1 ∨ 3 ≤ n)) (by decide +kernel) h

theorem word_of {w : BitVec 32} {n : ℕ} (h : w.toNat = n) : w = BitVec.ofNat 32 n :=
  BitVec.eq_of_toNat_eq (by rw [BitVec.toNat_ofNat, h]; exact (Nat.mod_eq_of_lt (h ▸ w.isLt)).symm)

theorem ne_ext : ∀ b : BitVec 1, Scalar.cmpi .ne (Scalar.extui b : BitVec 32) 0#32 = b := by decide

theorem cond3_iff {v5 v7 : BitVec 32} (h : gN v1 v3 t < 160) (hn : nN v5 v7 ≤ 160) : k0_cond3 v1 v3 v5 v7 t = 1#1 ↔ gN v1 v3 t + 1 < nN v5 v7 := by
  have e : k0_cond3 v1 v3 v5 v7 t = Scalar.cmpi .slt (Scalar.addi (gW v1 v3 t) 1#32) (nW v5 v7) := ne_ext _
  rw [e, word_of (w := nW v5 v7) (n := nN v5 v7) rfl, word_of (w := gW v1 v3 t) (n := gN v1 v3 t) rfl]
  rw [show Scalar.addi (BitVec.ofNat 32 (gN v1 v3 t)) 1#32 = BitVec.ofNat 32 (gN v1 v3 t + 1) from WordCmp.addi_ofNat _ 1]
  exact WordCmp.cmpi_slt_ofNat_eq_one_iff (w := 32) (a := gN v1 v3 t + 1) (b := nN v5 v7) (by omega) (by omega)

end Offsets

section Final

variable {v5 v7 : BitVec 32}

theorem off68_at (h1 : 1 ≤ nN v5 v7) (h : nN v5 v7 ≤ 160) : k0_off68 v5 v7 = semOff (Ring.sl 2 ((nN v5 v7) - 1)) :=
  at_n (fun w n => ![(Scalar.andi (Scalar.subi w 1#32) 1#32).toNat] = semOff (Ring.sl 2 (n - 1))) (by decide +kernel) h1 h
theorem off69_at (h1 : 1 ≤ nN v5 v7) (h : nN v5 v7 ≤ 160) : k0_off69 v5 v7 = blkOff (Ring.bk 160 ((nN v5 v7) - 1)) :=
  at_n (fun w n => ![(Scalar.muli (Scalar.subi w 1#32) 512#32).toNat, 0, 0] = blkOff (Ring.bk 160 (n - 1))) (by decide +kernel) h1 h
theorem off70_at (h1 : 1 ≤ nN v5 v7) (h : nN v5 v7 ≤ 160) : k0_off70 v5 v7 = slotOff (Ring.sl 2 ((nN v5 v7) - 1)) :=
  at_n (fun w n => ![(Scalar.muli (Scalar.andi (Scalar.subi w 1#32) 1#32) 512#32).toNat, 0, 0] = slotOff (Ring.sl 2 (n - 1))) (by decide +kernel) h1 h
theorem off71_at (h1 : 1 ≤ nN v5 v7) (h : nN v5 v7 ≤ 160) : k0_off71 v5 v7 = slotOff (Ring.sl 2 ((nN v5 v7) - 1)) :=
  at_n (fun w n => ![(Scalar.indexCast (Scalar.muli (Scalar.andi (Scalar.subi w 1#32) 1#32) 512#32)).toNat, 0, 0] = slotOff (Ring.sl 2 (n - 1))) (by decide +kernel) h1 h
theorem off72_at (h1 : 1 ≤ nN v5 v7) (h : nN v5 v7 ≤ 160) : k0_off72 v5 v7 = semOff (Ring.sl 2 ((nN v5 v7) - 1)) :=
  at_n (fun w n => ![(Scalar.andi (Scalar.subi w 1#32) 1#32).toNat] = semOff (Ring.sl 2 (n - 1))) (by decide +kernel) h1 h
theorem off73_at (h1 : 1 ≤ nN v5 v7) (h : nN v5 v7 ≤ 160) : k0_off73 v5 v7 = blkOff (Ring.bk 160 ((nN v5 v7) - 1)) :=
  at_n (fun w n => ![(Scalar.muli (Scalar.subi w 1#32) 512#32).toNat, 0, 0] = blkOff (Ring.bk 160 (n - 1))) (by decide +kernel) h1 h
theorem off74_at (h1 : 1 ≤ nN v5 v7) (h : nN v5 v7 ≤ 160) : k0_off74 v5 v7 = slotOff (Ring.sl 2 ((nN v5 v7) - 1)) :=
  at_n (fun w n => ![(Scalar.muli (Scalar.andi (Scalar.subi w 1#32) 1#32) 512#32).toNat, 0, 0] = slotOff (Ring.sl 2 (n - 1))) (by decide +kernel) h1 h
theorem off75_at (h1 : 1 ≤ nN v5 v7) (h : nN v5 v7 ≤ 160) (h2 : 2 ≤ nN v5 v7) : k0_off75 v5 v7 = semOff (Ring.sl 2 ((nN v5 v7) - 2)) :=
  at_n (fun w n => 2 ≤ n → ![(Scalar.andi (Scalar.subi (Scalar.subi w 1#32) 1#32) 1#32).toNat] = semOff (Ring.sl 2 (n - 2))) (by decide +kernel) h1 h h2
theorem off76_at (h1 : 1 ≤ nN v5 v7) (h : nN v5 v7 ≤ 160) (h2 : 2 ≤ nN v5 v7) : k0_off76 v5 v7 = blkOff (Ring.bk 160 ((nN v5 v7) - 2)) :=
  at_n (fun w n => 2 ≤ n → ![(Scalar.muli (Scalar.subi (Scalar.subi w 1#32) 1#32) 512#32).toNat, 0, 0] = blkOff (Ring.bk 160 (n - 2))) (by decide +kernel) h1 h h2
theorem off77_at (h1 : 1 ≤ nN v5 v7) (h : nN v5 v7 ≤ 160) (h2 : 2 ≤ nN v5 v7) : k0_off77 v5 v7 = slotOff (Ring.sl 2 ((nN v5 v7) - 2)) :=
  at_n (fun w n => 2 ≤ n → ![(Scalar.muli (Scalar.andi (Scalar.subi (Scalar.subi w 1#32) 1#32) 1#32) 512#32).toNat, 0, 0] = slotOff (Ring.sl 2 (n - 2))) (by decide +kernel) h1 h h2
theorem mult34_at (h1 : 1 ≤ nN v5 v7) (h : nN v5 v7 ≤ 160) : 512 ∣ (k0_mult34 v5 v7).toNat :=
  at_n (fun w n => 512 ∣ (Scalar.muli (Scalar.andi (Scalar.subi w 1#32) 1#32) 512#32).toNat) (by decide +kernel) h1 h
theorem mult35_at (h1 : 1 ≤ nN v5 v7) (h : nN v5 v7 ≤ 160) : 512 ∣ (k0_mult35 v5 v7).toNat :=
  at_n (fun w n => 512 ∣ (Scalar.muli (Scalar.andi (Scalar.subi w 1#32) 1#32) 512#32).toNat) (by decide +kernel) h1 h
theorem mult36_at (h1 : 1 ≤ nN v5 v7) (h : nN v5 v7 ≤ 160) : 512 ∣ (k0_mult36 v5 v7).toNat :=
  at_n (fun w n => 512 ∣ (Scalar.muli (Scalar.andi (Scalar.subi w 1#32) 1#32) 512#32).toNat) (by decide +kernel) h1 h
theorem mult37_at (h1 : 1 ≤ nN v5 v7) (h : nN v5 v7 ≤ 160) : 512 ∣ (k0_mult37 v5 v7).toNat :=
  at_n (fun w n => 512 ∣ (Scalar.muli (Scalar.andi (Scalar.subi w 1#32) 1#32) 512#32).toNat) (by decide +kernel) h1 h
theorem mult38_at (h1 : 1 ≤ nN v5 v7) (h : nN v5 v7 ≤ 160) (h2 : 2 ≤ nN v5 v7) : 512 ∣ (k0_mult38 v5 v7).toNat :=
  at_n (fun w n => 2 ≤ n → 512 ∣ (Scalar.muli (Scalar.andi (Scalar.subi (Scalar.subi w 1#32) 1#32) 1#32) 512#32).toNat) (by decide +kernel) h1 h h2
theorem cond16_iff (h1 : 1 ≤ nN v5 v7) (h : nN v5 v7 ≤ 160) : k0_cond16 v5 v7 = 1#1 ↔ nN v5 v7 ≠ 2 :=
  at_n (fun w n => (Scalar.cmpi .ne (Scalar.extui (Scalar.cmpi .ne (Scalar.subi w 1#32) 1#32)) 0#32) = 1#1 ↔ n ≠ 2) (by decide +kernel) h1 h
theorem cond17_iff (h1 : 1 ≤ nN v5 v7) (h : nN v5 v7 ≤ 160) : k0_cond17 v5 v7 = 1#1 ↔ 2 ≤ nN v5 v7 :=
  at_n (fun w n => (Scalar.cmpi .ne (Scalar.extui (Scalar.cmpi .sge (Scalar.subi w 1#32) 1#32)) 0#32) = 1#1 ↔ 2 ≤ n) (by decide +kernel) h1 h

end Final

/-- An expert's words in the tables. -/
theorem off17_at (i : grid0.Coords) : k0_off17 i = ![(i 0).val] := by
  have key : ∀ x : Fin 32, ![(Scalar.indexCast (BitVec.ofNat 32 x.val) : Index).toNat] = ![x.val] := by decide +kernel
  exact key (i 0)
theorem off1_at (i : grid0.Coords) : k0_off1 i = ![(i 0).val] := off17_at i
instance (i : grid0.Coords) : ClosedOff (k0_off17 i) := ⟨_, off17_at i⟩
instance (i : grid0.Coords) : ClosedOff (k0_off1 i) := ⟨_, off1_at i⟩

/-! ## The checks and the loops' trips -/

section Checks

variable {v1 v3 v5 v7 : BitVec 32}

theorem small_word {w : BitVec 32} {n : ℕ} (h : w.toNat ≤ n) : ∃ k, k < n + 1 ∧ w = BitVec.ofNat 32 k := ⟨w.toNat, by omega, word_of rfl⟩

theorem trips3 (h : v1.toNat ≤ 160) : (k0_t3_loop v1).trips = v1.toNat := by
  have key : ∀ g : Fin 161, (k0_t3_loop (BitVec.ofNat 32 g.val)).trips = g.val := by decide +kernel
  obtain ⟨k, hk, rfl⟩ := small_word h
  exact (key ⟨k, hk⟩).trans (by rw [BitVec.toNat_ofNat]; exact (Nat.mod_eq_of_lt (by omega)).symm)
theorem trips4 (h : v1.toNat ≤ 160) : (k0_t4_loop v1).trips = 0 := by
  have key : ∀ g : Fin 161, (k0_t4_loop (BitVec.ofNat 32 g.val)).trips = 0 := by decide +kernel
  obtain ⟨k, hk, rfl⟩ := small_word h
  exact key ⟨k, hk⟩
theorem none4 (h : v1.toNat ≤ 160) (t : Fin (k0_t4_loop v1).trips) : False := by
  exact Nat.not_lt_zero _ (t.isLt.trans_eq (trips4 h))

theorem chk1_of (h : v1.toNat ≤ 160) : k0_chk1 v1 := by
  have key : ∀ g : Fin 161, k0_chk1 (BitVec.ofNat 32 g.val) := by decide +kernel
  obtain ⟨k, hk, rfl⟩ := small_word h
  exact key ⟨k, hk⟩

/-- A table's words: the expert's first block is `f`, and it has blocks below the 160th. -/
theorem gN_eq {f : ℕ} (t : Trip v1) (h1 : v1.toNat ≤ 160) (h3 : v3.toNat = 512 * f) (hf : f + v1.toNat ≤ 160) : gN v1 v3 t = f + t.val := by
  have ht : t.val < v1.toNat := t.isLt.trans_eq (trips3 h1)
  have key : ∀ g : Fin 161, Scalar.shrui (BitVec.ofNat 32 (512 * g.val)) 9#32 = BitVec.ofNat 32 g.val := by decide +kernel
  have k := key ⟨f, by omega⟩
  have hi : ∀ s : Fin 160, Scf.iv 0#32 1#32 s.val = BitVec.ofNat 32 s.val := by decide +kernel
  have i := hi ⟨t.val, by omega⟩
  dsimp only at k i
  unfold gN gW
  rw [word_of h3, k, i, show Scalar.addi (BitVec.ofNat 32 f) (BitVec.ofNat 32 t.val) = BitVec.ofNat 32 (f + t.val) from WordCmp.addi_ofNat _ _, BitVec.toNat_ofNat]
  exact Nat.mod_eq_of_lt (by omega)
theorem nN_eq {f : ℕ} (h3 : v5.toNat = 512 * f) (hf : f + v7.toNat ≤ 160) : nN v5 v7 = f + v7.toNat := by
  have key : ∀ g : Fin 161, Scalar.shrui (BitVec.ofNat 32 (512 * g.val)) 9#32 = BitVec.ofNat 32 g.val := by decide +kernel
  have k := key ⟨f, by omega⟩
  dsimp only at k
  unfold nN nW
  rw [word_of h3, k, word_of (w := v7) (n := v7.toNat) rfl, show Scalar.addi (BitVec.ofNat 32 f) (BitVec.ofNat 32 v7.toNat) = BitVec.ofNat 32 (f + v7.toNat) from WordCmp.addi_ofNat _ _, BitVec.toNat_ofNat, BitVec.toNat_ofNat]
  have := v7.isLt
  rw [Nat.mod_eq_of_lt (by omega), Nat.mod_eq_of_lt this]

theorem chk2_of (h1 : v1.toNat ≤ 160) (h : ∀ t : Trip v1, gN v1 v3 t < 160) : k0_chk2 v1 v3 :=
  ⟨fun t => mult4_at (h t), fun t => off8_at (h t) ▸ sem_inb _, fun t => off9_at (h t) ▸ slot_inb _, fun t => off10_at (h t) ▸ blk_inb _,
    fun t _ => mult6_at (h t), fun t _ => off14_at (h t) ▸ sem_inb _, fun t _ => off15_at (h t) ▸ blk_inb _, fun t _ => off16_at (h t) ▸ slot_inb _,
    fun t => (none4 h1 t).elim, fun t => (none4 h1 t).elim, fun t => (none4 h1 t).elim, fun t => (none4 h1 t).elim,
    fun t => (none4 h1 t).elim, fun t => (none4 h1 t).elim, fun t => (none4 h1 t).elim, fun t => (none4 h1 t).elim⟩

theorem cond15_iff {i : grid0.Coords} (hn : nN v5 v7 ≤ 160) : k0_cond15 i v5 v7 = 1#1 ↔ ((i 0).val = 31 ∧ 1 ≤ nN v5 v7) := by
  have e : k0_cond15 i v5 v7 = Scalar.andi (Scalar.cmpi .eq (BitVec.ofNat 32 (i 0).val) 31#32) (Scalar.cmpi .sgt (nW v5 v7) 0#32) := ne_ext _
  have a : ∀ b c : BitVec 1, Scalar.andi b c = 1#1 ↔ (b = 1#1 ∧ c = 1#1) := by decide
  have k1 : ∀ x : Fin 32, Scalar.cmpi .eq (BitVec.ofNat 32 x.val) 31#32 = 1#1 ↔ x.val = 31 := by decide +kernel
  have k2 : ∀ x : Fin 161, Scalar.cmpi .sgt (BitVec.ofNat 32 x.val) 0#32 = 1#1 ↔ 1 ≤ x.val := by decide +kernel
  rw [e, a, word_of (w := nW v5 v7) (n := nN v5 v7) rfl]
  exact and_congr (k1 (i 0)) (k2 ⟨nN v5 v7, by omega⟩)

theorem chk3_of {i : grid0.Coords} (h1 : v1.toNat ≤ 160) (h : ∀ t : Trip v1, gN v1 v3 t < 160) (hn : nN v5 v7 ≤ 160) : k0_chk3 i v1 v3 v5 v7 := by
  have l : ∀ t : Trip v1, k0_cond3 v1 v3 v5 v7 t = 1#1 → gN v1 v3 t + 1 < 160 := fun t c => ((cond3_iff (h t) hn).1 c).trans_le hn
  have n1 : k0_cond15 i v5 v7 = 1#1 → 1 ≤ nN v5 v7 := fun c => ((cond15_iff hn).1 c).2
  have n2 : k0_cond15 i v5 v7 = 1#1 → k0_cond17 v5 v7 = 1#1 → 2 ≤ nN v5 v7 := fun c c' => (cond17_iff (n1 c) hn).1 c'
  exact ⟨fun t c => mult5_at (h t), fun t c => off11_at (h t) (l t c) ▸ sem_inb _, fun t c => off12_at (h t) (l t c) ▸ slot_inb _, fun t c => off13_at (h t) (l t c) ▸ blk_inb _,
    fun t => (none4 h1 t).elim, fun t => (none4 h1 t).elim, fun t => (none4 h1 t).elim, fun t => (none4 h1 t).elim,
    fun c _ => mult34_at (n1 c) hn, fun c _ => off68_at (n1 c) hn ▸ sem_inb _, fun c _ => off69_at (n1 c) hn ▸ blk_inb _, fun c _ => off70_at (n1 c) hn ▸ slot_inb _,
    fun c => mult35_at (n1 c) hn, fun c => off71_at (n1 c) hn ▸ slot_inb _, fun c => mult36_at (n1 c) hn, fun c => off72_at (n1 c) hn ▸ sem_inb _,
    fun c => off73_at (n1 c) hn ▸ blk_inb _, fun c => off74_at (n1 c) hn ▸ slot_inb _, fun c => mult37_at (n1 c) hn,
    fun c c' => mult38_at (n1 c) hn (n2 c c'), fun c c' => off75_at (n1 c) hn (n2 c c') ▸ sem_inb _, fun c c' => off76_at (n1 c) hn (n2 c c') ▸ blk_inb _,
    fun c c' => off77_at (n1 c) hn (n2 c c') ▸ slot_inb _⟩

theorem chk4_of {t : Trip v1} (h : gN v1 v3 t < 160) (v53 : BitVec 32) : k0_chk4 v1 v3 t v53 :=
  ⟨fun _ => mult4_at h, fun _ => off18_at h ▸ slot_inb_sub _ S128x1x1024.size (by decide), fun _ => mult6_at h, fun _ => off19_at h ▸ slot_inb _,
    fun _ => mult6_at h, fun _ => off20_at h ▸ sem_inb _, fun _ => off21_at h ▸ blk_inb _, fun _ => off22_at h ▸ slot_inb _,
    fun _ => mult4_at h, fun _ => off23_at h ▸ slot_inb_sub _ S256x1x1024.size (by decide), fun _ => mult6_at h, fun _ => off24_at h ▸ slot_inb _,
    fun _ => mult6_at h, fun _ => off25_at h ▸ sem_inb _, fun _ => off26_at h ▸ blk_inb _, fun _ => off27_at h ▸ slot_inb _,
    fun _ => mult4_at h, fun _ => off28_at h ▸ slot_inb_sub _ S384x1x1024.size (by decide), fun _ => mult6_at h, fun _ => off29_at h ▸ slot_inb _,
    fun _ => mult6_at h, fun _ => off30_at h ▸ sem_inb _, fun _ => off31_at h ▸ blk_inb _, fun _ => off32_at h ▸ slot_inb _,
    fun _ => mult4_at h, fun _ => off33_at h ▸ slot_inb_sub _ S512x1x1024.size (by decide), fun _ => mult6_at h, fun _ => off34_at h ▸ slot_inb _,
    fun _ => mult6_at h, fun _ => off35_at h ▸ sem_inb _, fun _ => off36_at h ▸ blk_inb _, fun _ => off37_at h ▸ slot_inb _⟩

/-- The rows of a trip's block the matmuls compute: all, but for an expert's last block those its padding leaves, in eights of 64. -/
def rowsN (v1 : BitVec 32) (t : Trip v1) (v53 : BitVec 32) : ℕ := if t.val + 1 = v1.toNat then 512 - 128 * (v53.toNat / 128) else 512

/-- Just one of the four sizes' branches is taken, and it is the one of the rows there are. -/
theorem size_cases (t : Trip v1) (h1 : v1.toNat ≤ 160) (v53 : BitVec 32) (hp : v53.toNat < 512) :
    (rowsN v1 t v53 = 128 ∧ k0_cond5 v1 t v53 = 1#1 ∧ ¬ k0_cond6 v1 t v53 = 1#1 ∧ ¬ k0_cond7 v1 t v53 = 1#1 ∧ ¬ k0_cond8 v1 t v53 = 1#1) ∨
    (rowsN v1 t v53 = 256 ∧ ¬ k0_cond5 v1 t v53 = 1#1 ∧ k0_cond6 v1 t v53 = 1#1 ∧ ¬ k0_cond7 v1 t v53 = 1#1 ∧ ¬ k0_cond8 v1 t v53 = 1#1) ∨
    (rowsN v1 t v53 = 384 ∧ ¬ k0_cond5 v1 t v53 = 1#1 ∧ ¬ k0_cond6 v1 t v53 = 1#1 ∧ k0_cond7 v1 t v53 = 1#1 ∧ ¬ k0_cond8 v1 t v53 = 1#1) ∨
    (rowsN v1 t v53 = 512 ∧ ¬ k0_cond5 v1 t v53 = 1#1 ∧ ¬ k0_cond6 v1 t v53 = 1#1 ∧ ¬ k0_cond7 v1 t v53 = 1#1 ∧ k0_cond8 v1 t v53 = 1#1) := by
  have ht : t.val < v1.toNat := t.isLt.trans_eq (trips3 h1)
  have hi : ∀ s : Fin 160, Scf.iv 0#32 1#32 s.val = BitVec.ofNat 32 s.val := by decide +kernel
  have i := hi ⟨t.val, by omega⟩
  have hs : ∀ s : Fin 160, Scalar.subi (BitVec.ofNat 32 (s.val + 1)) 1#32 = BitVec.ofNat 32 s.val := by decide +kernel
  have s := hs ⟨v1.toNat - 1, by omega⟩
  dsimp only at i s
  rw [Nat.sub_add_cancel (by omega), ← word_of (w := v1) (n := v1.toNat) rfl] at s
  have c : ∀ j : BitVec 32, Scalar.cmpi .ne (Scalar.extui (Scalar.cmpi .eq (Scalar.select (Scalar.cmpi .eq (Scf.iv 0#32 1#32 t.val) (Scalar.subi v1 1#32)) (Scalar.subi 4#32 (Scalar.divsi v53 128#32)) 4#32) j) : BitVec 32) 0#32
      = Scalar.cmpi .eq (Scalar.select (Scalar.cmpi .eq (BitVec.ofNat 32 t.val) (BitVec.ofNat 32 (v1.toNat - 1))) (Scalar.subi 4#32 (Scalar.divsi v53 128#32)) 4#32) j := fun j => by
    rw [ne_ext, i, s]
  have c5 : k0_cond5 v1 t v53 = _ := c 1#32
  have c6 : k0_cond6 v1 t v53 = _ := c 2#32
  have c7 : k0_cond7 v1 t v53 = _ := c 3#32
  have c8 : k0_cond8 v1 t v53 = _ := c 4#32
  rw [c5, c6, c7, c8]
  unfold rowsN
  by_cases hl : t.val + 1 = v1.toNat
  · have z : Scalar.cmpi .eq (BitVec.ofNat 32 t.val) (BitVec.ofNat 32 (v1.toNat - 1)) = 1#1 :=
      (WordCmp.cmpi_eq_ofNat_eq_one_iff (w := 32) (a := t.val) (b := v1.toNat - 1) (by omega) (by omega)).2 (by omega)
    have y : ∀ a b : BitVec 32, Scalar.select 1#1 a b = a := fun _ _ => rfl
    simp only [if_pos hl, z, y]
    have key : ∀ p : Fin 512,
        (512 - 128 * (p.val / 128) = 128 ∧ Scalar.subi 4#32 (Scalar.divsi (BitVec.ofNat 32 p.val) 128#32) = 1#32) ∨
        (512 - 128 * (p.val / 128) = 256 ∧ Scalar.subi 4#32 (Scalar.divsi (BitVec.ofNat 32 p.val) 128#32) = 2#32) ∨
        (512 - 128 * (p.val / 128) = 384 ∧ Scalar.subi 4#32 (Scalar.divsi (BitVec.ofNat 32 p.val) 128#32) = 3#32) ∨
        (512 - 128 * (p.val / 128) = 512 ∧ Scalar.subi 4#32 (Scalar.divsi (BitVec.ofNat 32 p.val) 128#32) = 4#32) := by decide +kernel
    have k := key ⟨v53.toNat, hp⟩
    dsimp only at k
    rw [← word_of (w := v53) (n := v53.toNat) rfl] at k
    rcases k with ⟨k, e⟩ | ⟨k, e⟩ | ⟨k, e⟩ | ⟨k, e⟩ <;> simp only [k, e] <;> decide
  · have z : Scalar.cmpi .eq (BitVec.ofNat 32 t.val) (BitVec.ofNat 32 (v1.toNat - 1)) = 0#1 :=
      (WordCmp.cmpi_eq_ofNat_eq_zero_iff (w := 32) (a := t.val) (b := v1.toNat - 1) (by omega) (by omega)).2 (by omega)
    have y : ∀ a b : BitVec 32, Scalar.select 0#1 a b = b := fun _ _ => rfl
    simp only [if_neg hl, z, y]
    decide

end Checks

attribute [irreducible] gN nN

/-! ## Each slice the body takes is one of the names -/

section Canon

theorem lS_congr {off : Fin 3 → Nat} {s : Fin 2} (e : off = slotOff s) (hh) (hs) : lrM.slice (Rect.unit (s := S1024x1x1024) off S512x1x1024.size hh) hs = lS s :=
  Memref.slice_unit_congr _ e _ _ _ (fun _ => rfl)
theorem sS_congr {off : Fin 3 → Nat} {s : Fin 2} (e : off = slotOff s) (hh) (hs) : srM.slice (Rect.unit (s := S1024x1x1024) off S512x1x1024.size hh) hs = sS s :=
  Memref.slice_unit_congr _ e _ _ _ (fun _ => rfl)
theorem yB_congr {off : Fin 3 → Nat} {b : Fin 160} (e : off = blkOff b) (hh) (hs) : yM.slice (Rect.unit (s := S81920x1x1024) off S512x1x1024.size hh) hs = yB b :=
  Memref.slice_unit_congr _ e _ _ _ (fun _ => rfl)
theorem lC_congr {off : Fin 1 → Nat} {s : Fin 2} (e : off = semOff s) (hh) : (cc0_scratch7.slice (Rect.unit (s := S2) off S1.size hh)).squeeze S_ squeezes_S1_S_ = lC s :=
  congrArg (fun M => SemArray.squeeze M S_ squeezes_S1_S_) (SemArray.slice_unit_congr _ e _ _)
theorem sC_congr {off : Fin 1 → Nat} {s : Fin 2} (e : off = semOff s) (hh) : (cc0_scratch8.slice (Rect.unit (s := S2) off S1.size hh)).squeeze S_ squeezes_S1_S_ = sC s :=
  congrArg (fun M => SemArray.squeeze M S_ squeezes_S1_S_) (SemArray.slice_unit_congr _ e _ _)

/-- A window that begins where a slot does, and is no longer, lies in the slot. -/
theorem lr_sub {off n : Fin 3 → Nat} {s : Fin 2} (e : off = slotOff s) (hn : ∀ a, n a ≤ S512x1x1024.size a) (hh) :
    (lrM.access (Rect.unit (s := S1024x1x1024) off n hh)).set ⊆ (lS s).view.set := by
  subst e
  have e1 : (lrM.access (Rect.unit (s := S1024x1x1024) (slotOff s) n hh)).set = (Rect.unit (s := S1024x1x1024) (slotOff s) n hh).set := View.set_slice_whole _ _
  have e2 : (lS s).view.set = (Rect.unit (s := S1024x1x1024) (slotOff s) S512x1x1024.size (slot_inb s)).set := View.set_slice_whole _ _
  rw [e1, e2]
  intro y hy
  rw [Rect.mem_set_unit] at hy ⊢
  exact fun a => ⟨(hy a).1, (hy a).2.trans_le (Nat.add_le_add_left (hn a) _)⟩

theorem sr_sub {off n : Fin 3 → Nat} {s : Fin 2} (e : off = slotOff s) (hn : ∀ a, n a ≤ S512x1x1024.size a) (hh) :
    (srM.access (Rect.unit (s := S1024x1x1024) off n hh)).set ⊆ (sS s).view.set := by
  subst e
  have e1 : (srM.access (Rect.unit (s := S1024x1x1024) (slotOff s) n hh)).set = (Rect.unit (s := S1024x1x1024) (slotOff s) n hh).set := View.set_slice_whole _ _
  have e2 : (sS s).view.set = (Rect.unit (s := S1024x1x1024) (slotOff s) S512x1x1024.size (slot_inb s)).set := View.set_slice_whole _ _
  rw [e1, e2]
  intro y hy
  rw [Rect.mem_set_unit] at hy ⊢
  exact fun a => ⟨(hy a).1, (hy a).2.trans_le (Nat.add_le_add_left (hn a) _)⟩

theorem sr_store {off : Fin 3 → Nat} {s : Fin 2} (e : off = slotOff s) (hh) :
    LE.le (α := Finset (sS s).view.ty.Idx) ((srM.access (Rect.unit (s := S1024x1x1024) off S512x1x1024.size hh)).setOn Finset.univ) (sS s).view.set :=
  sr_sub e (fun _ => le_rfl) hh

variable {v1 v3 v5 v7 : BitVec 32} {t : Trip v1}

@[sl_canon] theorem lC_8 (h : gN v1 v3 t < 160) (hh) : (cc0_scratch7.slice (Rect.unit (s := S2) (k0_off8 v1 v3 t) S1.size hh)).squeeze S_ squeezes_S1_S_ = lC (Ring.sl 2 (gN v1 v3 t)) :=
  lC_congr (off8_at h) _
@[sl_canon] theorem lS_9 (h : gN v1 v3 t < 160) (hh) (hs) : lrM.slice (Rect.unit (s := S1024x1x1024) (k0_off9 v1 v3 t) S512x1x1024.size hh) hs = lS (Ring.sl 2 (gN v1 v3 t)) :=
  lS_congr (off9_at h) _ _
@[sl_canon] theorem yB_10 (h : gN v1 v3 t < 160) (hh) (hs) : yM.slice (Rect.unit (s := S81920x1x1024) (k0_off10 v1 v3 t) S512x1x1024.size hh) hs = yB (Ring.bk 160 (gN v1 v3 t)) :=
  yB_congr (off10_at h) _ _
@[sl_canon] theorem lC_11 (h : gN v1 v3 t < 160) (h1 : gN v1 v3 t + 1 < 160) (hh) : (cc0_scratch7.slice (Rect.unit (s := S2) (k0_off11 v1 v3 t) S1.size hh)).squeeze S_ squeezes_S1_S_ = lC (Ring.sl 2 (gN v1 v3 t + 1)) :=
  lC_congr (off11_at h h1) _
@[sl_canon] theorem lS_12 (h : gN v1 v3 t < 160) (h1 : gN v1 v3 t + 1 < 160) (hh) (hs) : lrM.slice (Rect.unit (s := S1024x1x1024) (k0_off12 v1 v3 t) S512x1x1024.size hh) hs = lS (Ring.sl 2 (gN v1 v3 t + 1)) :=
  lS_congr (off12_at h h1) _ _
@[sl_canon] theorem yB_13 (h : gN v1 v3 t < 160) (h1 : gN v1 v3 t + 1 < 160) (hh) (hs) : yM.slice (Rect.unit (s := S81920x1x1024) (k0_off13 v1 v3 t) S512x1x1024.size hh) hs = yB (Ring.bk 160 (gN v1 v3 t + 1)) :=
  yB_congr (off13_at h h1) _ _
@[sl_canon] theorem sC_14 (h : gN v1 v3 t < 160) (hh) : (cc0_scratch8.slice (Rect.unit (s := S2) (k0_off14 v1 v3 t) S1.size hh)).squeeze S_ squeezes_S1_S_ = sC (Ring.sl 2 (gN v1 v3 t - 1)) :=
  sC_congr (off14_at h) _
@[sl_canon] theorem yB_15 (h : gN v1 v3 t < 160) (hh) (hs) : yM.slice (Rect.unit (s := S81920x1x1024) (k0_off15 v1 v3 t) S512x1x1024.size hh) hs = yB (Ring.bk 160 (gN v1 v3 t - 1)) :=
  yB_congr (off15_at h) _ _
@[sl_canon] theorem sS_16 (h : gN v1 v3 t < 160) (hh) (hs) : srM.slice (Rect.unit (s := S1024x1x1024) (k0_off16 v1 v3 t) S512x1x1024.size hh) hs = sS (Ring.sl 2 (gN v1 v3 t - 1)) :=
  sS_congr (off16_at h) _ _
@[sl_canon] theorem sC_20 (h : gN v1 v3 t < 160) (hh) : (cc0_scratch8.slice (Rect.unit (s := S2) (k0_off20 v1 v3 t) S1.size hh)).squeeze S_ squeezes_S1_S_ = sC (Ring.sl 2 (gN v1 v3 t - 1)) :=
  sC_congr (off20_at h) _
@[sl_canon] theorem yB_21 (h : gN v1 v3 t < 160) (hh) (hs) : yM.slice (Rect.unit (s := S81920x1x1024) (k0_off21 v1 v3 t) S512x1x1024.size hh) hs = yB (Ring.bk 160 (gN v1 v3 t - 1)) :=
  yB_congr (off21_at h) _ _
@[sl_canon] theorem sS_22 (h : gN v1 v3 t < 160) (hh) (hs) : srM.slice (Rect.unit (s := S1024x1x1024) (k0_off22 v1 v3 t) S512x1x1024.size hh) hs = sS (Ring.sl 2 (gN v1 v3 t - 1)) :=
  sS_congr (off22_at h) _ _
@[sl_canon] theorem sC_25 (h : gN v1 v3 t < 160) (hh) : (cc0_scratch8.slice (Rect.unit (s := S2) (k0_off25 v1 v3 t) S1.size hh)).squeeze S_ squeezes_S1_S_ = sC (Ring.sl 2 (gN v1 v3 t - 1)) :=
  sC_congr (off25_at h) _
@[sl_canon] theorem yB_26 (h : gN v1 v3 t < 160) (hh) (hs) : yM.slice (Rect.unit (s := S81920x1x1024) (k0_off26 v1 v3 t) S512x1x1024.size hh) hs = yB (Ring.bk 160 (gN v1 v3 t - 1)) :=
  yB_congr (off26_at h) _ _
@[sl_canon] theorem sS_27 (h : gN v1 v3 t < 160) (hh) (hs) : srM.slice (Rect.unit (s := S1024x1x1024) (k0_off27 v1 v3 t) S512x1x1024.size hh) hs = sS (Ring.sl 2 (gN v1 v3 t - 1)) :=
  sS_congr (off27_at h) _ _
@[sl_canon] theorem sC_30 (h : gN v1 v3 t < 160) (hh) : (cc0_scratch8.slice (Rect.unit (s := S2) (k0_off30 v1 v3 t) S1.size hh)).squeeze S_ squeezes_S1_S_ = sC (Ring.sl 2 (gN v1 v3 t - 1)) :=
  sC_congr (off30_at h) _
@[sl_canon] theorem yB_31 (h : gN v1 v3 t < 160) (hh) (hs) : yM.slice (Rect.unit (s := S81920x1x1024) (k0_off31 v1 v3 t) S512x1x1024.size hh) hs = yB (Ring.bk 160 (gN v1 v3 t - 1)) :=
  yB_congr (off31_at h) _ _
@[sl_canon] theorem sS_32 (h : gN v1 v3 t < 160) (hh) (hs) : srM.slice (Rect.unit (s := S1024x1x1024) (k0_off32 v1 v3 t) S512x1x1024.size hh) hs = sS (Ring.sl 2 (gN v1 v3 t - 1)) :=
  sS_congr (off32_at h) _ _
@[sl_canon] theorem sC_35 (h : gN v1 v3 t < 160) (hh) : (cc0_scratch8.slice (Rect.unit (s := S2) (k0_off35 v1 v3 t) S1.size hh)).squeeze S_ squeezes_S1_S_ = sC (Ring.sl 2 (gN v1 v3 t - 1)) :=
  sC_congr (off35_at h) _
@[sl_canon] theorem yB_36 (h : gN v1 v3 t < 160) (hh) (hs) : yM.slice (Rect.unit (s := S81920x1x1024) (k0_off36 v1 v3 t) S512x1x1024.size hh) hs = yB (Ring.bk 160 (gN v1 v3 t - 1)) :=
  yB_congr (off36_at h) _ _
@[sl_canon] theorem sS_37 (h : gN v1 v3 t < 160) (hh) (hs) : srM.slice (Rect.unit (s := S1024x1x1024) (k0_off37 v1 v3 t) S512x1x1024.size hh) hs = sS (Ring.sl 2 (gN v1 v3 t - 1)) :=
  sS_congr (off37_at h) _ _
@[sl_canon] theorem sC_68 (h1 : 1 ≤ nN v5 v7) (h : nN v5 v7 ≤ 160) (hh) : (cc0_scratch8.slice (Rect.unit (s := S2) (k0_off68 v5 v7) S1.size hh)).squeeze S_ squeezes_S1_S_ = sC (Ring.sl 2 (nN v5 v7 - 1)) :=
  sC_congr (off68_at h1 h) _
@[sl_canon] theorem yB_69 (h1 : 1 ≤ nN v5 v7) (h : nN v5 v7 ≤ 160) (hh) (hs) : yM.slice (Rect.unit (s := S81920x1x1024) (k0_off69 v5 v7) S512x1x1024.size hh) hs = yB (Ring.bk 160 (nN v5 v7 - 1)) :=
  yB_congr (off69_at h1 h) _ _
@[sl_canon] theorem sS_70 (h1 : 1 ≤ nN v5 v7) (h : nN v5 v7 ≤ 160) (hh) (hs) : srM.slice (Rect.unit (s := S1024x1x1024) (k0_off70 v5 v7) S512x1x1024.size hh) hs = sS (Ring.sl 2 (nN v5 v7 - 1)) :=
  sS_congr (off70_at h1 h) _ _
@[sl_canon] theorem sC_72 (h1 : 1 ≤ nN v5 v7) (h : nN v5 v7 ≤ 160) (hh) : (cc0_scratch8.slice (Rect.unit (s := S2) (k0_off72 v5 v7) S1.size hh)).squeeze S_ squeezes_S1_S_ = sC (Ring.sl 2 (nN v5 v7 - 1)) :=
  sC_congr (off72_at h1 h) _
@[sl_canon] theorem yB_73 (h1 : 1 ≤ nN v5 v7) (h : nN v5 v7 ≤ 160) (hh) (hs) : yM.slice (Rect.unit (s := S81920x1x1024) (k0_off73 v5 v7) S512x1x1024.size hh) hs = yB (Ring.bk 160 (nN v5 v7 - 1)) :=
  yB_congr (off73_at h1 h) _ _
@[sl_canon] theorem sS_74 (h1 : 1 ≤ nN v5 v7) (h : nN v5 v7 ≤ 160) (hh) (hs) : srM.slice (Rect.unit (s := S1024x1x1024) (k0_off74 v5 v7) S512x1x1024.size hh) hs = sS (Ring.sl 2 (nN v5 v7 - 1)) :=
  sS_congr (off74_at h1 h) _ _
@[sl_canon] theorem sC_75 (h2 : 2 ≤ nN v5 v7) (h : nN v5 v7 ≤ 160) (hh) : (cc0_scratch8.slice (Rect.unit (s := S2) (k0_off75 v5 v7) S1.size hh)).squeeze S_ squeezes_S1_S_ = sC (Ring.sl 2 (nN v5 v7 - 2)) :=
  sC_congr (off75_at (le_trans (by decide) h2) h h2) _
@[sl_canon] theorem yB_76 (h2 : 2 ≤ nN v5 v7) (h : nN v5 v7 ≤ 160) (hh) (hs) : yM.slice (Rect.unit (s := S81920x1x1024) (k0_off76 v5 v7) S512x1x1024.size hh) hs = yB (Ring.bk 160 (nN v5 v7 - 2)) :=
  yB_congr (off76_at (le_trans (by decide) h2) h h2) _ _
@[sl_canon] theorem sS_77 (h2 : 2 ≤ nN v5 v7) (h : nN v5 v7 ≤ 160) (hh) (hs) : srM.slice (Rect.unit (s := S1024x1x1024) (k0_off77 v5 v7) S512x1x1024.size hh) hs = sS (Ring.sl 2 (nN v5 v7 - 2)) :=
  sS_congr (off77_at (le_trans (by decide) h2) h h2) _ _

@[sl_canon] theorem lC_2 (hh) : (cc0_scratch7.slice (Rect.unit (s := S2) k0_off2 S1.size hh)).squeeze S_ squeezes_S1_S_ = lC (Ring.sl 2 0) := lC_congr (by decide +kernel) _
@[sl_canon] theorem lS_3 (hh) (hs) : lrM.slice (Rect.unit (s := S1024x1x1024) k0_off3 S512x1x1024.size hh) hs = lS (Ring.sl 2 0) := lS_congr (by decide +kernel) _ _
@[sl_canon] theorem yB_0 (hh) (hs) : yM.slice (Rect.unit (s := S81920x1x1024) ![0, 0, 0] S512x1x1024.size hh) hs = yB (Ring.bk 160 0) := yB_congr (by decide +kernel) _ _

instance [h : Fact (gN v1 v3 t < 160)] : ClosedOff (k0_off18 v1 v3 t) := ⟨slotOff (Ring.sl 2 (gN v1 v3 t)), off18_at h.out⟩
instance [h : Fact (gN v1 v3 t < 160)] : ClosedOff (k0_off19 v1 v3 t) := ⟨slotOff (Ring.sl 2 (gN v1 v3 t - 1)), off19_at h.out⟩
instance [h : Fact (gN v1 v3 t < 160)] : ClosedOff (k0_off23 v1 v3 t) := ⟨slotOff (Ring.sl 2 (gN v1 v3 t)), off23_at h.out⟩
instance [h : Fact (gN v1 v3 t < 160)] : ClosedOff (k0_off24 v1 v3 t) := ⟨slotOff (Ring.sl 2 (gN v1 v3 t - 1)), off24_at h.out⟩
instance [h : Fact (gN v1 v3 t < 160)] : ClosedOff (k0_off28 v1 v3 t) := ⟨slotOff (Ring.sl 2 (gN v1 v3 t)), off28_at h.out⟩
instance [h : Fact (gN v1 v3 t < 160)] : ClosedOff (k0_off29 v1 v3 t) := ⟨slotOff (Ring.sl 2 (gN v1 v3 t - 1)), off29_at h.out⟩
instance [h : Fact (gN v1 v3 t < 160)] : ClosedOff (k0_off33 v1 v3 t) := ⟨slotOff (Ring.sl 2 (gN v1 v3 t)), off33_at h.out⟩
instance [h : Fact (gN v1 v3 t < 160)] : ClosedOff (k0_off34 v1 v3 t) := ⟨slotOff (Ring.sl 2 (gN v1 v3 t - 1)), off34_at h.out⟩
instance [h1 : Fact (1 ≤ nN v5 v7)] [h : Fact (nN v5 v7 ≤ 160)] : ClosedOff (k0_off71 v5 v7) := ⟨slotOff (Ring.sl 2 (nN v5 v7 - 1)), off71_at h1.out h.out⟩

end Canon

end Cert.Proof.Exp
-- ==== Proof.ExpRows.lean ====
/-
  The experts' rows: what a trip computes of the rows it loads, at each of the four numbers of rows a block may hold.
-/
module

public import proofs.«01_k».proof.Proof.ExpNames
public import Idealize.ShloMosaic.Lib.VecWindow
public import Idealize.ShloMosaic.Lib.Guarded
public import Idealize.ShloMosaic.Lib.WritesUnit

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Rows

variable (c : Dev nD) (arg6 : Memref sig .tc .vmem S1x1x2048 .f32) (arg8 : Memref sig .tc .vmem S1x1x1024 .f32)
  (B1 : Buf (Elt F) (arg6.view.loc (c : Thread nD τ))) (B2 : Buf (Elt F) (arg8.view.loc (c : Thread nD τ)))
  (W1 : Buf (Elt F) (w1M.view.loc (c : Thread nD τ))) (W2 : Buf (Elt F) (w2M.view.loc (c : Thread nD τ)))

/-- Tiles of the first weight's columns, of the first bias, the second weight and the second bias. -/
abbrev w1T (o : ℕ) (h : ∀ a, (![0, o] : Fin 2 → ℕ) a + S1024x512.size a ≤ S1024x2048.size a) : Vec F S1024x512 .bf16 :=
  w1M.view.readAt (Elt F) (Rect.unit (s := S1024x2048) ![0, o] S1024x512.size h).toLoadRect W1
abbrev b1T (o : ℕ) (h : ∀ a, (![0, 0, o] : Fin 3 → ℕ) a + S1x1x512.size a ≤ S1x1x2048.size a) : Vec F S1x1x512 .f32 :=
  arg6.view.readAt (Elt F) (Rect.unit (s := S1x1x2048) ![0, 0, o] S1x1x512.size h).toLoadRect B1
abbrev w2T : Vec F S1024x1024 .bf16 := w2M.view.readAt (Elt F) (Rect.unit (s := S1024x1024) ![0, 0] S1024x1024.size inb_S1024x1024_S1024x1024_0_0).toLoadRect W2
abbrev b2T : Vec F S1x1x1024 .f32 := arg8.view.readAt (Elt F) (Rect.unit (s := S1x1x1024) ![0, 0, 0] S1x1x1024.size inb_S1x1x1024_S1x1x1024_0_0_0).toLoadRect B2

/-- 128 rows: rounded, the gated activations, the result. -/
def in128 (x : Vec F S128x1x1024 .f32) : FVec F S128x1024 .bf16 :=
  k0_pay11 (xM.view.readCov [⟨Rect.unit (s := S512x1024) ![0, 0] S128x1024.size inb_S512x1024_S128x1024_0_0, k0_pay10 x⟩] (Rect.unit (s := S512x1024) ![0, 0] S128x1024.size inb_S512x1024_S128x1024_0_0).toLoadRect)
def act128 (x : Vec F S128x1x1024 .f32) : Vec F S128x1024 .bf16 :=
  aM.view.readCov
    [⟨Rect.unit (s := S512x1024) ![0, 512] S128x512.size inb_S512x1024_S128x512_0_512,
        k0_pay16 (in128 x) (k0_pay15 (in128 x) (w1T c W1 512 inb_S1024x2048_S1024x512_0_512)) (b1T c arg6 B1 512 inb_S1x1x2048_S1x1x512_0_0_512)
          (w1T c W1 1536 inb_S1024x2048_S1024x512_0_1536) (b1T c arg6 B1 1536 inb_S1x1x2048_S1x1x512_0_0_1536)⟩,
      ⟨Rect.unit (s := S512x1024) ![0, 0] S128x512.size inb_S512x1024_S128x512_0_0,
        k0_pay14 (in128 x) (k0_pay15 (in128 x) (w1T c W1 0 inb_S1024x2048_S1024x512_0_0)) (b1T c arg6 B1 0 inb_S1x1x2048_S1x1x512_0_0_0)
          (w1T c W1 1024 inb_S1024x2048_S1024x512_0_1024) (b1T c arg6 B1 1024 inb_S1x1x2048_S1x1x512_0_0_1024)⟩]
    (Rect.unit (s := S512x1024) ![0, 0] S128x1024.size inb_S512x1024_S128x1024_0_0).toLoadRect
def res128 (x : Vec F S128x1x1024 .f32) : FVec F S128x1024 .f32 := k0_pay42 (k0_pay17 (act128 c arg6 B1 W1 x) (w2T c W2)) (b2T c arg8 B2)

/-- 256 rows: rounded, the gated activations, the result. -/
def in256 (x : Vec F S256x1x1024 .f32) : FVec F S256x1024 .bf16 :=
  k0_pay19 (xM.view.readCov [⟨Rect.unit (s := S512x1024) ![0, 0] S256x1024.size inb_S512x1024_S256x1024_0_0, k0_pay18 x⟩] (Rect.unit (s := S512x1024) ![0, 0] S256x1024.size inb_S512x1024_S256x1024_0_0).toLoadRect)
def act256 (x : Vec F S256x1x1024 .f32) : Vec F S256x1024 .bf16 :=
  aM.view.readCov
    [⟨Rect.unit (s := S512x1024) ![0, 512] S256x512.size inb_S512x1024_S256x512_0_512,
        k0_pay24 (in256 x) (k0_pay23 (in256 x) (w1T c W1 512 inb_S1024x2048_S1024x512_0_512)) (b1T c arg6 B1 512 inb_S1x1x2048_S1x1x512_0_0_512)
          (w1T c W1 1536 inb_S1024x2048_S1024x512_0_1536) (b1T c arg6 B1 1536 inb_S1x1x2048_S1x1x512_0_0_1536)⟩,
      ⟨Rect.unit (s := S512x1024) ![0, 0] S256x512.size inb_S512x1024_S256x512_0_0,
        k0_pay22 (in256 x) (k0_pay23 (in256 x) (w1T c W1 0 inb_S1024x2048_S1024x512_0_0)) (b1T c arg6 B1 0 inb_S1x1x2048_S1x1x512_0_0_0)
          (w1T c W1 1024 inb_S1024x2048_S1024x512_0_1024) (b1T c arg6 B1 1024 inb_S1x1x2048_S1x1x512_0_0_1024)⟩]
    (Rect.unit (s := S512x1024) ![0, 0] S256x1024.size inb_S512x1024_S256x1024_0_0).toLoadRect
def res256 (x : Vec F S256x1x1024 .f32) : FVec F S256x1024 .f32 := k0_pay4 (k0_pay25 (act256 c arg6 B1 W1 x) (w2T c W2)) (b2T c arg8 B2)

/-- 384 rows: rounded, the gated activations, the result. -/
def in384 (x : Vec F S384x1x1024 .f32) : FVec F S384x1024 .bf16 :=
  k0_pay27 (xM.view.readCov [⟨Rect.unit (s := S512x1024) ![0, 0] S384x1024.size inb_S512x1024_S384x1024_0_0, k0_pay26 x⟩] (Rect.unit (s := S512x1024) ![0, 0] S384x1024.size inb_S512x1024_S384x1024_0_0).toLoadRect)
def act384 (x : Vec F S384x1x1024 .f32) : Vec F S384x1024 .bf16 :=
  aM.view.readCov
    [⟨Rect.unit (s := S512x1024) ![0, 512] S384x512.size inb_S512x1024_S384x512_0_512,
        k0_pay32 (in384 x) (k0_pay31 (in384 x) (w1T c W1 512 inb_S1024x2048_S1024x512_0_512)) (b1T c arg6 B1 512 inb_S1x1x2048_S1x1x512_0_0_512)
          (w1T c W1 1536 inb_S1024x2048_S1024x512_0_1536) (b1T c arg6 B1 1536 inb_S1x1x2048_S1x1x512_0_0_1536)⟩,
      ⟨Rect.unit (s := S512x1024) ![0, 0] S384x512.size inb_S512x1024_S384x512_0_0,
        k0_pay30 (in384 x) (k0_pay31 (in384 x) (w1T c W1 0 inb_S1024x2048_S1024x512_0_0)) (b1T c arg6 B1 0 inb_S1x1x2048_S1x1x512_0_0_0)
          (w1T c W1 1024 inb_S1024x2048_S1024x512_0_1024) (b1T c arg6 B1 1024 inb_S1x1x2048_S1x1x512_0_0_1024)⟩]
    (Rect.unit (s := S512x1024) ![0, 0] S384x1024.size inb_S512x1024_S384x1024_0_0).toLoadRect
def res384 (x : Vec F S384x1x1024 .f32) : FVec F S384x1024 .f32 := k0_pay5 (k0_pay33 (act384 c arg6 B1 W1 x) (w2T c W2)) (b2T c arg8 B2)

/-- 512 rows: rounded, the gated activations, the result. -/
def in512 (x : Vec F S512x1x1024 .f32) : FVec F S512x1024 .bf16 :=
  k0_pay35 (xM.view.readCov [⟨Rect.unit (s := S512x1024) ![0, 0] S512x1024.size inb_S512x1024_S512x1024_0_0, k0_pay34 x⟩] (Rect.unit (s := S512x1024) ![0, 0] S512x1024.size inb_S512x1024_S512x1024_0_0).toLoadRect)
def act512 (x : Vec F S512x1x1024 .f32) : Vec F S512x1024 .bf16 :=
  aM.view.readCov
    [⟨Rect.unit (s := S512x1024) ![0, 512] S512x512.size inb_S512x1024_S512x512_0_512,
        k0_pay40 (in512 x) (k0_pay39 (in512 x) (w1T c W1 512 inb_S1024x2048_S1024x512_0_512)) (b1T c arg6 B1 512 inb_S1x1x2048_S1x1x512_0_0_512)
          (w1T c W1 1536 inb_S1024x2048_S1024x512_0_1536) (b1T c arg6 B1 1536 inb_S1x1x2048_S1x1x512_0_0_1536)⟩,
      ⟨Rect.unit (s := S512x1024) ![0, 0] S512x512.size inb_S512x1024_S512x512_0_0,
        k0_pay38 (in512 x) (k0_pay39 (in512 x) (w1T c W1 0 inb_S1024x2048_S1024x512_0_0)) (b1T c arg6 B1 0 inb_S1x1x2048_S1x1x512_0_0_0)
          (w1T c W1 1024 inb_S1024x2048_S1024x512_0_1024) (b1T c arg6 B1 1024 inb_S1x1x2048_S1x1x512_0_0_1024)⟩]
    (Rect.unit (s := S512x1024) ![0, 0] S512x1024.size inb_S512x1024_S512x1024_0_0).toLoadRect
def res512 (x : Vec F S512x1x1024 .f32) : FVec F S512x1024 .f32 := k0_pay6 (k0_pay41 (act512 c arg6 B1 W1 x) (w2T c W2)) (b2T c arg8 B2)

/-- What a trip makes of the results' scratch, of the block `X` it loaded with `n` rows in use. -/
def TripRel (n : ℕ) (X : S512x1x1024.Idx → Elt F .f32) (fo o : Buf (Elt F) (oM.view.loc (c : Thread nD τ))) : Prop :=
  (n = 128 ∧ ∃ x : Vec F S128x1x1024 .f32, (∀ y z, (∀ a, (z a).val = (y a).val) → x y = X z)
      ∧ o = oM.view.writes (Elt F) fo [⟨Rect.unit (s := S512x1024) ![0, 0] S128x1024.size inb_S512x1024_S128x1024_0_0, res128 c arg6 arg8 B1 B2 W1 W2 x⟩]) ∨
  (n = 256 ∧ ∃ x : Vec F S256x1x1024 .f32, (∀ y z, (∀ a, (z a).val = (y a).val) → x y = X z)
      ∧ o = oM.view.writes (Elt F) fo [⟨Rect.unit (s := S512x1024) ![0, 0] S256x1024.size inb_S512x1024_S256x1024_0_0, res256 c arg6 arg8 B1 B2 W1 W2 x⟩]) ∨
  (n = 384 ∧ ∃ x : Vec F S384x1x1024 .f32, (∀ y z, (∀ a, (z a).val = (y a).val) → x y = X z)
      ∧ o = oM.view.writes (Elt F) fo [⟨Rect.unit (s := S512x1024) ![0, 0] S384x1024.size inb_S512x1024_S384x1024_0_0, res384 c arg6 arg8 B1 B2 W1 W2 x⟩]) ∨
  (n = 512 ∧ ∃ x : Vec F S512x1x1024 .f32, (∀ y z, (∀ a, (z a).val = (y a).val) → x y = X z)
      ∧ o = oM.view.writes (Elt F) fo [⟨Rect.unit (s := S512x1024) ![0, 0] S512x1024.size inb_S512x1024_S512x1024_0_0, res512 c arg6 arg8 B1 B2 W1 W2 x⟩])

end Rows

/-- A trip of 128 rows, from what it writes. -/
theorem rel128 (c : Dev nD) (arg6 : Memref sig .tc .vmem S1x1x2048 .f32) (arg8 : Memref sig .tc .vmem S1x1x1024 .f32) (B1 : Buf (Elt F) (arg6.view.loc (c : Thread nD τ))) (B2 : Buf (Elt F) (arg8.view.loc (c : Thread nD τ))) (W1 : Buf (Elt F) (w1M.view.loc (c : Thread nD τ))) (W2 : Buf (Elt F) (w2M.view.loc (c : Thread nD τ))) {n : ℕ} (hn : n = 128)
    {X : S512x1x1024.Idx → Elt F .f32} {fo : Buf (Elt F) (oM.view.loc (c : Thread nD τ))} {x : Vec F S128x1x1024 .f32}
    (h : ∀ y z, (∀ a, (z a).val = (y a).val) → x y = X z) :
    TripRel c arg6 arg8 B1 B2 W1 W2 n X fo (oM.view.writes (Elt F) fo [⟨Rect.unit (s := S512x1024) ![0, 0] S128x1024.size inb_S512x1024_S128x1024_0_0, res128 c arg6 arg8 B1 B2 W1 W2 x⟩]) :=
  Or.inl ⟨hn, x, h, rfl⟩

/-- A trip of 256 rows, from what it writes. -/
theorem rel256 (c : Dev nD) (arg6 : Memref sig .tc .vmem S1x1x2048 .f32) (arg8 : Memref sig .tc .vmem S1x1x1024 .f32) (B1 : Buf (Elt F) (arg6.view.loc (c : Thread nD τ))) (B2 : Buf (Elt F) (arg8.view.loc (c : Thread nD τ))) (W1 : Buf (Elt F) (w1M.view.loc (c : Thread nD τ))) (W2 : Buf (Elt F) (w2M.view.loc (c : Thread nD τ))) {n : ℕ} (hn : n = 256)
    {X : S512x1x1024.Idx → Elt F .f32} {fo : Buf (Elt F) (oM.view.loc (c : Thread nD τ))} {x : Vec F S256x1x1024 .f32}
    (h : ∀ y z, (∀ a, (z a).val = (y a).val) → x y = X z) :
    TripRel c arg6 arg8 B1 B2 W1 W2 n X fo (oM.view.writes (Elt F) fo [⟨Rect.unit (s := S512x1024) ![0, 0] S256x1024.size inb_S512x1024_S256x1024_0_0, res256 c arg6 arg8 B1 B2 W1 W2 x⟩]) :=
  Or.inr <| Or.inl ⟨hn, x, h, rfl⟩

/-- A trip of 384 rows, from what it writes. -/
theorem rel384 (c : Dev nD) (arg6 : Memref sig .tc .vmem S1x1x2048 .f32) (arg8 : Memref sig .tc .vmem S1x1x1024 .f32) (B1 : Buf (Elt F) (arg6.view.loc (c : Thread nD τ))) (B2 : Buf (Elt F) (arg8.view.loc (c : Thread nD τ))) (W1 : Buf (Elt F) (w1M.view.loc (c : Thread nD τ))) (W2 : Buf (Elt F) (w2M.view.loc (c : Thread nD τ))) {n : ℕ} (hn : n = 384)
    {X : S512x1x1024.Idx → Elt F .f32} {fo : Buf (Elt F) (oM.view.loc (c : Thread nD τ))} {x : Vec F S384x1x1024 .f32}
    (h : ∀ y z, (∀ a, (z a).val = (y a).val) → x y = X z) :
    TripRel c arg6 arg8 B1 B2 W1 W2 n X fo (oM.view.writes (Elt F) fo [⟨Rect.unit (s := S512x1024) ![0, 0] S384x1024.size inb_S512x1024_S384x1024_0_0, res384 c arg6 arg8 B1 B2 W1 W2 x⟩]) :=
  Or.inr <| Or.inr <| Or.inl ⟨hn, x, h, rfl⟩

/-- A trip of 512 rows, from what it writes. -/
theorem rel512 (c : Dev nD) (arg6 : Memref sig .tc .vmem S1x1x2048 .f32) (arg8 : Memref sig .tc .vmem S1x1x1024 .f32) (B1 : Buf (Elt F) (arg6.view.loc (c : Thread nD τ))) (B2 : Buf (Elt F) (arg8.view.loc (c : Thread nD τ))) (W1 : Buf (Elt F) (w1M.view.loc (c : Thread nD τ))) (W2 : Buf (Elt F) (w2M.view.loc (c : Thread nD τ))) {n : ℕ} (hn : n = 512)
    {X : S512x1x1024.Idx → Elt F .f32} {fo : Buf (Elt F) (oM.view.loc (c : Thread nD τ))} {x : Vec F S512x1x1024 .f32}
    (h : ∀ y z, (∀ a, (z a).val = (y a).val) → x y = X z) :
    TripRel c arg6 arg8 B1 B2 W1 W2 n X fo (oM.view.writes (Elt F) fo [⟨Rect.unit (s := S512x1024) ![0, 0] S512x1024.size inb_S512x1024_S512x1024_0_0, res512 c arg6 arg8 B1 B2 W1 W2 x⟩]) :=
  Or.inr <| Or.inr <| Or.inr ⟨hn, x, h, rfl⟩

/-- A slot written whole, read at its rows. -/
theorem lr_read (c : Dev nD) {off n : Fin 3 → ℕ} {s : Fin 2} (e : off = slotOff s) (hh : ∀ a, off a + n a ≤ S1024x1x1024.size a)
    (f : Buf (Elt F) ((lS s).view.loc (c : Thread nD τ))) (X : S512x1x1024.Idx → Elt F .f32)
    (y : (Rect.unit (s := S1024x1x1024) off n hh).toLoadRect.shape.Idx) (z : S512x1x1024.Idx) (h : ∀ a, (z a).val = (y a).val) :
    lrM.view.readAt (Elt F) (Rect.unit (s := S1024x1x1024) off n hh).toLoadRect ((lS s).view.writes (Elt F) f [⟨Rect.whole S512x1x1024, X⟩]) y = X z := by
  subst e
  have r := congrFun (View.read_writes_whole (lS s).view f X) z
  refine Eq.trans ?_ r
  refine congrArg (lrM.view.read (Elt F) ((lS s).view.writes (Elt F) f [⟨Rect.whole S512x1x1024, X⟩])) (funext fun a => Fin.ext ?_)
  show slotOff s a + 1 * (y a).val = slotOff s a + 1 * (z a).val
  rw [h a]

end Cert.Proof.Exp

end
-- ==== Proof.ExpTrip.lean ====
module

public import proofs.«01_k».proof.Proof.ExpRows
public import Idealize.ShloMosaic.Lib.VecWindow
public import Idealize.ShloMosaic.Lib.Guarded

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The pieces -/

section Pieces

variable (c : Dev nD)

/-- A buffer held whole, with contents `f`. -/
abbrev holds {sp : Space} {s : Shape} {e : EltTy} (M : Memref sig .tc sp s e) (f : Buf (Elt F) (M.view.loc (c : Thread nD τ))) : sProp 𝕄 :=
  M.view.loc (c : Thread nD τ) ↦[M.view.set]{fullShare} f

abbrev lCellP (s : Fin 2) : sProp 𝕄 := semVal ((c : Thread nD τ), SemLoc.dma (lC s).sem) 0
abbrev sCellP (s : Fin 2) : sProp 𝕄 := semVal ((c : Thread nD τ), SemLoc.dma (sC s).sem) 0

/-- What lands in slot `s` from block `b` of rows `X`, and the copy while it is under way. -/
abbrev lLanded (s : Fin 2) (b : Fin 160) (X : Buf (Elt F) ((yB b).view.loc (c : Thread nD τ))) (f : Buf (Elt F) ((lS s).view.loc (c : Thread nD τ))) :
    Buf (Elt F) ((lS s).view.loc (c : Thread nD τ)) :=
  (lS s).view.writes (Elt F) f [⟨Rect.whole S512x1x1024, ReadAs.same.apply ((yB b).view.read (Elt F) X)⟩]
abbrev lFlightP (s : Fin 2) (b : Fin 160) (X : Buf (Elt F) ((yB b).view.loc (c : Thread nD τ))) (f : Buf (Elt F) ((lS s).view.loc (c : Thread nD τ))) : sProp 𝕄 :=
  Transfers.Flight countersEmb (c : Thread nD τ) (SemLoc.dma (lC s).sem) () 65536 iprop(holds c (lS s) (lLanded c s b X f) ∗ holds c (yB b) X)
/-- What lands in block `b` from slot `s` that holds `g`, and the copy while it is under way. -/
abbrev sLanded (s : Fin 2) (b : Fin 160) (g : Buf (Elt F) ((sS s).view.loc (c : Thread nD τ))) (f : Buf (Elt F) ((yB b).view.loc (c : Thread nD τ))) :
    Buf (Elt F) ((yB b).view.loc (c : Thread nD τ)) :=
  (yB b).view.writes (Elt F) f [⟨Rect.whole S512x1x1024, ReadAs.same.apply ((sS s).view.read (Elt F) g)⟩]
abbrev sFlightP (s : Fin 2) (b : Fin 160) (g : Buf (Elt F) ((sS s).view.loc (c : Thread nD τ))) (f : Buf (Elt F) ((yB b).view.loc (c : Thread nD τ))) : sProp 𝕄 :=
  Transfers.Flight countersEmb (c : Thread nD τ) (SemLoc.dma (sC s).sem) () 65536 iprop(holds c (yB b) (sLanded c s b g f) ∗ holds c (sS s) g)

/-- A block's home is its home however its number is spelt. -/
theorem home_cast {b b' : Fin 160} (e : b = b') (X : Buf (Elt F) ((yB b).view.loc (c : Thread nD τ))) :
    holds c (yB b) X ⊢ (iprop(∃ Y, holds c (yB b') Y) : sProp 𝕄) := by
  subst e
  iintro H
  iexists X
  iexact H

/-- The block a trip sends out: the one before its own. It is at hand from the third trip on, is what the second trip
waited for, and is the very block the first trip loads from. -/
theorem homes_split (g : ℕ) {C : Prop} [Decidable C] (hC : C ↔ g = 1 ∨ 3 ≤ g)
    (L : Buf (Elt F) ((yB (Ring.bk 160 (g - 3))).view.loc (c : Thread nD τ))) (X0 : Buf (Elt F) ((yB (Ring.bk 160 g)).view.loc (c : Thread nD τ))) :
    iprop(Guarded C (fun _ => holds c (yB (Ring.bk 160 (g - 3))) L) (fun _ => (iprop(emp) : sProp 𝕄)) ∗ holds c (yB (Ring.bk 160 g)) X0
        ∗ (if 2 ≤ g then iprop(∃ Y, holds c (yB (Ring.bk 160 (g - 1))) Y) else emp))
      ⊢ (iprop((∃ Y, holds c (yB (Ring.bk 160 (g - 1))) Y) ∗ (if 3 ≤ g then holds c (yB (Ring.bk 160 (g - 3))) L else emp)
        ∗ (if 1 ≤ g then holds c (yB (Ring.bk 160 g)) X0 else emp)) : sProp 𝕄) := by
  rcases Nat.lt_or_ge g 1 with h | h
  · have e : Ring.bk 160 g = Ring.bk 160 (g - 1) := by rw [show g - 1 = g by omega]
    rw [Guarded.neg (by rw [hC]; omega), if_neg (by omega), if_neg (by omega), if_neg (by omega)]
    iintro ⟨-, H, -⟩
    isplitl [H]
    · iapply (home_cast c e X0) $$ H
    · isplitl []
      · iempintro
      · iempintro
  rcases Nat.lt_or_ge g 2 with h' | h'
  · have e : Ring.bk 160 (g - 3) = Ring.bk 160 (g - 1) := by rw [show g - 3 = g - 1 by omega]
    rw [Guarded.pos (hC.2 (by omega)), if_neg (by omega), if_neg (by omega), if_pos (by omega)]
    iintro ⟨HL, H, -⟩
    isplitl [HL]
    · iapply (home_cast c e L) $$ HL
    · isplitl []
      · iempintro
      · iexact H
  rcases Nat.lt_or_ge g 3 with h'' | h''
  · rw [Guarded.neg (by rw [hC]; omega), if_pos (by omega), if_neg (by omega), if_pos (by omega)]
    iintro ⟨-, H, HY⟩
    isplitl [HY]
    · iexact HY
    · isplitl []
      · iempintro
      · iexact H
  · rw [Guarded.pos (hC.2 (by omega)), if_pos (by omega), if_pos (by omega), if_pos (by omega)]
    iintro ⟨HL, H, HY⟩
    isplitl [HY]
    · iexact HY
    · isplitl [HL]
      · iexact HL
      · iexact H

/-- What a trip stages: the results of the trip before it. -/
abbrev stagedOf (fo : Buf (Elt F) (oM.view.loc (c : Thread nD τ))) : S512x1x1024.Idx → Elt F .f32 :=
  k0_pay12 (oM.view.readAt (Elt F) (Rect.unit (s := S512x1024) ![0, 0] S512x1024.size inb_S512x1024_S512x1024_0_0).toLoadRect fo)

/-- A slot written whole reads what was written. -/
theorem sr_read_store {off : Fin 3 → ℕ} {s : Fin 2} (e : off = slotOff s) (hh : ∀ a, off a + S512x1x1024.size a ≤ S1024x1x1024.size a)
    (g : Buf (Elt F) ((sS s).view.loc (c : Thread nD τ))) (v : S512x1x1024.Idx → Elt F .f32) :
    (sS s).view.read (Elt F) ((srM.access (Rect.unit (s := S1024x1x1024) off S512x1x1024.size hh)).write (Elt F) g v Finset.univ) = v := by
  subst e
  exact View.read_write_univ _ _

end Pieces

attribute [local irreducible] k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37

section Trip

variable (c : Dev nD) (i : grid0.Coords)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (v1 v3 v5 v7 : BitVec 32) (hw1 : k0_chk1 v1) (hw2 : k0_chk2 v1 v3) (hw3 : k0_chk3 i v1 v3 v5 v7)
  (t : Trip v1)

abbrev tripG (a : BitVec 32) : Prog (TpuEff nD τ sig (Elt F) Λ₀ .tc) (BitVec 32) :=
  k0_t3_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8
    (BitVec.ofNat 32 (i 0).val) v1 hw1 v3 hw2 (Scalar.shrui v3 9#32) v5 v7 hw3 (nW v5 v7) t a

/-- A next block exists only below the last. -/
theorem next_lt [Fact (gN v1 v3 t < 160)] [Fact (nN v5 v7 ≤ 160)] (hc : k0_cond3 v1 v3 v5 v7 t = 1#1) : gN v1 v3 t + 1 < 160 := by
  have h := (cond3_iff (Fact.out) (Fact.out)).1 hc
  have h' : nN v5 v7 ≤ 160 := Fact.out
  omega

/-- The next block's copy, under way if there is a next block. -/
abbrev nextOut (X1 : Buf (Elt F) ((yB (Ring.bk 160 (gN v1 v3 t + 1))).view.loc (c : Thread nD τ))) (fn : Buf (Elt F) ((lS (Ring.sl 2 (gN v1 v3 t + 1))).view.loc (c : Thread nD τ))) : sProp 𝕄 :=
  Guarded (k0_cond3 v1 v3 v5 v7 t = 1#1)
    (fun _ => lFlightP c (Ring.sl 2 (gN v1 v3 t + 1)) (Ring.bk 160 (gN v1 v3 t + 1)) X1 fn)
    (fun _ => iprop(lCellP c (Ring.sl 2 (gN v1 v3 t + 1)) ∗ holds c (lS (Ring.sl 2 (gN v1 v3 t + 1))) fn))

set_option maxHeartbeats 40000000 in
/-- One trip: it waits for its block, starts the next one's copy, waits for the slot it will send from, stages and
sends the block before its own, and computes its own rows. -/
theorem trip (q : PosShare TreeShare) (hg : gN v1 v3 t < 160) (hn : nN v5 v7 ≤ 160)
    (TP : Buf (Elt F) (padM.view.loc (c : Thread nD τ))) (B1 : Buf (Elt F) (arg6.view.loc (c : Thread nD τ))) (B2 : Buf (Elt F) (arg8.view.loc (c : Thread nD τ)))
    (W1 : Buf (Elt F) (w1M.view.loc (c : Thread nD τ))) (W2 : Buf (Elt F) (w2M.view.loc (c : Thread nD τ)))
    (fx fa fo fl fn gs f W)
    (X0 X1) (h1 : v1.toNat ≤ 160) (hp : ∀ j, (padM.view.readAt (Elt F) (Rect.unit (s := S32) (k0_off17 i) S1.size (k0_off17_inb i)).toLoadRect TP j : BitVec 32).toNat < 512) :
    iprop((padM.view.loc (c : Thread nD τ) ↦[padM.view.set]{q} TP) ∗ holds c arg6 B1 ∗ holds c arg8 B2 ∗ holds c w1M W1 ∗ holds c w2M W2
      ∗ holds c xM fx ∗ holds c aM fa ∗ holds c oM fo ∗ owes (c : Thread nD τ) 0 W
      ∗ lFlightP c (Ring.sl 2 (gN v1 v3 t)) (Ring.bk 160 (gN v1 v3 t)) X0 fl
      ∗ Guarded (k0_cond3 v1 v3 v5 v7 t = 1#1)
          (fun _ => iprop(lCellP c (Ring.sl 2 (gN v1 v3 t + 1)) ∗ holds c (lS (Ring.sl 2 (gN v1 v3 t + 1))) fn ∗ holds c (yB (Ring.bk 160 (gN v1 v3 t + 1))) X1))
          (fun _ => iprop(lCellP c (Ring.sl 2 (gN v1 v3 t + 1)) ∗ holds c (lS (Ring.sl 2 (gN v1 v3 t + 1))) fn))
      ∗ Guarded (k0_cond4 v1 v3 t = 1#1)
          (fun _ => sFlightP c (Ring.sl 2 (gN v1 v3 t - 1)) (Ring.bk 160 (gN v1 v3 t - 3)) gs f)
          (fun _ => iprop(sCellP c (Ring.sl 2 (gN v1 v3 t - 1)) ∗ holds c (sS (Ring.sl 2 (gN v1 v3 t - 1))) gs))
      ∗ (if 2 ≤ gN v1 v3 t then iprop(∃ Y, holds c (yB (Ring.bk 160 (gN v1 v3 t - 1))) Y) else emp))
     ⊢ wp frame (wpE (defs₀ (F := F)) 𝒱₀ (c : Thread nD τ) none) Set.univ (tripG i arg5 harg5 arg6 harg6 arg7 harg7 arg8 harg8 v1 v3 v5 v7 hw1 hw2 hw3 t 0#32)
        (fun a => iprop(⌜a = 0#32⌝
          ∗ (padM.view.loc (c : Thread nD τ) ↦[padM.view.set]{q} TP) ∗ holds c arg6 B1 ∗ holds c arg8 B2 ∗ holds c w1M W1 ∗ holds c w2M W2
          ∗ (∃ f, holds c xM f) ∗ (∃ f, holds c aM f)
          ∗ (∃ o, ⌜TripRel c arg6 arg8 B1 B2 W1 W2 (rowsN v1 t (padM.view.readAt (Elt F) (Rect.unit (s := S32) (k0_off17 i) S1.size (k0_off17_inb i)).toLoadRect TP (Shape.Idx.first (numel1_S1.symm ▸ Nat.one_pos)))) ((yB (Ring.bk 160 (gN v1 v3 t))).view.read (Elt F) X0) fo o⌝ ∗ holds c oM o)
          ∗ (∃ W, owes (c : Thread nD τ) 0 W)
          ∗ lCellP c (Ring.sl 2 (gN v1 v3 t)) ∗ (∃ f, holds c (lS (Ring.sl 2 (gN v1 v3 t))) f)
          ∗ nextOut c v1 v3 v5 v7 t X1 fn
          ∗ (∃ gs' Y, ⌜(sS (Ring.sl 2 (gN v1 v3 t - 1))).view.read (Elt F) gs' = stagedOf c fo⌝
              ∗ sFlightP c (Ring.sl 2 (gN v1 v3 t - 1)) (Ring.bk 160 (gN v1 v3 t - 1)) gs' Y)
          ∗ (if 3 ≤ gN v1 v3 t then holds c (yB (Ring.bk 160 (gN v1 v3 t - 3))) (sLanded c (Ring.sl 2 (gN v1 v3 t - 1)) (Ring.bk 160 (gN v1 v3 t - 3)) gs f) else emp)
          ∗ (if 1 ≤ gN v1 v3 t then holds c (yB (Ring.bk 160 (gN v1 v3 t))) X0 else emp))) := by
  haveI : Fact (gN v1 v3 t < 160) := ⟨hg⟩
  haveI : Fact (nN v5 v7 ≤ 160) := ⟨hn⟩
  have hp' := hp (Shape.Idx.first (numel1_S1.symm ▸ Nat.one_pos))
  iintro ⟨HP, HB1, HB2, HW1, HW2, HX, HA, HO, HW, HlF, HlN, HsF, HpV⟩
  dsimp only [tripG]
  sl_unfold [k0_t3_body]
  sl_exec
  by_cases c3 : k0_cond3 v1 v3 v5 v7 t = 1#1
  · have hg1 := next_lt v1 v3 v5 v7 t c3
    sl_exec
    sl_step
    ihave HlN : nextOut c v1 v3 v5 v7 t X1 fn $$ [HlN_1]
    · iapply (Guarded.intro_pos c3)
      iexact HlN_1
    ihave HH := (homes_split c (gN v1 v3 t) (cond4_iff hg) (sLanded c (Ring.sl 2 (gN v1 v3 t - 1)) (Ring.bk 160 (gN v1 v3 t - 3)) gs f) X0) $$ [if1 HlF_src HpV]
    · isplitl [if1]
      · iexact if1
      isplitl [HlF_src]
      · iexact HlF_src
      · iexact HpV
    icases HH with ⟨⟨%Y, HpH⟩, HLand, HCur⟩
    generalize hv : padM.view.readAt (Elt F) (Rect.unit (s := S32) (k0_off17 i) S1.size (k0_off17_inb i)).toLoadRect TP (Shape.Idx.first _) = v53 at *
    have e4 := chk4_of hg v53
    rcases size_cases t h1 v53 hp' with ⟨hr, a5, a6, a7, a8⟩ | ⟨hr, a5, a6, a7, a8⟩ | ⟨hr, a5, a6, a7, a8⟩ | ⟨hr, a5, a6, a7, a8⟩
    · have g18 := lr_sub (off18_at hg) (n := S128x1x1024.size) (by decide) (k0_off18_inb v1 v3 t v53 e4 a5)
      have g19 := sr_sub (off19_at hg) (n := S512x1x1024.size) (by decide) (k0_off19_inb v1 v3 t v53 e4 a5)
      have s19 := sr_store (off19_at hg) (k0_off19_inb v1 v3 t v53 e4 a5)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel128 c arg6 arg8 B1 B2 W1 W2 hr ?_
          exact fun y z h => lr_read c (off18_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off19_at hg) (k0_off19_inb v1 v3 t v53 e4 a5) gs (stagedOf c fo)
      isplitl [HLand]
      · iexact HLand
      · iexact HCur
    · have g18 := lr_sub (off23_at hg) (n := S256x1x1024.size) (by decide) (k0_off23_inb v1 v3 t v53 e4 a6)
      have g19 := sr_sub (off24_at hg) (n := S512x1x1024.size) (by decide) (k0_off24_inb v1 v3 t v53 e4 a6)
      have s19 := sr_store (off24_at hg) (k0_off24_inb v1 v3 t v53 e4 a6)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel256 c arg6 arg8 B1 B2 W1 W2 hr ?_
          exact fun y z h => lr_read c (off23_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off24_at hg) (k0_off24_inb v1 v3 t v53 e4 a6) gs (stagedOf c fo)
      isplitl [HLand]
      · iexact HLand
      · iexact HCur
    · have g18 := lr_sub (off28_at hg) (n := S384x1x1024.size) (by decide) (k0_off28_inb v1 v3 t v53 e4 a7)
      have g19 := sr_sub (off29_at hg) (n := S512x1x1024.size) (by decide) (k0_off29_inb v1 v3 t v53 e4 a7)
      have s19 := sr_store (off29_at hg) (k0_off29_inb v1 v3 t v53 e4 a7)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel384 c arg6 arg8 B1 B2 W1 W2 hr ?_
          exact fun y z h => lr_read c (off28_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off29_at hg) (k0_off29_inb v1 v3 t v53 e4 a7) gs (stagedOf c fo)
      isplitl [HLand]
      · iexact HLand
      · iexact HCur
    · have g18 := lr_sub (off33_at hg) (n := S512x1x1024.size) (by decide) (k0_off33_inb v1 v3 t v53 e4 a8)
      have g19 := sr_sub (off34_at hg) (n := S512x1x1024.size) (by decide) (k0_off34_inb v1 v3 t v53 e4 a8)
      have s19 := sr_store (off34_at hg) (k0_off34_inb v1 v3 t v53 e4 a8)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel512 c arg6 arg8 B1 B2 W1 W2 hr ?_
          exact fun y z h => lr_read c (off33_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off34_at hg) (k0_off34_inb v1 v3 t v53 e4 a8) gs (stagedOf c fo)
      isplitl [HLand]
      · iexact HLand
      · iexact HCur
  · sl_exec
    sl_step
    ihave HlN : nextOut c v1 v3 v5 v7 t X1 fn $$ [HlN_1 HlN_2]
    · iapply (Guarded.intro_neg c3)
      isplitl [HlN_1]
      · iexact HlN_1
      · iexact HlN_2
    ihave HH := (homes_split c (gN v1 v3 t) (cond4_iff hg) (sLanded c (Ring.sl 2 (gN v1 v3 t - 1)) (Ring.bk 160 (gN v1 v3 t - 3)) gs f) X0) $$ [if1 HlF_src HpV]
    · isplitl [if1]
      · iexact if1
      isplitl [HlF_src]
      · iexact HlF_src
      · iexact HpV
    icases HH with ⟨⟨%Y, HpH⟩, HLand, HCur⟩
    generalize hv : padM.view.readAt (Elt F) (Rect.unit (s := S32) (k0_off17 i) S1.size (k0_off17_inb i)).toLoadRect TP (Shape.Idx.first _) = v53 at *
    have e4 := chk4_of hg v53
    rcases size_cases t h1 v53 hp' with ⟨hr, a5, a6, a7, a8⟩ | ⟨hr, a5, a6, a7, a8⟩ | ⟨hr, a5, a6, a7, a8⟩ | ⟨hr, a5, a6, a7, a8⟩
    · have g18 := lr_sub (off18_at hg) (n := S128x1x1024.size) (by decide) (k0_off18_inb v1 v3 t v53 e4 a5)
      have g19 := sr_sub (off19_at hg) (n := S512x1x1024.size) (by decide) (k0_off19_inb v1 v3 t v53 e4 a5)
      have s19 := sr_store (off19_at hg) (k0_off19_inb v1 v3 t v53 e4 a5)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel128 c arg6 arg8 B1 B2 W1 W2 hr ?_
          exact fun y z h => lr_read c (off18_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off19_at hg) (k0_off19_inb v1 v3 t v53 e4 a5) gs (stagedOf c fo)
      isplitl [HLand]
      · iexact HLand
      · iexact HCur
    · have g18 := lr_sub (off23_at hg) (n := S256x1x1024.size) (by decide) (k0_off23_inb v1 v3 t v53 e4 a6)
      have g19 := sr_sub (off24_at hg) (n := S512x1x1024.size) (by decide) (k0_off24_inb v1 v3 t v53 e4 a6)
      have s19 := sr_store (off24_at hg) (k0_off24_inb v1 v3 t v53 e4 a6)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel256 c arg6 arg8 B1 B2 W1 W2 hr ?_
          exact fun y z h => lr_read c (off23_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off24_at hg) (k0_off24_inb v1 v3 t v53 e4 a6) gs (stagedOf c fo)
      isplitl [HLand]
      · iexact HLand
      · iexact HCur
    · have g18 := lr_sub (off28_at hg) (n := S384x1x1024.size) (by decide) (k0_off28_inb v1 v3 t v53 e4 a7)
      have g19 := sr_sub (off29_at hg) (n := S512x1x1024.size) (by decide) (k0_off29_inb v1 v3 t v53 e4 a7)
      have s19 := sr_store (off29_at hg) (k0_off29_inb v1 v3 t v53 e4 a7)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel384 c arg6 arg8 B1 B2 W1 W2 hr ?_
          exact fun y z h => lr_read c (off28_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off29_at hg) (k0_off29_inb v1 v3 t v53 e4 a7) gs (stagedOf c fo)
      isplitl [HLand]
      · iexact HLand
      · iexact HCur
    · have g18 := lr_sub (off33_at hg) (n := S512x1x1024.size) (by decide) (k0_off33_inb v1 v3 t v53 e4 a8)
      have g19 := sr_sub (off34_at hg) (n := S512x1x1024.size) (by decide) (k0_off34_inb v1 v3 t v53 e4 a8)
      have s19 := sr_store (off34_at hg) (k0_off34_inb v1 v3 t v53 e4 a8)
      sl_exec
      sl_step
      isplitr
      · ipureintro
        rfl
      isplitl [HP]
      · iexact HP
      isplitl [HB1]
      · iexact HB1
      isplitl [HB2]
      · iexact HB2
      isplitl [HW1]
      · iexact HW1
      isplitl [HW2]
      · iexact HW2
      isplitl [HX]
      · iexists _
        iexact HX
      isplitl [HA]
      · iexists _
        iexact HA
      isplitl [HO]
      · iexists _
        isplitr
        rotate_left
        · iexact HO
        · ipureintro
          refine rel512 c arg6 arg8 B1 B2 W1 W2 hr ?_
          exact fun y z h => lr_read c (off33_at hg) _ _ _ y z h
      isplitl [HW]
      · iexists _
        iexact HW
      isplitl [HlF]
      · iexact HlF
      isplitl [HlF_dst]
      · iexists _
        iexact HlF_dst
      isplitl [HlN]
      · iexact HlN
      isplitl [HsF_1]
      · iexists _, _
        isplitr
        rotate_left
        · iexact HsF_1
        · ipureintro
          exact sr_read_store c (off34_at hg) (k0_off34_inb v1 v3 t v53 e4 a8) gs (stagedOf c fo)
      isplitl [HLand]
      · iexact HLand
      · iexact HCur

end Trip

end Cert.Proof.Exp
-- ==== Proof.ExpRing.lean ====
/-
  The experts' two rings, over abstract states of their slots and blocks: what each holds before the block numbered `g`
  of `n`, and how a trip moves them on.
-/
module

public import Idealize.ShloMosaic.Lib.Ring.Trips
public import Idealize.ShloMosaic.Lib.Tactic

@[expose] public section

noncomputable section

namespace Cert.Proof.Exp

open Idealize.ShloMosaic
open Idealize.SL Idealize.SL.RA Idealize.SL.BI
open scoped Idealize.SL.BI
open Idealize.SL.BI.BIBase Idealize.SL.BI.Laws Idealize.SL.ProofMode Idealize.SL.Sem

variable {M : Type _} [URA M]

theorem sl_two (g : ℕ) : Ring.sl 2 (g + 2) = Ring.sl 2 g := Fin.ext (by simp [Fin.ofNat])
theorem bk_val {g : ℕ} (h : g < 160) : (Ring.bk 160 g).val = g := by simp [Fin.ofNat, Nat.mod_eq_of_lt h]
theorem put {i : Fin 160} {s : Finset (Fin 160)} (h : i ∉ s) (P : Fin 160 → sProp M) :
    bigSep (insert i s) P = iprop(P i ∗ bigSep s P) := bigSep_insert h

/-! ## The blocks -/

section Blocks

variable (H : Fin 160 → sProp M)

/-- The blocks before `k`, and the blocks from `k` on. -/
def before (k : ℕ) : sProp M := bigSep (Finset.univ.filter fun b : Fin 160 => b.val < k) H
def since (k : ℕ) : sProp M := bigSep (Finset.univ.filter fun b : Fin 160 => k ≤ b.val) H

theorem before_zero : (iprop(emp) : sProp M) ⊢ before H 0 := by
  unfold before
  rw [show (Finset.univ.filter fun b : Fin 160 => b.val < 0) = ∅ from Finset.ext (by simp)]
  exact .rfl
theorem since_zero : bigSep Finset.univ H ⊢ since H 0 := by
  unfold since
  rw [show (Finset.univ.filter fun b : Fin 160 => 0 ≤ b.val) = Finset.univ from Finset.ext (by simp)]
theorem before_succ {k : ℕ} (h : k < 160) : iprop(before H k ∗ H (Ring.bk 160 k)) ⊢ before H (k + 1) := by
  unfold before
  have e : (Finset.univ.filter fun b : Fin 160 => b.val < k + 1) = insert (Ring.bk 160 k) (Finset.univ.filter fun b : Fin 160 => b.val < k) := by
    ext b
    simp only [Finset.mem_filter, Finset.mem_univ, true_and, Finset.mem_insert, Fin.ext_iff, bk_val h]
    omega
  rw [e, put (by simp only [Finset.mem_filter, Finset.mem_univ, true_and, bk_val h]; omega)]
  iintro ⟨H1, H2⟩
  isplitl [H2]; · iexact H2
  iexact H1
theorem since_succ {k : ℕ} (h : k < 160) : since H k ⊢ iprop(H (Ring.bk 160 k) ∗ since H (k + 1)) := by
  unfold since
  have e : (Finset.univ.filter fun b : Fin 160 => k ≤ b.val) = insert (Ring.bk 160 k) (Finset.univ.filter fun b : Fin 160 => k + 1 ≤ b.val) := by
    ext b
    simp only [Finset.mem_filter, Finset.mem_univ, true_and, Finset.mem_insert, Fin.ext_iff, bk_val h]
    omega
  rw [e, put (by simp only [Finset.mem_filter, Finset.mem_univ, true_and, bk_val h]; omega)]

end Blocks

/-! ## The rings -/

section Rings

variable (LI : Fin 2 → Fin 160 → sProp M) (LF : Fin 2 → sProp M) (SI SJ : Fin 2 → Fin 160 → sProp M) (SF : Fin 2 → sProp M)
  (HX HA HD : Fin 160 → sProp M)

/-- The slots read into: block `g` on its way if there is one, the other slot free. -/
def loads (n g : ℕ) : sProp M :=
  if g < n then iprop(LI (Ring.sl 2 g) (Ring.bk 160 g) ∗ LF (Ring.sl 2 (g + 1))) else iprop(LF (Ring.sl 2 g) ∗ LF (Ring.sl 2 (g + 1)))
/-- The slot the trip will send from: what it sent two trips ago, or free. -/
def store1 (g : ℕ) : sProp M :=
  if 3 ≤ g then SI (Ring.sl 2 (g - 1)) (Ring.bk 160 (g - 3)) else if g = 1 then SJ (Ring.sl 2 (g - 1)) (Ring.bk 160 (g - 3)) else SF (Ring.sl 2 (g - 1))
/-- The slot sent from last. -/
def store2 (g : ℕ) : sProp M :=
  if 2 ≤ g then SI (Ring.sl 2 (g - 1 + 1)) (Ring.bk 160 (g - 2)) else SF (Ring.sl 2 (g - 1 + 1))
/-- The block computed last, not sent yet. -/
def store3 (g : ℕ) : sProp M := if 2 ≤ g then HA (Ring.bk 160 (g - 1)) else iprop(emp)
/-- What a trip sends. -/
def sent (g : ℕ) : sProp M := if 1 ≤ g then SI (Ring.sl 2 (g - 1)) (Ring.bk 160 (g - 1)) else SJ (Ring.sl 2 (g - 1)) (Ring.bk 160 (g - 1))

theorem loads_open {n g : ℕ} (h : g < n) : loads LI LF n g ⊢ iprop(LI (Ring.sl 2 g) (Ring.bk 160 g) ∗ LF (Ring.sl 2 (g + 1))) := by
  unfold loads
  rw [if_pos h]
theorem loads_next {n g : ℕ} (h : g < n) :
    iprop(LF (Ring.sl 2 g) ∗ (if g + 1 < n then LI (Ring.sl 2 (g + 1)) (Ring.bk 160 (g + 1)) else LF (Ring.sl 2 (g + 1)))) ⊢ loads LI LF n (g + 1) := by
  unfold loads
  rw [show g + 1 + 1 = g + 2 from rfl, sl_two]
  split
  · iintro ⟨H1, H2⟩
    isplitl [H2]; · iexact H2
    iexact H1
  · iintro ⟨H1, H2⟩
    isplitl [H2]; · iexact H2
    iexact H1
theorem slots_both (P : Fin 2 → sProp M) (g : ℕ) : iprop(P (Ring.sl 2 g) ∗ P (Ring.sl 2 (g + 1))) ⊢ iprop(P 0 ∗ P 1) := by
  rcases Nat.mod_two_eq_zero_or_one g with h | h
  · have e0 : Ring.sl 2 g = 0 := Fin.ext (by simpa [Fin.ofNat] using h)
    have e1 : Ring.sl 2 (g + 1) = 1 := Fin.ext (by simp only [Fin.ofNat, Fin.val_one]; omega)
    rw [e0, e1]
  · have e0 : Ring.sl 2 g = 1 := Fin.ext (by simpa [Fin.ofNat] using h)
    have e1 : Ring.sl 2 (g + 1) = 0 := Fin.ext (by simp only [Fin.ofNat, Fin.val_zero]; omega)
    rw [e0, e1]
    iintro ⟨H1, H0⟩
    isplitl [H0]; · iexact H0
    iexact H1
theorem loads_end {n : ℕ} : loads LI LF n n ⊢ iprop(LF 0 ∗ LF 1) := by
  unfold loads
  rw [if_neg (by omega)]
  exact slots_both LF n
theorem since_open {n g : ℕ} (hn : n ≤ 160) :
    since HX (min (g + 1) n) ⊢ iprop((if g + 1 < n then HX (Ring.bk 160 (g + 1)) else iprop(emp)) ∗ since HX (min (g + 1 + 1) n)) := by
  by_cases h : g + 1 < n
  · rw [if_pos h, Nat.min_eq_left (by omega), Nat.min_eq_left (by omega)]
    exact since_succ HX (by omega)
  · rw [if_neg h, Nat.min_eq_right (by omega), Nat.min_eq_right (by omega)]
    iintro H
    isplitr
    · iempintro
    · iexact H
theorem before_next {g : ℕ} (h : g ≤ 160) :
    iprop(before HD (g - 3) ∗ (if 3 ≤ g then HD (Ring.bk 160 (g - 3)) else iprop(emp))) ⊢ before HD (g + 1 - 3) := by
  by_cases h3 : 3 ≤ g
  · rw [if_pos h3, show g + 1 - 3 = g - 3 + 1 by omega]
    exact before_succ HD (by omega)
  · rw [if_neg h3, show g + 1 - 3 = g - 3 by omega]
    iintro ⟨H, -⟩
    iexact H
theorem before_end {n : ℕ} (h1 : 1 ≤ n) (h : n ≤ 160) :
    iprop(before HD (n - 3) ∗ (if 3 ≤ n then HD (Ring.bk 160 (n - 3)) else iprop(emp)) ∗ (if 2 ≤ n then HD (Ring.bk 160 (n - 2)) else iprop(emp)) ∗ HD (Ring.bk 160 (n - 1)))
      ⊢ before HD n := by
  have s : iprop(before HD (n - 3) ∗ (if 3 ≤ n then HD (Ring.bk 160 (n - 3)) else iprop(emp))) ⊢ before HD (n - 2) := by
    have k := before_next HD (g := n) h
    rwa [show n + 1 - 3 = n - 2 by omega] at k
  have s2 : iprop(before HD (n - 2) ∗ (if 2 ≤ n then HD (Ring.bk 160 (n - 2)) else iprop(emp))) ⊢ before HD (n - 1) := by
    by_cases h2 : 2 ≤ n
    · rw [if_pos h2]
      have k := before_succ HD (k := n - 2) (by omega)
      rwa [show n - 2 + 1 = n - 1 by omega] at k
    · rw [if_neg h2, show n - 1 = n - 2 by omega]
      iintro ⟨H, -⟩
      iexact H
  have s3 : iprop(before HD (n - 1) ∗ HD (Ring.bk 160 (n - 1))) ⊢ before HD n := by
    have k := before_succ HD (k := n - 1) (by omega)
    rwa [show n - 1 + 1 = n by omega] at k
  iintro ⟨H, H3, H2, H1⟩
  iapply s3
  isplitr [H1]
  · iapply s2
    isplitr [H2]
    · iapply s
      isplitl [H]; · iexact H
      iexact H3
    · iexact H2
  · iexact H1

theorem store_next (g : ℕ) :
    iprop(sent SI SJ g ∗ store2 SI SF g ∗ (if 1 ≤ g then HA (Ring.bk 160 g) else iprop(emp)))
      ⊢ iprop(store1 SI SJ SF (g + 1) ∗ store2 SI SF (g + 1) ∗ store3 HA (g + 1)) := by
  unfold sent store1 store2 store3
  rcases Nat.lt_or_ge g 1 with h | h
  · obtain rfl : g = 0 := by omega
    iintro ⟨H1, H2, -⟩
    isplitl [H1]
    · iexact H1
    isplitl [H2]
    · iexact H2
    · iempintro
  rcases Nat.lt_or_ge g 2 with h' | h'
  · obtain rfl : g = 1 := by omega
    iintro ⟨H1, H2, H3⟩
    isplitl [H2]
    · iexact H2
    isplitl [H1]
    · iexact H1
    · iexact H3
  · have e : Ring.sl 2 (g + 1 - 1 + 1) = Ring.sl 2 (g - 1) := by rw [show g + 1 - 1 + 1 = g - 1 + 2 by omega, sl_two]
    rw [if_pos h, if_pos h', if_pos h, if_pos (by omega), if_pos (by omega), if_pos (by omega), e]
    rw [show g - 1 + 1 = g + 1 - 1 by omega, show g + 1 - 3 = g - 2 by omega, show g + 1 - 2 = g - 1 by omega]
    iintro ⟨H1, H2, H3⟩
    isplitl [H2]
    · iexact H2
    isplitl [H1]
    · iexact H1
    · rw [show g + 1 - 1 = g by omega]
      iexact H3

end Rings

end Cert.Proof.Exp

end
-- ==== Proof.ExpState.lean ====
/-
  The experts' pipeline before the block numbered `g` of `n`, and a trip as a step from one block to the next.
-/
module

public import proofs.«01_k».proof.Proof.ExpTrip
public import proofs.«01_k».proof.Proof.ExpRing

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The rings' states -/

section Rings

variable (c : Dev nD) (X : Buf (Elt F) (yM.view.loc (c : Thread nD τ))) (G : Fin 160 → (S512x1x1024.Idx → Elt F .f32) → Prop)

/-- Block `b` on its way into slot `s`; slot `s` free. -/
abbrev loadAt (s : Fin 2) (b : Fin 160) (f : Buf (Elt F) ((lS s).view.loc (c : Thread nD τ))) : sProp 𝕄 := lFlightP c s b X f
abbrev loadOn (s : Fin 2) (b : Fin 160) : sProp 𝕄 := iprop(∃ f, loadAt c X s b f)
abbrev loadFree (s : Fin 2) : sProp 𝕄 := iprop(lCellP c s ∗ ∃ f, holds c (lS s) f)
/-- Block `b` on its way out of slot `s`, good (`G`) or whatever it is; slot `s` free. -/
abbrev sendOn (s : Fin 2) (b : Fin 160) : sProp 𝕄 := iprop(∃ g f, ⌜G b ((sS s).view.read (Elt F) g)⌝ ∗ sFlightP c s b g f)
abbrev sendAny (s : Fin 2) (b : Fin 160) : sProp 𝕄 := iprop(∃ g f, sFlightP c s b g f)
abbrev sendFree (s : Fin 2) : sProp 𝕄 := iprop(sCellP c s ∗ ∃ f, holds c (sS s) f)
/-- Block `b` as it was, as it may be, and finished. -/
abbrev homeX (b : Fin 160) : sProp 𝕄 := holds c (yB b) X
abbrev homeAny (b : Fin 160) : sProp 𝕄 := iprop(∃ Y, holds c (yB b) Y)
abbrev homeDone (b : Fin 160) : sProp 𝕄 := iprop(∃ f, ⌜G b ((yB b).view.read (Elt F) f)⌝ ∗ holds c (yB b) f)

/-- Before block `g` of `n`. -/
def Pos (n g : ℕ) : sProp 𝕄 :=
  iprop(loads (loadOn c X) (loadFree c) n g ∗ store1 (sendOn c G) (sendAny c) (sendFree c) g ∗ store2 (sendOn c G) (sendFree c) g ∗ store3 (homeAny c) g
    ∗ before (homeDone c G) (g - 3) ∗ since (homeX c X) (min (g + 1) n)
    ∗ (∃ o, ⌜1 ≤ g → G (Ring.bk 160 (g - 1)) (stagedOf c o)⌝ ∗ holds c oM o) ∗ (∃ f, holds c xM f) ∗ (∃ f, holds c aM f) ∗ (∃ W, owes (c : Thread nD τ) 0 W))

theorem store1_open {g : ℕ} {C : Prop} [Decidable C] (hC : C ↔ g = 1 ∨ 3 ≤ g) :
    store1 (sendOn c G) (sendAny c) (sendFree c) g
      ⊢ iprop(∃ (gs : Buf (Elt F) ((sS (Ring.sl 2 (g - 1))).view.loc (c : Thread nD τ))) (f : Buf (Elt F) ((yB (Ring.bk 160 (g - 3))).view.loc (c : Thread nD τ))), ⌜3 ≤ g → G (Ring.bk 160 (g - 3)) ((sS (Ring.sl 2 (g - 1))).view.read (Elt F) gs)⌝
          ∗ Guarded C (fun _ => sFlightP c (Ring.sl 2 (g - 1)) (Ring.bk 160 (g - 3)) gs f)
              (fun _ => iprop(sCellP c (Ring.sl 2 (g - 1)) ∗ holds c (sS (Ring.sl 2 (g - 1))) gs))) := by
  unfold store1
  by_cases h3 : 3 ≤ g
  · rw [if_pos h3]
    iintro ⟨%gs, %f, %hG, H⟩
    iexists gs, f
    isplitr
    · ipureintro; exact fun _ => hG
    · iapply (Guarded.intro_pos (hC.2 (Or.inr h3))); iexact H
  rw [if_neg h3]
  by_cases h1 : g = 1
  · rw [if_pos h1]
    iintro ⟨%gs, %f, H⟩
    iexists gs, f
    isplitr
    · ipureintro; exact fun h => absurd h h3
    · iapply (Guarded.intro_pos (hC.2 (Or.inl h1))); iexact H
  · rw [if_neg h1]
    iintro ⟨HC, %gs, H⟩
    iexists gs, (yB (Ring.bk 160 (g - 3))).view.junk
    isplitr
    · ipureintro; exact fun h => absurd h h3
    · iapply (Guarded.intro_neg (fun k => (hC.1 k).elim h1 h3))
      isplitl [HC]
      · iexact HC
      · iexact H

theorem sent_of {g : ℕ} (fo : Buf (Elt F) (oM.view.loc (c : Thread nD τ))) (hG : 1 ≤ g → G (Ring.bk 160 (g - 1)) (stagedOf c fo)) :
    iprop(∃ gs Y, ⌜(sS (Ring.sl 2 (g - 1))).view.read (Elt F) gs = stagedOf c fo⌝ ∗ sFlightP c (Ring.sl 2 (g - 1)) (Ring.bk 160 (g - 1)) gs Y)
      ⊢ sent (sendOn c G) (sendAny c) g := by
  unfold sent
  iintro ⟨%gs, %Y, %e, H⟩
  by_cases h : 1 ≤ g
  · rw [if_pos h]
    iexists gs, Y
    isplitr
    · ipureintro; rw [e]; exact hG h
    · iexact H
  · rw [if_neg h]
    iexists gs, Y
    iexact H

theorem done_of {s : Fin 2} {b : Fin 160} (gs : Buf (Elt F) ((sS s).view.loc (c : Thread nD τ))) (f : Buf (Elt F) ((yB b).view.loc (c : Thread nD τ)))
    (hG : G b ((sS s).view.read (Elt F) gs)) : holds c (yB b) (sLanded c s b gs f) ⊢ homeDone c G b := by
  iintro H
  iexists (sLanded c s b gs f)
  isplitr
  · ipureintro
    rw [show (yB b).view.read (Elt F) (sLanded c s b gs f) = (sS s).view.read (Elt F) gs from View.read_writes_whole _ _ _]
    exact hG
  · iexact H

theorem done_if {g : ℕ} (gs : Buf (Elt F) ((sS (Ring.sl 2 (g - 1))).view.loc (c : Thread nD τ))) (f : Buf (Elt F) ((yB (Ring.bk 160 (g - 3))).view.loc (c : Thread nD τ)))
    (hG : 3 ≤ g → G (Ring.bk 160 (g - 3)) ((sS (Ring.sl 2 (g - 1))).view.read (Elt F) gs)) :
    (if 3 ≤ g then holds c (yB (Ring.bk 160 (g - 3))) (sLanded c (Ring.sl 2 (g - 1)) (Ring.bk 160 (g - 3)) gs f) else (iprop(emp) : sProp 𝕄))
      ⊢ (if 3 ≤ g then homeDone c G (Ring.bk 160 (g - 3)) else (iprop(emp) : sProp 𝕄)) := by
  by_cases h : 3 ≤ g
  · rw [if_pos h, if_pos h]
    exact done_of c G gs f (hG h)
  · rw [if_neg h, if_neg h]

theorem any_if {g : ℕ} : (if 1 ≤ g then homeX c X (Ring.bk 160 g) else (iprop(emp) : sProp 𝕄)) ⊢ (if 1 ≤ g then homeAny c (Ring.bk 160 g) else (iprop(emp) : sProp 𝕄)) := by
  by_cases h : 1 ≤ g
  · rw [if_pos h, if_pos h]
    iintro H
    iexists X
    iexact H
  · rw [if_neg h, if_neg h]

/-- The next block's slot before the trip, and after it. -/
theorem next_in {g n : ℕ} {C : Prop} [Decidable C] (hC : C ↔ g + 1 < n) (fn : Buf (Elt F) ((lS (Ring.sl 2 (g + 1))).view.loc (c : Thread nD τ))) :
    iprop(lCellP c (Ring.sl 2 (g + 1)) ∗ holds c (lS (Ring.sl 2 (g + 1))) fn ∗ (if g + 1 < n then homeX c X (Ring.bk 160 (g + 1)) else (iprop(emp) : sProp 𝕄)))
      ⊢ (Guarded C (fun _ => iprop(lCellP c (Ring.sl 2 (g + 1)) ∗ holds c (lS (Ring.sl 2 (g + 1))) fn ∗ homeX c X (Ring.bk 160 (g + 1))))
          (fun _ => iprop(lCellP c (Ring.sl 2 (g + 1)) ∗ holds c (lS (Ring.sl 2 (g + 1))) fn)) : sProp 𝕄) := by
  by_cases h : g + 1 < n
  · rw [if_pos h, Guarded.pos (hC.2 h)]
  · rw [if_neg h, Guarded.neg (fun k => h (hC.1 k))]
    iintro ⟨H1, H2, -⟩
    isplitl [H1]
    · iexact H1
    · iexact H2
theorem next_out {g n : ℕ} {C : Prop} [Decidable C] (hC : C ↔ g + 1 < n) (fn : Buf (Elt F) ((lS (Ring.sl 2 (g + 1))).view.loc (c : Thread nD τ))) :
    (Guarded C (fun _ => loadAt c X (Ring.sl 2 (g + 1)) (Ring.bk 160 (g + 1)) fn)
        (fun _ => iprop(lCellP c (Ring.sl 2 (g + 1)) ∗ holds c (lS (Ring.sl 2 (g + 1))) fn)) : sProp 𝕄)
      ⊢ (if g + 1 < n then loadOn c X (Ring.sl 2 (g + 1)) (Ring.bk 160 (g + 1)) else loadFree c (Ring.sl 2 (g + 1))) := by
  by_cases h : g + 1 < n
  · rw [if_pos h, Guarded.pos (hC.2 h)]
    iintro H
    iexists fn
    iexact H
  · rw [if_neg h, Guarded.neg (fun k => h (hC.1 k))]
    iintro ⟨H1, H2⟩
    isplitl [H1]
    · iexact H1
    · iexists fn
      iexact H2

end Rings

section Step

variable (c : Dev nD) (X : Buf (Elt F) (yM.view.loc (c : Thread nD τ))) (G : Fin 160 → (S512x1x1024.Idx → Elt F .f32) → Prop) (i : grid0.Coords)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (v1 v3 v5 v7 : BitVec 32) (hw1 : k0_chk1 v1) (hw2 : k0_chk2 v1 v3) (hw3 : k0_chk3 i v1 v3 v5 v7)
  (t : Trip v1)

/-- A trip takes the pipeline from its block to the next. -/
theorem step (q : PosShare TreeShare) (hg : gN v1 v3 t < nN v5 v7) (hn : nN v5 v7 ≤ 160)
    (TP : Buf (Elt F) (padM.view.loc (c : Thread nD τ))) (B1 : Buf (Elt F) (arg6.view.loc (c : Thread nD τ))) (B2 : Buf (Elt F) (arg8.view.loc (c : Thread nD τ)))
    (W1 : Buf (Elt F) (w1M.view.loc (c : Thread nD τ))) (W2 : Buf (Elt F) (w2M.view.loc (c : Thread nD τ)))
    (h1 : v1.toNat ≤ 160) (hp : ∀ j, (padM.view.readAt (Elt F) (Rect.unit (s := S32) (k0_off17 i) S1.size (k0_off17_inb i)).toLoadRect TP j : BitVec 32).toNat < 512)
    (hQ : ∀ fo o, TripRel c arg6 arg8 B1 B2 W1 W2 (rowsN v1 t (padM.view.readAt (Elt F) (Rect.unit (s := S32) (k0_off17 i) S1.size (k0_off17_inb i)).toLoadRect TP (Shape.Idx.first (numel1_S1.symm ▸ Nat.one_pos)))) ((yB (Ring.bk 160 (gN v1 v3 t))).view.read (Elt F) X) fo o → G (Ring.bk 160 (gN v1 v3 t)) (stagedOf c o)) :
    iprop((padM.view.loc (c : Thread nD τ) ↦[padM.view.set]{q} TP) ∗ holds c arg6 B1 ∗ holds c arg8 B2 ∗ holds c w1M W1 ∗ holds c w2M W2
      ∗ Pos c X G (nN v5 v7) (gN v1 v3 t))
     ⊢ wp frame (wpE (defs₀ (F := F)) 𝒱₀ (c : Thread nD τ) none) Set.univ (tripG i arg5 harg5 arg6 harg6 arg7 harg7 arg8 harg8 v1 v3 v5 v7 hw1 hw2 hw3 t 0#32)
        (fun a => iprop(⌜a = 0#32⌝ ∗ (padM.view.loc (c : Thread nD τ) ↦[padM.view.set]{q} TP) ∗ holds c arg6 B1 ∗ holds c arg8 B2 ∗ holds c w1M W1 ∗ holds c w2M W2
          ∗ Pos c X G (nN v5 v7) (gN v1 v3 t + 1))) := by
  have hg' : gN v1 v3 t < 160 := hg.trans_le hn
  have c4 := cond4_iff hg'
  have c3 := cond3_iff (v5 := v5) (v7 := v7) hg' hn
  unfold Pos
  iintro ⟨HP, HB1, HB2, HW1, HW2, HL, HS1, HS2, HS3, HD, HR, ⟨%fo, %hfo, HO⟩, ⟨%fx, HX⟩, ⟨%fa, HA⟩, ⟨%W, HW⟩⟩
  ihave HL := (loads_open (loadOn c X) (loadFree c) hg) $$ HL
  icases HL with ⟨⟨%fl, HlF⟩, HlC, ⟨%fn, HlS⟩⟩
  ihave HR := (since_open (homeX c X) (g := gN v1 v3 t) hn) $$ HR
  icases HR with ⟨HN, HR⟩
  ihave HS1 := (store1_open c G c4) $$ HS1
  icases HS1 with ⟨%gs, %f, %hgs, HS1⟩
  iapply (wp_wand_r Idealize.ShloMosaic.frame (wpE (defs₀ (F := F)) 𝒱₀ (c : Thread nD τ) none) Set.univ)
  isplitl [HP HB1 HB2 HW1 HW2 HX HA HO HW HlF HlC HlS HN HS1 HS3]
  · iapply (trip c i arg5 harg5 arg6 harg6 arg7 harg7 arg8 harg8 v1 v3 v5 v7 hw1 hw2 hw3 t q hg' hn TP B1 B2 W1 W2 fx fa fo fl fn gs f W X X h1 hp)
    isplitl [HP]; · iexact HP
    isplitl [HB1]; · iexact HB1
    isplitl [HB2]; · iexact HB2
    isplitl [HW1]; · iexact HW1
    isplitl [HW2]; · iexact HW2
    isplitl [HX]; · iexact HX
    isplitl [HA]; · iexact HA
    isplitl [HO]; · iexact HO
    isplitl [HW]; · iexact HW
    isplitl [HlF]; · iexact HlF
    isplitl [HlC HlS HN]
    · iapply (next_in c X c3 fn)
      isplitl [HlC]; · iexact HlC
      isplitl [HlS]; · iexact HlS
      iexact HN
    isplitl [HS1]; · iexact HS1
    unfold store3
    iexact HS3
  · iintro %a ⟨%ha, HP, HB1, HB2, HW1, HW2, HX, HA, ⟨%o, %ho, HO⟩, HW, HlC, HlS, HN, HF, HDn, HH⟩
    ihave HF := (sent_of c G fo hfo) $$ HF
    ihave HDn := (done_if c G gs f hgs) $$ HDn
    ihave HH := (any_if c X) $$ HH
    ihave HN := (next_out c X c3 fn) $$ HN
    ihave HS := (store_next (sendOn c G) (sendAny c) (sendFree c) (homeAny c) (gN v1 v3 t)) $$ [HF HS2 HH]
    · isplitl [HF]; · iexact HF
      isplitl [HS2]; · iexact HS2
      iexact HH
    icases HS with ⟨HS1, HS2, HS3⟩
    isplitr; · ipureintro; exact ha
    isplitl [HP]; · iexact HP
    isplitl [HB1]; · iexact HB1
    isplitl [HB2]; · iexact HB2
    isplitl [HW1]; · iexact HW1
    isplitl [HW2]; · iexact HW2
    isplitl [HlC HlS HN]
    · iapply (loads_next (loadOn c X) (loadFree c) hg)
      isplitr [HN]
      · isplitl [HlC]; · iexact HlC
        iexact HlS
      · iexact HN
    isplitl [HS1]; · iexact HS1
    isplitl [HS2]; · iexact HS2
    isplitl [HS3]; · iexact HS3
    isplitl [HD HDn]
    · iapply (before_next (homeDone c G) (by omega))
      isplitl [HD]; · iexact HD
      iexact HDn
    isplitl [HR]; · iexact HR
    isplitl [HO]
    · iexists o
      isplitr
      · ipureintro
        intro _
        exact hQ fo o ho
      · iexact HO
    isplitl [HX]; · iexact HX
    isplitl [HA]; · iexact HA
    iexact HW

end Step

end Cert.Proof.Exp

end
-- ==== Proof.ExpWeights.lean ====
/-
  The experts' weights as the conversion leaves them: each row of a weight's buffer, rounded to the matmuls' format.
-/
module

public import proofs.«01_k».proof.Proof.ExpRows
public import Idealize.ShloMosaic.Lib.Pipeline.ValueKit.Point

@[expose] public section

noncomputable section

namespace Cert.Proof.Exp

open Cert.Kernel3Ideal Cert.Kernel3Ideal.Gen
open Idealize.ShloMosaic
open Idealize.ShloMosaic.TcCoe Idealize.ShloMosaic.Tactic

variable {F : FTy → Type} [FloatOps F]

/-- A piece of 64 rows, rounded. -/
theorem piece1 (x : Vec F S1x64x2048 .f32) (r : Fin 64) (j : Fin 2048) : k0_pay2 x (ix2 r j) = FloatOps.truncf .bf16 bitsLt_bf16_f32 (x (ix3 0 r j)) := by
  pointwise [k0_pay2]
theorem piece2 (x : Vec F S1x64x1024 .f32) (r : Fin 64) (j : Fin 1024) : k0_pay3 x (ix2 r j) = FloatOps.truncf .bf16 bitsLt_bf16_f32 (x (ix3 0 r j)) := by
  pointwise [k0_pay3]

section Up

variable (c : Dev nD) (arg5 : Memref sig .tc .vmem S1x1024x2048 .f32) (arg7 : Memref sig .tc .vmem S1x1024x1024 .f32)

/-- The rows of the expert's weights the scratches hold after `k` trips, in the matmuls' format. -/
def W1Up (A5 : Buf (Elt F) (arg5.view.loc (c : Thread nD τ))) (k : ℕ) (f : Buf (Elt F) (w1M.view.loc (c : Thread nD τ))) : Prop :=
  ∀ (r : Fin 1024) (j : Fin 2048), r.val < 64 * k →
    (w1M.view.read (Elt F) f : S1024x2048.Idx → Elt F .bf16) (ix2 r j) = FloatOps.truncf .bf16 bitsLt_bf16_f32 ((arg5.view.read (Elt F) A5 : S1x1024x2048.Idx → Elt F .f32) (ix3 0 r j))
def W2Up (A7 : Buf (Elt F) (arg7.view.loc (c : Thread nD τ))) (k : ℕ) (f : Buf (Elt F) (w2M.view.loc (c : Thread nD τ))) : Prop :=
  ∀ (r : Fin 1024) (j : Fin 1024), r.val < 64 * k →
    (w2M.view.read (Elt F) f : S1024x1024.Idx → Elt F .bf16) (ix2 r j) = FloatOps.truncf .bf16 bitsLt_bf16_f32 ((arg7.view.read (Elt F) A7 : S1x1024x1024.Idx → Elt F .f32) (ix3 0 r j))

/-- A trip adds its 64 rows. -/
theorem w1_up {k : ℕ} {A5 : Buf (Elt F) (arg5.view.loc (c : Thread nD τ))} {f : Buf (Elt F) (w1M.view.loc (c : Thread nD τ))} (hf : W1Up c arg5 A5 k f)
    {off5 : Fin 2 → ℕ} (e5 : off5 = ![k * 64, 0]) (inb5 : ∀ a, off5 a + S64x2048.size a ≤ S1024x2048.size a)
    {off4 : Fin 3 → ℕ} (e4 : off4 = ![0, k * 64, 0]) (inb4 : ∀ a, off4 a + S1x64x2048.size a ≤ S1x1024x2048.size a) :
    W1Up c arg5 A5 (k + 1) (w1M.view.writes (Elt F) f [⟨Rect.unit (s := S1024x2048) off5 S64x2048.size inb5,
      k0_pay2 (arg5.view.readAt (Elt F) (Rect.unit (s := S1x1024x2048) off4 S1x64x2048.size inb4).toLoadRect A5)⟩]) := by
  intro r j hr
  subst e4
  by_cases h : r.val < 64 * k
  · refine Eq.trans ?_ (hf r j h)
    refine View.read_writes_cons_unit_of_not_mem w1M.view f inb5 _ [] (ix2 r j) e5 0 (Or.inl ?_)
    show r.val < k * 64
    omega
  · refine (View.read_writes_cons_unit_of_mem w1M.view f inb5 _ [] (ix2 r j) (ix2 (⟨r.val - 64 * k, by omega⟩ : Fin 64) j) e5 ?_).trans ?_
    · intro a
      match a with
      | 0 => show r.val = k * 64 + (r.val - 64 * k); omega
      | 1 => exact (Nat.zero_add _).symm
    · refine (piece1 _ _ _).trans (congrArg _ ?_)
      show arg5.view.read (Elt F) A5 _ = arg5.view.read (Elt F) A5 _
      refine congrArg _ (funext fun a => Fin.ext ?_)
      match a with
      | 0 => show 0 + 1 * 0 = 0; omega
      | 1 => show k * 64 + 1 * (r.val - 64 * k) = r.val; omega
      | 2 => show 0 + 1 * j.val = j.val; omega

theorem w2_up {k : ℕ} {A7 : Buf (Elt F) (arg7.view.loc (c : Thread nD τ))} {f : Buf (Elt F) (w2M.view.loc (c : Thread nD τ))} (hf : W2Up c arg7 A7 k f)
    {off7 : Fin 2 → ℕ} (e7 : off7 = ![k * 64, 0]) (inb7 : ∀ a, off7 a + S64x1024.size a ≤ S1024x1024.size a)
    {off6 : Fin 3 → ℕ} (e6 : off6 = ![0, k * 64, 0]) (inb6 : ∀ a, off6 a + S1x64x1024.size a ≤ S1x1024x1024.size a) :
    W2Up c arg7 A7 (k + 1) (w2M.view.writes (Elt F) f [⟨Rect.unit (s := S1024x1024) off7 S64x1024.size inb7,
      k0_pay3 (arg7.view.readAt (Elt F) (Rect.unit (s := S1x1024x1024) off6 S1x64x1024.size inb6).toLoadRect A7)⟩]) := by
  intro r j hr
  subst e6
  by_cases h : r.val < 64 * k
  · refine Eq.trans ?_ (hf r j h)
    refine View.read_writes_cons_unit_of_not_mem w2M.view f inb7 _ [] (ix2 r j) e7 0 (Or.inl ?_)
    show r.val < k * 64
    omega
  · refine (View.read_writes_cons_unit_of_mem w2M.view f inb7 _ [] (ix2 r j) (ix2 (⟨r.val - 64 * k, by omega⟩ : Fin 64) j) e7 ?_).trans ?_
    · intro a
      match a with
      | 0 => show r.val = k * 64 + (r.val - 64 * k); omega
      | 1 => exact (Nat.zero_add _).symm
    · refine (piece2 _ _ _).trans (congrArg _ ?_)
      show arg7.view.read (Elt F) A7 _ = arg7.view.read (Elt F) A7 _
      refine congrArg _ (funext fun a => Fin.ext ?_)
      match a with
      | 0 => show 0 + 1 * 0 = 0; omega
      | 1 => show k * 64 + 1 * (r.val - 64 * k) = r.val; omega
      | 2 => show 0 + 1 * j.val = j.val; omega

theorem w1_full {A5 : Buf (Elt F) (arg5.view.loc (c : Thread nD τ))} {f : Buf (Elt F) (w1M.view.loc (c : Thread nD τ))} : W1Up c arg5 A5 0 f := fun _ _ h => absurd h (by omega)
theorem w2_full {A7 : Buf (Elt F) (arg7.view.loc (c : Thread nD τ))} {f : Buf (Elt F) (w2M.view.loc (c : Thread nD τ))} : W2Up c arg7 A7 0 f := fun _ _ h => absurd h (by omega)

end Up

end Cert.Proof.Exp

end
-- ==== Proof.ExpBody.lean ====
/-
  The experts' body at a grid point: the weights' conversion, the expert's trips, and, at the last point, the sends that
  are left.
-/
module

public import proofs.«01_k».proof.Proof.ExpState
public import proofs.«01_k».proof.Proof.ExpWeights

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

attribute [local irreducible] k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37

section Body

variable (c : Dev nD) (X : Buf (Elt F) (yM.view.loc (c : Thread nD τ))) (G : Fin 160 → (S512x1x1024.Idx → Elt F .f32) → Prop) (i : grid0.Coords)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)

/-! ## The weights' conversion -/

theorem off4_at (k : Fin k0_t1_loop.trips) : k0_off4 k = ![0, k.val * 64, 0] := by revert k; decide +kernel
theorem off5_at (k : Fin k0_t1_loop.trips) : k0_off5 k = ![k.val * 64, 0] := by revert k; decide +kernel
theorem off6_at (k : Fin k0_t2_loop.trips) : k0_off6 k = ![0, k.val * 64, 0] := by revert k; decide +kernel
theorem off7_at (k : Fin k0_t2_loop.trips) : k0_off7 k = ![k.val * 64, 0] := by revert k; decide +kernel

abbrev W1At (A5 : Buf (Elt F) (arg5.view.loc (c : Thread nD τ))) (k : ℕ) : sProp 𝕄 := iprop(holds c arg5 A5 ∗ ∃ f, ⌜W1Up c arg5 A5 k f⌝ ∗ holds c w1M f)
abbrev W2At (A7 : Buf (Elt F) (arg7.view.loc (c : Thread nD τ))) (k : ℕ) : sProp 𝕄 := iprop(holds c arg7 A7 ∗ ∃ f, ⌜W2Up c arg7 A7 k f⌝ ∗ holds c w2M f)

theorem w1_step (A5 : Buf (Elt F) (arg5.view.loc (c : Thread nD τ))) (k : Fin k0_t1_loop.trips) (a : Unit) :
    W1At c arg5 A5 k.val ⊢ wp frame (wpE (defs₀ (F := F)) 𝒱₀ (c : Thread nD τ) none) Set.univ (k0_t1_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8 k a)
      (fun _ => W1At c arg5 A5 (k.val + 1)) := by
  have hk : k.val < 16 := Nat.lt_of_lt_of_le k.isLt k0_t1_abs.2.1
  iintro ⟨HA, %f, %hf, HW⟩
  sl_unfold [k0_t1_body]
  sl_exec
  sl_step
  isplitl [HA]; · iexact HA
  iexists _
  isplitr
  rotate_left
  · iexact HW
  · ipureintro
    exact w1_up c arg5 hf (off5_at k) _ (off4_at k) _

theorem w2_step (A7 : Buf (Elt F) (arg7.view.loc (c : Thread nD τ))) (k : Fin k0_t2_loop.trips) (a : Unit) :
    W2At c arg7 A7 k.val ⊢ wp frame (wpE (defs₀ (F := F)) 𝒱₀ (c : Thread nD τ) none) Set.univ (k0_t2_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8 k a)
      (fun _ => W2At c arg7 A7 (k.val + 1)) := by
  have hk : k.val < 16 := Nat.lt_of_lt_of_le k.isLt k0_t2_abs.2.1
  iintro ⟨HA, %f, %hf, HW⟩
  sl_unfold [k0_t2_body]
  sl_exec
  sl_step
  isplitl [HA]; · iexact HA
  iexists _
  isplitr
  rotate_left
  · iexact HW
  · ipureintro
    exact w2_up c arg7 hf (off7_at k) _ (off6_at k) _

/-! ## The last sends -/

variable (v1 v3 v5 v7 : BitVec 32) (hw1 : k0_chk1 v1) (hw2 : k0_chk2 v1 v3) (hw3 : k0_chk3 i v1 v3 v5 v7)

/-- After the last block: every block in use finished, the others as they were, every slot free. -/
def Done (n : ℕ) : sProp 𝕄 :=
  iprop((loadFree c 0 ∗ loadFree c 1) ∗ (sendFree c 0 ∗ sendFree c 1) ∗ before (homeDone c G) n ∗ since (homeX c X) n
    ∗ (∃ f, holds c oM f) ∗ (∃ f, holds c xM f) ∗ (∃ f, holds c aM f) ∗ (∃ W, owes (c : Thread nD τ) 0 W))

/-- With no block in use there is nothing to send. -/
theorem done_zero : Pos c X G 0 0 ⊢ Done c X G 0 := by
  unfold Pos Done store1 store2
  rw [if_neg (show ¬ 3 ≤ 0 by omega), if_neg (show ¬ 0 = 1 by omega), if_neg (show ¬ 2 ≤ 0 by omega)]
  iintro ⟨HL, HS1, HS2, -, HD, HR, ⟨%o, -, HO⟩, HX, HA, HW⟩
  isplitl [HL]
  · iapply (loads_end (loadOn c X) (loadFree c)); iexact HL
  isplitl [HS1 HS2]
  · isplitl [HS1]
    · iexact HS1
    · iexact HS2
  isplitl [HD]; · iexact HD
  isplitl [HR]; · iexact HR
  isplitl [HO]; · iexists o; iexact HO
  isplitl [HX]; · iexact HX
  isplitl [HA]; · iexact HA
  iexact HW

theorem homes_last {n : ℕ} (h : 1 ≤ n) {C : Prop} [Decidable C] (hC : C ↔ n = 1 ∨ 3 ≤ n)
    (L : Buf (Elt F) ((yB (Ring.bk 160 (n - 3))).view.loc (c : Thread nD τ))) :
    iprop(Guarded C (fun _ => holds c (yB (Ring.bk 160 (n - 3))) L) (fun _ => (iprop(emp) : sProp 𝕄)) ∗ store3 (homeAny c) n)
      ⊢ (iprop(homeAny c (Ring.bk 160 (n - 1)) ∗ (if 3 ≤ n then holds c (yB (Ring.bk 160 (n - 3))) L else iprop(emp))) : sProp 𝕄) := by
  unfold store3
  rcases Nat.lt_or_ge n 2 with h' | h'
  · have e : Ring.bk 160 (n - 3) = Ring.bk 160 (n - 1) := by rw [show n - 3 = n - 1 by omega]
    rw [Guarded.pos (hC.2 (by omega)), if_neg (by omega), if_neg (by omega)]
    iintro ⟨HL, -⟩
    isplitl [HL]
    · iapply (home_cast c e L) $$ HL
    · iempintro
  rcases Nat.lt_or_ge n 3 with h'' | h''
  · rw [Guarded.neg (by rw [hC]; omega), if_pos (by omega), if_neg (by omega)]
    iintro ⟨-, HY⟩
    isplitl [HY]
    · iexact HY
    · iempintro
  · rw [Guarded.pos (hC.2 (by omega)), if_pos (by omega), if_pos (by omega)]
    iintro ⟨HL, HY⟩
    isplitl [HY]
    · iexact HY
    · iexact HL

/-- The last sends. -/
abbrev drainG : Prog (TpuEff nD τ sig (Elt F) Λ₀ .tc) PUnit :=
  if k0_h15 : k0_cond15 i v5 v7 = 1#1 then do
    let v29 : BitVec 32 ← k0_part27 (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8 v1 v3 v5 v7 hw3 (nW v5 v7) k0_h15
    if k0_h17 : k0_cond17 v5 v7 = 1#1 then do
      let v69 : DmaSems sig S1 := cc0_scratch8.slice (Rect.unit (s := S2) (k0_off75 v5 v7) S1.size (k0_off75_inb i v1 v3 v5 v7 hw3 k0_h15 k0_h17))
      let v70 : DmaSems sig S_ := v69.squeeze S_ squeezes_S1_S_
      let v71 : Memref sig .tc .hbm S512x1x1024 .f32 := yM.slice (Rect.unit (s := S81920x1x1024) (k0_off76 v5 v7) S512x1x1024.size (k0_off76_inb i v1 v3 v5 v7 hw3 k0_h15 k0_h17)) (fun _ => rfl)
      let v72 : Memref sig .tc .vmem S512x1x1024 .f32 := srM.slice (Rect.unit (s := S1024x1x1024) (k0_off77 v5 v7) S512x1x1024.size (k0_off77_inb i v1 v3 v5 v7 hw3 k0_h15 k0_h17)) (fun _ => rfl)
      Prog.lift (.waitDma2 v70.sem v72 v71 (View.wordExact_bits rfl) (View.wordExact_bits rfl))
      pure ⟨⟩
    else do
      pure ⟨⟩
    pure ⟨⟩
  else do
    pure ⟨⟩

theorem drain_end {n : ℕ} (h1 : 1 ≤ n) (hn : n ≤ 160) :
    (iprop((loadFree c 0 ∗ loadFree c 1) ∗ sendFree c (Ring.sl 2 (n - 1)) ∗ sendFree c (Ring.sl 2 (n - 1 + 1))
      ∗ before (homeDone c G) (n - 3) ∗ (if 3 ≤ n then homeDone c G (Ring.bk 160 (n - 3)) else iprop(emp)) ∗ (if 2 ≤ n then homeDone c G (Ring.bk 160 (n - 2)) else iprop(emp))
      ∗ homeDone c G (Ring.bk 160 (n - 1)) ∗ since (homeX c X) (min (n + 1) n)
      ∗ (∃ f, holds c oM f) ∗ (∃ f, holds c xM f) ∗ (∃ f, holds c aM f) ∗ (∃ W, owes (c : Thread nD τ) 0 W)) : sProp 𝕄) ⊢ Done c X G n := by
  unfold Done
  rw [Nat.min_eq_right (show n ≤ n + 1 by omega)]
  iintro ⟨HL, HS1, HS2, HD, H3, H2, H1, HR, HE⟩
  isplitl [HL]; · iexact HL
  isplitl [HS1 HS2]
  · iapply (slots_both (sendFree c) (n - 1))
    isplitl [HS1]; · iexact HS1
    iexact HS2
  isplitl [HD H3 H2 H1]
  · iapply (before_end (homeDone c G) h1 hn)
    isplitl [HD]; · iexact HD
    isplitl [H3]; · iexact H3
    isplitl [H2]; · iexact H2
    iexact H1
  isplitl [HR]; · iexact HR
  iexact HE

theorem drain (h1 : 1 ≤ nN v5 v7) (hn : nN v5 v7 ≤ 160) (c15 : k0_cond15 i v5 v7 = 1#1) :
    Pos c X G (nN v5 v7) (nN v5 v7)
      ⊢ wp frame (wpE (defs₀ (F := F)) 𝒱₀ (c : Thread nD τ) none) Set.univ (drainG (F := F) i arg5 harg5 arg6 harg6 arg7 harg7 arg8 harg8 v1 v3 v5 v7 hw3)
        (fun _ => Done c X G (nN v5 v7)) := by
  haveI : Fact (1 ≤ nN v5 v7) := ⟨h1⟩
  haveI : Fact (nN v5 v7 ≤ 160) := ⟨hn⟩
  have c16 : k0_cond16 v5 v7 = 1#1 ↔ nN v5 v7 = 1 ∨ 3 ≤ nN v5 v7 := by rw [cond16_iff h1 hn]; omega
  have c17 := cond17_iff h1 hn
  have g71 := sr_sub (off71_at h1 hn) (n := S512x1x1024.size) (by decide) (k0_off71_inb i v1 v3 v5 v7 hw3 c15)
  have s71 := sr_store (off71_at h1 hn) (k0_off71_inb i v1 v3 v5 v7 hw3 c15)
  unfold Pos
  iintro ⟨HL, HS1, HS2, HS3, HD, HR, ⟨%fo, %hfo, HO⟩, HX, HA, ⟨%W, HW⟩⟩
  ihave HL := (loads_end (loadOn c X) (loadFree c) (n := nN v5 v7)) $$ HL
  ihave HS1 := (store1_open c G c16) $$ HS1
  icases HS1 with ⟨%gs, %f, %hgs, HS1⟩
  have hlast := hfo h1
  dsimp only [drainG]
  by_cases h2 : 2 ≤ nN v5 v7
  · have t17 := c17.2 h2
    have es : Ring.sl 2 (nN v5 v7 - 1 + 1) = Ring.sl 2 (nN v5 v7 - 2) := by
      apply Fin.ext; show (_ % 2) = (_ % 2); omega
    have hs2 : store2 (sendOn c G) (sendFree c) (nN v5 v7) ⊢ sendOn c G (Ring.sl 2 (nN v5 v7 - 2)) (Ring.bk 160 (nN v5 v7 - 2)) := by
      unfold store2
      rw [if_pos h2, es]
    ihave HS2 := hs2 $$ HS2
    icases HS2 with ⟨%gs2, %f2, %hgs2, HS2⟩
    sl_unfold [k0_part27]
    sl_exec
    ihave HH := (homes_last c h1 c16 (sLanded c (Ring.sl 2 (nN v5 v7 - 1)) (Ring.bk 160 (nN v5 v7 - 3)) gs f)) $$ [if1 HS3]
    · isplitl [if1]
      · iexact if1
      · iexact HS3
    icases HH with ⟨⟨%Y, HpH⟩, HLand⟩
    have hcanon75 := sC_75 h2 hn (k0_off75_inb i v1 v3 v5 v7 hw3 c15 t17)
    have hcanon76 := yB_76 h2 hn (k0_off76_inb i v1 v3 v5 v7 hw3 c15 t17) (fun _ => rfl)
    have hcanon77 := sS_77 h2 hn (k0_off77_inb i v1 v3 v5 v7 hw3 c15 t17) (fun _ => rfl)
    have hs3 : sendFree c (Ring.sl 2 (nN v5 v7 - 2)) ⊢ (sendFree c (Ring.sl 2 (nN v5 v7 - 1 + 1)) : sProp 𝕄) := by rw [es]
    have hs4 : homeDone c G (Ring.bk 160 (nN v5 v7 - 2)) ⊢ (if 2 ≤ nN v5 v7 then homeDone c G (Ring.bk 160 (nN v5 v7 - 2)) else iprop(emp) : sProp 𝕄) := by rw [if_pos h2]
    sl_exec
    sl_step
    ihave HDn := (done_if c G gs f hgs) $$ HLand
    iapply (drain_end c X G h1 hn)
    isplitl [HL]; · iexact HL
    isplitl [HS1_1 HS1_1_src]
    · isplitl [HS1_1]; · iexact HS1_1
      iexists _
      iexact HS1_1_src
    isplitl [HS2 HS2_src]
    · iapply hs3
      isplitl [HS2]; · iexact HS2
      iexists _
      iexact HS2_src
    isplitl [HD]; · iexact HD
    isplitl [HDn]; · iexact HDn
    isplitl [HS2_dst]
    · iapply hs4
      iapply (done_of c G (s := Ring.sl 2 (nN v5 v7 - 2)) (b := Ring.bk 160 (nN v5 v7 - 2)) gs2 f2 hgs2)
      iexact HS2_dst
    isplitl [HpH]
    · iexists _
      isplitr
      rotate_left
      · iexact HpH
      · ipureintro
        rw [View.read_writes_whole]
        have e := sr_read_store c (off71_at h1 hn) (k0_off71_inb i v1 v3 v5 v7 hw3 c15) gs (stagedOf c fo)
        have r := Eq.mpr (congrArg (G (Ring.bk 160 (nN v5 v7 - 1))) e) hlast
        exact r
    isplitl [HR]; · iexact HR
    isplitl [HO]; · iexists _; iexact HO
    isplitl [HX]; · iexact HX
    isplitl [HA]; · iexact HA
    iexists _
    iexact HW
  · have t17 : ¬ k0_cond17 v5 v7 = 1#1 := fun k => h2 (c17.1 k)
    have hs3 : store2 (sendOn c G) (sendFree c) (nN v5 v7) ⊢ sendFree c (Ring.sl 2 (nN v5 v7 - 1 + 1)) := by
      unfold store2
      rw [if_neg h2]
    have hs4 : (iprop(emp) : sProp 𝕄) ⊢ (if 2 ≤ nN v5 v7 then homeDone c G (Ring.bk 160 (nN v5 v7 - 2)) else iprop(emp) : sProp 𝕄) := by rw [if_neg h2]
    sl_unfold [k0_part27]
    sl_exec
    ihave HH := (homes_last c h1 c16 (sLanded c (Ring.sl 2 (nN v5 v7 - 1)) (Ring.bk 160 (nN v5 v7 - 3)) gs f)) $$ [if1 HS3]
    · isplitl [if1]
      · iexact if1
      · iexact HS3
    icases HH with ⟨⟨%Y, HpH⟩, HLand⟩
    sl_exec
    sl_step
    ihave HDn := (done_if c G gs f hgs) $$ HLand
    iapply (drain_end c X G h1 hn)
    isplitl [HL]; · iexact HL
    isplitl [HS1_1 HS1_1_src]
    · isplitl [HS1_1]; · iexact HS1_1
      iexists _
      iexact HS1_1_src
    isplitl [HS2]
    · iapply hs3; iexact HS2
    isplitl [HD]; · iexact HD
    isplitl [HDn]; · iexact HDn
    isplitr
    · iapply hs4; iempintro
    isplitl [HpH]
    · iexists _
      isplitr
      rotate_left
      · iexact HpH
      · ipureintro
        rw [View.read_writes_whole]
        have e := sr_read_store c (off71_at h1 hn) (k0_off71_inb i v1 v3 v5 v7 hw3 c15) gs (stagedOf c fo)
        have r := Eq.mpr (congrArg (G (Ring.bk 160 (nN v5 v7 - 1))) e) hlast
        exact r
    isplitl [HR]; · iexact HR
    isplitl [HO]; · iexists _; iexact HO
    isplitl [HX]; · iexact HX
    isplitl [HA]; · iexact HA
    iexists _
    iexact HW

end Body

end Cert.Proof.Exp

end
-- ==== Proof.ExpRun.lean ====
/-
  The experts' body at a grid point, from the rings as the point before left them to the rings as it leaves them.
-/
module

public import proofs.«01_k».proof.Proof.ExpBody

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

attribute [local irreducible] k0_off8 k0_off9 k0_off10 k0_off11 k0_off12 k0_off13 k0_off14 k0_off15 k0_off16 k0_off17 k0_off18 k0_off19 k0_off20 k0_off21 k0_off22 k0_off23 k0_off24 k0_off25 k0_off26 k0_off27 k0_off28 k0_off29 k0_off30 k0_off31 k0_off32 k0_off33 k0_off34 k0_off35 k0_off36 k0_off37

section Run

variable (c : Dev nD) (X : Buf (Elt F) (yM.view.loc (c : Thread nD τ))) (G : Fin 160 → (S512x1x1024.Idx → Elt F .f32) → Prop) (i : grid0.Coords)
  (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
  (v1 v3 v5 v7 : BitVec 32) (hw1 : k0_chk1 v1) (hw2 : k0_chk2 v1 v3) (hw3 : k0_chk3 i v1 v3 v5 v7)

/-- The point's trips and the last sends. -/
abbrev tailG : Prog (TpuEff nD τ sig (Elt F) Λ₀ .tc) PUnit := do
  let v22 : BitVec 32 ← Scf.Loop.for (k0_t3_loop v1) (k0_t3_ok v1 hw1) 0#32 (k0_t3_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8 (BitVec.ofNat 32 (i 0).val) v1 hw1 v3 hw2 (Scalar.shrui v3 9#32) v5 v7 hw3 (nW v5 v7))
  let v23 : BitVec 32 ← Scf.Loop.for (k0_t4_loop v1) (k0_t4_ok v1 hw1) v22 (k0_t4_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8 (BitVec.ofNat 32 (i 0).val) v1 hw1 v3 hw2 (Scalar.shrui v3 9#32) v5 v7 hw3 (nW v5 v7) (Scalar.addi 0#32 (Scalar.muli (Scalar.divsi (Scalar.subi v1 0#32) 1#32) 1#32)))
  drainG (F := F) i arg5 harg5 arg6 harg6 arg7 harg7 arg8 harg8 v1 v3 v5 v7 hw3

/-- What the trips do not change. -/
abbrev kept (q : PosShare TreeShare) (TP : Buf (Elt F) (padM.view.loc (c : Thread nD τ))) (B1 : Buf (Elt F) (arg6.view.loc (c : Thread nD τ))) (B2 : Buf (Elt F) (arg8.view.loc (c : Thread nD τ)))
    (W1 : Buf (Elt F) (w1M.view.loc (c : Thread nD τ))) (W2 : Buf (Elt F) (w2M.view.loc (c : Thread nD τ))) (P : sProp 𝕄) : sProp 𝕄 :=
  iprop((padM.view.loc (c : Thread nD τ) ↦[padM.view.set]{q} TP) ∗ holds c arg6 B1 ∗ holds c arg8 B2 ∗ holds c w1M W1 ∗ holds c w2M W2 ∗ P)

/-- The rings after a point: past its blocks, or, at the last, done. -/
abbrev After (n g : ℕ) : sProp 𝕄 := if (i 0).val = 31 then Done c X G n else Pos c X G n g

theorem tail (q : PosShare TreeShare) {f : ℕ} (h1 : v1.toNat ≤ 160) (h3 : v3.toNat = 512 * f) (hf : f + v1.toNat ≤ nN v5 v7) (hn : nN v5 v7 ≤ 160)
    (hl : (i 0).val = 31 → f + v1.toNat = nN v5 v7)
    (TP : Buf (Elt F) (padM.view.loc (c : Thread nD τ))) (B1 : Buf (Elt F) (arg6.view.loc (c : Thread nD τ))) (B2 : Buf (Elt F) (arg8.view.loc (c : Thread nD τ)))
    (W1 : Buf (Elt F) (w1M.view.loc (c : Thread nD τ))) (W2 : Buf (Elt F) (w2M.view.loc (c : Thread nD τ)))
    (hp : ∀ j, (padM.view.readAt (Elt F) (Rect.unit (s := S32) (k0_off17 i) S1.size (k0_off17_inb i)).toLoadRect TP j : BitVec 32).toNat < 512)
    (hQ : ∀ (t : Trip v1) fo o, TripRel c arg6 arg8 B1 B2 W1 W2 (rowsN v1 t (padM.view.readAt (Elt F) (Rect.unit (s := S32) (k0_off17 i) S1.size (k0_off17_inb i)).toLoadRect TP (Shape.Idx.first (numel1_S1.symm ▸ Nat.one_pos)))) ((yB (Ring.bk 160 (gN v1 v3 t))).view.read (Elt F) X) fo o → G (Ring.bk 160 (gN v1 v3 t)) (stagedOf c o)) :
    kept c arg6 arg8 q TP B1 B2 W1 W2 (Pos c X G (nN v5 v7) f)
      ⊢ wp frame (wpE (defs₀ (F := F)) 𝒱₀ (c : Thread nD τ) none) Set.univ (tailG (F := F) i arg5 harg5 arg6 harg6 arg7 harg7 arg8 harg8 v1 v3 v5 v7 hw1 hw2 hw3)
        (fun _ => kept c arg6 arg8 q TP B1 B2 W1 W2 (After c X G i (nN v5 v7) (f + v1.toNat))) := by
  have trip3 : ∀ (k : Trip v1) (a : BitVec 32),
      iprop(⌜a = 0#32⌝ ∗ kept c arg6 arg8 q TP B1 B2 W1 W2 (Pos c X G (nN v5 v7) (f + k.val)))
        ⊢ wp frame (wpE (defs₀ (F := F)) 𝒱₀ (c : Thread nD τ) none) Set.univ (tripG (F := F) i arg5 harg5 arg6 harg6 arg7 harg7 arg8 harg8 v1 v3 v5 v7 hw1 hw2 hw3 k a)
          (fun a => iprop(⌜a = 0#32⌝ ∗ kept c arg6 arg8 q TP B1 B2 W1 W2 (Pos c X G (nN v5 v7) (f + (k.val + 1))))) := by
    intro k a
    have e := gN_eq k h1 h3 (hf.trans hn)
    have hk : k.val < v1.toNat := trips3 h1 ▸ k.isLt
    have s := step c X G i arg5 harg5 arg6 harg6 arg7 harg7 arg8 harg8 v1 v3 v5 v7 hw1 hw2 hw3 k q (by omega) hn TP B1 B2 W1 W2 h1 hp (hQ k)
    rw [e] at s
    iintro ⟨%ha, H⟩
    subst ha
    iapply s
    iexact H
  iintro H
  dsimp only [tailG]
  iapply (Scf.wp_for_bind Idealize.ShloMosaic.frame (wpE (defs₀ (F := F)) 𝒱₀ (c : Thread nD τ) none) Set.univ _ _ _ _ _ _
    (fun k (a : BitVec 32) => iprop(⌜a = 0#32⌝ ∗ kept c arg6 arg8 q TP B1 B2 W1 W2 (Pos c X G (nN v5 v7) (f + k)))) trip3) $$ [H]
  · isplitr
    · ipureintro; rfl
    · iexact H
  iintro %a Hinv
  have e3 := trips3 h1
  have e4 := trips4 h1
  iapply (Scf.wp_for_bind Idealize.ShloMosaic.frame (wpE (defs₀ (F := F)) 𝒱₀ (c : Thread nD τ) none) Set.univ _ _ _ _ _ _
    (fun _ (_ : BitVec 32) => kept c arg6 arg8 q TP B1 B2 W1 W2 (Pos c X G (nN v5 v7) (f + v1.toNat))) (fun k a => (none4 h1 k).elim)) $$ [Hinv]
  · ihave Hinv := (show iprop(⌜a = 0#32⌝ ∗ kept c arg6 arg8 q TP B1 B2 W1 W2 (Pos c X G (nN v5 v7) (f + (k0_t3_loop v1).trips)))
      ⊢ kept c arg6 arg8 q TP B1 B2 W1 W2 (Pos c X G (nN v5 v7) (f + v1.toNat)) from by
        rw [e3]; iintro ⟨-, H⟩; iexact H) $$ Hinv
    iexact Hinv
  iintro %a' ⟨HP, HB1, HB2, HW1, HW2, HPos⟩
  by_cases h31 : (i 0).val = 31
  · have hfn := hl h31
    by_cases hz : 1 ≤ nN v5 v7
    · have c15 := (cond15_iff (i := i) hn).2 ⟨h31, hz⟩
      iapply (wp_wand_r Idealize.ShloMosaic.frame (wpE (defs₀ (F := F)) 𝒱₀ (c : Thread nD τ) none) Set.univ)
      isplitl [HPos]
      · iapply (drain c X G i arg5 harg5 arg6 harg6 arg7 harg7 arg8 harg8 v1 v3 v5 v7 hw3 hz hn c15)
        ihave HPos := (show Pos c X G (nN v5 v7) (f + v1.toNat) ⊢ Pos c X G (nN v5 v7) (nN v5 v7) from by rw [hfn]) $$ HPos
        iexact HPos
      · iintro %a HD
        isplitl [HP]; · iexact HP
        isplitl [HB1]; · iexact HB1
        isplitl [HB2]; · iexact HB2
        isplitl [HW1]; · iexact HW1
        isplitl [HW2]; · iexact HW2
        iapply (show Done c X G (nN v5 v7) ⊢ After c X G i (nN v5 v7) (f + v1.toNat) from by unfold After; rw [if_pos h31])
        iexact HD
    · have c15 : ¬ k0_cond15 i v5 v7 = 1#1 := fun k => hz ((cond15_iff hn).1 k).2
      dsimp only [drainG]
      sl_exec
      sl_step
      isplitl [HP]; · iexact HP
      isplitl [HB1]; · iexact HB1
      isplitl [HB2]; · iexact HB2
      isplitl [HW1]; · iexact HW1
      isplitl [HW2]; · iexact HW2
      iapply (show Pos c X G (nN v5 v7) (f + v1.toNat) ⊢ After c X G i (nN v5 v7) (f + v1.toNat) from by
        have e0 : nN v5 v7 = 0 := by omega
        unfold After; rw [if_pos h31, hfn, e0]; exact done_zero c X G)
      iexact HPos
  · have c15 : ¬ k0_cond15 i v5 v7 = 1#1 := fun k => h31 ((cond15_iff hn).1 k).1
    dsimp only [drainG]
    sl_exec
    sl_step
    isplitl [HP]; · iexact HP
    isplitl [HB1]; · iexact HB1
    isplitl [HB2]; · iexact HB2
    isplitl [HW1]; · iexact HW1
    isplitl [HW2]; · iexact HW2
    iapply (show Pos c X G (nN v5 v7) (f + v1.toNat) ⊢ After c X G i (nN v5 v7) (f + v1.toNat) from by unfold After; rw [if_neg h31])
    iexact HPos

/-! ## The weights, then the trips -/

/-- Whether the expert has a block. -/
abbrev cond16b : BitVec 1 := Scalar.cmpi .ne (Scalar.extui (Scalar.cmpi .sgt v1 0#32) : BitVec 32) 0#32

theorem cond16b_iff (h : v1.toNat ≤ 160) : cond16b v1 = 1#1 ↔ 0 < v1.toNat := by
  have key : ∀ k : Fin 161, cond16b (BitVec.ofNat 32 k.val) = 1#1 ↔ 0 < k.val := by decide +kernel
  have := key ⟨v1.toNat, by omega⟩
  rwa [show BitVec.ofNat 32 v1.toNat = v1 from BitVec.eq_of_toNat_eq (by rw [BitVec.toNat_ofNat]; exact Nat.mod_eq_of_lt v1.isLt)] at this

abbrev restG : Prog (TpuEff nD τ sig (Elt F) Λ₀ .tc) PUnit :=
  if cond16b v1 = 1#1 then do
    Scf.Loop.for k0_t1_loop k0_t1_ok ⟨⟩ (k0_t1_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8)
    Scf.Loop.for k0_t2_loop k0_t2_ok ⟨⟩ (k0_t2_body (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8)
    tailG (F := F) i arg5 harg5 arg6 harg6 arg7 harg7 arg8 harg8 v1 v3 v5 v7 hw1 hw2 hw3
  else
    tailG (F := F) i arg5 harg5 arg6 harg6 arg7 harg7 arg8 harg8 v1 v3 v5 v7 hw1 hw2 hw3

/-- What a point holds besides the rings. -/
abbrev Held (q : PosShare TreeShare) (TP : Buf (Elt F) (padM.view.loc (c : Thread nD τ))) (A5 : Buf (Elt F) (arg5.view.loc (c : Thread nD τ))) (B1 : Buf (Elt F) (arg6.view.loc (c : Thread nD τ)))
    (A7 : Buf (Elt F) (arg7.view.loc (c : Thread nD τ))) (B2 : Buf (Elt F) (arg8.view.loc (c : Thread nD τ))) : sProp 𝕄 :=
  iprop((padM.view.loc (c : Thread nD τ) ↦[padM.view.set]{q} TP) ∗ holds c arg5 A5 ∗ holds c arg6 B1 ∗ holds c arg7 A7 ∗ holds c arg8 B2 ∗ (∃ f, holds c w1M f) ∗ (∃ f, holds c w2M f))

theorem w1_zero (A5 : Buf (Elt F) (arg5.view.loc (c : Thread nD τ))) (f : Buf (Elt F) (w1M.view.loc (c : Thread nD τ))) : W1Up c arg5 A5 0 f := w1_full c arg5
theorem w2_zero (A7 : Buf (Elt F) (arg7.view.loc (c : Thread nD τ))) (f : Buf (Elt F) (w2M.view.loc (c : Thread nD τ))) : W2Up c arg7 A7 0 f := w2_full c arg7

theorem rest (q : PosShare TreeShare) {f : ℕ} (h1 : v1.toNat ≤ 160) (h3 : v3.toNat = 512 * f) (hf : f + v1.toNat ≤ nN v5 v7) (hn : nN v5 v7 ≤ 160)
    (hl : (i 0).val = 31 → f + v1.toNat = nN v5 v7)
    (TP : Buf (Elt F) (padM.view.loc (c : Thread nD τ))) (A5 : Buf (Elt F) (arg5.view.loc (c : Thread nD τ))) (B1 : Buf (Elt F) (arg6.view.loc (c : Thread nD τ)))
    (A7 : Buf (Elt F) (arg7.view.loc (c : Thread nD τ))) (B2 : Buf (Elt F) (arg8.view.loc (c : Thread nD τ)))
    (hp : ∀ j, (padM.view.readAt (Elt F) (Rect.unit (s := S32) (k0_off17 i) S1.size (k0_off17_inb i)).toLoadRect TP j : BitVec 32).toNat < 512)
    (hQ : ∀ W1 W2, W1Up c arg5 A5 16 W1 → W2Up c arg7 A7 16 W2 → ∀ (t : Trip v1) fo o,
      TripRel c arg6 arg8 B1 B2 W1 W2 (rowsN v1 t (padM.view.readAt (Elt F) (Rect.unit (s := S32) (k0_off17 i) S1.size (k0_off17_inb i)).toLoadRect TP (Shape.Idx.first (numel1_S1.symm ▸ Nat.one_pos)))) ((yB (Ring.bk 160 (gN v1 v3 t))).view.read (Elt F) X) fo o → G (Ring.bk 160 (gN v1 v3 t)) (stagedOf c o)) :
    iprop(Held c arg5 arg6 arg7 arg8 q TP A5 B1 A7 B2 ∗ Pos c X G (nN v5 v7) f)
      ⊢ wp frame (wpE (defs₀ (F := F)) 𝒱₀ (c : Thread nD τ) none) Set.univ (restG (F := F) i arg5 harg5 arg6 harg6 arg7 harg7 arg8 harg8 v1 v3 v5 v7 hw1 hw2 hw3)
        (fun _ => iprop(Held c arg5 arg6 arg7 arg8 q TP A5 B1 A7 B2 ∗ After c X G i (nN v5 v7) (f + v1.toNat))) := by
  have tl := fun W1 W2 hq => tail c X G i arg5 harg5 arg6 harg6 arg7 harg7 arg8 harg8 v1 v3 v5 v7 hw1 hw2 hw3 q h1 h3 hf hn hl TP B1 B2 W1 W2 hp hq
  iintro ⟨⟨HP, HA5, HB1, HA7, HB2, ⟨%W1, HW1⟩, ⟨%W2, HW2⟩⟩, HPos⟩
  dsimp only [restG]
  by_cases hv : cond16b v1 = 1#1
  · rw [if_pos hv]
    have e1 : k0_t1_loop.trips = 16 := by decide +kernel
    have e2 : k0_t2_loop.trips = 16 := by decide +kernel
    iapply (Scf.wp_for_bind Idealize.ShloMosaic.frame (wpE (defs₀ (F := F)) 𝒱₀ (c : Thread nD τ) none) Set.univ _ _ _ _ _ _
      (fun k (_ : PUnit) => W1At c arg5 A5 k) (fun k a => w1_step c i arg5 harg5 arg6 harg6 arg7 harg7 arg8 harg8 A5 k a)) $$ [HA5 HW1]
    · isplitl [HA5]; · iexact HA5
      iexists W1
      isplitr
      · ipureintro; exact w1_zero c arg5 A5 W1
      · iexact HW1
    iintro %a Hi1
    ihave Hi1 := (show W1At c arg5 A5 k0_t1_loop.trips ⊢ W1At c arg5 A5 16 from by rw [e1]) $$ Hi1
    icases Hi1 with ⟨HA5, %W1', %hW1, HW1⟩
    iapply (Scf.wp_for_bind Idealize.ShloMosaic.frame (wpE (defs₀ (F := F)) 𝒱₀ (c : Thread nD τ) none) Set.univ _ _ _ _ _ _
      (fun k (_ : PUnit) => W2At c arg7 A7 k) (fun k a => w2_step c i arg5 harg5 arg6 harg6 arg7 harg7 arg8 harg8 A7 k a)) $$ [HA7 HW2]
    · isplitl [HA7]; · iexact HA7
      iexists W2
      isplitr
      · ipureintro; exact w2_zero c arg7 A7 W2
      · iexact HW2
    iintro %a2 Hi2
    ihave Hi2 := (show W2At c arg7 A7 k0_t2_loop.trips ⊢ W2At c arg7 A7 16 from by rw [e2]) $$ Hi2
    icases Hi2 with ⟨HA7, %W2', %hW2, HW2⟩
    iapply (wp_wand_r Idealize.ShloMosaic.frame (wpE (defs₀ (F := F)) 𝒱₀ (c : Thread nD τ) none) Set.univ)
    isplitl [HP HB1 HB2 HW1 HW2 HPos]
    · iapply (tl W1' W2' (hQ W1' W2' hW1 hW2))
      isplitl [HP]; · iexact HP
      isplitl [HB1]; · iexact HB1
      isplitl [HB2]; · iexact HB2
      isplitl [HW1]; · iexact HW1
      isplitl [HW2]; · iexact HW2
      iexact HPos
    · iintro %a3 ⟨HP, HB1, HB2, HW1, HW2, HA⟩
      isplitr [HA]
      · isplitl [HP]; · iexact HP
        isplitl [HA5]; · iexact HA5
        isplitl [HB1]; · iexact HB1
        isplitl [HA7]; · iexact HA7
        isplitl [HB2]; · iexact HB2
        isplitl [HW1]; · iexists _; iexact HW1
        iexists _; iexact HW2
      iexact HA
  · rw [if_neg hv]
    have hz : v1.toNat = 0 := Nat.le_zero.1 (Nat.not_lt.1 fun k => hv ((cond16b_iff v1 h1).2 k))
    iapply (wp_wand_r Idealize.ShloMosaic.frame (wpE (defs₀ (F := F)) 𝒱₀ (c : Thread nD τ) none) Set.univ)
    isplitl [HP HB1 HB2 HW1 HW2 HPos]
    · iapply (tl W1 W2 (fun t => absurd (trips3 h1 ▸ t.isLt : t.val < v1.toNat) (by omega)))
      isplitl [HP]; · iexact HP
      isplitl [HB1]; · iexact HB1
      isplitl [HB2]; · iexact HB2
      isplitl [HW1]; · iexact HW1
      isplitl [HW2]; · iexact HW2
      iexact HPos
    · iintro %a3 ⟨HP, HB1, HB2, HW1, HW2, HA⟩
      isplitr [HA]
      · isplitl [HP]; · iexact HP
        isplitl [HA5]; · iexact HA5
        isplitl [HB1]; · iexact HB1
        isplitl [HA7]; · iexact HA7
        isplitl [HB2]; · iexact HB2
        isplitl [HW1]; · iexists _; iexact HW1
        iexists _; iexact HW2
      iexact HA

/-! ## The point -/

/-- Whether the point starts the first load. -/
abbrev cond13b : BitVec 1 := Scalar.cmpi .ne (Scalar.extui (Scalar.andi (Scalar.cmpi .eq (BitVec.ofNat 32 (i 0).val) 0#32) (Scalar.cmpi .sgt (nW v5 v7) 0#32)) : BitVec 32) 0#32

theorem cond13b_iff (hn : nN v5 v7 ≤ 160) : cond13b i v5 v7 = 1#1 ↔ (i 0).val = 0 ∧ 0 < nN v5 v7 := by
  have key : ∀ (e : Fin 32) (k : Fin 161), (Scalar.cmpi .ne (Scalar.extui (Scalar.andi (Scalar.cmpi .eq (BitVec.ofNat 32 e.val) 0#32) (Scalar.cmpi .sgt (BitVec.ofNat 32 k.val) 0#32)) : BitVec 32) 0#32) = 1#1
      ↔ e.val = 0 ∧ 0 < k.val := by decide +kernel
  have e : BitVec.ofNat 32 (nN v5 v7) = nW v5 v7 := BitVec.eq_of_toNat_eq (by unfold nN; rw [BitVec.toNat_ofNat]; exact Nat.mod_eq_of_lt (nW v5 v7).isLt)
  have k := key (i 0) ⟨nN v5 v7, by omega⟩
  dsimp only at k
  rw [e] at k
  exact k

/-- The rings before the first point: every slot free, every block as it was. -/
def Fresh : sProp 𝕄 :=
  iprop((loadFree c (Ring.sl 2 0) ∗ loadFree c (Ring.sl 2 1)) ∗ (sendFree c (Ring.sl 2 0) ∗ sendFree c (Ring.sl 2 1)) ∗ since (homeX c X) 0
    ∗ (∃ f, holds c oM f) ∗ (∃ f, holds c xM f) ∗ (∃ f, holds c aM f) ∗ (∃ W, owes (c : Thread nD τ) 0 W))

/-- The rings before the first block, given what the load's slots hold. -/
theorem pos_start (n : ℕ) :
    (iprop((if 0 < n then iprop(loadOn c X (Ring.sl 2 0) (Ring.bk 160 0) ∗ loadFree c (Ring.sl 2 1)) else iprop(loadFree c (Ring.sl 2 0) ∗ loadFree c (Ring.sl 2 1)))
      ∗ (sendFree c (Ring.sl 2 0) ∗ sendFree c (Ring.sl 2 1)) ∗ since (homeX c X) (min 1 n)
      ∗ (∃ f, holds c oM f) ∗ (∃ f, holds c xM f) ∗ (∃ f, holds c aM f) ∗ (∃ W, owes (c : Thread nD τ) 0 W)) : sProp 𝕄) ⊢ Pos c X G n 0 := by
  unfold Pos loads store1 store2 store3
  rw [if_neg (show ¬ 3 ≤ 0 by omega), if_neg (show ¬ 0 = 1 by omega), if_neg (show ¬ 2 ≤ 0 by omega), if_neg (show ¬ 2 ≤ 0 by omega)]
  iintro ⟨HL, ⟨HS1, HS2⟩, HR, ⟨%o, HO⟩, HE⟩
  isplitl [HL]; · iexact HL
  isplitl [HS1]; · iexact HS1
  isplitl [HS2]; · iexact HS2
  isplitr; · iempintro
  isplitr; · iapply (before_zero (homeDone c G)); iempintro
  isplitl [HR]; · iexact HR
  isplitl [HO]
  · iexists o
    isplitr
    · ipureintro; exact fun h => absurd h (by omega)
    · iexact HO
  iexact HE

/-- The rings before a point. -/
abbrev Upto (n g : ℕ) : sProp 𝕄 := if (i 0).val = 0 then Fresh c X else Pos c X G n g

/-- The number of rows of padding the point reads. -/
abbrev padW (TP : Buf (Elt F) (padM.view.loc (c : Thread nD τ))) : ℕ := BitVec.toNat (padM.view.readAt (Elt F) (Rect.unit (s := S32) (k0_off17 i) S1.size (k0_off17_inb i)).toLoadRect TP (Shape.Idx.first (numel1_S1.symm ▸ Nat.one_pos)))

/-- The words of the tables a point reads. -/
structure Words (TS : Buf (Elt F) (startM.view.loc (c : Thread nD τ))) (TB : Buf (Elt F) (blocksM.view.loc (c : Thread nD τ))) (TP : Buf (Elt F) (padM.view.loc (c : Thread nD τ)))
    (n f b fl bl : ℕ) : Prop where
  blocks : ∀ j, (blocksM.view.readAt (Elt F) (Rect.unit (s := S32) (k0_off1 i) S1.size (k0_off1_inb i)).toLoadRect TB j : BitVec 32).toNat = b
  start : ∀ j, (startM.view.readAt (Elt F) (Rect.unit (s := S32) (k0_off1 i) S1.size (k0_off1_inb i)).toLoadRect TS j : BitVec 32).toNat = 512 * f
  lblocks : ∀ j, (blocksM.view.readAt (Elt F) (Rect.unit (s := S32) ![31] S1.size inb_S32_S1_31).toLoadRect TB j : BitVec 32).toNat = bl
  lstart : ∀ j, (startM.view.readAt (Elt F) (Rect.unit (s := S32) ![31] S1.size inb_S32_S1_31).toLoadRect TS j : BitVec 32).toNat = 512 * fl
  pad : ∀ j, (padM.view.readAt (Elt F) (Rect.unit (s := S32) (k0_off17 i) S1.size (k0_off17_inb i)).toLoadRect TP j : BitVec 32).toNat < 512
  total : fl + bl = n
  used : n ≤ 160
  here : f + b ≤ n
  last : (i 0).val = 31 → f + b = n
  first : (i 0).val = 0 → f = 0

theorem bodyRun (qs qb q : PosShare TreeShare) (TS : Buf (Elt F) (startM.view.loc (c : Thread nD τ))) (TB : Buf (Elt F) (blocksM.view.loc (c : Thread nD τ))) (TP : Buf (Elt F) (padM.view.loc (c : Thread nD τ)))
    (A5 : Buf (Elt F) (arg5.view.loc (c : Thread nD τ))) (B1 : Buf (Elt F) (arg6.view.loc (c : Thread nD τ))) (A7 : Buf (Elt F) (arg7.view.loc (c : Thread nD τ))) (B2 : Buf (Elt F) (arg8.view.loc (c : Thread nD τ)))
    {n f b fl bl : ℕ} (hw : Words c i TS TB TP n f b fl bl)
    (hQ : ∀ W1 W2, W1Up c arg5 A5 16 W1 → W2Up c arg7 A7 16 W2 → ∀ g, f ≤ g → g < f + b → ∀ fo o,
      TripRel c arg6 arg8 B1 B2 W1 W2 (if g + 1 = f + b then 512 - 128 * (padW c i TP / 128) else 512) ((yB (Ring.bk 160 g)).view.read (Elt F) X) fo o → G (Ring.bk 160 g) (stagedOf c o)) :
    iprop((startM.view.loc (c : Thread nD τ) ↦[startM.view.set]{qs} TS) ∗ (blocksM.view.loc (c : Thread nD τ) ↦[blocksM.view.set]{qb} TB)
        ∗ Held c arg5 arg6 arg7 arg8 q TP A5 B1 A7 B2 ∗ Upto c X G i n f)
      ⊢ wp frame (wpE (defs₀ (F := F)) 𝒱₀ (c : Thread nD τ) none) Set.univ (cc0_experts (F := F) i startM (Memref.isWhole_whole _) blocksM (Memref.isWhole_whole _) padM (Memref.isWhole_whole _) yM (Memref.isWhole_whole _) arg5 harg5 arg6 harg6 arg7 harg7 arg8 harg8 yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8)
        (fun _ => iprop((startM.view.loc (c : Thread nD τ) ↦[startM.view.set]{qs} TS) ∗ (blocksM.view.loc (c : Thread nD τ) ↦[blocksM.view.set]{qb} TB)
          ∗ Held c arg5 arg6 arg7 arg8 q TP A5 B1 A7 B2 ∗ After c X G i n (f + b))) := by
  have hhere := hw.here
  have hused := hw.used
  iintro ⟨HTS, HTB, HH, HU⟩
  sl_unfold [cc0_experts]
  sl_exec
  have hb : (bodyRun.sl.r c i TB : BitVec 32).toNat = b := hw.blocks _
  have hs : (bodyRun.sl.r_1 c i TS : BitVec 32).toNat = 512 * f := hw.start _
  have h1 : (bodyRun.sl.r c i TB : BitVec 32).toNat ≤ 160 := by omega
  have hg : ∀ t : Trip (bodyRun.sl.r c i TB), gN _ (bodyRun.sl.r_1 c i TS) t = f + t.val := fun t => gN_eq t h1 hs (by omega)
  have hgl : ∀ t : Trip (bodyRun.sl.r c i TB), gN _ (bodyRun.sl.r_1 c i TS) t < 160 := fun t => by
    have ht : t.val < (bodyRun.sl.r c i TB : BitVec 32).toNat := trips3 h1 ▸ t.isLt
    have := hg t
    omega
  have hw2 := chk2_of h1 hgl
  sl_exec
  have hls : (bodyRun.sl.r_2 c TS : BitVec 32).toNat = 512 * fl := hw.lstart _
  have hlb : (bodyRun.sl.r_3 c TB : BitVec 32).toNat = bl := hw.lblocks _
  have hn : nN (bodyRun.sl.r_2 c TS) (bodyRun.sl.r_3 c TB) = n := by
    rw [nN_eq hls (by have := hw.total; omega), hlb]; exact hw.total
  have hw3 := chk3_of (i := i) h1 hgl (hn ▸ hused)
  have c13 := cond13b_iff i (bodyRun.sl.r_2 c TS) (bodyRun.sl.r_3 c TB) (hn ▸ hused)
  have rst := rest c X G i arg5 harg5 arg6 harg6 arg7 harg7 arg8 harg8 _ _ _ _ (chk1_of h1) hw2 hw3 q h1 hs (by rw [hb, hn]; exact hhere) (hn ▸ hused) (fun h => by rw [hb, hn]; exact hw.last h) TP A5 B1 A7 B2 hw.pad
    (fun W1 W2 u1 u2 t fo o r => by
      have ht : t.val < (bodyRun.sl.r c i TB : BitVec 32).toNat := trips3 h1 ▸ t.isLt
      have e := hg t
      rw [e] at r ⊢
      refine hQ W1 W2 u1 u2 (f + t.val) (by omega) (by omega) fo o ?_
      have er : rowsN (bodyRun.sl.r c i TB) t (padM.view.readAt (Elt F) (Rect.unit (s := S32) (k0_off17 i) S1.size (k0_off17_inb i)).toLoadRect TP (Shape.Idx.first (numel1_S1.symm ▸ Nat.one_pos))) = if f + t.val + 1 = f + b then 512 - 128 * (padW c i TP / 128) else 512 := by
        unfold rowsN
        rw [hb]
        refine if_congr (by omega) rfl rfl
      exact er ▸ r)
  rw [hn, hb] at rst
  by_cases h13 : cond13b i (bodyRun.sl.r_2 c TS) (bodyRun.sl.r_3 c TB) = 1#1
  · have h0 := c13.1 h13
    ihave HU := (show Upto c X G i n f ⊢ Fresh c X from by unfold Upto; rw [if_pos h0.1]) $$ HU
    unfold Fresh
    icases HU with ⟨⟨⟨HC0, %f0, HL0⟩, HL1⟩, HS, HR, ⟨%fo, HO⟩, HX, HA, ⟨%W, HW⟩⟩
    ihave HR := (since_succ (homeX c X) (k := 0) (by decide)) $$ HR
    icases HR with ⟨HN, HR⟩
    sl_exec
    have p := pos_start c X G n
    rw [if_pos (by omega : 0 < n), Nat.min_eq_left (by omega : 1 ≤ n)] at p
    have p' : Pos c X G n 0 ⊢ Pos c X G n f := by rw [hw.first h0.1]
    ihave HPos := p $$ [HC0 HL1 HS HR HO HX HA HW]
    · isplitl [HC0 HL1]
      · isplitl [HC0]
        · iexists f0; iexact HC0
        · iexact HL1
      isplitl [HS]; · iexact HS
      isplitl [HR]; · iexact HR
      isplitl [HO]; · iexists _; iexact HO
      isplitl [HX]; · iexact HX
      isplitl [HA]; · iexact HA
      iexists _
      iexact HW
    ihave HPos := p' $$ HPos
    iapply (wp_wand_r Idealize.ShloMosaic.frame (wpE (defs₀ (F := F)) 𝒱₀ (c : Thread nD τ) none) Set.univ)
    isplitl [HH HPos]
    · iapply rst
      isplitl [HH]; · iexact HH
      iexact HPos
    · iintro %a ⟨HH, HPos⟩
      isplitl [HTS]; · iexact HTS
      isplitl [HTB]; · iexact HTB
      isplitl [HH]; · iexact HH
      iexact HPos
  · ihave HPos := (show Upto c X G i n f ⊢ Pos c X G n f from by
      unfold Upto
      by_cases h0 : (i 0).val = 0
      · have hz : n = 0 := by have := fun k => h13 (c13.2 ⟨h0, k⟩); exact Nat.le_zero.1 (Nat.not_lt.1 (hn ▸ this))
        rw [if_pos h0, hw.first h0, hz]
        have p := pos_start c X G 0
        rw [if_neg (by omega : ¬ 0 < 0), Nat.min_eq_right (by omega : 0 ≤ 1)] at p
        exact p
      · rw [if_neg h0]) $$ HU
    sl_exec
    iapply (wp_wand_r Idealize.ShloMosaic.frame (wpE (defs₀ (F := F)) 𝒱₀ (c : Thread nD τ) none) Set.univ)
    isplitl [HH HPos]
    · iapply rst
      isplitl [HH]; · iexact HH
      iexact HPos
    · iintro %a ⟨HH, HPos⟩
      isplitl [HTS]; · iexact HTS
      isplitl [HTB]; · iexact HTB
      isplitl [HH]; · iexact HH
      iexact HPos

end Run

end Cert.Proof.Exp

end
-- ==== Proof.ExpWords.lean ====
/-
  The experts' tables: what the routing's precondition says of their words, the block each expert starts at, and the words
  a grid point reads.
-/
module

public import proofs.«01_k».proof.Proof.ExpRun
public import proofs.«01_k».proof.Pre_routed
public import Idealize.ShloMosaic.Lib.Pipeline.Value

@[expose] public section

noncomputable section

namespace Cert.Proof.Exp

open Cert.Kernel3Ideal Cert.Kernel3Ideal.Gen
open Idealize.ShloMosaic
open Idealize.ShloMosaic.TcCoe Idealize.ShloMosaic.Tactic

variable {F : FTy → Type} [FloatOps F]

/-- The place of expert `e` in a table. -/
abbrev ix (e : Fin 32) : S32.Idx := fun a => ⟨e.val, by fin_cases a; exact e.isLt⟩

/-- What the routing says of the three tables: the experts' stretches of whole blocks lie one after the other in the rows. -/
structure Routed (s b p : IVec S32 32) : Prop where
  blocks : ∀ e, (b (ix e)).toNat ≤ 160
  pad : ∀ e, (p (ix e)).toNat < 512
  first : ∀ e : Fin 32, e.val = 0 → (s (ix e)).toNat = 0
  next : ∀ e e' : Fin 32, e'.val = e.val + 1 → (s (ix e')).toNat = (s (ix e)).toNat + 512 * (b (ix e)).toNat
  fits : ∀ e, (s (ix e)).toNat + 512 * (b (ix e)).toNat ≤ 81920

/-! ## The precondition -/

theorem andi_bool (p q : Bool) : IntOp.andi (BitVec.ofBool p) (BitVec.ofBool q) = BitVec.ofBool (p && q) := by
  cases p <;> cases q <;> decide
theorem bool_one (p : Bool) : BitVec.ofBool p = 1#1 ↔ p = true := by cases p <;> decide

/-- Of one expert's words. -/
theorem words_of (s b p r : BitVec 32) (h : (((((((BitVec.sle 0#32 b = true ∧ BitVec.sle b 160#32 = true) ∧ BitVec.sle 0#32 p = true) ∧ BitVec.slt p 512#32 = true) ∧ BitVec.sle 0#32 s = true)
      ∧ BitVec.sle s 81920#32 = true) ∧ BitVec.sle (s + 512#32 * b) 81920#32 = true) ∧ s = r)) :
    b.toNat ≤ 160 ∧ p.toNat < 512 ∧ (s + 512#32 * b).toNat = s.toNat + 512 * b.toNat ∧ s.toNat + 512 * b.toNat ≤ 81920 ∧ s = r := by
  obtain ⟨⟨⟨⟨⟨⟨⟨h1, h2⟩, h3⟩, h4⟩, h5⟩, h6⟩, h7⟩, h8⟩ := h
  have hb := b.isLt
  have hp := p.isLt
  have hs := s.isLt
  simp only [BitVec.sle, BitVec.slt, decide_eq_true_eq, BitVec.toInt, BitVec.toNat_ofNat] at h1 h2 h3 h4 h5 h6
  have b1 : b.toNat ≤ 160 := by omega
  have s1 : s.toNat ≤ 81920 := by omega
  have e : (s + 512#32 * b).toNat = s.toNat + 512 * b.toNat := by
    rw [BitVec.toNat_add, BitVec.toNat_mul, BitVec.toNat_ofNat]; omega
  simp only [BitVec.sle, decide_eq_true_eq, BitVec.toInt, BitVec.toNat_ofNat] at h7
  rw [e] at h7
  exact ⟨b1, by omega, e, by omega, h8⟩

/-- The place of a number in the two pieces the check joins. -/
abbrev one1 (k : ℕ) (h : k < 1) : Cert.Pre_routed.S1.Idx := fun a => ⟨k, by fin_cases a; exact h⟩
abbrev one31 (k : ℕ) (h : k < 31) : Cert.Pre_routed.S31.Idx := fun a => ⟨k, by fin_cases a; exact h⟩

theorem routed_of [Cert.Pre_routed.Facts] (s b p : IVec S32 32) (a3 a4 a5 a6 a7)
    (h : Cert.Pre_routed.fn (F := F) s b p a3 a4 a5 a6 a7 = fun _ => 1#1) : Routed s b p := by
  have key : ∀ x : S32.Idx, (b x).toNat ≤ 160 ∧ (p x).toNat < 512 ∧ (s x + 512#32 * b x).toNat = (s x).toNat + 512 * (b x).toNat ∧ (s x).toNat + 512 * (b x).toNat ≤ 81920
      ∧ s x = concatenate S32 0 [⟨Cert.Pre_routed.S1, fun _ => 0#32⟩, ⟨Cert.Pre_routed.S31, (extractStridedSlice Cert.Pre_routed.S31 ![0] · Cert.Pre_routed.Facts.slices_S32_S31_0) (fun y => s y + 512#32 * b y)⟩]
          Cert.Pre_routed.Facts.concatenates_S1_S31_S32_d0 x := by
    intro x
    have e := congrFun h x
    simp only [Cert.Pre_routed.fn, Cert.Pre_routed.fn_part1, andi, cmpi, IntOp.cmpi, andi_bool, bool_one, Bool.and_eq_true, beq_iff_eq] at e
    exact words_of _ _ _ _ e
  refine ⟨fun e => (key _).1, fun e => (key _).2.1, fun e he => ?_, fun e e' he => ?_, fun e => (key _).2.2.2.1⟩
  · rw [(key (ix e)).2.2.2.2, concatenate_pair_apply_left (t := S32) (s₁ := Cert.Pre_routed.S1) (s₂ := Cert.Pre_routed.S31) 0 _ _ _ (ix e) rfl (one1 0 Nat.one_pos) (fun a => by fin_cases a; exact he.symm)]
    rfl
  · have h31 : e.val < 31 := by have := e'.isLt; omega
    rw [(key (ix e')).2.2.2.2, concatenate_pair_apply_right (t := S32) (s₁ := Cert.Pre_routed.S1) (s₂ := Cert.Pre_routed.S31) 0 _ _ _ (ix e') rfl rfl (one31 e.val h31)
      (fun a ha => absurd (Subsingleton.elim (α := Fin 1) _ _) ha) he.symm]
    refine Eq.trans ?_ (key (ix e)).2.2.1
    refine congrArg (fun y => (s y + 512#32 * b y).toNat) ?_
    funext a
    fin_cases a
    exact Fin.ext (by show 0 + e.val = e.val; omega)

/-! ## The experts' blocks -/

section Blocks

variable {s b p : IVec S32 32}

/-- Expert `e`'s first block, the number of blocks in use, and the first block not done before point `t`. -/
def firstBlk (s : IVec S32 32) (e : Fin 32) : ℕ := (s (ix e)).toNat / 512
def upBlk (s b : IVec S32 32) (t : ℕ) : ℕ := if h : t < 32 then firstBlk s ⟨t, h⟩ else firstBlk s 31 + (b (ix 31)).toNat
abbrev usedBlk (s b : IVec S32 32) : ℕ := upBlk s b 32

theorem upBlk_lt {t : ℕ} (h : t < 32) : upBlk s b t = firstBlk s ⟨t, h⟩ := by unfold upBlk; rw [dif_pos h]
theorem usedBlk_eq : usedBlk s b = firstBlk s 31 + (b (ix 31)).toNat := by
  show upBlk s b 32 = _
  unfold upBlk; rw [dif_neg (by omega)]

theorem start_mod (h : Routed s b p) : ∀ (k : ℕ) (hk : k < 32), (s (ix ⟨k, hk⟩)).toNat % 512 = 0
  | 0, hk => by rw [h.first ⟨0, hk⟩ rfl]
  | k + 1, hk => by
    have i := start_mod h k (by omega)
    rw [h.next ⟨k, by omega⟩ ⟨k + 1, hk⟩ rfl]
    omega

theorem start_eq (h : Routed s b p) (e : Fin 32) : (s (ix e)).toNat = 512 * firstBlk s e := by
  have := start_mod h e.val e.isLt
  unfold firstBlk
  have e' : (⟨e.val, e.isLt⟩ : Fin 32) = e := rfl
  rw [e'] at this
  omega

theorem upBlk_zero (h : Routed s b p) : upBlk s b 0 = 0 := by
  rw [upBlk_lt (by omega)]
  unfold firstBlk
  rw [h.first ⟨0, by omega⟩ rfl]

theorem upBlk_succ (h : Routed s b p) (e : Fin 32) : upBlk s b (e.val + 1) = firstBlk s e + (b (ix e)).toNat := by
  by_cases h31 : e.val + 1 < 32
  · rw [upBlk_lt h31]
    have n := h.next e ⟨e.val + 1, h31⟩ rfl
    have s1 := start_eq h e
    have s2 := start_eq h ⟨e.val + 1, h31⟩
    omega
  · obtain rfl : e = 31 := Fin.ext (by have := e.isLt; show e.val = 31; omega)
    exact usedBlk_eq

theorem upBlk_le (h : Routed s b p) : ∀ (d t : ℕ), t + d = 32 → upBlk s b t ≤ usedBlk s b
  | 0, t, e => by obtain rfl : t = 32 := by omega
                  exact le_rfl
  | d + 1, t, e => by
    refine le_trans ?_ (upBlk_le h d (t + 1) (by omega))
    have ht : t < 32 := by omega
    rw [upBlk_lt ht, upBlk_succ h ⟨t, ht⟩]
    exact Nat.le_add_right _ _

theorem usedBlk_le (h : Routed s b p) : usedBlk s b ≤ 160 := by
  rw [usedBlk_eq]
  have f := h.fits 31
  have e := start_eq h 31
  omega

end Blocks

/-! ## The words a point reads -/

theorem coord_val : ∀ t : Fin grid0.N, (grid0.coords t 0).val = t.val := by decide +kernel

section Read

variable (c : Dev nD) (e : Fin 32) (off : Fin 1 → ℕ) (h0 : off 0 = e.val) (inb : ∀ a, off a + S1.size a ≤ S32.size a)
include h0

theorem emb_at (j : S1.Idx) : (Rect.unit (s := S32) off S1.size inb).toLoadRect.idx j = ix e := by
  funext a
  fin_cases a
  refine Fin.ext ?_
  have hj : (j 0).val < 1 := (j 0).isLt
  show off 0 + 1 * (j 0).val = e.val
  omega

theorem start_at (T : Buf (Elt F) (startM.view.loc (c : Thread nD τ))) (j) :
    (startM.view.readAt (Elt F) (Rect.unit (s := S32) off S1.size inb).toLoadRect T j : BitVec 32) = (T : IVec S32 32) (ix e) :=
  congrArg (T : IVec S32 32) (emb_at e off h0 inb j)
theorem blocks_at (T : Buf (Elt F) (blocksM.view.loc (c : Thread nD τ))) (j) :
    (blocksM.view.readAt (Elt F) (Rect.unit (s := S32) off S1.size inb).toLoadRect T j : BitVec 32) = (T : IVec S32 32) (ix e) :=
  congrArg (T : IVec S32 32) (emb_at e off h0 inb j)
theorem pad_at (T : Buf (Elt F) (padM.view.loc (c : Thread nD τ))) (j) :
    (padM.view.readAt (Elt F) (Rect.unit (s := S32) off S1.size inb).toLoadRect T j : BitVec 32) = (T : IVec S32 32) (ix e) :=
  congrArg (T : IVec S32 32) (emb_at e off h0 inb j)

end Read

/-- The words point `i` reads of tables that route. -/
theorem words (c : Dev nD) (i : grid0.Coords) (TS : Buf (Elt F) (startM.view.loc (c : Thread nD τ))) (TB : Buf (Elt F) (blocksM.view.loc (c : Thread nD τ)))
    (TP : Buf (Elt F) (padM.view.loc (c : Thread nD τ))) (h : Routed (TS : IVec S32 32) (TB : IVec S32 32) (TP : IVec S32 32)) :
    Words c i TS TB TP (usedBlk (TS : IVec S32 32) (TB : IVec S32 32)) (upBlk (TS : IVec S32 32) (TB : IVec S32 32) (i 0).val)
      ((TB : IVec S32 32) (ix (i 0))).toNat (firstBlk (TS : IVec S32 32) 31) ((TB : IVec S32 32) (ix 31)).toNat where
  blocks j := by rw [blocks_at c (i 0) (k0_off1 i) (congrFun (off1_at i) 0)]
  start j := by rw [start_at c (i 0) (k0_off1 i) (congrFun (off1_at i) 0), upBlk_lt (i 0).isLt]; exact start_eq h (i 0)
  lblocks j := by rw [blocks_at c 31 ![31] rfl]
  lstart j := by rw [start_at c 31 ![31] rfl]; exact start_eq h 31
  pad j := by rw [pad_at c (i 0) (k0_off17 i) (congrFun (off17_at i) 0)]; exact h.pad (i 0)
  total := usedBlk_eq.symm
  used := usedBlk_le h
  here := by
    have hi : (i 0).val < 32 := (i 0).isLt
    have u := upBlk_succ h (i 0)
    rw [upBlk_lt hi]
    exact (le_of_eq u.symm).trans (upBlk_le h (31 - (i 0).val) _ (by omega))
  last h31 := by
    have u := upBlk_succ h (i 0)
    rw [upBlk_lt (i 0).isLt]
    refine Eq.trans u.symm ?_
    rw [h31]
  first h0 := by rw [h0]; exact upBlk_zero h

end Cert.Proof.Exp

end
-- ==== Proof.ExpBlocks.lean ====
/-
  The experts' buffers as their blocks and slots: the rows whole are their blocks, and back; the ring buffers their slots.
-/
module

public import proofs.«01_k».proof.Proof.ExpRun
public import proofs.«01_k».proof.Proof.ModResult

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Mod (forall_fin_three disjoint_of_mem cover_of_mem ent_of_eq)

variable {F : FTy → Type} [FloatOps F]

local notation "𝕄" => MT nD τ sig Unit (Elt F) ℕ (UU nD τ) ℕ

/-! ## Element sets -/

abbrev ySet (b : Fin 160) : Finset S81920x1x1024.Idx := (Rect.unit (s := S81920x1x1024) (blkOff b) S512x1x1024.size (blk_inb b)).set
abbrev slotSet (s : Fin 2) : Finset S1024x1x1024.Idx := (Rect.unit (s := S1024x1x1024) (slotOff s) S512x1x1024.size (slot_inb s)).set

theorem yB_set (b : Fin 160) : (yB b).view.set = ySet b := View.set_slice_whole _ _
theorem lS_set (s : Fin 2) : (lS s).view.set = slotSet s := View.set_slice_whole _ _
theorem sS_set (s : Fin 2) : (sS s).view.set = slotSet s := View.set_slice_whole _ _

/-- An element lies in stretch `b` of 512 rows when its row does. -/
theorem mem_rows {y0 y1 y2 b : ℕ} (h1 : y1 < 1) (h2 : y2 < 1024) :
    ((b * 512 ≤ y0 ∧ y0 < b * 512 + 512) ∧ (0 ≤ y1 ∧ y1 < 0 + 1) ∧ (0 ≤ y2 ∧ y2 < 0 + 1024)) ↔ y0 / 512 = b := by omega
theorem mem_ySet (b : Fin 160) (y : S81920x1x1024.Idx) : y ∈ ySet b ↔ (y 0).val / 512 = b.val := by
  rw [Rect.mem_set_unit]
  exact (forall_fin_three (p := fun a => blkOff b a ≤ (y a).val ∧ (y a).val < blkOff b a + S512x1x1024.size a)).trans (mem_rows (y 1).isLt (y 2).isLt)
theorem mem_slotSet (s : Fin 2) (y : S1024x1x1024.Idx) : y ∈ slotSet s ↔ (y 0).val / 512 = s.val := by
  rw [Rect.mem_set_unit]
  exact (forall_fin_three (p := fun a => slotOff s a ≤ (y a).val ∧ (y a).val < slotOff s a + S512x1x1024.size a)).trans (mem_rows (y 1).isLt (y 2).isLt)

theorem row_lt {y : ℕ} (h : y < 81920) : y / 512 < 160 := by omega
theorem slot_lt {y : ℕ} (h : y < 1024) : y / 512 < 2 := by omega

/-- The block an element lies in. -/
def blkAt (y : S81920x1x1024.Idx) : Fin 160 := ⟨(y 0).val / 512, row_lt (y 0).isLt⟩
theorem blkAt_of {b : Fin 160} {y : S81920x1x1024.Idx} (h : y ∈ (yB b).view.set) : blkAt y = b := by
  rw [yB_set] at h
  exact Fin.ext ((mem_ySet b y).1 h)

variable (c : Dev nD)

/-! ## The rows -/

theorem y_blocks (f : Buf (Elt F) (yM.view.loc (c : Thread nD τ))) :
    (((c : Thread nD τ).loc main_v23) ↦{fullShare} f : sProp 𝕄) = bigSep Finset.univ (homeX c f) := by
  rw [Ring.pointsTo_blocks (ℓ := (c : Thread nD τ).loc main_v23) ySet (disjoint_of_mem ySet _ mem_ySet) (cover_of_mem ySet _ mem_ySet fun y => row_lt (y 0).isLt)]
  exact bigSep_congr fun b _ => by rw [← yB_set]; rfl

/-- Blocks each good are rows each of whose blocks is good. -/
theorem y_join (Q : Fin 160 → (S512x1x1024.Idx → Elt F .f32) → Prop) (X : Buf (Elt F) (yM.view.loc (c : Thread nD τ))) :
    bigSep Finset.univ (homeDone c Q) ⊢ (iprop(∃ f : Buf (Elt F) (yM.view.loc (c : Thread nD τ)), ⌜∀ b, Q b ((yB b).view.read (Elt F) f)⌝ ∗ ((c : Thread nD τ).loc main_v23) ↦{fullShare} f) : sProp 𝕄) := by
  have : Nonempty (Buf (Elt F) (yM.view.loc (c : Thread nD τ))) := ⟨X⟩
  refine (bigSep_exists_pi Finset.univ (fun b (f : Buf (Elt F) (yM.view.loc (c : Thread nD τ))) => (iprop(⌜Q b ((yB b).view.read (Elt F) f)⌝ ∗ homeX c f b) : sProp 𝕄))).trans ?_
  iintro ⟨%A, H⟩
  ihave H := (bigSep_pure_sep Finset.univ (fun b => Q b ((yB b).view.read (Elt F) (A b))) (fun b => (homeX c (A b) b : sProp 𝕄))) $$ H
  icases H with ⟨%hQ, H⟩
  let f : Buf (Elt F) (yM.view.loc (c : Thread nD τ)) := fun (y : S81920x1x1024.Idx) => A (blkAt y) y
  have hf : ∀ b, ∀ y ∈ (yB b).view.set, A b y = f y := fun b y hy => by
    show A b y = A (blkAt y) y
    rw [blkAt_of hy]
  iexists f
  isplitr
  · ipureintro
    intro b
    have e : (yB b).view.read (Elt F) f = (yB b).view.read (Elt F) (A b) := by
      funext x
      exact (hf b _ (Finset.mem_map_of_mem _ (Finset.mem_univ x))).symm
    rw [e]
    exact hQ b (Finset.mem_univ b)
  iapply (ent_of_eq (y_blocks c f).symm)
  iapply (ent_of_eq (bigSep_congr (s := Finset.univ) (Φ := fun b => (homeX c (A b) b : sProp 𝕄)) (Ψ := homeX c f) fun b _ => pointsTo_congr (hf b)))
  iexact H

/-- What a block is when the call is done: computed, or, past the blocks in use, as it was. -/
def doneBlk (G : Fin 160 → (S512x1x1024.Idx → Elt F .f32) → Prop) (X : Buf (Elt F) (yM.view.loc (c : Thread nD τ))) (n : ℕ) (b : Fin 160) (v : S512x1x1024.Idx → Elt F .f32) : Prop :=
  if b.val < n then G b v else v = (yB b).view.read (Elt F) X

theorem done_in (G : Fin 160 → (S512x1x1024.Idx → Elt F .f32) → Prop) (X : Buf (Elt F) (yM.view.loc (c : Thread nD τ))) (n : ℕ) (b : Fin 160) (hb : b.val < n) :
    (homeDone c G b : sProp 𝕄) ⊢ homeDone c (doneBlk c G X n) b := by
  iintro ⟨%f, %h, H⟩
  iexists f
  isplitr
  · ipureintro; unfold doneBlk; rw [if_pos hb]; exact h
  · iexact H
theorem past_in (G : Fin 160 → (S512x1x1024.Idx → Elt F .f32) → Prop) (X : Buf (Elt F) (yM.view.loc (c : Thread nD τ))) (n : ℕ) (b : Fin 160) (hb : n ≤ b.val) :
    (homeX c X b : sProp 𝕄) ⊢ homeDone c (doneBlk c G X n) b := by
  iintro H
  iexists X
  isplitr
  · ipureintro; unfold doneBlk; rw [if_neg (by omega)]
  · iexact H

theorem y_done (G : Fin 160 → (S512x1x1024.Idx → Elt F .f32) → Prop) (X : Buf (Elt F) (yM.view.loc (c : Thread nD τ))) (n : ℕ) :
    iprop(before (homeDone c G) n ∗ since (homeX c X) n)
      ⊢ (iprop(∃ f : Buf (Elt F) (yM.view.loc (c : Thread nD τ)), ⌜∀ b, doneBlk c G X n b ((yB b).view.read (Elt F) f)⌝ ∗ ((c : Thread nD τ).loc main_v23) ↦{fullShare} f) : sProp 𝕄) := by
  refine BIBase.Entails.trans ?_ (y_join c (doneBlk c G X n) X)
  have e : (Finset.univ.filter fun b : Fin 160 => ¬ b.val < n) = Finset.univ.filter fun b : Fin 160 => n ≤ b.val := Finset.filter_congr fun b _ => Nat.not_lt
  have e2 : bigSep Finset.univ (homeDone c (doneBlk c G X n)) = (iprop(bigSep (Finset.univ.filter fun b : Fin 160 => b.val < n) (homeDone c (doneBlk c G X n))
      ∗ bigSep (Finset.univ.filter fun b : Fin 160 => n ≤ b.val) (homeDone c (doneBlk c G X n))) : sProp 𝕄) := by
    rw [bigSep_filter_split Finset.univ (fun b : Fin 160 => b.val < n), e]; rfl
  rw [e2]
  unfold before since
  iintro ⟨H1, H2⟩
  isplitl [H1]
  · iapply (show bigSep (Finset.univ.filter fun b : Fin 160 => b.val < n) (homeDone c G) ⊢ bigSep (Finset.univ.filter fun b : Fin 160 => b.val < n) (homeDone c (doneBlk c G X n)) from
      bigSep_mono fun b hb => done_in c G X n b (Finset.mem_filter.1 hb).2)
    iexact H1
  · iapply (show bigSep (Finset.univ.filter fun b : Fin 160 => n ≤ b.val) (homeX c X) ⊢ bigSep (Finset.univ.filter fun b : Fin 160 => n ≤ b.val) (homeDone c (doneBlk c G X n)) from
      bigSep_mono fun b hb => past_in c G X n b (Finset.mem_filter.1 hb).2)
    iexact H2

/-! ## The ring buffers -/

theorem bigSep_slots (Φ : Fin 2 → sProp 𝕄) : bigSep Finset.univ Φ = iprop(Φ 0 ∗ Φ 1) :=
  bigSep_univ_eq_bigSepL [(0 : Fin 2), (1 : Fin 2)] (by decide) (by decide) Φ

theorem lSlot_eq (s : Fin 2) (f) : (((c : Thread nD τ).loc cc0_scratch2) ↦[slotSet s]{fullShare} f : sProp 𝕄) = holds c (lS s) f :=
  congrArg (fun S => (_ ↦[S]{fullShare} f : sProp 𝕄)) (lS_set s).symm
theorem sSlot_eq (s : Fin 2) (f) : (((c : Thread nD τ).loc cc0_scratch3) ↦[slotSet s]{fullShare} f : sProp 𝕄) = holds c (sS s) f :=
  congrArg (fun S => (_ ↦[S]{fullShare} f : sProp 𝕄)) (sS_set s).symm

/-- A ring buffer whole is its slots, and back. -/
theorem l_split : iprop(∃ f : Buf (Elt F) ((c : Thread nD τ).loc cc0_scratch2), ((c : Thread nD τ).loc cc0_scratch2) ↦{fullShare} f)
      ⊢ (iprop((∃ f, holds c (lS 0) f) ∗ ∃ f, holds c (lS 1) f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch2) slotSet
    (disjoint_of_mem slotSet _ mem_slotSet) (cover_of_mem slotSet _ mem_slotSet fun y => slot_lt (y 0).isLt) f).trans (bigSep_slots _))) $$ H
  icases H2 with ⟨H0, H1⟩
  isplitl [H0]; · iexists f; iapply (ent_of_eq (lSlot_eq c 0 f)); iexact H0
  iexists f; iapply (ent_of_eq (lSlot_eq c 1 f)); iexact H1
theorem l_join : (iprop((∃ f, holds c (lS 0) f) ∗ ∃ f, holds c (lS 1) f) : sProp 𝕄)
      ⊢ iprop(∃ f : Buf (Elt F) ((c : Thread nD τ).loc cc0_scratch2), ((c : Thread nD τ).loc cc0_scratch2) ↦{fullShare} f) := by
  iintro ⟨⟨%f0, H0⟩, ⟨%f1, H1⟩⟩
  iapply (Ring.pointsTo_blocks_join_exists (ℓ := (c : Thread nD τ).loc cc0_scratch2) slotSet (disjoint_of_mem slotSet _ mem_slotSet) (cover_of_mem slotSet _ mem_slotSet fun y => slot_lt (y 0).isLt) f0)
  irw [bigSep_slots]
  isplitl [H0]; · iexists f0; iapply (ent_of_eq (lSlot_eq c 0 f0).symm); iexact H0
  iexists f1; iapply (ent_of_eq (lSlot_eq c 1 f1).symm); iexact H1
theorem s_split : iprop(∃ f : Buf (Elt F) ((c : Thread nD τ).loc cc0_scratch3), ((c : Thread nD τ).loc cc0_scratch3) ↦{fullShare} f)
      ⊢ (iprop((∃ f, holds c (sS 0) f) ∗ ∃ f, holds c (sS 1) f) : sProp 𝕄) := by
  iintro ⟨%f, H⟩
  ihave H2 := (ent_of_eq ((Ring.pointsTo_blocks (Ix := Unit) (Name := ℕ) (U := UU nD τ) (Lvl := ℕ) (q := fullShare) (ℓ := (c : Thread nD τ).loc cc0_scratch3) slotSet
    (disjoint_of_mem slotSet _ mem_slotSet) (cover_of_mem slotSet _ mem_slotSet fun y => slot_lt (y 0).isLt) f).trans (bigSep_slots _))) $$ H
  icases H2 with ⟨H0, H1⟩
  isplitl [H0]; · iexists f; iapply (ent_of_eq (sSlot_eq c 0 f)); iexact H0
  iexists f; iapply (ent_of_eq (sSlot_eq c 1 f)); iexact H1
theorem s_join : (iprop((∃ f, holds c (sS 0) f) ∗ ∃ f, holds c (sS 1) f) : sProp 𝕄)
      ⊢ iprop(∃ f : Buf (Elt F) ((c : Thread nD τ).loc cc0_scratch3), ((c : Thread nD τ).loc cc0_scratch3) ↦{fullShare} f) := by
  iintro ⟨⟨%f0, H0⟩, ⟨%f1, H1⟩⟩
  iapply (Ring.pointsTo_blocks_join_exists (ℓ := (c : Thread nD τ).loc cc0_scratch3) slotSet (disjoint_of_mem slotSet _ mem_slotSet) (cover_of_mem slotSet _ mem_slotSet fun y => slot_lt (y 0).isLt) f0)
  irw [bigSep_slots]
  isplitl [H0]; · iexists f0; iapply (ent_of_eq (sSlot_eq c 0 f0).symm); iexact H0
  iexists f1; iapply (ent_of_eq (sSlot_eq c 1 f1).symm); iexact H1

end Cert.Proof.Exp

end
-- ==== Proof.ExpLaunch.lean ====
/-
  The experts' run: from any memory whose tables route, for any float values, every fair execution ends with the arguments
  as they were, every block of the rows as the call leaves it, and every counter at zero.
-/
module

public import proofs.«01_k».proof.Proof.ExpWords
public import proofs.«01_k».proof.Proof.ExpBlocks
public import proofs.«01_k».proof.Proof.Gen.Kernel3Ideal.Launch
public import Idealize.ShloMosaic.Lib.Pipeline.FrameBody
public import Idealize.ShloMosaic.Lib.Pipeline.FrameSuffix
public import Idealize.ShloMosaic.Lib.Pipeline.Quiescent

@[expose] public section

noncomputable section

namespace Cert.Proof.Exp

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Proof.Mod (ent_of_eq)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The lines before the call and after it -/

/-- The buffers when the call starts. -/
abbrev V₀ (c : Dev nD) : Valuation τ sig (Elt F) := StableHlo.after [hostOps0].flatten (fun b => m (c, b))
abbrev V (c : Dev nD) (b : Ref sig .tc) : Buf (Elt F) ((c : Thread nD τ).loc b) := V₀ m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev argRefs : List (Ref sig .tc) := [main_arg0, main_arg1, main_arg2, main_arg3, main_arg4, main_arg5, main_arg6, main_arg7]

/-- No line writes an argument. -/
theorem kept0 (W : Valuation τ sig (Elt F)) {b : Ref sig .tc} (hb : b ∈ argRefs) :
    StableHlo.after [hostOps0 (F := F)].flatten W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))
theorem kept1 (W : Valuation τ sig (Elt F)) {b : Ref sig .tc} (hb : b ∈ argRefs) :
    StableHlo.after [hostOps1 (F := F)].flatten W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by rintro rfl; revert hb; decide)))
theorem V_arg (c : Dev nD) {b : Ref sig .tc} (hb : b ∈ argRefs) : V m c b = m ((c : Thread nD τ).loc b) := kept0 _ hb

/-- No line after the call touches a table, or writes an array of the call's. -/
theorem tail_tables : (hostOps1 : List (HloOp τ sig (Elt F))).Forall fun op => ∀ k : Fin 3, Proc.devRef .tc (pre0.ref k) ∉ op.bufs := by
  simp only [hostOps1, List.Forall, StableHlo.nullary_bufs, StableHlo.unary_bufs, StableHlo.binary_bufs, StableHlo.ternary_bufs, Finset.mem_insert, Finset.mem_singleton, not_or]
  refine ⟨?_, ?_, ?_, ?_, ?_, ?_⟩ <;> intro k <;> fin_cases k <;> (repeat' apply And.intro) <;> exact StableHlo.devRef_ne_of_ne (by decide)
theorem tail_arrays : (hostOps1 : List (HloOp τ sig (Elt F))).Forall fun op => ∀ w : Fin 4, Proc.devRef .tc (Pipeline.arrRef spec0 w) ∉ op.writes := by
  simp only [hostOps1, List.Forall, StableHlo.nullary_writes, StableHlo.unary_writes, StableHlo.binary_writes, StableHlo.ternary_writes, Finset.mem_singleton]
  refine ⟨?_, ?_, ?_, ?_, ?_, ?_⟩ <;> intro w <;> fin_cases w <;> exact StableHlo.devRef_ne_of_ne (by decide)

theorem tail_sub : ∀ ops ∈ ([hostOps1] : List (List (HloOp τ sig (Elt F)))), ∀ op ∈ ops, op.bufs ⊆ Pipeline.tailRefs sig pre0 spec0 := by
  intro ops hops op hop
  obtain rfl := List.mem_singleton.1 hops
  exact Pipeline.sub_tailRefs pre0 spec0 op ((List.forall_iff_forall_mem.mp hostOps1_sub) op hop) ((List.forall_iff_forall_mem.mp tail_tables) op hop)
theorem tail_fresh : ∀ ops ∈ ([hostOps1] : List (List (HloOp τ sig (Elt F)))), ∀ op ∈ ops, op.fresh = ∅ := by
  intro ops hops op hop
  obtain rfl := List.mem_singleton.1 hops
  exact (List.forall_iff_forall_mem.mp hostOps1_fresh) op hop
theorem tail_keep : ∀ ops ∈ ([hostOps1] : List (List (HloOp τ sig (Elt F)))), ∀ op ∈ ops, ∀ w, Proc.devRef .tc (Pipeline.arrRef spec0 w) ∉ op.writes := by
  intro ops hops op hop
  obtain rfl := List.mem_singleton.1 hops
  exact (List.forall_iff_forall_mem.mp tail_arrays) op hop

/-! ## The call's own semaphores, and its buffers whole -/

abbrev osem : Fin 4 → SemLoc sig := ![.dma (lC 0).sem, .dma (lC 1).sem, .dma (sC 0).sem, .dma (sC 1).sem]
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(lCellP c 0 ∗ lCellP c 1 ∗ sCellP c 0 ∗ sCellP c 1) := by
  unfold Pipeline.ownSems0; rw [bigSep_W0]; rfl

theorem w1_eq (c : Dev nD) (f : Buf (Elt F) (w1M.view.loc (c : Thread nD τ))) : (((c : Thread nD τ).loc cc0_scratch0) ↦{fullShare} f : sProp 𝕄) = holds c w1M f := by
  unfold holds; rw [show w1M.view.set = Finset.univ from View.set_whole _]
theorem w2_eq (c : Dev nD) (f : Buf (Elt F) (w2M.view.loc (c : Thread nD τ))) : (((c : Thread nD τ).loc cc0_scratch1) ↦{fullShare} f : sProp 𝕄) = holds c w2M f := by
  unfold holds; rw [show w2M.view.set = Finset.univ from View.set_whole _]
theorem x_eq (c : Dev nD) (f : Buf (Elt F) (xM.view.loc (c : Thread nD τ))) : (((c : Thread nD τ).loc cc0_scratch4) ↦{fullShare} f : sProp 𝕄) = holds c xM f := by
  unfold holds; rw [show xM.view.set = Finset.univ from View.set_whole _]
theorem o_eq (c : Dev nD) (f : Buf (Elt F) (oM.view.loc (c : Thread nD τ))) : (((c : Thread nD τ).loc cc0_scratch5) ↦{fullShare} f : sProp 𝕄) = holds c oM f := by
  unfold holds; rw [show oM.view.set = Finset.univ from View.set_whole _]
theorem a_eq (c : Dev nD) (f : Buf (Elt F) (aM.view.loc (c : Thread nD τ))) : (((c : Thread nD τ).loc cc0_scratch6) ↦{fullShare} f : sProp 𝕄) = holds c aM f := by
  unfold holds; rw [show aM.view.set = Finset.univ from View.set_whole _]

theorem pref_eq (c : Dev nD) (q : PosShare TreeShare) (T : pre0.Contents (Elt F)) :
    (Pipeline.prefHeld (Ix := Unit) (Name := ℕ) (U := UU nD τ) (Lvl := ℕ) pre0 c (fun _ => q) T : sProp 𝕄)
      = iprop((startM.view.loc (c : Thread nD τ) ↦[startM.view.set]{q} T (0 : Fin 3)) ∗ (blocksM.view.loc (c : Thread nD τ) ↦[blocksM.view.set]{q} T (1 : Fin 3))
          ∗ (padM.view.loc (c : Thread nD τ) ↦[padM.view.set]{q} T (2 : Fin 3))) := by
  unfold Pipeline.prefHeld
  rw [show startM.view.set = Finset.univ from View.set_whole _, show blocksM.view.set = Finset.univ from View.set_whole _, show padM.view.set = Finset.univ from View.set_whole _]
  exact bigSep_univ_eq_bigSepL [(0 : Fin 3), (1 : Fin 3), (2 : Fin 3)] (by decide) (by decide) _

/-! ## The call's data -/

/-- The tables, as launched. -/
def adm : (pcfg0 (F := F)).Adm := ⟨fun k => m (((0 : Dev nD).tc : Thread nD τ).loc (pre0.ref k)), trivial⟩
abbrev tabS : IVec S32 32 := m (((0 : Dev nD).tc : Thread nD τ).loc main_arg0)
abbrev tabB : IVec S32 32 := m (((0 : Dev nD).tc : Thread nD τ).loc main_arg1)
abbrev tabP : IVec S32 32 := m (((0 : Dev nD).tc : Thread nD τ).loc main_arg2)
/-- The rows, as the call finds them; the number of blocks in use. -/
abbrev rows (c : Dev nD) : Buf (Elt F) (yM.view.loc (c : Thread nD τ)) := V m c main_v23
abbrev nBlk : ℕ := usedBlk (tabS m) (tabB m)

def iblk (c : Dev nD) (w : Fin 4) (t : Fin (cfg0 (adm m)).N) : (((cfg0 (adm m)).win w).xblock ((cfg0 (adm m)).grid.coords t)).Idx → Elt F ((cfg0 (adm m)).win w).elt :=
  (((cfg0 (adm m)).win w).blk t).view.read (Elt F) (V m c (Pipeline.arrRef spec0 w))

/-- What the call says of a block it computes: it is what the trip of some point makes of the block's rows, with that
    point's expert's weights and biases. -/
def Good (c : Dev nD) (b : Fin 160) (v : S512x1x1024.Idx → Elt F .f32) : Prop :=
  ∃ (t : Fin (cfg0 (adm m)).N) (a5 : Memref sig .tc .vmem S1x1024x2048 .f32) (a6 : Memref sig .tc .vmem S1x1x2048 .f32) (a7 : Memref sig .tc .vmem S1x1024x1024 .f32) (a8 : Memref sig .tc .vmem S1x1x1024 .f32)
    (A5 : Buf (Elt F) (a5.view.loc (c : Thread nD τ))) (B1 : Buf (Elt F) (a6.view.loc (c : Thread nD τ))) (A7 : Buf (Elt F) (a7.view.loc (c : Thread nD τ))) (B2 : Buf (Elt F) (a8.view.loc (c : Thread nD τ)))
    (W1 : Buf (Elt F) (w1M.view.loc (c : Thread nD τ))) (W2 : Buf (Elt F) (w2M.view.loc (c : Thread nD τ))) (g : ℕ) (fo o : Buf (Elt F) (oM.view.loc (c : Thread nD τ))),
    (a5.view.read (Elt F) A5 = iblk m c 0 t) ∧ (a6.view.read (Elt F) B1 = iblk m c 1 t) ∧ (a7.view.read (Elt F) A7 = iblk m c 2 t) ∧ (a8.view.read (Elt F) B2 = iblk m c 3 t)
    ∧ W1Up c a5 A5 16 W1 ∧ W2Up c a7 A7 16 W2
    ∧ upBlk (tabS m) (tabB m) (grid0.coords t 0).val ≤ g ∧ g < upBlk (tabS m) (tabB m) (grid0.coords t 0).val + (tabB m (ix (grid0.coords t 0))).toNat
    ∧ TripRel c a6 a8 B1 B2 W1 W2
        (if g + 1 = upBlk (tabS m) (tabB m) (grid0.coords t 0).val + (tabB m (ix (grid0.coords t 0))).toNat then 512 - 128 * ((tabP m (ix (grid0.coords t 0))).toNat / 128) else 512)
        ((yB (Ring.bk 160 g)).view.read (Elt F) (rows m c)) fo o
    ∧ b = Ring.bk 160 g ∧ v = stagedOf c o

section Rest

variable (c : Dev nD) (X : Buf (Elt F) (yM.view.loc (c : Thread nD τ))) (G : Fin 160 → (S512x1x1024.Idx → Elt F .f32) → Prop)

/-- The pipeline's states less what the core owes. -/
def FreshR : sProp 𝕄 :=
  iprop((loadFree c 0 ∗ loadFree c 1) ∗ (sendFree c 0 ∗ sendFree c 1) ∗ since (homeX c X) 0
    ∗ (∃ f, holds c oM f) ∗ (∃ f, holds c xM f) ∗ (∃ f, holds c aM f))
def PosR (n g : ℕ) : sProp 𝕄 :=
  iprop(loads (loadOn c X) (loadFree c) n g ∗ store1 (sendOn c G) (sendAny c) (sendFree c) g ∗ store2 (sendOn c G) (sendFree c) g ∗ store3 (homeAny c) g
    ∗ before (homeDone c G) (g - 3) ∗ since (homeX c X) (min (g + 1) n)
    ∗ (∃ o, ⌜1 ≤ g → G (Ring.bk 160 (g - 1)) (stagedOf c o)⌝ ∗ holds c oM o) ∗ (∃ f, holds c xM f) ∗ (∃ f, holds c aM f))
def DoneR (n : ℕ) : sProp 𝕄 :=
  iprop((loadFree c 0 ∗ loadFree c 1) ∗ (sendFree c 0 ∗ sendFree c 1) ∗ before (homeDone c G) n ∗ since (homeX c X) n
    ∗ (∃ f, holds c oM f) ∗ (∃ f, holds c xM f) ∗ (∃ f, holds c aM f))

theorem fresh_of : iprop(FreshR c X ∗ ∃ W, owes (c : Thread nD τ) 0 W) ⊢ (Fresh c X : sProp 𝕄) := by
  unfold FreshR Fresh
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H6]; · iexact H6
  iexact H7
theorem pos_of (n g : ℕ) : iprop(PosR c X G n g ∗ ∃ W, owes (c : Thread nD τ) 0 W) ⊢ (Pos c X G n g : sProp 𝕄) := by
  unfold PosR Pos
  iintro ⟨⟨H1, H2, H3, H4, H5, H6, H7, H8, H9⟩, H⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H
theorem of_pos (n g : ℕ) : (Pos c X G n g : sProp 𝕄) ⊢ iprop(PosR c X G n g ∗ ∃ W, owes (c : Thread nD τ) 0 W) := by
  unfold PosR Pos
  iintro ⟨H1, H2, H3, H4, H5, H6, H7, H8, H9, H⟩
  isplitr [H]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact H
theorem of_done (n : ℕ) : (Done c X G n : sProp 𝕄) ⊢ iprop(DoneR c X G n ∗ ∃ W, owes (c : Thread nD τ) 0 W) := by
  unfold DoneR Done
  iintro ⟨H1, H2, H3, H4, H5, H6, H7, H⟩
  isplitr [H]
  · isplitl [H1]; · iexact H1
    isplitl [H2]; · iexact H2
    isplitl [H3]; · iexact H3
    isplitl [H4]; · iexact H4
    isplitl [H5]; · iexact H5
    isplitl [H6]; · iexact H6
    iexact H7
  iexact H

end Rest

/-- The pipeline before point `t`. -/
def State (c : Dev nD) (t : ℕ) : sProp 𝕄 :=
  if t = 0 then FreshR c (rows m c) else if t = 32 then DoneR c (rows m c) (Good m c) (nBlk m) else PosR c (rows m c) (Good m c) (nBlk m) (upBlk (tabS m) (tabB m) t)

def Φ (c : Dev nD) (t : ℕ) : sProp 𝕄 :=
  iprop(Pipeline.prefHeld (Ix := Unit) (Name := ℕ) (U := UU nD τ) (Lvl := ℕ) pre0 c (fun _ => fullShare.right) (adm m).1
    ∗ (∃ f, holds c w1M f) ∗ (∃ f, holds c w2M f) ∗ State m c t)

def dats (_ : Fin 1) (c : Dev nD) : Dat τ (Elt F) Unit ℕ (UU nD τ) ℕ (cfg0 (adm m)) c where
  A w := V m c (Pipeline.arrRef spec0 w)
  after w t := iblk m c w t
  Φ t := Φ m c t.val
  q w := Pipeline.shareOf spec0 w
  owed _ := 0

theorem before_eq (c : Dev nD) (w : Fin 4) (hw : (spec0 w).isOut = false)
    (hfill : ∀ t d v, ((cfg0 (adm m)).win w).fill ((cfg0 (adm m)).grid.coords t) d v = (v : _ → Elt F ((cfg0 (adm m)).win w).elt)) (t) (d) : (dats m 0 c).before w t d = iblk m c w t := by
  have hA : (dats m 0 c).A w = V m c (Pipeline.arrRef spec0 w) := by dsimp only [dats]
  have hafter : ∀ t, (dats m 0 c).after w t = iblk m c w t := fun t => by dsimp only [dats]
  exact ((dats m 0 c).before_in_eq_fetched w hw (fun _ => rfl) (fun _ _ _ => rfl) (fun t => by rw [hafter]; unfold Dat.blockOf iblk; rw [hA]; try rfl) t d).trans
    (by unfold Dat.fetched Dat.blockOf iblk; rw [hA]; exact hfill _ _ _)

abbrev bodyAt (t : Fin (cfg0 (adm m)).N) (s : (w : Fin 4) → Fin (spec0 w).nbuf) :=
  cc0_experts (F := F) (grid0.coords t) startM (Memref.isWhole_whole _) blocksM (Memref.isWhole_whole _) padM (Memref.isWhole_whole _) yM (Memref.isWhole_whole _)
    (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3))
    yM (Memref.isWhole_whole _) w1M (Memref.isWhole_whole _) w2M (Memref.isWhole_whole _) lrM (Memref.isWhole_whole _) srM (Memref.isWhole_whole _) xM (Memref.isWhole_whole _) oM (Memref.isWhole_whole _) aM (Memref.isWhole_whole _) cc0_scratch7 cc0_scratch8

theorem defs₀_row (t : Fin (cfg0 (adm m)).N) :
    defs₀ (F := F) .tc (cfg0 (adm m)).body ((cfg0 (adm m)).bodyArgs t ((cfg0 (adm m)).slots t)) = bodyAt m t ((cfg0 (adm m)).slots t) := by
  unfold defs₀; rw [Defs.onTc_tc]

theorem owns_open {sp : Space} {s : Shape} {e : EltTy} (c : Dev nD) (M : Memref sig .tc sp s e) (v : s.Idx → Elt F e) :
    (owns (c : Thread nD τ) M fullShare v : sProp 𝕄) ⊢ iprop(∃ f, ⌜M.view.read (Elt F) f = v⌝ ∗ holds c M f) := by
  unfold owns; exact .rfl
theorem owns_close {sp : Space} {s : Shape} {e : EltTy} (c : Dev nD) (M : Memref sig .tc sp s e) (v : s.Idx → Elt F e) (f) (h : M.view.read (Elt F) f = v) :
    holds c M f ⊢ (owns (c : Thread nD τ) M fullShare v : sProp 𝕄) := by
  unfold owns
  iintro H
  iexists f
  isplitr; · ipureintro; exact h
  iexact H

variable (hR : Routed (tabS m) (tabB m) (tabP m))
include hR

theorem state_in (c : Dev nD) (t : Fin (cfg0 (adm m)).N) :
    iprop(State m c t.val ∗ ∃ W, owes (c : Thread nD τ) 0 W)
      ⊢ (Upto c (rows m c) (Good m c) (grid0.coords t) (nBlk m) (upBlk (tabS m) (tabB m) (grid0.coords t 0).val) : sProp 𝕄) := by
  have hv : (grid0.coords t 0).val = t.val := coord_val t
  have ht : t.val < 32 := t.isLt
  unfold State Upto
  rw [hv]
  by_cases h : t.val = 0
  · rw [if_pos h, if_pos h]; exact fresh_of c _
  · rw [if_neg h, if_neg h, if_neg (by omega)]; exact pos_of c _ _ _ _

theorem state_out (c : Dev nD) (t : Fin (cfg0 (adm m)).N) :
    (After c (rows m c) (Good m c) (grid0.coords t) (nBlk m) (upBlk (tabS m) (tabB m) (grid0.coords t 0).val + (tabB m (ix (grid0.coords t 0))).toNat) : sProp 𝕄)
      ⊢ iprop(State m c (t.val + 1) ∗ ∃ W, owes (c : Thread nD τ) 0 W) := by
  have hv : (grid0.coords t 0).val = t.val := coord_val t
  have u := upBlk_succ hR (grid0.coords t 0)
  rw [upBlk_lt (grid0.coords t 0).isLt, ← show upBlk (tabS m) (tabB m) ((grid0.coords t 0).val + 1) = firstBlk (tabS m) ⟨(grid0.coords t 0).val, (grid0.coords t 0).isLt⟩ + (tabB m (ix (grid0.coords t 0))).toNat from u]
  unfold State After
  rw [hv, if_neg (Nat.succ_ne_zero _)]
  by_cases h : t.val = 31
  · rw [if_pos h, if_pos (by omega)]; exact of_done c _ _ _
  · rw [if_neg h, if_neg (by omega)]; exact of_pos c _ _ _ _

set_option backward.isDefEq.respectTransparency.types false in
theorem body_obligation (c : Dev nD) : BodyObligation (dats (F := F) m 0 c) (defs₀ (F := F)) 𝒱₀ () Set.univ := fun t => by
  have hw := words (F := F) c (grid0.coords t) (tabS m) (tabB m) (tabP m) hR
  have epad : padW (F := F) c (grid0.coords t) (tabP m) = (tabP m (ix (grid0.coords t 0))).toNat :=
    congrArg BitVec.toNat (pad_at c (grid0.coords t 0) (k0_off17 (grid0.coords t)) (congrFun (off17_at (grid0.coords t)) 0) _ (tabP m) _)
  rw [bigSep_W0, bigSep_W0, defs₀_row]
  rw [show (dats m 0 c).Φ t.castSucc = Φ m c t.val from rfl, show (dats m 0 c).Φ t.succ = Φ m c (t.val + 1) from rfl]
  unfold Dat.owesAt Pipeline.owesWithin Φ
  rw [show (dats m 0 c).owed t.castSucc = 0 from rfl, show (dats m 0 c).owed t.succ = 0 from rfl, pref_eq]
  iintro ⟨⟨⟨HS, HB, HP⟩, HW1, HW2, HSt⟩, ⟨%W, -, HW⟩, ⟨%d0, H0⟩, ⟨%d1, H1⟩, ⟨%d2, H2⟩, ⟨%d3, H3⟩⟩
  ihave H0 := (owns_open c _ _) $$ H0
  ihave H1 := (owns_open c _ _) $$ H1
  ihave H2 := (owns_open c _ _) $$ H2
  ihave H3 := (owns_open c _ _) $$ H3
  icases H0 with ⟨%f0, %e0, H0⟩
  icases H1 with ⟨%f1, %e1, H1⟩
  icases H2 with ⟨%f2, %e2, H2⟩
  icases H3 with ⟨%f3, %e3, H3⟩
  iapply (wp_wand_r Idealize.ShloMosaic.frame (wpE (defs₀ (F := F)) 𝒱₀ (c : Thread nD τ) none) Set.univ)
  isplitl [HS HB HP HW1 HW2 HSt HW H0 H1 H2 H3]
  · iapply (bodyRun c (rows m c) (Good m c) (grid0.coords t) _ _ _ _ _ _ _ _ fullShare.right fullShare.right fullShare.right (tabS m) (tabB m) (tabP m) f0 f1 f2 f3 hw
      (fun W1 W2 u1 u2 g h1 h2 fo o r => ⟨t, _, _, _, _, f0, f1, f2, f3, W1, W2, g, fo, o, e0.trans (before_eq m c 0 rfl (fun _ _ _ => rfl) t d0), e1.trans (before_eq m c 1 rfl (fun _ _ _ => rfl) t d1),
        e2.trans (before_eq m c 2 rfl (fun _ _ _ => rfl) t d2), e3.trans (before_eq m c 3 rfl (fun _ _ _ => rfl) t d3), u1, u2, h1, h2, epad ▸ r, rfl, rfl⟩))
    isplitl [HS]; · iexact HS
    isplitl [HB]; · iexact HB
    isplitl [HP H0 H1 H2 H3 HW1 HW2]
    · isplitl [HP]; · iexact HP
      isplitl [H0]; · iexact H0
      isplitl [H1]; · iexact H1
      isplitl [H2]; · iexact H2
      isplitl [H3]; · iexact H3
      isplitl [HW1]; · iexact HW1
      iexact HW2
    iapply (state_in m hR c t)
    isplitl [HSt]; · iexact HSt
    iexists W; iexact HW
  iintro %_ ⟨HS, HB, ⟨HP, H0, H1, H2, H3, HW1, HW2⟩, HA⟩
  ihave HA := (state_out m hR c t) $$ HA
  icases HA with ⟨HSt, ⟨%W', HW⟩⟩
  isplitl [HS HB HP HW1 HW2 HSt]
  · isplitl [HS HB HP]
    · isplitl [HS]; · iexact HS
      isplitl [HB]; · iexact HB
      iexact HP
    isplitl [HW1]; · iexact HW1
    isplitl [HW2]; · iexact HW2
    iexact HSt
  isplitl [HW]
  · iexists W'; isplitr; · ipureintro; exact fun _ _ => Or.inl trivial
    iexact HW
  isplitl [H0]; · iapply (owns_close c _ _ f0 (e0.trans (before_eq m c 0 rfl (fun _ _ _ => rfl) t d0))); iexact H0
  isplitl [H1]; · iapply (owns_close c _ _ f1 (e1.trans (before_eq m c 1 rfl (fun _ _ _ => rfl) t d1))); iexact H1
  isplitl [H2]; · iapply (owns_close c _ _ f2 (e2.trans (before_eq m c 2 rfl (fun _ _ _ => rfl) t d2))); iexact H2
  iapply (owns_close c _ _ f3 (e3.trans (before_eq m c 3 rfl (fun _ _ _ => rfl) t d3))); iexact H3

omit hR

/-! ## The run -/

theorem y_rest : main_v23 ∈ Pipeline.restRefsP sig pre0 spec0 := by
  refine Finset.mem_sdiff.2 ⟨Pipeline.mem_restRefs_of main_v23 (by decide) (by decide), ?_⟩
  rw [Finset.mem_image]
  rintro ⟨k, -, e⟩
  revert e
  have h : ∀ k : Fin 3, pre0.ref k ≠ main_v23 := by decide
  exact h k

/-- The unscoped buffers the call does not stage, but the rows. -/
def aside (c : Dev nD) : sProp 𝕄 := bigSep ((Pipeline.restRefsP sig pre0 spec0).erase main_v23) fun b => ((c : Thread nD τ).loc b) ↦{fullShare} V m c b
/-- The rows as the call leaves them. -/
def Left (c : Dev nD) (f : Buf (Elt F) (yM.view.loc (c : Thread nD τ))) : Prop := ∀ b, doneBlk c (Good m c) (rows m c) (nBlk m) b ((yB b).view.read (Elt F) f)
def intoΦ (c : Dev nD) : sProp 𝕄 := iprop(bigSep Finset.univ (homeX c (rows m c)) ∗ Pipeline.ownSems0 osem c)
def outOfΦ (c : Dev nD) : sProp 𝕄 := iprop(∃ f : Buf (Elt F) (yM.view.loc (c : Thread nD τ)), ⌜Left m c f⌝ ∗ ((c : Thread nD τ).loc main_v23) ↦{fullShare} f)

/-- The buffers after the call, the rows at `f`; and after the lines that follow it. -/
def exitV (c : Dev nD) (f : Buf (Elt F) (yM.view.loc (c : Thread nD τ))) : Valuation τ sig (Elt F) :=
  Function.update (V₀ m c) (Proc.devRef .tc main_v23) f
def endV (c : Dev nD) (f : Buf (Elt F) (yM.view.loc (c : Thread nD τ))) : Valuation τ sig (Elt F) :=
  StableHlo.after [hostOps1].flatten (Pipeline.withArrays spec0 c (exitV m c f) fun w => (dats m 0 c).arrAt w (cfg0 (adm m)).N)

theorem exitV_y (c : Dev nD) (f : Buf (Elt F) (yM.view.loc (c : Thread nD τ))) : exitV m c f (Proc.devRef .tc main_v23) = f := Function.update_self ..
theorem exitV_of_ne (c : Dev nD) (f : Buf (Elt F) (yM.view.loc (c : Thread nD τ))) {b : Ref sig .tc} (h : b ≠ main_v23) :
    exitV m c f (Proc.devRef .tc b) = V m c b := Function.update_of_ne (StableHlo.devRef_ne_of_ne h) ..

theorem rest_split (c : Dev nD) :
    (Pipeline.unscopedRestP (Ix := Unit) (Name := ℕ) (U := UU nD τ) (Lvl := ℕ) pre0 spec0 c (V m c) : sProp 𝕄)
      = iprop((((c : Thread nD τ).loc main_v23) ↦{fullShare} rows m c) ∗ aside m c) := by
  unfold Pipeline.unscopedRestP aside
  rw [bigSep_erase y_rest]
  rfl
theorem rest_join (c : Dev nD) (f : Buf (Elt F) (yM.view.loc (c : Thread nD τ))) :
    (Pipeline.unscopedRestP (Ix := Unit) (Name := ℕ) (U := UU nD τ) (Lvl := ℕ) pre0 spec0 c (fun b => exitV m c f (Proc.devRef .tc b)) : sProp 𝕄)
      = iprop((((c : Thread nD τ).loc main_v23) ↦{fullShare} f) ∗ aside m c) := by
  unfold Pipeline.unscopedRestP aside
  rw [bigSep_erase y_rest]
  beta_reduce
  rw [exitV_y]
  refine congrArg (fun P => (iprop((((c : Thread nD τ).loc main_v23) ↦{fullShare} f) ∗ P) : sProp 𝕄)) (bigSep_congr fun b hb => ?_)
  rw [exitV_of_ne m c f (Finset.ne_of_mem_erase hb)]

theorem arrays_eq (c : Dev nD) (f : Buf (Elt F) (yM.view.loc (c : Thread nD τ))) :
    (dats m 0 c).arrays (fun w => (dats m 0 c).arrAt w (cfg0 (adm m)).N)
      = Pipeline.arrBufs spec0 c (fun b => Pipeline.withArrays spec0 c (exitV m c f) (fun w => (dats m 0 c).arrAt w (cfg0 (adm m)).N) (Proc.devRef .tc b)) :=
  ((dats m 0 c).arrBufs_eq_arrays (launch0 (F := F)).to₀.sharedIn (launch0 (F := F)).arr_whole (fun _ _ => rfl) _ _ fun w =>
    (Pipeline.withArrays_arr_shared spec0 c (exitV m c f) (fun w => (dats m 0 c).arrAt w (cfg0 (adm m)).N) (fun w w' h e => absurd (winFacts0.arr_inj e) h) w).symm).symm

/-- What the memory holds at the end. -/
def QY (c : Dev nD) (s : MemSt nD τ sig (Elt F)) : Prop :=
  ∃ f, Left m c f ∧ ∀ b ∈ Pipeline.restRefsP sig pre0 spec0, s.mem ((c : Thread nD τ).loc b) = endV m c f (Proc.devRef .tc b)

theorem read_rest (c : Dev nD) (f : Buf (Elt F) (yM.view.loc (c : Thread nD τ))) (hf : Left m c f) (s' : Phys nD τ sig (Elt F)) :
    iprop(Pipeline.unscopedRestP (Ix := Unit) (Name := ℕ) (U := UU nD τ) (Lvl := ℕ) pre0 spec0 c (fun b => endV m c f (Proc.devRef .tc b)) ∗ SI s')
      ⊢ (iprop(⌜QY m c s'.mem⌝ ∗ SI s') : sProp 𝕄) := by
  refine (pointsTo_read_all (Pipeline.restRefsP sig pre0 spec0) (fun b => (c.tc : Thread nD τ).loc b) (fun b => endV m c f (Proc.devRef .tc b)) s').trans ?_
  iintro ⟨%h, H⟩
  isplitr
  · ipureintro; exact ⟨f, hf, h⟩
  iexact H

def u₀ : UU nD τ := (initOf (Pipeline.cells (Pipeline.pin (pcfgs (F := F)) fun _ => adm m) (cellOf_inj fun _ => adm m)) (Pipeline.launchToks (Pipeline.pin (pcfgs (F := F)) fun _ => adm m) (cellOf_inj fun _ => adm m)), 1)

theorem hmain' : Pipeline.HMainPK (Ix := Unit) (Name := ℕ) (U := UU nD τ) (Lvl := ℕ) pcfgs 0 defs₀ 𝒱₀ m (main (F := F)) (V m) (fun _ => Pipeline.chain ([hostOps1].map StableHlo.seq)) :=
  Pipeline.hmainP_around pcfgs 0 defs₀ 𝒱₀ m main [hostOps0] [hostOps1] hostOps0_sub hostOps0_fresh main_chain

theorem tables (c : Dev nD) (k : Fin 3) : V m c (pre0.ref k) = (adm m).1 k := by
  obtain rfl : c = 0 := Subsingleton.elim _ _
  have h : ∀ k : Fin 3, pre0.ref k ∈ argRefs := by decide
  exact V_arg m 0 (h k)

theorem into (c : Dev nD) : iprop(intoΦ m c ∗ Pipeline.prefHeld pre0 c (fun _ => fullShare.right) (adm m).1 ∗ Pipeline.scopedRest spec0 c) ⊢ (Φ m c 0 : sProp 𝕄) := by
  rw [scopedRest0_eq]
  unfold intoΦ Φ State FreshR
  rw [ownSems0_eq, if_pos rfl]
  iintro ⟨⟨HY, Hl0, Hl1, Hs0, Hs1⟩, HT, ⟨%w1, W1⟩, ⟨%w2, W2⟩, SL, SS, ⟨%fx, SX⟩, ⟨%fo, SO⟩, ⟨%fa, SA⟩⟩
  ihave SL := (l_split c) $$ SL
  ihave SS := (s_split c) $$ SS
  icases SL with ⟨SL0, SL1⟩
  icases SS with ⟨SS0, SS1⟩
  isplitl [HT]; · iexact HT
  isplitl [W1]; · iexists w1; iapply (ent_of_eq (w1_eq c w1)); iexact W1
  isplitl [W2]; · iexists w2; iapply (ent_of_eq (w2_eq c w2)); iexact W2
  isplitl [Hl0 Hl1 SL0 SL1]
  · isplitl [Hl0 SL0]
    · isplitl [Hl0]; · iexact Hl0
      iexact SL0
    isplitl [Hl1]; · iexact Hl1
    iexact SL1
  isplitl [Hs0 Hs1 SS0 SS1]
  · isplitl [Hs0 SS0]
    · isplitl [Hs0]; · iexact Hs0
      iexact SS0
    isplitl [Hs1]; · iexact Hs1
    iexact SS1
  isplitl [HY]; · iapply (since_zero (homeX c (rows m c))); iexact HY
  isplitl [SO]; · iexists fo; iapply (ent_of_eq (o_eq c fo)); iexact SO
  isplitl [SX]; · iexists fx; iapply (ent_of_eq (x_eq c fx)); iexact SX
  iexists fa; iapply (ent_of_eq (a_eq c fa)); iexact SA

theorem outOf (c : Dev nD) : (Φ m c 32 : sProp 𝕄) ⊢ iprop(outOfΦ m c ∗ Pipeline.ownSems0 osem c ∗ Pipeline.scopedRest spec0 c) := by
  rw [scopedRest0_eq]
  unfold outOfΦ Φ State DoneR
  rw [ownSems0_eq, if_neg (by omega), if_pos rfl]
  iintro ⟨-, ⟨%w1, W1⟩, ⟨%w2, W2⟩, ⟨⟨Hl0, SL0⟩, ⟨Hl1, SL1⟩⟩, ⟨⟨Hs0, SS0⟩, ⟨Hs1, SS1⟩⟩, HB, HN, ⟨%fo, SO⟩, ⟨%fx, SX⟩, ⟨%fa, SA⟩⟩
  isplitl [HB HN]
  · iapply (y_done c (Good m c) (rows m c) (nBlk m))
    isplitl [HB]; · iexact HB
    iexact HN
  isplitl [Hl0 Hl1 Hs0 Hs1]
  · isplitl [Hl0]; · iexact Hl0
    isplitl [Hl1]; · iexact Hl1
    isplitl [Hs0]; · iexact Hs0
    iexact Hs1
  isplitl [W1]; · iexists w1; iapply (ent_of_eq (w1_eq c w1).symm); iexact W1
  isplitl [W2]; · iexists w2; iapply (ent_of_eq (w2_eq c w2).symm); iexact W2
  isplitl [SL0 SL1]
  · iapply (l_join c)
    isplitl [SL0]; · iexact SL0
    iexact SL1
  isplitl [SS0 SS1]
  · iapply (s_join c)
    isplitl [SS0]; · iexact SS0
    iexact SS1
  isplitl [SX]; · iexists fx; iapply (ent_of_eq (x_eq c fx).symm); iexact SX
  isplitl [SO]; · iexists fo; iapply (ent_of_eq (o_eq c fo).symm); iexact SO
  iexists fa; iapply (ent_of_eq (a_eq c fa).symm); iexact SA

/-- What every execution ends with: the arguments as they were, the result what the lines after the call make of the rows. -/
def Ends (c : Dev nD) (s : MemSt nD τ sig (Elt F)) : Prop :=
  (∀ b ∈ argRefs, s.mem ((c : Thread nD τ).loc b) = m ((c : Thread nD τ).loc b))
  ∧ ∃ f, Left m c f ∧ s.mem ((c : Thread nD τ).loc main_v27) = endV m c f (Proc.devRef .tc main_v27)

theorem args_end (c : Dev nD) (f) {b : Ref sig .tc} (hb : b ∈ argRefs) : endV m c f (Proc.devRef .tc b) = m ((c : Thread nD τ).loc b) := by
  unfold endV
  rw [kept1 _ hb, Pipeline.withArrays_of_ne, exitV_of_ne]
  · exact V_arg m c hb
  · rintro rfl; revert hb; decide
  · rintro w rfl; revert w; decide

theorem arg_rest : ∀ b ∈ argRefs, b = main_arg0 ∨ b = main_arg1 ∨ b = main_arg2 ∨ (b.isScoped = false ∧ (∀ w, (spec0 w).arr.view.ref ≠ b) ∧ ∀ k : Fin 3, pre0.ref k ≠ b) := by decide

theorem mem_restP {b : Ref sig .tc} (h : b.isScoped = false ∧ (∀ w, (spec0 w).arr.view.ref ≠ b) ∧ ∀ k : Fin 3, pre0.ref k ≠ b) : b ∈ Pipeline.restRefsP sig pre0 spec0 := by
  refine Finset.mem_sdiff.2 ⟨Pipeline.mem_restRefs_of b h.1 h.2.1, ?_⟩
  rw [Finset.mem_image]
  rintro ⟨k, -, e⟩
  exact h.2.2 k e

theorem ends (c : Dev nD) (s : MemSt nD τ sig (Elt F)) (ht : ∀ k : Fin 3, s.mem ((c : Thread nD τ).loc (pre0.ref k)) = (adm m).1 k) (h : QY m c s) : Ends m c s := by
  obtain ⟨f, hf, h⟩ := h
  refine ⟨fun b hb => ?_, f, hf, h _ (mem_restP (by decide))⟩
  have ht' : ∀ k : Fin 3, s.mem ((c : Thread nD τ).loc (pre0.ref k)) = m ((c : Thread nD τ).loc (pre0.ref k)) := fun k => by
    obtain rfl : c = 0 := Subsingleton.elim _ _
    exact ht k
  rcases arg_rest b hb with rfl | rfl | rfl | hr
  · exact ht' 0
  · exact ht' 1
  · exact ht' 2
  · exact (h b (mem_restP hr)).trans (args_end m c f hb)

include hR

set_option backward.isDefEq.respectTransparency.types false in
theorem run_main : θ_run defs (onTc (τ := τ) (main (F := F))) ⟨m, fun _ => 0, ρ⟩ (fun r => (∀ c : Dev nD, Ends m c r.2) ∧ r.2.sem = fun _ => 0) :=
  Pipeline.θ_run_region_pf_tail'_quiescent pcfgs (fun _ => adm m) (dats m) () (cellOf_inj fun _ => adm m) (0 : Fin 1) (launch0 (F := F)).to₀.win ownSemFacts preFacts0 EP defs₀ 𝒱₀ m ρ main
    (fun _ => Pipeline.chain ([hostOps1].map StableHlo.seq))
    (hbody := fun c => (body_obligation m hR c).loose)
    (hne := block_pos0) (harr := arr_whole0) (hstage := stage_whole0)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := hmain' m)
    (hsplit := fun c => (dats m 0 c).arrays_split_shared (launch0 (F := F)).to₀.sharedIn arr_whole0 (fun _ _ => rfl) _ _ fun _ => rfl)
    (hpf := tables m)
    (X := intoΦ m) (Y := outOfΦ m) (Z := aside m)
    (Y' := fun _ => iprop(emp))
    (Z' := fun c => iprop(∃ f, ⌜Left m c f⌝ ∗ Pipeline.unscopedRestP pre0 spec0 c (fun b => endV m c f (Proc.devRef .tc b))))
    (hX := fun c => by
      rw [rest_split]
      unfold intoΦ
      iintro ⟨⟨HY, HZ⟩, HS, -, -, -⟩; imodintro
      isplitr [HZ]
      · isplitl [HY]; · iapply (ent_of_eq (y_blocks c (rows m c))); iexact HY
        iexact HS
      iexact HZ)
    (hin := into m)
    (hout := outOf m)
    (htail := fun c Q' => by
      unfold outOfΦ
      iintro ⟨Hk, Hb, Ha, ⟨%f, %hf, HY⟩, HZ⟩
      ihave Ha := (ent_of_eq (arrays_eq m c f)) $$ Ha
      iapply (Pipeline.tail_seqs_bufs_b pcfgs defs₀ 𝒱₀ pre0 spec0 c (exitV m c f) (fun w => (dats m 0 c).arrAt w (cfg0 (adm m)).N) [hostOps1] tail_sub tail_fresh tail_keep Q')
      isplitl [Hk]
      · iintro ⟨Hb, Ha, Hr⟩
        iapply Hk
        isplitl [Hb]; · iexact Hb
        isplitl [Ha]; · iapply (ent_of_eq (arrays_eq m c f).symm); iexact Ha
        isplitr; · iempintro
        iexists f
        isplitr; · ipureintro; exact hf
        iexact Hr
      isplitl [Hb]; · iexact Hb
      isplitl [Ha]; · iexact Ha
      iapply (ent_of_eq (rest_join m c f).symm)
      isplitl [HY]; · iexact HY
      iexact HZ)
    (QY := QY m)
    (hY := fun c s' => by
      iintro ⟨-, ⟨%f, %hf, HU⟩, HSI⟩
      imodintro
      iapply (read_rest m c f hf s')
      isplitl [HU]; · iexact HU
      iexact HSI)
    (hQ := fun s hh hz => ⟨fun c => ends m c s (hh c).2.1 (hh c).2.2, hz⟩)

end Cert.Proof.Exp

end
-- ==== Proof.ExpSame.lean ====
/-
  The experts' program and its idealization are one program, over any floats: no operation of it was rewritten. So one run
  is the run of both.
-/
module

public import proofs.«01_k».proof.Proof.ExpNames
public import proofs.«01_k».proof.Proof.Gen.Kernel3

@[expose] public section

set_option maxHeartbeats 0
set_option maxRecDepth 100000

noncomputable section

namespace Cert.Proof.Exp

open Idealize.ShloMosaic Idealize.SL.Sem

variable {F : FTy → Type} [FloatOps F]

/-- The one label's meaning, the body, is one. -/
theorem label_same : Cert.Kernel3.defs₀ (F := F) = Cert.Kernel3Ideal.defs₀ (F := F) := by
  unfold Cert.Kernel3.defs₀ Cert.Kernel3Ideal.defs₀
  refine congrArg Defs.onTc (funext fun k => funext fun a => ?_)
  obtain ⟨k, hk⟩ := k
  obtain _ | k := k
  · obtain ⟨t, s⟩ := a
    rfl
  · exact absurd hk (Nat.not_lt.2 (Nat.le_add_left _ _))

/-- And what every label means. -/
theorem defs_same : Cert.Kernel3.defs (F := F) = Cert.Kernel3Ideal.defs (F := F) :=
  congrArg (Pipeline.defs Cert.Kernel3.pcfgs) label_same

/-- The host programs are one. -/
theorem main_same : Cert.Kernel3.main (F := F) = Cert.Kernel3Ideal.main (F := F) := rfl

end Cert.Proof.Exp

end
-- ==== Proof.ExpFrames.lean ====
/-
  The frames of the experts' call: the run of ExpLaunch, whose argument arrays end as they began and whose counters end
  at zero, read at the two readings of the floats. The tables' precondition is read on the first device.
-/
module

public import proofs.«01_k».proof.Defs
public import proofs.«01_k».proof.Proof.ExpLaunch
public import proofs.«01_k».proof.Proof.ExpSame

@[expose] public section

set_option maxHeartbeats 2000000

noncomputable section

namespace Cert.Proof

open Idealize.ShloMosaic Idealize.SL.Sem

namespace Exp

variable {F : FTy → Type} [FloatOps F]

/-- The eight arguments of a device that ended as the run says. -/
theorem args_of {m : (ℓ : Loc Cert.Kernel3Ideal.nD Cert.Kernel3Ideal.τ Cert.Kernel3Ideal.sig) → Buf (Elt F) ℓ}
    {c : Dev Cert.Kernel3Ideal.nD} {s} (h : Ends m c s) :
    s.mem (c.tc.loc Cert.Kernel3Ideal.main_arg0) = m (c.tc.loc Cert.Kernel3Ideal.main_arg0)
      ∧ s.mem (c.tc.loc Cert.Kernel3Ideal.main_arg1) = m (c.tc.loc Cert.Kernel3Ideal.main_arg1)
      ∧ s.mem (c.tc.loc Cert.Kernel3Ideal.main_arg2) = m (c.tc.loc Cert.Kernel3Ideal.main_arg2)
      ∧ s.mem (c.tc.loc Cert.Kernel3Ideal.main_arg3) = m (c.tc.loc Cert.Kernel3Ideal.main_arg3)
      ∧ s.mem (c.tc.loc Cert.Kernel3Ideal.main_arg4) = m (c.tc.loc Cert.Kernel3Ideal.main_arg4)
      ∧ s.mem (c.tc.loc Cert.Kernel3Ideal.main_arg5) = m (c.tc.loc Cert.Kernel3Ideal.main_arg5)
      ∧ s.mem (c.tc.loc Cert.Kernel3Ideal.main_arg6) = m (c.tc.loc Cert.Kernel3Ideal.main_arg6)
      ∧ s.mem (c.tc.loc Cert.Kernel3Ideal.main_arg7) = m (c.tc.loc Cert.Kernel3Ideal.main_arg7) :=
  ⟨h.1 Cert.Kernel3Ideal.main_arg0 (by decide),
    h.1 Cert.Kernel3Ideal.main_arg1 (by decide),
    h.1 Cert.Kernel3Ideal.main_arg2 (by decide),
    h.1 Cert.Kernel3Ideal.main_arg3 (by decide),
    h.1 Cert.Kernel3Ideal.main_arg4 (by decide),
    h.1 Cert.Kernel3Ideal.main_arg5 (by decide),
    h.1 Cert.Kernel3Ideal.main_arg6 (by decide),
    h.1 Cert.Kernel3Ideal.main_arg7 (by decide)⟩

end Exp

theorem frame_kernel3 [Cert.Pre_routed.Facts] : Cert.quiescent_Kernel3 := fun m ρ h => by
  rw [Exp.defs_same, Exp.main_same]
  exact (θ_run Cert.Kernel3Ideal.defs (onTc Cert.Kernel3Ideal.main) _).mono (fun _ r => ⟨fun c => Exp.args_of (r.1 c), r.2⟩)
    (Exp.run_main (F := Bits) m ρ (Exp.routed_of (F := Bits) _ _ _ _ _ _ _ _ (h 0)))

theorem frame_kernel3Ideal [Cert.Pre_routed.Facts] : Cert.quiescent_Kernel3Ideal := fun m ρ h =>
  (θ_run Cert.Kernel3Ideal.defs _ _).mono (fun _ r => ⟨fun c => Exp.args_of (r.1 c), r.2⟩)
    (Exp.run_main (F := Ideal) m ρ (Exp.routed_of (F := Ideal) _ _ _ _ _ _ _ _ (h 0)))

end Cert.Proof

end
-- ==== Proof.ExpValue.lean ====
/-
  The experts' rows over the extended reals: each result is the gated activations of its row against a column of the
  second weight, plus the bias.
-/
module

public import proofs.«01_k».proof.Proof.ExpWeights
public import proofs.«01_k».proof.Proof.ExpTrip
public import Idealize.ShloMosaic.Lib.IdealHost

@[expose] public section

noncomputable section

namespace Cert.Proof.Exp

open Cert.Kernel3Ideal Cert.Kernel3Ideal.Gen
open Idealize.ShloMosaic
open Idealize.ShloMosaic.TcCoe

/-- The activation of a gate and a linear value, both clipped. -/
def gated (g l : EReal) : EReal :=
  min g (Ideal.ofBits .f32 0x40E00000#32)
    * Ideal.div 1 (1 + Ideal.exp (0 - Ideal.ofBits .f32 0x3FD9DB23#32 * min g (Ideal.ofBits .f32 0x40E00000#32)))
    * (min (Ideal.ofBits .f32 0x40E00000#32) (max (Ideal.ofBits .f32 0xC0E00000#32) l) + 1)

/-- The columns of the first weight an activation reads: its gate's and its linear value's. -/
def lo (j : Fin 1024) : Fin 2048 := ⟨j.val, by omega⟩
def hi (j : Fin 1024) : Fin 2048 := ⟨1024 + j.val, by omega⟩
def actOf (x : Fin 1024 → EReal) (w1 : Fin 1024 → Fin 2048 → EReal) (b1 : Fin 2048 → EReal) (j : Fin 1024) : EReal :=
  gated ((∑ k : Fin 1024, x k * w1 k (lo j)) + b1 (lo j)) ((∑ k : Fin 1024, x k * w1 k (hi j)) + b1 (hi j))
/-- What an expert makes of a row. -/
def rowOf (x : Fin 1024 → EReal) (w1 : Fin 1024 → Fin 2048 → EReal) (b1 : Fin 2048 → EReal) (w2 : Fin 1024 → Fin 1024 → EReal) (b2 : Fin 1024 → EReal) (q : Fin 1024) : EReal :=
  (∑ j : Fin 1024, actOf x w1 b1 j * w2 j q) + b2 q

section Rows

variable (c : Dev nD) (arg6 : Memref sig .tc .vmem S1x1x2048 .f32) (arg8 : Memref sig .tc .vmem S1x1x1024 .f32)
  (B1 : Buf (Elt Ideal) (arg6.view.loc (c : Thread nD τ))) (B2 : Buf (Elt Ideal) (arg8.view.loc (c : Thread nD τ)))
  (W1 : Buf (Elt Ideal) (w1M.view.loc (c : Thread nD τ))) (W2 : Buf (Elt Ideal) (w2M.view.loc (c : Thread nD τ)))

/-! ## What the buffers hold -/

abbrev w1R (k : Fin 1024) (j : Fin 2048) : EReal := (w1M.view.read (Elt Ideal) W1 : S1024x2048.Idx → EReal) (ix2 k j)
abbrev b1R (j : Fin 2048) : EReal := (arg6.view.read (Elt Ideal) B1 : S1x1x2048.Idx → EReal) (ix3 0 0 j)
abbrev w2R (j q : Fin 1024) : EReal := (w2M.view.read (Elt Ideal) W2 : S1024x1024.Idx → EReal) (ix2 j q)
abbrev b2R (q : Fin 1024) : EReal := (arg8.view.read (Elt Ideal) B2 : S1x1x1024.Idx → EReal) (ix3 0 0 q)

theorem w1T_at {o : ℕ} (h) (k : Fin 1024) (l : Fin 512) (j : Fin 2048) (e : j.val = o + l.val) : (w1T c W1 o h (ix2 k l) : EReal) = w1R c W1 k j := by
  show w1M.view.read (Elt Ideal) W1 _ = w1M.view.read (Elt Ideal) W1 _
  refine congrArg _ (funext fun a => Fin.ext ?_)
  match a with
  | 0 => show 0 + 1 * k.val = k.val; omega
  | 1 => show o + 1 * l.val = j.val; omega
theorem b1T_at {o : ℕ} (h) (l : Fin 512) (j : Fin 2048) (e : j.val = o + l.val) : (b1T c arg6 B1 o h (ix3 0 0 l) : EReal) = b1R c arg6 B1 j := by
  show arg6.view.read (Elt Ideal) B1 _ = arg6.view.read (Elt Ideal) B1 _
  refine congrArg _ (funext fun a => Fin.ext ?_)
  match a with
  | 0 => show 0 + 1 * 0 = 0; omega
  | 1 => show 0 + 1 * 0 = 0; omega
  | 2 => show o + 1 * l.val = j.val; omega
theorem w2T_at (j q : Fin 1024) : (w2T c W2 (ix2 j q) : EReal) = w2R c W2 j q := by
  show w2M.view.read (Elt Ideal) W2 _ = w2M.view.read (Elt Ideal) W2 _
  refine congrArg _ (funext fun a => Fin.ext ?_)
  match a with
  | 0 => show 0 + 1 * j.val = j.val; omega
  | 1 => show 0 + 1 * q.val = q.val; omega
theorem b2T_at (q : Fin 1024) : (b2T c arg8 B2 (ix3 0 0 q) : EReal) = b2R c arg8 B2 q := by
  show arg8.view.read (Elt Ideal) B2 _ = arg8.view.read (Elt Ideal) B2 _
  refine congrArg _ (funext fun a => Fin.ext ?_)
  match a with
  | 0 => show 0 + 1 * 0 = 0; omega
  | 1 => show 0 + 1 * 0 = 0; omega
  | 2 => show 0 + 1 * q.val = q.val; omega

/-! ## What a scratch reads back, at any number of rows -/

section Back

variable {n : ℕ}

/-- A block's rows, written and read back. -/
theorem x_back (w : Vec Ideal (⟨2, ![n, 1024]⟩ : Shape) .f32) (inb : ∀ a, (![0, 0] : Fin 2 → ℕ) a + (⟨2, ![n, 1024]⟩ : Shape).size a ≤ S512x1024.size a) :
    xM.view.readCov (Val := Elt Ideal) [⟨Rect.unit (s := S512x1024) ![0, 0] (⟨2, ![n, 1024]⟩ : Shape).size inb, w⟩] (Rect.unit (s := S512x1024) ![0, 0] (⟨2, ![n, 1024]⟩ : Shape).size inb).toLoadRect = w := by
  funext y
  refine View.read_writes_cons_unit_of_mem xM.view _ inb w [] _ y rfl fun a => ?_
  match a with
  | 0 => show 0 + 1 * (y 0).val = 0 + (y 0).val; omega
  | 1 => show 0 + 1 * (y 1).val = 0 + (y 1).val; omega

/-- The activations, written in two tiles of columns and read back. -/
theorem a_back (P Q : Vec Ideal (⟨2, ![n, 512]⟩ : Shape) .bf16) (inb1 : ∀ a, (![0, 512] : Fin 2 → ℕ) a + (⟨2, ![n, 512]⟩ : Shape).size a ≤ S512x1024.size a)
    (inb0 : ∀ a, (![0, 0] : Fin 2 → ℕ) a + (⟨2, ![n, 512]⟩ : Shape).size a ≤ S512x1024.size a) (inb : ∀ a, (![0, 0] : Fin 2 → ℕ) a + (⟨2, ![n, 1024]⟩ : Shape).size a ≤ S512x1024.size a)
    (r : Fin n) (j : Fin 1024) (v : EReal) (hQ : ∀ l : Fin 512, j.val = 0 + l.val → (Q (ix2 r l) : EReal) = v) (hP : ∀ l : Fin 512, j.val = 512 + l.val → (P (ix2 r l) : EReal) = v) :
    (aM.view.readCov (Val := Elt Ideal) [⟨Rect.unit (s := S512x1024) ![0, 512] (⟨2, ![n, 512]⟩ : Shape).size inb1, P⟩, ⟨Rect.unit (s := S512x1024) ![0, 0] (⟨2, ![n, 512]⟩ : Shape).size inb0, Q⟩]
      (Rect.unit (s := S512x1024) ![0, 0] (⟨2, ![n, 1024]⟩ : Shape).size inb).toLoadRect (ix2 r j) : EReal) = v := by
  by_cases h : j.val < 512
  · refine (View.read_writes_cons_unit_of_not_mem aM.view _ inb1 P _ _ rfl 1 (Or.inl ?_)).trans ?_
    · show 0 + 1 * j.val < 512
      omega
    refine (View.read_writes_cons_unit_of_mem aM.view _ inb0 Q [] _ (ix2 r (⟨j.val, h⟩ : Fin 512)) rfl fun a => ?_).trans (hQ ⟨j.val, h⟩ (Nat.zero_add _).symm)
    match a with
    | 0 => show 0 + 1 * r.val = 0 + r.val; omega
    | 1 => show 0 + 1 * j.val = 0 + j.val; omega
  · refine (View.read_writes_cons_unit_of_mem aM.view _ inb1 P _ _ (ix2 r (⟨j.val - 512, by omega⟩ : Fin 512)) rfl fun a => ?_).trans (hP ⟨j.val - 512, by omega⟩ (by show j.val = 512 + (j.val - 512); omega))
    match a with
    | 0 => show 0 + 1 * r.val = 0 + r.val; omega
    | 1 => show 0 + 1 * j.val = 512 + (j.val - 512); omega

/-- The results, read where they were written. -/
theorem o_back (fo : Buf (Elt Ideal) (oM.view.loc (c : Thread nD τ))) (w : Vec Ideal (⟨2, ![n, 1024]⟩ : Shape) .f32) (inb : ∀ a, (![0, 0] : Fin 2 → ℕ) a + (⟨2, ![n, 1024]⟩ : Shape).size a ≤ S512x1024.size a)
    (r : Fin 512) (h : r.val < n) (q : Fin 1024) :
    oM.view.read (Elt Ideal) (oM.view.writes (Elt Ideal) fo [⟨Rect.unit (s := S512x1024) ![0, 0] (⟨2, ![n, 1024]⟩ : Shape).size inb, w⟩]) (ix2 r q) = w (ix2 (⟨r.val, h⟩ : Fin n) q) := by
  refine View.read_writes_cons_unit_of_mem oM.view _ inb w [] _ _ rfl fun a => ?_
  match a with
  | 0 => show r.val = 0 + r.val; omega
  | 1 => show q.val = 0 + q.val; omega

/-- A tile's activations: its gate's columns start at `o`, its linear values' at `1024 + o`. -/
theorem tile_of {v : Fin 1024 → EReal} {o o' : ℕ} (h h' b b') {j : Fin 1024} {l : Fin 512} (e : j.val = o + l.val) (e' : o' = 1024 + o) :
    gated ((∑ k : Fin 1024, v k * w1T c W1 o h (ix2 k l)) + b1T c arg6 B1 o b (ix3 0 0 l)) ((∑ k : Fin 1024, v k * w1T c W1 o' h' (ix2 k l)) + b1T c arg6 B1 o' b' (ix3 0 0 l))
      = actOf v (w1R c W1) (b1R c arg6 B1) j := by
  unfold actOf
  refine congrArg₂ gated (congrArg₂ (· + ·) (Finset.sum_congr rfl fun k _ => congrArg (v k * ·) ?_) ?_) (congrArg₂ (· + ·) (Finset.sum_congr rfl fun k _ => congrArg (v k * ·) ?_) ?_)
  · exact w1T_at c W1 h k l (lo j) e
  · exact b1T_at c arg6 B1 b l (lo j) e
  · exact w1T_at c W1 h' k l (hi j) (by show 1024 + j.val = o' + l.val; omega)
  · exact b1T_at c arg6 B1 b' l (hi j) (by show 1024 + j.val = o' + l.val; omega)

/-- The result of a row, from its activations. -/
theorem out_of {a : Fin 1024 → EReal} {x : Fin 1024 → EReal} (ha : ∀ j, a j = actOf x (w1R c W1) (b1R c arg6 B1) j) (q : Fin 1024) :
    (∑ j : Fin 1024, a j * w2T c W2 (ix2 j q)) + b2T c arg8 B2 (ix3 0 0 q) = rowOf x (w1R c W1) (b1R c arg6 B1) (w2R c W2) (b2R c arg8 B2) q := by
  unfold rowOf
  refine congrArg₂ (· + ·) (Finset.sum_congr rfl fun j _ => congrArg₂ (· * ·) (ha j) ?_) ?_
  · exact w2T_at c W2 j q
  · exact b2T_at c arg8 B2 q

end Back

/-! ## The four numbers of rows -/

theorem tile128 (v : FVec Ideal S128x1024 .bf16) (w : Vec Ideal S1024x512 .bf16) (b : Vec Ideal S1x1x512 .f32) (w' : Vec Ideal S1024x512 .bf16) (b' : Vec Ideal S1x1x512 .f32) (r : Fin 128) (l : Fin 512) :
    (k0_pay14 v (k0_pay15 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := by
  pointwise [k0_pay14, k0_pay15, gated]
theorem tile128' (v : FVec Ideal S128x1024 .bf16) (w : Vec Ideal S1024x512 .bf16) (b : Vec Ideal S1x1x512 .f32) (w' : Vec Ideal S1024x512 .bf16) (b' : Vec Ideal S1x1x512 .f32) (r : Fin 128) (l : Fin 512) :
    (k0_pay16 v (k0_pay15 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := tile128 v w b w' b' r l
theorem out128 (a : Vec Ideal S128x1024 .bf16) (w : Vec Ideal S1024x1024 .bf16) (b : Vec Ideal S1x1x1024 .f32) (r : Fin 128) (q : Fin 1024) :
    (k0_pay42 (k0_pay17 a w) b (ix2 r q) : EReal) = (∑ j : Fin 1024, a (ix2 r j) * w (ix2 j q)) + b (ix3 0 0 q) := by
  pointwise [k0_pay42, k0_pay17]
theorem in128_at (x : Vec Ideal S128x1x1024 .f32) (r : Fin 128) (k : Fin 1024) : (in128 x (ix2 r k) : EReal) = x (ix3 r 0 k) := by
  unfold in128
  rw [x_back]
  pointwise [k0_pay11, k0_pay10]
theorem res128_at (x : Vec Ideal S128x1x1024 .f32) (r : Fin 128) (q : Fin 1024) :
    (res128 c arg6 arg8 B1 B2 W1 W2 x (ix2 r q) : EReal) = rowOf (fun k => x (ix3 r 0 k)) (w1R c W1) (b1R c arg6 B1) (w2R c W2) (b2R c arg8 B2) q := by
  unfold res128
  refine (out128 _ _ _ r q).trans (out_of c arg6 arg8 B1 B2 W1 W2 (fun j => ?_) q)
  rw [← show (fun k => (in128 x (ix2 r k) : EReal)) = fun k => x (ix3 r 0 k) from funext fun k => in128_at x r k]
  unfold act128
  refine a_back _ _ _ _ _ r j _ (fun l e => ?_) (fun l e => ?_)
  · exact (tile128 _ _ _ _ _ r l).trans (tile_of c arg6 B1 W1 _ _ _ _ e rfl)
  · exact (tile128' _ _ _ _ _ r l).trans (tile_of c arg6 B1 W1 _ _ _ _ e rfl)

theorem tile256 (v : FVec Ideal S256x1024 .bf16) (w : Vec Ideal S1024x512 .bf16) (b : Vec Ideal S1x1x512 .f32) (w' : Vec Ideal S1024x512 .bf16) (b' : Vec Ideal S1x1x512 .f32) (r : Fin 256) (l : Fin 512) :
    (k0_pay22 v (k0_pay23 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := by
  pointwise [k0_pay22, k0_pay23, gated]
theorem tile256' (v : FVec Ideal S256x1024 .bf16) (w : Vec Ideal S1024x512 .bf16) (b : Vec Ideal S1x1x512 .f32) (w' : Vec Ideal S1024x512 .bf16) (b' : Vec Ideal S1x1x512 .f32) (r : Fin 256) (l : Fin 512) :
    (k0_pay24 v (k0_pay23 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := tile256 v w b w' b' r l
theorem out256 (a : Vec Ideal S256x1024 .bf16) (w : Vec Ideal S1024x1024 .bf16) (b : Vec Ideal S1x1x1024 .f32) (r : Fin 256) (q : Fin 1024) :
    (k0_pay4 (k0_pay25 a w) b (ix2 r q) : EReal) = (∑ j : Fin 1024, a (ix2 r j) * w (ix2 j q)) + b (ix3 0 0 q) := by
  pointwise [k0_pay4, k0_pay25]
theorem in256_at (x : Vec Ideal S256x1x1024 .f32) (r : Fin 256) (k : Fin 1024) : (in256 x (ix2 r k) : EReal) = x (ix3 r 0 k) := by
  unfold in256
  rw [x_back]
  pointwise [k0_pay19, k0_pay18]
theorem res256_at (x : Vec Ideal S256x1x1024 .f32) (r : Fin 256) (q : Fin 1024) :
    (res256 c arg6 arg8 B1 B2 W1 W2 x (ix2 r q) : EReal) = rowOf (fun k => x (ix3 r 0 k)) (w1R c W1) (b1R c arg6 B1) (w2R c W2) (b2R c arg8 B2) q := by
  unfold res256
  refine (out256 _ _ _ r q).trans (out_of c arg6 arg8 B1 B2 W1 W2 (fun j => ?_) q)
  rw [← show (fun k => (in256 x (ix2 r k) : EReal)) = fun k => x (ix3 r 0 k) from funext fun k => in256_at x r k]
  unfold act256
  refine a_back _ _ _ _ _ r j _ (fun l e => ?_) (fun l e => ?_)
  · exact (tile256 _ _ _ _ _ r l).trans (tile_of c arg6 B1 W1 _ _ _ _ e rfl)
  · exact (tile256' _ _ _ _ _ r l).trans (tile_of c arg6 B1 W1 _ _ _ _ e rfl)

theorem tile384 (v : FVec Ideal S384x1024 .bf16) (w : Vec Ideal S1024x512 .bf16) (b : Vec Ideal S1x1x512 .f32) (w' : Vec Ideal S1024x512 .bf16) (b' : Vec Ideal S1x1x512 .f32) (r : Fin 384) (l : Fin 512) :
    (k0_pay30 v (k0_pay31 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := by
  pointwise [k0_pay30, k0_pay31, gated]
theorem tile384' (v : FVec Ideal S384x1024 .bf16) (w : Vec Ideal S1024x512 .bf16) (b : Vec Ideal S1x1x512 .f32) (w' : Vec Ideal S1024x512 .bf16) (b' : Vec Ideal S1x1x512 .f32) (r : Fin 384) (l : Fin 512) :
    (k0_pay32 v (k0_pay31 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := tile384 v w b w' b' r l
theorem out384 (a : Vec Ideal S384x1024 .bf16) (w : Vec Ideal S1024x1024 .bf16) (b : Vec Ideal S1x1x1024 .f32) (r : Fin 384) (q : Fin 1024) :
    (k0_pay5 (k0_pay33 a w) b (ix2 r q) : EReal) = (∑ j : Fin 1024, a (ix2 r j) * w (ix2 j q)) + b (ix3 0 0 q) := by
  pointwise [k0_pay5, k0_pay33]
theorem in384_at (x : Vec Ideal S384x1x1024 .f32) (r : Fin 384) (k : Fin 1024) : (in384 x (ix2 r k) : EReal) = x (ix3 r 0 k) := by
  unfold in384
  rw [x_back]
  pointwise [k0_pay27, k0_pay26]
theorem res384_at (x : Vec Ideal S384x1x1024 .f32) (r : Fin 384) (q : Fin 1024) :
    (res384 c arg6 arg8 B1 B2 W1 W2 x (ix2 r q) : EReal) = rowOf (fun k => x (ix3 r 0 k)) (w1R c W1) (b1R c arg6 B1) (w2R c W2) (b2R c arg8 B2) q := by
  unfold res384
  refine (out384 _ _ _ r q).trans (out_of c arg6 arg8 B1 B2 W1 W2 (fun j => ?_) q)
  rw [← show (fun k => (in384 x (ix2 r k) : EReal)) = fun k => x (ix3 r 0 k) from funext fun k => in384_at x r k]
  unfold act384
  refine a_back _ _ _ _ _ r j _ (fun l e => ?_) (fun l e => ?_)
  · exact (tile384 _ _ _ _ _ r l).trans (tile_of c arg6 B1 W1 _ _ _ _ e rfl)
  · exact (tile384' _ _ _ _ _ r l).trans (tile_of c arg6 B1 W1 _ _ _ _ e rfl)

theorem tile512 (v : FVec Ideal S512x1024 .bf16) (w : Vec Ideal S1024x512 .bf16) (b : Vec Ideal S1x1x512 .f32) (w' : Vec Ideal S1024x512 .bf16) (b' : Vec Ideal S1x1x512 .f32) (r : Fin 512) (l : Fin 512) :
    (k0_pay38 v (k0_pay39 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := by
  pointwise [k0_pay38, k0_pay39, gated]
theorem tile512' (v : FVec Ideal S512x1024 .bf16) (w : Vec Ideal S1024x512 .bf16) (b : Vec Ideal S1x1x512 .f32) (w' : Vec Ideal S1024x512 .bf16) (b' : Vec Ideal S1x1x512 .f32) (r : Fin 512) (l : Fin 512) :
    (k0_pay40 v (k0_pay39 v w) b w' b' (ix2 r l) : EReal)
      = gated ((∑ k : Fin 1024, v (ix2 r k) * w (ix2 k l)) + b (ix3 0 0 l)) ((∑ k : Fin 1024, v (ix2 r k) * w' (ix2 k l)) + b' (ix3 0 0 l)) := tile512 v w b w' b' r l
theorem out512 (a : Vec Ideal S512x1024 .bf16) (w : Vec Ideal S1024x1024 .bf16) (b : Vec Ideal S1x1x1024 .f32) (r : Fin 512) (q : Fin 1024) :
    (k0_pay6 (k0_pay41 a w) b (ix2 r q) : EReal) = (∑ j : Fin 1024, a (ix2 r j) * w (ix2 j q)) + b (ix3 0 0 q) := by
  pointwise [k0_pay6, k0_pay41]
theorem in512_at (x : Vec Ideal S512x1x1024 .f32) (r : Fin 512) (k : Fin 1024) : (in512 x (ix2 r k) : EReal) = x (ix3 r 0 k) := by
  unfold in512
  rw [x_back]
  pointwise [k0_pay35, k0_pay34]
theorem res512_at (x : Vec Ideal S512x1x1024 .f32) (r : Fin 512) (q : Fin 1024) :
    (res512 c arg6 arg8 B1 B2 W1 W2 x (ix2 r q) : EReal) = rowOf (fun k => x (ix3 r 0 k)) (w1R c W1) (b1R c arg6 B1) (w2R c W2) (b2R c arg8 B2) q := by
  unfold res512
  refine (out512 _ _ _ r q).trans (out_of c arg6 arg8 B1 B2 W1 W2 (fun j => ?_) q)
  rw [← show (fun k => (in512 x (ix2 r k) : EReal)) = fun k => x (ix3 r 0 k) from funext fun k => in512_at x r k]
  unfold act512
  refine a_back _ _ _ _ _ r j _ (fun l e => ?_) (fun l e => ?_)
  · exact (tile512 _ _ _ _ _ r l).trans (tile_of c arg6 B1 W1 _ _ _ _ e rfl)
  · exact (tile512' _ _ _ _ _ r l).trans (tile_of c arg6 B1 W1 _ _ _ _ e rfl)

/-! ## A trip's rows -/

theorem trip_at {n : ℕ} {X : S512x1x1024.Idx → EReal} {fo o : Buf (Elt Ideal) (oM.view.loc (c : Thread nD τ))} (h : TripRel (F := Ideal) c arg6 arg8 B1 B2 W1 W2 n X fo o) (r : Fin 512) (hr : r.val < n) (q : Fin 1024) :
    (oM.view.read (Elt Ideal) o (ix2 r q) : EReal) = rowOf (fun k => X (ix3 r 0 k)) (w1R c W1) (b1R c arg6 B1) (w2R c W2) (b2R c arg8 B2) q := by
  rcases h with ⟨e, x, hx, rfl⟩ | ⟨e, x, hx, rfl⟩ | ⟨e, x, hx, rfl⟩ | ⟨e, x, hx, rfl⟩
  · have h' : r.val < 128 := e ▸ hr
    refine (o_back c fo _ _ r h' q).trans ((res128_at c arg6 arg8 B1 B2 W1 W2 x ⟨r.val, h'⟩ q).trans ?_)
    refine congrArg (fun f => rowOf f _ _ _ _ q) (funext fun k => hx _ _ fun a => ?_)
    match a with | 0 => rfl | 1 => rfl | 2 => rfl
  · have h' : r.val < 256 := e ▸ hr
    refine (o_back c fo _ _ r h' q).trans ((res256_at c arg6 arg8 B1 B2 W1 W2 x ⟨r.val, h'⟩ q).trans ?_)
    refine congrArg (fun f => rowOf f _ _ _ _ q) (funext fun k => hx _ _ fun a => ?_)
    match a with | 0 => rfl | 1 => rfl | 2 => rfl
  · have h' : r.val < 384 := e ▸ hr
    refine (o_back c fo _ _ r h' q).trans ((res384_at c arg6 arg8 B1 B2 W1 W2 x ⟨r.val, h'⟩ q).trans ?_)
    refine congrArg (fun f => rowOf f _ _ _ _ q) (funext fun k => hx _ _ fun a => ?_)
    match a with | 0 => rfl | 1 => rfl | 2 => rfl
  · have h' : r.val < 512 := e ▸ hr
    refine (o_back c fo _ _ r h' q).trans ((res512_at c arg6 arg8 B1 B2 W1 W2 x ⟨r.val, h'⟩ q).trans ?_)
    refine congrArg (fun f => rowOf f _ _ _ _ q) (funext fun k => hx _ _ fun a => ?_)
    match a with | 0 => rfl | 1 => rfl | 2 => rfl

theorem staged_at (o : Buf (Elt Ideal) (oM.view.loc (c : Thread nD τ))) (r : Fin 512) (q : Fin 1024) :
    (stagedOf c o (ix3 r 0 q) : EReal) = oM.view.read (Elt Ideal) o (ix2 r q) := by
  unfold stagedOf
  generalize hv : oM.view.readAt (Elt Ideal) _ o = v
  have e : (k0_pay12 v (ix3 r 0 q) : EReal) = v (ix2 r q) := by pointwise [k0_pay12]
  refine e.trans ?_
  rw [← hv]
  show oM.view.read (Elt Ideal) o _ = oM.view.read (Elt Ideal) o _
  refine congrArg _ (funext fun a => Fin.ext ?_)
  match a with
  | 0 => show 0 + 1 * r.val = r.val; omega
  | 1 => show 0 + 1 * q.val = q.val; omega

end Rows

end Cert.Proof.Exp

end
-- ==== Proof.ExpRef.lean ====
/-
  The experts' reference, at an index: every expert's rows, the mask of the rows an expert owns, and the sum over the experts.
-/
module

public import proofs.«01_k».proof.Proof.ExpValue
public import proofs.«01_k».proof.Proof.Gen.Reference3Ideal
public import Idealize.ShloMosaic.Lib.Pointwise

@[expose] public section

noncomputable section

namespace Cert.Proof.Exp

open Cert.Reference3Ideal Cert.Reference3Ideal.Gen
open Idealize.ShloMosaic
open Idealize.ShloMosaic.TcCoe

/-- The rows each expert owns, of the three tables. -/
def maskOf (a0 a1 a2 : IVec S32 32) : IVec S81920x32x1024 1 :=
  broadcastInDim S81920x32x1024 ![0, 1, 2] bcast_S81920x32x1_S81920x32x1024_0_1_2 (broadcastInDim S81920x32x1 ![0, 1] bcast_S81920x32_S81920x32x1_0_1 (andi (cmpi .sge (broadcastInDim S81920x32 ![0, 1] bcast_S81920x1_S81920x32_0_1 (broadcastInDim S81920x1 ![0] bcast_S81920_S81920x1_0 (iotaInDim S81920 32 0))) (broadcastInDim S81920x32 ![0, 1] bcast_S1x32_S81920x32_0_1 (broadcastInDim S1x32 ![1] bcast_S32_S1x32_1 a0))) (cmpi .slt (broadcastInDim S81920x32 ![0, 1] bcast_S81920x1_S81920x32_0_1 (broadcastInDim S81920x1 ![0] bcast_S81920_S81920x1_0 (iotaInDim S81920 32 0))) (broadcastInDim S81920x32 ![0, 1] bcast_S1x32_S81920x32_0_1 (broadcastInDim S1x32 ![1] bcast_S32_S1x32_1 (subi (addi a0 (muli (broadcastInDim S32 ![] bcast_S_S32 (constantI S_ 32 512#32)) a1)) a2))))))

/-- Every row by every expert. -/
def ffnOf (a3 : S81920x1x1024.Idx → EReal) (a4 : S1x32x1024x2048.Idx → EReal) (a5 : S1x32x2048.Idx → EReal) (a6 : S1x32x1024x1024.Idx → EReal) (a7 : S1x32x1024.Idx → EReal) : S81920x32x1024.Idx → EReal :=
  ref (F := Ideal) a3 a4 a5 a6 a7
where
  /-- The reference's own term. -/
  ref {F : FTy → Type} [FloatOps F] (a3 : FVec F S81920x1x1024 .f32) (a4 : FVec F S1x32x1024x2048 .f32) (a5 : FVec F S1x32x2048 .f32) (a6 : FVec F S1x32x1024x1024 .f32) (a7 : FVec F S1x32x1024 .f32) : FVec F S81920x32x1024 .f32 :=
    transpose S81920x32x1024 [1, 0, 2] (addf (Host.dotGeneral dot_S32x81920x1024_S32x1024x1024_S32x81920x1024_2_1_1_2_0_0 none (mulf (mulf (minimumf (extractStridedSlice S32x81920x1024 ![0, 0, 0] (addf (transpose S32x81920x2048 [1, 0, 2] (Host.dotGeneral dot_S81920x1024_S32x1024x2048_S81920x32x2048_1_1_0_02_n_n none (shapeCast _ a3 shapeCasts_S81920x1x1024_S81920x1024) (shapeCast _ a4 shapeCasts_S1x32x1024x2048_S32x1024x2048)) transposes_S81920x32x2048_S32x81920x2048_1_0_2) (broadcastInDim S32x81920x2048 ![0, 1, 2] bcast_S32x1x2048_S32x81920x2048_0_1_2 (broadcastInDim S32x1x2048 ![0, 2] bcast_S32x2048_S32x1x2048_0_2 (shapeCast _ a5 shapeCasts_S1x32x2048_S32x2048)))) slices_S32x81920x2048_S32x81920x1024_0_0_0) (broadcastInDim S32x81920x1024 ![] bcast_S_S32x81920x1024 (constant S_ .f32 0x40E00000#32))) (Host.divf (broadcastInDim S32x81920x1024 ![] bcast_S_S32x81920x1024 (constant S_ .f32 0x3F800000#32)) (addf (broadcastInDim S32x81920x1024 ![] bcast_S_S32x81920x1024 (constant S_ .f32 0x3F800000#32)) (Host.exp (Host.negf (mulf (broadcastInDim S32x81920x1024 ![] bcast_S_S32x81920x1024 (constant S_ .f32 0x3FD9DB23#32)) (minimumf (extractStridedSlice S32x81920x1024 ![0, 0, 0] (addf (transpose S32x81920x2048 [1, 0, 2] (Host.dotGeneral dot_S81920x1024_S32x1024x2048_S81920x32x2048_1_1_0_02_n_n none (shapeCast _ a3 shapeCasts_S81920x1x1024_S81920x1024) (shapeCast _ a4 shapeCasts_S1x32x1024x2048_S32x1024x2048)) transposes_S81920x32x2048_S32x81920x2048_1_0_2) (broadcastInDim S32x81920x2048 ![0, 1, 2] bcast_S32x1x2048_S32x81920x2048_0_1_2 (broadcastInDim S32x1x2048 ![0, 2] bcast_S32x2048_S32x1x2048_0_2 (shapeCast _ a5 shapeCasts_S1x32x2048_S32x2048)))) slices_S32x81920x2048_S32x81920x1024_0_0_0) (broadcastInDim S32x81920x1024 ![] bcast_S_S32x81920x1024 (constant S_ .f32 0x40E00000#32))))))))) (addf (minimumf (broadcastInDim S32x81920x1024 ![] bcast_S_S32x81920x1024 (id (constant S_ .f32 0x40E00000#32))) (maximumf (broadcastInDim S32x81920x1024 ![] bcast_S_S32x81920x1024 (id (constant S_ .f32 0xC0E00000#32))) (extractStridedSlice S32x81920x1024 ![0, 0, 1024] (addf (transpose S32x81920x2048 [1, 0, 2] (Host.dotGeneral dot_S81920x1024_S32x1024x2048_S81920x32x2048_1_1_0_02_n_n none (shapeCast _ a3 shapeCasts_S81920x1x1024_S81920x1024) (shapeCast _ a4 shapeCasts_S1x32x1024x2048_S32x1024x2048)) transposes_S81920x32x2048_S32x81920x2048_1_0_2) (broadcastInDim S32x81920x2048 ![0, 1, 2] bcast_S32x1x2048_S32x81920x2048_0_1_2 (broadcastInDim S32x1x2048 ![0, 2] bcast_S32x2048_S32x1x2048_0_2 (shapeCast _ a5 shapeCasts_S1x32x2048_S32x2048)))) slices_S32x81920x2048_S32x81920x1024_0_0_1024))) (broadcastInDim S32x81920x1024 ![] bcast_S_S32x81920x1024 (constant S_ .f32 0x3F800000#32)))) (shapeCast _ a6 shapeCasts_S1x32x1024x1024_S32x1024x1024)) (broadcastInDim S32x81920x1024 ![0, 1, 2] bcast_S32x1x1024_S32x81920x1024_0_1_2 (broadcastInDim S32x1x1024 ![0, 2] bcast_S32x1024_S32x1x1024_0_2 (shapeCast _ a7 shapeCasts_S1x32x1024_S32x1024)))) transposes_S32x81920x1024_S81920x32x1024_1_0_2

/-- The rows owned, the others zero, summed over the experts. -/
def sumOf (M : IVec S81920x32x1024 1) (y : S81920x32x1024.Idx → EReal) : S81920x1024.Idx → EReal :=
  ref (F := Ideal) M y
where
  /-- The reference's own term. -/
  ref {F : FTy → Type} [FloatOps F] (M : IVec S81920x32x1024 1) (y : FVec F S81920x32x1024 .f32) : FVec F S81920x1024 .f32 :=
    Host.reduceAdd (select M y (broadcastInDim S81920x32x1024 ![] bcast_S_S81920x32x1024 (constant S_ .f32 0x00000000#32))) (constant S_ .f32 0x00000000#32) reducesTo_S81920x32x1024_S81920x1024_d1 h_S_

/-- The sum sees only the rows owned. -/
theorem sumOf_congr {M : IVec S81920x32x1024 1} {y y' : S81920x32x1024.Idx → EReal} (h : ∀ i, M i = 1#1 → y i = y' i) : sumOf M y = sumOf M y' := by
  unfold sumOf sumOf.ref
  refine congrArg (fun v => Host.reduceAdd (F := Ideal) v _ _ _) (funext fun i => ?_)
  show (if M i = 1#1 then y i else _) = if M i = 1#1 then y' i else _
  by_cases e : M i = 1#1
  · rw [if_pos e, if_pos e, h i e]
  · rw [if_neg e, if_neg e]

theorem ffnOf_at (a3 : S81920x1x1024.Idx → EReal) (a4 : S1x32x1024x2048.Idx → EReal) (a5 : S1x32x2048.Idx → EReal) (a6 : S1x32x1024x1024.Idx → EReal) (a7 : S1x32x1024.Idx → EReal)
    (R : Fin 81920) (e : Fin 32) (q : Fin 1024) :
    ffnOf a3 a4 a5 a6 a7 (ix3 R e q)
      = rowOf (fun k => a3 (ix3 R 0 k)) (fun k j => a4 (ix4 0 e k j)) (fun j => a5 (ix3 0 e j)) (fun j q => a6 (ix4 0 e j q)) (fun q => a7 (ix3 0 e q)) q := by
  pointwise [ffnOf, ffnOf.ref, rowOf, actOf, gated, lo, hi]
  simp only [zero_sub]
  rfl

theorem maskOf_at (a0 a1 a2 : IVec S32 32) (R : Fin 81920) (e : Fin 32) (q : Fin 1024) :
    maskOf a0 a1 a2 (ix3 R e q) = IntOp.andi (IntOp.cmpi .sge (BitVec.ofNat 32 R.val) (a0 (ix1 e))) (IntOp.cmpi .slt (BitVec.ofNat 32 R.val) (a0 (ix1 e) + 512#32 * a1 (ix1 e) - a2 (ix1 e))) := by
  pointwise [maskOf]
  rfl

end Cert.Proof.Exp

end
-- ==== Proof.ExpHost.lean ====
/-
  The experts' call as it finds its operands and leaves its result: the weights and biases are the arguments re-indexed, a
  point's blocks are its expert's, the rows are the argument, and what follows the call sums the rows owned.
-/
module

public import proofs.«01_k».proof.Proof.ExpRef
public import proofs.«01_k».proof.Proof.ExpLaunch
public import Idealize.ShloMosaic.Lib.IdealHost

@[expose] public section

noncomputable section

namespace Cert.Proof.Exp

open Cert.Kernel3Ideal Cert.Kernel3Ideal.Gen
open Idealize.ShloMosaic Idealize.ShloMosaic.StableHlo
open Idealize.ShloMosaic.TcCoe

variable (m : (ℓ : Loc nD τ sig) → Buf (Elt Ideal) ℓ) (c : Dev nD)

/-! ## The arguments -/

abbrev argT (b : Ref sig .tc) : Buf (Elt Ideal) ((c : Thread nD τ).loc b) := m ((c : Thread nD τ).loc b)
abbrev argR : S81920x1x1024.Idx → EReal := argT m c main_arg3
abbrev argW1 : S1x32x1024x2048.Idx → EReal := argT m c main_arg4
abbrev argB1 : S1x32x2048.Idx → EReal := argT m c main_arg5
abbrev argW2 : S1x32x1024x1024.Idx → EReal := argT m c main_arg6
abbrev argB2 : S1x32x1024.Idx → EReal := argT m c main_arg7

/-! ## The lines before the call -/

theorem entry_w1 : (V m c main_v17 : S32x1024x2048.Idx → EReal) = shapeCast S32x1024x2048 (argW1 m c) shapeCasts_S1x32x1024x2048_S32x1024x2048 := by
  show StableHlo.after hostOps0 (fun b => m (c, b)) main_v17 = _
  after_results
  all_goals rfl
theorem entry_b1 : (V m c main_v21 : S32x1x2048.Idx → EReal) = shapeCast S32x1x2048 (shapeCast S32x2048 (argB1 m c) shapeCasts_S1x32x2048_S32x2048) shapeCasts_S32x2048_S32x1x2048 := by
  show StableHlo.after hostOps0 (fun b => m (c, b)) main_v21 = _
  after_results
  all_goals rfl
theorem entry_w2 : (V m c main_v19 : S32x1024x1024.Idx → EReal) = shapeCast S32x1024x1024 (argW2 m c) shapeCasts_S1x32x1024x1024_S32x1024x1024 := by
  show StableHlo.after hostOps0 (fun b => m (c, b)) main_v19 = _
  after_results
  all_goals rfl
theorem entry_b2 : (V m c main_v22 : S32x1x1024.Idx → EReal) = shapeCast S32x1x1024 (shapeCast S32x1024 (argB2 m c) shapeCasts_S1x32x1024_S32x1024) shapeCasts_S32x1024_S32x1x1024 := by
  show StableHlo.after hostOps0 (fun b => m (c, b)) main_v22 = _
  after_results
  all_goals rfl
theorem entry_rows : (V m c main_v23 : S81920x1x1024.Idx → EReal) = argR m c := by
  show StableHlo.after hostOps0 (fun b => m (c, b)) main_v23 = _
  after_results
  all_goals rfl
theorem entry_mask : (V m c main_v16 : IVec S81920x32x1024 1) = maskOf (argT m c main_arg0) (argT m c main_arg1) (argT m c main_arg2) := by
  show StableHlo.after hostOps0 (fun b => m (c, b)) main_v16 = _
  after_results
  all_goals rfl

theorem cast_w1 (a : S1x32x1024x2048.Idx → EReal) (e : Fin 32) (k : Fin 1024) (j : Fin 2048) :
    shapeCast S32x1024x2048 a shapeCasts_S1x32x1024x2048_S32x1024x2048 (ix3 e k j) = a (ix4 0 e k j) := by
  pointwise
theorem cast_b1 (a : S1x32x2048.Idx → EReal) (e : Fin 32) (j : Fin 2048) :
    shapeCast S32x1x2048 (shapeCast S32x2048 a shapeCasts_S1x32x2048_S32x2048) shapeCasts_S32x2048_S32x1x2048 (ix3 e 0 j) = a (ix3 0 e j) := by
  pointwise
theorem cast_w2 (a : S1x32x1024x1024.Idx → EReal) (e : Fin 32) (k : Fin 1024) (j : Fin 1024) :
    shapeCast S32x1024x1024 a shapeCasts_S1x32x1024x1024_S32x1024x1024 (ix3 e k j) = a (ix4 0 e k j) := by
  pointwise
theorem cast_b2 (a : S1x32x1024.Idx → EReal) (e : Fin 32) (j : Fin 1024) :
    shapeCast S32x1x1024 (shapeCast S32x1024 a shapeCasts_S1x32x1024_S32x1024) shapeCasts_S32x1024_S32x1x1024 (ix3 e 0 j) = a (ix3 0 e j) := by
  pointwise

/-! ## The blocks of a point -/

theorem coord_nat (e : Fin 32) : (BitVec.ofNat 32 e.val).toNat = e.val := by
  rw [BitVec.toNat_ofNat]; omega

variable (t : Fin (cfg0 (adm m)).N)

theorem blk_w1 (k : Fin 1024) (j : Fin 2048) : (iblk m c 0 t (ix3 0 k j) : EReal) = argW1 m c (ix4 0 (grid0.coords t 0) k j) := by
  refine Eq.trans ?_ ((congrFun (entry_w1 m c) (ix3 (grid0.coords t 0) k j)).trans (cast_w1 _ _ _ _))
  refine congrArg (V m c main_v17 : S32x1024x2048.Idx → EReal) (funext fun (a : Fin 3) => Fin.ext ?_)
  match a with
  | 0 => show (BitVec.ofNat 32 (grid0.coords t 0).val).toNat * 1 + 1 * 0 = (grid0.coords t 0).val
         exact (congrArg (fun x => x * 1 + 1 * 0) (coord_nat (grid0.coords t 0))).trans (by show (grid0.coords t 0).val * 1 + 1 * 0 = _; omega)
  | 1 => show 0 * 1024 + 1 * k.val = k.val
         omega
  | 2 => show 0 * 2048 + 1 * j.val = j.val
         omega
theorem blk_b1 (j : Fin 2048) : (iblk m c 1 t (ix3 0 0 j) : EReal) = argB1 m c (ix3 0 (grid0.coords t 0) j) := by
  refine Eq.trans ?_ ((congrFun (entry_b1 m c) (ix3 (grid0.coords t 0) 0 j)).trans (cast_b1 _ _ _))
  refine congrArg (V m c main_v21 : S32x1x2048.Idx → EReal) (funext fun (a : Fin 3) => Fin.ext ?_)
  match a with
  | 0 => show (BitVec.ofNat 32 (grid0.coords t 0).val).toNat * 1 + 1 * 0 = (grid0.coords t 0).val
         exact (congrArg (fun x => x * 1 + 1 * 0) (coord_nat (grid0.coords t 0))).trans (by show (grid0.coords t 0).val * 1 + 1 * 0 = _; omega)
  | 1 => show 0 * 1 + 1 * 0 = 0
         omega
  | 2 => show 0 * 2048 + 1 * j.val = j.val
         omega
theorem blk_w2 (k : Fin 1024) (j : Fin 1024) : (iblk m c 2 t (ix3 0 k j) : EReal) = argW2 m c (ix4 0 (grid0.coords t 0) k j) := by
  refine Eq.trans ?_ ((congrFun (entry_w2 m c) (ix3 (grid0.coords t 0) k j)).trans (cast_w2 _ _ _ _))
  refine congrArg (V m c main_v19 : S32x1024x1024.Idx → EReal) (funext fun (a : Fin 3) => Fin.ext ?_)
  match a with
  | 0 => show (BitVec.ofNat 32 (grid0.coords t 0).val).toNat * 1 + 1 * 0 = (grid0.coords t 0).val
         exact (congrArg (fun x => x * 1 + 1 * 0) (coord_nat (grid0.coords t 0))).trans (by show (grid0.coords t 0).val * 1 + 1 * 0 = _; omega)
  | 1 => show 0 * 1024 + 1 * k.val = k.val
         omega
  | 2 => show 0 * 1024 + 1 * j.val = j.val
         omega
theorem blk_b2 (j : Fin 1024) : (iblk m c 3 t (ix3 0 0 j) : EReal) = argB2 m c (ix3 0 (grid0.coords t 0) j) := by
  refine Eq.trans ?_ ((congrFun (entry_b2 m c) (ix3 (grid0.coords t 0) 0 j)).trans (cast_b2 _ _ _))
  refine congrArg (V m c main_v22 : S32x1x1024.Idx → EReal) (funext fun (a : Fin 3) => Fin.ext ?_)
  match a with
  | 0 => show (BitVec.ofNat 32 (grid0.coords t 0).val).toNat * 1 + 1 * 0 = (grid0.coords t 0).val
         exact (congrArg (fun x => x * 1 + 1 * 0) (coord_nat (grid0.coords t 0))).trans (by show (grid0.coords t 0).val * 1 + 1 * 0 = _; omega)
  | 1 => show 0 * 1 + 1 * 0 = 0
         omega
  | 2 => show 0 * 1024 + 1 * j.val = j.val
         omega

/-- A block of the rows at a row of its. -/
theorem yB_at (b : Fin 160) (f : Buf (Elt Ideal) (yM.view.loc (c : Thread nD τ))) (r : Fin 512) (k : Fin 1024) (R : Fin 81920) (hR : R.val = b.val * 512 + r.val) :
    ((yB b).view.read (Elt Ideal) f (ix3 r 0 k) : EReal) = (f : S81920x1x1024.Idx → EReal) (ix3 R 0 k) := by
  refine congrArg (f : S81920x1x1024.Idx → EReal) (funext fun (a : Fin 3) => Fin.ext ?_)
  match a with
  | 0 => show b.val * 512 + 1 * r.val = R.val
         omega
  | 1 => show 0 + 1 * 0 = 0
         omega
  | 2 => show 0 + 1 * k.val = k.val
         omega

/-! ## The lines after the call -/

/-- The rows, the same for every expert. -/
def spread (f : S81920x1x1024.Idx → EReal) : S81920x32x1024.Idx → EReal :=
  broadcastInDim S81920x32x1024 ![0, 1, 2] bcast_S81920x1x1024_S81920x32x1024_0_1_2 f

theorem spread_at (f : S81920x1x1024.Idx → EReal) (R : Fin 81920) (e : Fin 32) (q : Fin 1024) : spread f (ix3 R e q) = f (ix3 R 0 q) := by
  pointwise [spread]

theorem after_end (W : Valuation τ sig (Elt Ideal)) :
    (StableHlo.after hostOps1 W (Proc.devRef .tc main_v27) : S81920x1024.Idx → EReal) = sumOf (W (Proc.devRef .tc main_v16)) (spread (W (Proc.devRef .tc main_v23))) := by
  after_results
  all_goals rfl

theorem end_eq (f : Buf (Elt Ideal) (yM.view.loc (c : Thread nD τ))) :
    (endV m c f (Proc.devRef .tc main_v27) : S81920x1024.Idx → EReal)
      = sumOf (maskOf (argT m c main_arg0) (argT m c main_arg1) (argT m c main_arg2)) (spread f) := by
  have h16 : Pipeline.withArrays spec0 c (exitV m c f) (fun w => (dats m 0 c).arrAt w (cfg0 (adm m)).N) (Proc.devRef .tc main_v16) = V m c main_v16 := by
    rw [Pipeline.withArrays_of_ne, exitV_of_ne]
    · decide
    · intro w e; revert e; revert w; decide
  have h23 : Pipeline.withArrays spec0 c (exitV m c f) (fun w => (dats m 0 c).arrAt w (cfg0 (adm m)).N) (Proc.devRef .tc main_v23) = f := by
    rw [Pipeline.withArrays_of_ne, exitV_y]
    · intro w e; revert e; revert w; decide
  unfold endV
  refine (after_end _).trans ?_
  rw [h16, h23, entry_mask]

end Cert.Proof.Exp

end
-- ==== Proof.ExpMask.lean ====
/-
  The rows an expert owns, and the block each lies in: a row owned lies in one of its owner's blocks, before the padding of
  the last of them, and no other expert's stretch holds that block.
-/
module

public import proofs.«01_k».proof.Proof.ExpRef
public import proofs.«01_k».proof.Proof.ExpWords

@[expose] public section

noncomputable section

namespace Cert.Proof.Exp

open Cert.Kernel3Ideal Cert.Kernel3Ideal.Gen
open Idealize.ShloMosaic
open Idealize.ShloMosaic.TcCoe

variable {s b p : IVec S32 32}

theorem upBlk_mono (h : Routed s b p) : ∀ (d t : ℕ), t + d ≤ 32 → upBlk s b t ≤ upBlk s b (t + d)
  | 0, t, _ => le_rfl
  | d + 1, t, e => by
    have u := upBlk_succ h ⟨t + d, by omega⟩
    rw [← upBlk_lt (s := s) (b := b) (t := t + d) (by omega)] at u
    have i := upBlk_mono h d t (by omega)
    have u' : upBlk s b (t + (d + 1)) = upBlk s b (t + d) + _ := u
    omega

/-- A block lies in one stretch. -/
theorem one_owner (h : Routed s b p) (e e' : Fin 32) (g : ℕ) (h1 : upBlk s b e.val ≤ g) (h2 : g < upBlk s b e.val + (b (ix e)).toNat)
    (h1' : upBlk s b e'.val ≤ g) (h2' : g < upBlk s b e'.val + (b (ix e')).toNat) : e = e' := by
  have key : ∀ e e' : Fin 32, g < upBlk s b e.val + (b (ix e)).toNat → upBlk s b e'.val ≤ g → ¬ e.val < e'.val := by
    intro e e' a a' lt
    have u := upBlk_succ h e
    rw [← upBlk_lt (s := s) (b := b) e.isLt] at u
    have i := upBlk_mono h (e'.val - (e.val + 1)) (e.val + 1) (by have := e'.isLt; omega)
    rw [show e.val + 1 + (e'.val - (e.val + 1)) = e'.val by omega] at i
    have u' : upBlk s b (e.val + 1) = upBlk s b e.val + (b (ix e)).toNat := u
    omega
  have a := key e e' h2 h1'
  have a' := key e' e h2' h1
  exact Fin.ext (by omega)

/-- One row's test. -/
theorem test_of (R : ℕ) (hR : R < 81920) (s b p : BitVec 32) (hb : b.toNat ≤ 160) (hp : p.toNat < 512) (hs : s.toNat + 512 * b.toNat ≤ 81920)
    (h : IntOp.andi (IntOp.cmpi .sge (BitVec.ofNat 32 R) s) (IntOp.cmpi .slt (BitVec.ofNat 32 R) (s + 512#32 * b - p)) = 1#1) :
    s.toNat ≤ R ∧ R + p.toNat < s.toNat + 512 * b.toNat := by
  simp only [IntOp.cmpi, andi_bool, bool_one, Bool.and_eq_true, BitVec.sle, BitVec.slt, decide_eq_true_eq] at h
  obtain ⟨h1, h2⟩ := h
  have e : (s + 512#32 * b).toNat = s.toNat + 512 * b.toNat := by
    rw [BitVec.toNat_add, BitVec.toNat_mul, BitVec.toNat_ofNat]; omega
  have e2 := BitVec.toNat_sub (s + 512#32 * b) p
  rw [e] at e2
  have e3 : (BitVec.ofNat 32 R).toNat = R := by rw [BitVec.toNat_ofNat]; omega
  simp only [BitVec.toInt, e3] at h1 h2
  generalize (s + 512#32 * b - p).toNat = z at h2 e2
  refine ⟨by omega, ?_⟩
  by_cases hc : p.toNat ≤ s.toNat + 512 * b.toNat
  · have : z = s.toNat + 512 * b.toNat - p.toNat := by omega
    omega
  · have : z = 4294967296 + (s.toNat + 512 * b.toNat) - p.toNat := by omega
    omega

/-- Where a row owned lies. -/
theorem owned (h : Routed s b p) (R : Fin 81920) (e : Fin 32) (q : Fin 1024) (hM : maskOf s b p (ix3 R e q) = 1#1) :
    upBlk s b e.val ≤ R.val / 512 ∧ R.val / 512 < upBlk s b e.val + (b (ix e)).toNat ∧ R.val / 512 < usedBlk s b
    ∧ R.val % 512 < (if R.val / 512 + 1 = upBlk s b e.val + (b (ix e)).toNat then 512 - 128 * ((p (ix e)).toNat / 128) else 512) := by
  rw [maskOf_at] at hM
  have ei : (ix1 e : S32.Idx) = ix e := by funext a; fin_cases a; rfl
  obtain ⟨h1, h2⟩ := test_of R.val R.isLt (s (ix e)) (b (ix e)) (p (ix e)) (h.blocks e) (h.pad e) (h.fits e) (by rw [← ei]; exact hM)
  have hs := start_eq h e
  have hf := upBlk_lt (s := s) (b := b) e.isLt
  have hf' : upBlk s b e.val = firstBlk s e := hf
  have u := upBlk_succ h e
  have hu := upBlk_le h (32 - (e.val + 1)) (e.val + 1) (by have := e.isLt; omega)
  rw [hf']
  refine ⟨by omega, by omega, by omega, ?_⟩
  split <;> omega

end Cert.Proof.Exp

end
-- ==== Proof.ExpAlgebraic.lean ====
/-
  The experts: the kernel's result is the reference's. Every row an expert owns holds, where the call leaves it, that expert's
  value of it; the rows no expert owns are not summed.
-/
module

public import proofs.«01_k».proof.Defs
public import proofs.«01_k».proof.Proof.ExpHost
public import proofs.«01_k».proof.Proof.ExpMask
public import proofs.«01_k».proof.Proof.Gen.Reference3Ideal.Run
public import proofs.«01_k».proof.Proof.Gen.Pre_routed

@[expose] public section

noncomputable section

namespace Cert.Proof.Exp

open Cert.Kernel3Ideal Cert.Kernel3Ideal.Gen
open Idealize.ShloMosaic
open Idealize.ShloMosaic.TcCoe

variable (m : (ℓ : Loc nD τ sig) → Buf (Elt Ideal) ℓ)

theorem rowOf_congr {x x' : Fin 1024 → EReal} {w1 w1' : Fin 1024 → Fin 2048 → EReal} {b1 b1' : Fin 2048 → EReal} {w2 w2' : Fin 1024 → Fin 1024 → EReal} {b2 b2' : Fin 1024 → EReal}
    (hx : ∀ k, x k = x' k) (h1 : ∀ k j, w1 k j = w1' k j) (h2 : ∀ j, b1 j = b1' j) (h3 : ∀ j q, w2 j q = w2' j q) (h4 : ∀ q, b2 q = b2' q) (q : Fin 1024) :
    rowOf x w1 b1 w2 b2 q = rowOf x' w1' b1' w2' b2' q := by
  obtain rfl : x = x' := funext hx
  obtain rfl : w1 = w1' := funext fun k => funext (h1 k)
  obtain rfl : b1 = b1' := funext h2
  obtain rfl : w2 = w2' := funext fun k => funext (h3 k)
  obtain rfl : b2 = b2' := funext h4
  rfl

/-- The reference's rows of the kernel's arguments. -/
abbrev ffn (c : Dev nD) : S81920x32x1024.Idx → EReal := ffnOf (argR m c) (argW1 m c) (argB1 m c) (argW2 m c) (argB2 m c)
abbrev mask (c : Dev nD) : IVec S81920x32x1024 1 := maskOf (argT m c main_arg0) (argT m c main_arg1) (argT m c main_arg2)

/-- A row owned holds its owner's value. -/
theorem row_eq (hR : Routed (tabS m) (tabB m) (tabP m)) (f : Buf (Elt Ideal) (yM.view.loc ((0 : Dev nD) : Thread nD τ))) (hf : Left m 0 f)
    (R : Fin 81920) (e : Fin 32) (q : Fin 1024) (hM : maskOf (tabS m) (tabB m) (tabP m) (ix3 R e q) = 1#1) :
    (f : S81920x1x1024.Idx → EReal) (ix3 R 0 q) = ffn m 0 (ix3 R e q) := by
  obtain ⟨h1, h2, h3, h4⟩ := owned hR R e q hM
  have hu := usedBlk_le hR
  have hb := hf ⟨R.val / 512, by omega⟩
  unfold doneBlk at hb
  rw [if_pos h3] at hb
  obtain ⟨t, a5, a6, a7, a8, A5, B1, A7, B2, W1, W2, g, fo, o, e5, e6, e7, e8, w1, w2, g1, g2, rel, eb, ev⟩ := hb
  have hg : g < 160 := by
    have u := upBlk_succ hR (grid0.coords t 0)
    have u1 : upBlk (tabS m) (tabB m) (grid0.coords t 0).val = firstBlk (tabS m) (grid0.coords t 0) := upBlk_lt (grid0.coords t 0).isLt
    have i : (grid0.coords t 0).val < 32 := (grid0.coords t 0).isLt
    have u2 := upBlk_le hR (32 - ((grid0.coords t 0).val + 1)) ((grid0.coords t 0).val + 1) (by omega)
    omega
  have ev1 : R.val / 512 = g % 160 := congrArg Fin.val eb
  have eg : R.val / 512 = g := by omega
  rw [eg] at h1 h2 h4
  obtain rfl : e = grid0.coords t 0 := one_owner hR _ _ g h1 h2 g1 g2
  have hr : R.val % 512 < 512 := Nat.mod_lt _ (by omega)
  have eR : R.val = (Ring.bk 160 g).val * 512 + (⟨R.val % 512, hr⟩ : Fin 512).val := by
    show R.val = g % 160 * 512 + R.val % 512
    omega
  refine (yB_at 0 ⟨R.val / 512, by omega⟩ f ⟨R.val % 512, hr⟩ q R (by show R.val = R.val / 512 * 512 + R.val % 512; omega)).symm.trans ?_
  refine (congrFun ev _).trans ?_
  refine (staged_at 0 o _ q).trans ?_
  refine (trip_at 0 a6 a8 B1 B2 W1 W2 rel ⟨R.val % 512, hr⟩ h4 q).trans ?_
  refine Eq.trans ?_ (ffnOf_at _ _ _ _ _ R (grid0.coords t 0) q).symm
  refine rowOf_congr (fun k => ?_) (fun k j => ?_) (fun j => ?_) (fun j q => ?_) (fun q => ?_) q
  · exact (yB_at 0 _ _ _ _ R eR).trans (congrFun (entry_rows m 0) _)
  · exact (w1 k j (by have := k.isLt; omega)).trans ((congrFun e5 (ix3 0 k j)).trans (blk_w1 m 0 t k j))
  · exact (congrFun e6 (ix3 0 0 j)).trans (blk_b1 m 0 t j)
  · exact (w2 j q (by have := j.isLt; omega)).trans ((congrFun e7 (ix3 0 j q)).trans (blk_w2 m 0 t j q))
  · exact (congrFun e8 (ix3 0 0 q)).trans (blk_b2 m 0 t q)

theorem idx3 (i : S81920x32x1024.Idx) : i = ix3 (i 0) (i 1) (i 2) := by
  funext a
  fin_cases a <;> rfl

/-- The result: the sum of the rows owned. -/
theorem final (hR : Routed (tabS m) (tabB m) (tabP m)) (c : Dev nD) (f : Buf (Elt Ideal) (yM.view.loc (c : Thread nD τ))) (hf : Left m c f) :
    (endV m c f (Proc.devRef .tc main_v27) : S81920x1024.Idx → EReal) = sumOf (mask m c) (ffn m c) := by
  obtain rfl : c = 0 := Subsingleton.elim _ _
  refine (end_eq m 0 f).trans (sumOf_congr fun i hi => ?_)
  rw [idx3 i] at hi ⊢
  exact (spread_at _ _ _ _).trans (row_eq m hR f hf _ _ _ hi)

end Cert.Proof.Exp

end
-- ==== Proof.ExpSum.lean ====
/-
  The experts: the kernel and the reference, run on the same arguments, end with the same result.
-/
module

public import proofs.«01_k».proof.Proof.ExpAlgebraic
public import proofs.«01_k».proof.Proof.ExpFrames

@[expose] public section

set_option maxHeartbeats 2000000

noncomputable section

namespace Cert.Proof

open Idealize.ShloMosaic
open Idealize.ShloMosaic.TcCoe

/-- The reference's last value is the sum of the rows owned, of its own arguments. -/
theorem Exp.ref_eq (m' : (ℓ : Loc Cert.Reference3Ideal.nD Cert.Reference3Ideal.τ Cert.Reference3Ideal.sig) → Buf (Elt Ideal) ℓ) (c : Dev Cert.Reference3Ideal.nD) :
    (Cert.Reference3Ideal.Value.res_main_v49 (F := Ideal) m' c : Cert.Reference3Ideal.S81920x1024.Idx → EReal)
      = Exp.sumOf (Exp.maskOf (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)))
          (Exp.ffnOf (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5))
            (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7))) := by
  unfold Cert.Reference3Ideal.Value.res_main_v49 Exp.sumOf Exp.sumOf.ref Exp.maskOf Exp.ffnOf Exp.ffnOf.ref
  rfl

theorem algebraic3 [Cert.Pre_routed.Facts] : Cert.algebraic_Kernel3Ideal_Reference3Ideal := fun m g m' g' h ha => by
  have hR := Exp.routed_of (F := Ideal) _ _ _ _ _ _ _ _ (h 0)
  refine ⟨fun c => Exp.sumOf (Exp.mask m c) (Exp.ffn m c), ?_, ?_⟩
  · refine (θ_run Cert.Kernel3Ideal.defs _ _).mono (fun _ r c => ⟨?_, Exp.args_of (r.1 c)⟩) (Exp.run_main (F := Ideal) m g hR)
    obtain ⟨f, hf, e⟩ := (r.1 c).2
    exact e.trans (Exp.final m hR c f hf)
  · refine (θ_run Cert.Reference3Ideal.defs _ _).mono (fun r h c => ⟨(h c).1.trans ((Exp.ref_eq m' c).trans ?_), (h c).2⟩) (Cert.Reference3Ideal.Value.run (F := Ideal) m' g')
    rw [(ha c).1, (ha c).2.1, (ha c).2.2.1, (ha c).2.2.2.1, (ha c).2.2.2.2.1, (ha c).2.2.2.2.2.1, (ha c).2.2.2.2.2.2.1, (ha c).2.2.2.2.2.2.2]

/-- The reference run, its arguments as they were and no counter up. -/
theorem frame_reference3 : Cert.quiescent_Reference3Ideal := fun m ρ _ => by
  exact (θ_run Cert.Reference3Ideal.defs _ _).mono (fun r h => ⟨fun c => (h c).2, sem_eq_zero_of_no_sems (by decide) r.2⟩) (Cert.Reference3Ideal.Value.run (F := Ideal) m ρ)

/-- The same, of tables that route. -/
theorem frame_reference3_pre [Cert.Pre_routed.Facts] : Cert.quiescent_Reference3Ideal_pre_routed := fun m ρ _ => by
  exact (θ_run Cert.Reference3Ideal.defs _ _).mono (fun r h => ⟨fun c => (h c).2, sem_eq_zero_of_no_sems (by decide) r.2⟩) (Cert.Reference3Ideal.Value.run (F := Ideal) m ρ)

end Cert.Proof

end
-- ==== Proof.ModHost.lean ====
/-
  The modulation call's operands as the call finds them: the condition's sixteen rows are the eight of `c`, the one of `c_ctx`
  and seven of zeros; the weight and the bias are the arguments re-indexed.
-/
module

public import proofs.«01_k».proof.Proof.ModLaunch
public import Idealize.ShloMosaic.Lib.Routing.OpsSet
public import Idealize.ShloMosaic.Lib.Pointwise
public import Idealize.ShloMosaic.Lib.IdealHost

@[expose] public section

noncomputable section

namespace Cert.Proof.Mod

open Cert.KernelIdeal Cert.KernelIdeal.Gen
open Idealize.ShloMosaic Idealize.ShloMosaic.StableHlo
open Idealize.ShloMosaic.TcCoe

variable (m : (ℓ : Loc nD τ sig) → Buf (Elt Ideal) ℓ) (c : Dev nD)

/-! ## The scatters -/

/-- An eight-row update lands in the first eight rows. -/
theorem lands_rows (j : S8x1024.Idx) (i : S16x1024.Idx) :
    scatter_S16x1024_S1_S8x1024_01_n_0_0.resultIdx? j (broadcastInDim S1 ![] bcast_S_S1 (constantI S_ 32 0#32)) = some i ↔ (j 0).val = (i 0).val ∧ (j 1).val = (i 1).val := by
  rw [Routing.resultIdx?_eq_some]
  have h0 : scatter_S16x1024_S1_S8x1024_01_n_0_0.start j (broadcastInDim S1 ![] bcast_S_S1 (constantI S_ 32 0#32)) 0 = 0 := rfl
  have h1 : scatter_S16x1024_S1_S8x1024_01_n_0_0.start j (broadcastInDim S1 ![] bcast_S_S1 (constantI S_ 32 0#32)) 1 = 0 := rfl
  have w0 : scatter_S16x1024_S1_S8x1024_01_n_0_0.window j 0 = (j 0).val := rfl
  have w1 : scatter_S16x1024_S1_S8x1024_01_n_0_0.window j 1 = (j 1).val := rfl
  constructor
  · intro h
    have a := h 0; have b := h 1
    rw [h0, w0] at a; rw [h1, w1] at b
    exact ⟨by omega, by omega⟩
  · rintro ⟨a, b⟩ x
    match x with
    | 0 => rw [h0, w0]; omega
    | 1 => rw [h1, w1]; omega

/-- A one-row update lands in row 8. -/
theorem lands_row (j : S1024.Idx) (i : S16x1024.Idx) :
    scatter_S16x1024_S1_S1024_0_0_0_0.resultIdx? j (broadcastInDim S1 ![] bcast_S_S1 (constantI S_ 32 8#32)) = some i ↔ 8 = (i 0).val ∧ (j 0).val = (i 1).val := by
  rw [Routing.resultIdx?_eq_some]
  have h0 : scatter_S16x1024_S1_S1024_0_0_0_0.start j (broadcastInDim S1 ![] bcast_S_S1 (constantI S_ 32 8#32)) 0 = 8 := rfl
  have h1 : scatter_S16x1024_S1_S1024_0_0_0_0.start j (broadcastInDim S1 ![] bcast_S_S1 (constantI S_ 32 8#32)) 1 = 0 := rfl
  have w0 : scatter_S16x1024_S1_S1024_0_0_0_0.window j 0 = 0 := rfl
  have w1 : scatter_S16x1024_S1_S1024_0_0_0_0.window j 1 = (j 0).val := rfl
  constructor
  · intro h
    have a := h 0; have b := h 1
    rw [h0, w0] at a; rw [h1, w1] at b
    exact ⟨by omega, by omega⟩
  · rintro ⟨a, b⟩ x
    match x with
    | 0 => rw [h0, w0]; omega
    | 1 => rw [h1, w1]; omega

/-- The condition: rows of `c`, then the row of `c_ctx`, then zeros. -/
def condOf (A0 : S8x1024.Idx → EReal) (A1 : S1024.Idx → EReal) : S16x1024.Idx → EReal := fun i =>
  if h : (i 0).val < 8 then A0 (ix2 ⟨(i 0).val, h⟩ (i 1)) else if (i 0).val = 8 then A1 (ix1 (i 1)) else 0

theorem scatters_eq (A0 : S8x1024.Idx → EReal) (A1 : S1024.Idx → EReal) :
    Host.scatter scatter_S16x1024_S1_S1024_0_0_0_0 (fun _ b => b)
      (Host.scatter scatter_S16x1024_S1_S8x1024_01_n_0_0 (fun _ b => b) (broadcastInDim S16x1024 ![] bcast_S_S16x1024 (constant (F := Ideal) S_ .f32 0x00000000#32) : S16x1024.Idx → EReal)
        (broadcastInDim S1 ![] bcast_S_S1 (constantI S_ 32 0#32)) A0)
      (broadcastInDim S1 ![] bcast_S_S1 (constantI S_ 32 8#32)) A1 = condOf A0 A1 := by
  funext i
  unfold condOf
  by_cases h8 : (i 0).val = 8
  · rw [dif_neg (by omega), if_pos h8]
    refine Routing.scatter_set_hit _ _ _ _ i _ (fun k hk => ?_) (ix1 (i 1)) ?_
    · refine congrArg A1 (funext fun a => ?_)
      match a with
      | 0 => exact Fin.ext ((lands_row k i).1 hk).2
    · exact (lands_row _ i).2 ⟨h8.symm, rfl⟩
  · rw [Routing.scatter_set_miss _ _ _ _ i (fun k hk => h8 ((lands_row k i).1 hk).1.symm)]
    by_cases hl : (i 0).val < 8
    · rw [dif_pos hl]
      refine Routing.scatter_set_hit _ _ _ _ i _ (fun k hk => ?_) (ix2 ⟨(i 0).val, hl⟩ (i 1)) ?_
      · refine congrArg A0 (funext fun a => ?_)
        match a with
        | 0 => exact Fin.ext ((lands_rows k i).1 hk).1
        | 1 => exact Fin.ext ((lands_rows k i).1 hk).2
      · exact (lands_rows _ i).2 ⟨rfl, rfl⟩
    · rw [dif_neg hl, if_neg h8, Routing.scatter_set_miss _ _ _ _ i (fun k hk => hl (by
        have := ((lands_rows k i).1 hk).1; have h2 : (k 0).val < 8 := (k 0).isLt; omega))]
      exact Ideal.ofBits_zero_f32

/-! ## The operands -/

theorem X4_after : (X4 m c : S16x1024.Idx → EReal) = Host.scatter scatter_S16x1024_S1_S1024_0_0_0_0 (fun _ b => b)
      (Host.scatter scatter_S16x1024_S1_S8x1024_01_n_0_0 (fun _ b => b) (broadcastInDim S16x1024 ![] bcast_S_S16x1024 (constant (F := Ideal) S_ .f32 0x00000000#32) : S16x1024.Idx → EReal)
        (broadcastInDim S1 ![] bcast_S_S1 (constantI S_ 32 0#32)) (m ((c : Thread nD τ).loc main_arg0)))
      (broadcastInDim S1 ![] bcast_S_S1 (constantI S_ 32 8#32)) (m ((c : Thread nD τ).loc main_arg1)) := by
  show StableHlo.after hostOps0 (fun b => m (c, b)) main_v4 = _
  after_results_simp

theorem X4_eq : (X4 m c : S16x1024.Idx → EReal) = condOf (m ((c : Thread nD τ).loc main_arg0)) (m ((c : Thread nD τ).loc main_arg1)) :=
  (X4_after m c).trans (scatters_eq _ _)

theorem XW_eq : (XW m c : S1024x6144.Idx → EReal) = shapeCast S1024x6144 (m ((c : Thread nD τ).loc main_arg2) : S1x1024x6144.Idx → EReal) shapeCasts_S1x1024x6144_S1024x6144 := by
  show StableHlo.after hostOps0 (fun b => m (c, b)) main_v5 = _
  after_results
  all_goals rfl

theorem XB_eq : (XB m c : S1x6144.Idx → EReal) = shapeCast S1x6144 (shapeCast S6144 (m ((c : Thread nD τ).loc main_arg3) : S1x6144.Idx → EReal) shapeCasts_S1x6144_S6144) shapeCasts_S6144_S1x6144 := by
  show StableHlo.after hostOps0 (fun b => m (c, b)) main_v7 = _
  after_results
  all_goals rfl

theorem weight_cast (p : S1x1024x6144.Idx → EReal) (k : Fin 1024) (j : Fin 6144) :
    shapeCast S1024x6144 p shapeCasts_S1x1024x6144_S1024x6144 (ix2 k j) = p (ix3 0 k j) := by
  pointwise []

theorem bias_cast (p : S1x6144.Idx → EReal) (j : Fin 6144) :
    shapeCast S1x6144 (shapeCast S6144 p shapeCasts_S1x6144_S6144) shapeCasts_S6144_S1x6144 (ix2 0 j) = p (ix2 0 j) := by
  pointwise []

theorem XW_at (k : Fin 1024) (j : Fin 6144) : (XW m c : S1024x6144.Idx → EReal) (ix2 k j) = (m ((c : Thread nD τ).loc main_arg2) : S1x1024x6144.Idx → EReal) (ix3 0 k j) :=
  (congrFun (XW_eq m c) _).trans (weight_cast _ k j)

theorem XB_at (j : Fin 6144) : (XB m c : S1x6144.Idx → EReal) (ix2 0 j) = (m ((c : Thread nD τ).loc main_arg3) : S1x6144.Idx → EReal) (ix2 0 j) :=
  (congrFun (XB_eq m c) _).trans (bias_cast _ j)

end Cert.Proof.Mod

end
-- ==== Proof.ModValue.lean ====
/-
  The modulation call's value: each element of a block is the condition's row, through its gate, against the weight's column.
-/
module

public import proofs.«01_k».proof.Proof.ModResult
public import Idealize.ShloMosaic.Lib.Pointwise
public import Idealize.ShloMosaic.Lib.IdealHost

@[expose] public section

noncomputable section

namespace Cert.Proof.Mod

open Cert.KernelIdeal Cert.KernelIdeal.Gen
open Idealize.ShloMosaic
open Idealize.ShloMosaic.TcCoe

/-! ## Finite values -/

/-- The gate of a condition's element: `x · σ(x)`. -/
def gate (x : EReal) : EReal := x * Ideal.div 1 (1 + Ideal.exp (0 - x))

theorem real_of_sub_self {x : EReal} (h : x - x = 0) : ∃ r : ℝ, x = (r : EReal) := by
  induction x with
  | bot => exact absurd h (by simp)
  | top => exact absurd h (by simp)
  | coe r => exact ⟨r, rfl⟩

theorem sub_self_of_real (r : ℝ) : (r : EReal) - (r : EReal) = 0 := by
  rw [← EReal.coe_sub, sub_self, EReal.coe_zero]

/-- The gate of a finite value is finite. -/
theorem gate_fin {x : EReal} (h : x - x = 0) : gate x - gate x = 0 := by
  obtain ⟨r, rfl⟩ := real_of_sub_self h
  have e : gate (r : EReal) = ((r * (1 + Real.exp (0 - r))⁻¹ : ℝ) : EReal) := by
    have hp : (0 : ℝ) < 1 + Real.exp (0 - r) := by positivity
    have he : Ideal.exp ((0 : EReal) - (r : EReal)) = ((Real.exp (0 - r) : ℝ) : EReal) := by
      rw [← EReal.coe_zero, ← EReal.coe_sub]; rfl
    have hs : (1 : EReal) + ((Real.exp (0 - r) : ℝ) : EReal) = ((1 + Real.exp (0 - r) : ℝ) : EReal) := by
      rw [EReal.coe_add, EReal.coe_one]
    have hd : Ideal.div 1 ((1 + Real.exp (0 - r) : ℝ) : EReal) = (((1 + Real.exp (0 - r))⁻¹ : ℝ) : EReal) := by
      unfold Ideal.div
      rw [if_neg (by rw [← EReal.coe_zero]; exact fun q => hp.ne' (EReal.coe_injective q)), one_mul, EReal.coe_inv]
    unfold gate
    rw [he, hs, hd, ← EReal.coe_mul]
  rw [e]
  exact sub_self_of_real _

/-! ## A block -/

/-- What the body computes of a condition, a weight block and a bias block, at a row and a column. -/
theorem pay_at (x : Vec Ideal S16x1024 .f32) (w : Vec Ideal S1x1024x1024 .f32) (b : Vec Ideal S1x1x1024 .f32) (r : Fin 16) (l : Fin 1024)
    (hx : ∀ k : Fin 1024, (x (ix2 r k) : EReal) - x (ix2 r k) = 0) (hw : ∀ k : Fin 1024, (w (ix3 0 k l) : EReal) - w (ix3 0 k l) = 0) :
    (k0_pay1 x w b (ix3 0 r l) : EReal) = (∑ k : Fin 1024, gate (x (ix2 r k)) * w (ix3 0 k l)) + b (ix3 0 0 l) := by
  pointwise [k0_pay1]
  have h2 : ∀ k : Fin 1024, gate (x (ix2 r k)) - gate (x (ix2 r k)) = 0 := fun k => gate_fin (hx k)
  unfold gate at h2
  simp only [h2, hw, mul_zero, zero_mul, Finset.sum_const_zero, add_zero]
  rfl

variable (c : Dev nD)
  (XC : Buf (Elt Ideal) (cbM.view.loc (c : Thread nD τ)))
  (XW : S1024x6144.Idx → EReal)
  (XB : S1x6144.Idx → EReal)

/-- Column `l` of block `b`. -/
def colAt (b : Fin 6) (l : Fin 1024) : Fin 6144 := ⟨b.val * 1024 + l.val, by omega⟩

/-- An element of a block in its array. -/
def wEmb (b : Fin 6) (x : S1024x1024.Idx) : S1024x6144.Idx := (wB b).view.emb x
def bEmb (b : Fin 6) (x : S1x1024.Idx) : S1x6144.Idx := (bB b).view.emb x

theorem wBlk_at (b : Fin 6) (k l : Fin 1024) : wBlk (F := Ideal) c XW b (ix2 k l) = XW (ix2 k (colAt b l)) := by
  show XW (wEmb b (ix2 k l)) = _
  refine congrArg XW (funext fun a => ?_)
  match a with
  | 0 =>
    refine Fin.ext ((Rect.emb_apply (Rect.unit (s := S1024x6144) (colOff b) S1024x1024.size (wCol_inb b)) (ix2 k l) 0).trans ?_)
    show 0 + 1 * k.val = k.val; omega
  | 1 =>
    refine Fin.ext ((Rect.emb_apply (Rect.unit (s := S1024x6144) (colOff b) S1024x1024.size (wCol_inb b)) (ix2 k l) 1).trans ?_)
    show b.val * 1024 + 1 * l.val = b.val * 1024 + l.val; omega

theorem bBlk_at (b : Fin 6) (l : Fin 1024) : bBlk (F := Ideal) c XB b (ix2 0 l) = XB (ix2 0 (colAt b l)) := by
  show XB (bEmb b (ix2 0 l)) = _
  refine congrArg XB (funext fun a => ?_)
  match a with
  | 0 => exact Subsingleton.elim (α := Fin 1) _ _
  | 1 =>
    refine Fin.ext ((Rect.emb_apply (Rect.unit (s := S1x6144) (colOff b) S1x1024.size (bCol_inb b)) (ix2 0 l) 1).trans ?_)
    show b.val * 1024 + 1 * l.val = b.val * 1024 + l.val; omega

/-- A column block of the result, at a row and a column. -/
theorem outBlk_at (b : Fin 6) (r : Fin 16) (l : Fin 1024) (X : S16x1024.Idx → EReal) (hX : cbM.view.read (Elt Ideal) XC = X)
    (hx : ∀ k : Fin 1024, X (ix2 r k) - X (ix2 r k) = 0)
    (hw : ∀ k : Fin 1024, XW (ix2 k (colAt b l)) - XW (ix2 k (colAt b l)) = 0) :
    (outBlk c XC XW XB b (ix2 r l) : EReal)
      = (∑ k : Fin 1024, gate (X (ix2 r k)) * XW (ix2 k (colAt b l))) + XB (ix2 0 (colAt b l)) := by
  have e3 : (outBlk c XC XW XB b (ix2 r l) : EReal) = k0_pay1 (F := Ideal) X (shapeCast S1x1024x1024 (wBlk (F := Ideal) c XW b) (by decide)) (shapeCast S1x1x1024 (bBlk (F := Ideal) c XB b) (by decide)) (ix3 0 r l) := by
    unfold outBlk
    rw [hX]
    generalize k0_pay1 (F := Ideal) X _ _ = p
    pointwise []
  have ew : ∀ k : Fin 1024, (shapeCast S1x1024x1024 (wBlk (F := Ideal) c XW b) (by decide) : S1x1024x1024.Idx → EReal) (ix3 0 k l) = XW (ix2 k (colAt b l)) := fun k => by
    rw [← wBlk_at c XW b k l]
    generalize wBlk (F := Ideal) c XW b = p
    pointwise []
  have eb : (shapeCast S1x1x1024 (bBlk (F := Ideal) c XB b) (by decide) : S1x1x1024.Idx → EReal) (ix3 0 0 l) = XB (ix2 0 (colAt b l)) := by
    rw [← bBlk_at c XB b l]
    generalize bBlk (F := Ideal) c XB b = p
    pointwise []
  rw [e3, pay_at _ _ _ r l hx (fun k => by rw [ew k]; exact hw k), eb]
  refine congrArg (· + _) (Finset.sum_congr rfl fun k _ => ?_)
  rw [ew k]

/-- The result as one array, at a row and a column. -/
theorem resultOf_at (r : Fin 16) (j : Fin 6144) (X : S16x1024.Idx → EReal) (hX : cbM.view.read (Elt Ideal) XC = X)
    (hx : ∀ k : Fin 1024, X (ix2 r k) - X (ix2 r k) = 0)
    (hw : ∀ k : Fin 1024, XW (ix2 k j) - XW (ix2 k j) = 0) :
    (resultOf c XC XW XB : S16x6144.Idx → EReal) (ix2 r j)
      = (∑ k : Fin 1024, gate (X (ix2 r k)) * XW (ix2 k j)) + XB (ix2 0 j) := by
  have hj : colAt ⟨j.val / 1024, col_lt j.isLt⟩ ⟨j.val % 1024, Nat.mod_lt _ (by decide)⟩ = j :=
    Fin.ext (by show j.val / 1024 * 1024 + j.val % 1024 = j.val; omega)
  have h := outBlk_at c XC XW XB ⟨j.val / 1024, col_lt j.isLt⟩ r ⟨j.val % 1024, Nat.mod_lt _ (by decide)⟩ X hX hx (fun k => by rw [hj]; exact hw k)
  rw [hj] at h
  exact h

end Cert.Proof.Mod

end
-- ==== Proof.ModRef.lean ====
/-
  The modulation call's reference, at a row and a column.
-/
module

public import proofs.«01_k».proof.Proof.ModValue
public import proofs.«01_k».proof.Proof.Gen.ReferenceIdeal
public import Idealize.ShloMosaic.Lib.Pointwise
public import Idealize.ShloMosaic.Lib.IdealHost

@[expose] public section

noncomputable section

namespace Cert.Proof.Mod

open Cert.ReferenceIdeal Cert.ReferenceIdeal.Gen
open Idealize.ShloMosaic
open Idealize.ShloMosaic.TcCoe

/-- The reference's array, of a condition, a weight and a bias. -/
def refOf (C : FVec Ideal S16x1024 .f32) (A2 : FVec Ideal S1x1024x6144 .f32) (A3 : FVec Ideal S1x6144 .f32) : FVec Ideal S16x6144 .f32 :=
  addf (Host.dotGeneral dot_S16x1024_S1024x6144_S16x6144_1_0_0_1_n_n none (mulf C (Host.divf (broadcastInDim S16x1024 ![] bcast_S_S16x1024 (constant S_ .f32 0x3F800000#32)) (addf (broadcastInDim S16x1024 ![] bcast_S_S16x1024 (constant S_ .f32 0x3F800000#32)) (Host.exp (Host.negf C))))) (shapeCast S1024x6144 A2 shapeCasts_S1x1024x6144_S1024x6144)) (broadcastInDim S16x6144 ![0, 1] bcast_S1x6144_S16x6144_0_1 (broadcastInDim S1x6144 ![1] bcast_S6144_S1x6144_1 (shapeCast S6144 A3 shapeCasts_S1x6144_S6144)))

theorem refOf_at (C : FVec Ideal S16x1024 .f32) (A2 : FVec Ideal S1x1024x6144 .f32) (A3 : FVec Ideal S1x6144 .f32) (r : Fin 16) (j : Fin 6144) :
    (refOf C A2 A3 (ix2 r j) : EReal) = (∑ k : Fin 1024, gate (C (ix2 r k)) * A2 (ix3 0 k j)) + A3 (ix2 0 j) := by
  unfold gate
  pointwise [refOf]
  all_goals simp only [zero_sub]

/-- The reference's condition, read at a row below 8, at row 8, and past it. -/
def refCond (A0 : FVec Ideal S8x1024 .f32) (A1 : FVec Ideal S1024 .f32) : FVec Ideal S16x1024 .f32 :=
  concatenate S16x1024 0 [⟨S8x1024, A0⟩, ⟨S1x1024, (broadcastInDim S1x1024 ![1] bcast_S1024_S1x1024_1 A1 : FVec Ideal S1x1024 .f32)⟩, ⟨S7x1024, (broadcastInDim S7x1024 ![] bcast_S_S7x1024 (constant S_ .f32 0x00000000#32) : FVec Ideal S7x1024 .f32)⟩] concatenates_S8x1024_S1x1024_S7x1024_S16x1024_d0

theorem refCond_at (A0 : FVec Ideal S8x1024 .f32) (A1 : FVec Ideal S1024 .f32) (r : Fin 16) (k : Fin 1024) :
    (refCond A0 A1 (ix2 r k) : EReal) = if h : r.val < 8 then A0 (ix2 ⟨r.val, h⟩ k) else if r.val = 8 then A1 (ix1 k) else 0 := by
  pointwise [refCond]
  by_cases h : r.val < 8
  · rw [dif_pos h, dif_pos h]
  · rw [dif_neg h, dif_neg h]
    by_cases h8 : r.val = 8
    · rw [dif_pos (by omega), if_pos h8]
    · rw [dif_neg (by omega), if_neg h8]

end Cert.Proof.Mod

end
-- ==== Proof.ModAlgebraic.lean ====
/-
  The modulation call's value claim: over finite `c`, `c_ctx` and `w_mod`, the kernel's result and the reference's are one array.
-/
module

public import proofs.«01_k».proof.Proof.ModHost
public import proofs.«01_k».proof.Proof.ModRef
public import proofs.«01_k».proof.Defs
public import proofs.«01_k».proof.Proof.Gen.Pre_finite_inputs
public import proofs.«01_k».proof.Proof.Gen.ReferenceIdeal.Run
public import Idealize.ShloMosaic.Lib.ReduceAll

@[expose] public section

noncomputable section

namespace Cert.Proof

open Idealize.ShloMosaic Idealize.ShloMosaic.TcCoe Idealize.SL.Sem

/-! ## The precondition -/

theorem subsub_of_oeq {x : EReal} (h : Ideal.cmp .oeq (x - x) 0 = 1#1) : x - x = 0 := by
  by_contra q
  have : Ideal.cmp .oeq (x - x) 0 = 0#1 := by
    simp [Ideal.cmp, q]
  rw [this] at h
  exact absurd h (by decide)

section

open Cert.Pre_finite_inputs Cert.Pre_finite_inputs.Gen

instance : Subsingleton S_.Idx := ⟨fun a b => funext fun i => i.elim0⟩

theorem finite_of_pre {A0 : FVec Ideal S8x1024 .f32} {A1 : FVec Ideal S1024 .f32} {A2 : FVec Ideal S1x1024x6144 .f32} {A3 : FVec Ideal S1x6144 .f32}
    (h : Cert.Pre_finite_inputs.fn (F := Ideal) A0 A1 A2 A3 = fun _ => 1#1) :
    (∀ i, (A0 i : EReal) - A0 i = 0) ∧ (∀ i, (A1 i : EReal) - A1 i = 0) ∧ (∀ i, (A2 i : EReal) - A2 i = 0) := by
  have h0 := congrFun h (fun a => a.elim0)
  unfold Cert.Pre_finite_inputs.fn at h0
  obtain ⟨h01, h2⟩ := IntOp.andi_eq_one.1 h0
  obtain ⟨h0, h1⟩ := IntOp.andi_eq_one.1 h01
  have z : (Ideal.ofBits .f32 0x00000000#32 : EReal) = 0 := Ideal.ofBits_zero_f32
  refine ⟨fun i => ?_, fun i => ?_, fun i => ?_⟩
  · have e := Host.reduce_andi_all _ _ _ _ _ h0 i
    refine subsub_of_oeq ?_
    rw [← z]; exact e
  · have e := Host.reduce_andi_all _ _ _ _ _ h1 i
    refine subsub_of_oeq ?_
    rw [← z]; exact e
  · have e := Host.reduce_andi_all _ _ _ _ _ h2 i
    refine subsub_of_oeq ?_
    rw [← z]; exact e

end

/-! ## The claim -/

theorem condOf_at (A0 : Cert.KernelIdeal.S8x1024.Idx → EReal) (A1 : Cert.KernelIdeal.S1024.Idx → EReal) (r : Fin 16) (k : Fin 1024) :
    (Mod.refCond A0 A1 (ix2 r k) : EReal) = Mod.condOf A0 A1 (ix2 r k) := by
  rw [Mod.refCond_at]
  rfl

theorem condOf_fin {A0 : Cert.KernelIdeal.S8x1024.Idx → EReal} {A1 : Cert.KernelIdeal.S1024.Idx → EReal} (h0 : ∀ i, A0 i - A0 i = 0) (h1 : ∀ i, A1 i - A1 i = 0)
    (i : Cert.KernelIdeal.S16x1024.Idx) : Mod.condOf A0 A1 i - Mod.condOf A0 A1 i = 0 := by
  unfold Mod.condOf
  split
  · exact h0 _
  · split
    · exact h1 _
    · exact sub_zero _

section

variable (m : (ℓ : Loc Cert.KernelIdeal.nD Cert.KernelIdeal.τ Cert.KernelIdeal.sig) → Buf (Elt Ideal) ℓ) (c : Dev Cert.KernelIdeal.nD)

/-- The arguments as arrays. -/
abbrev arg0 : Cert.KernelIdeal.S8x1024.Idx → EReal := m ((c.tc : Thread Cert.KernelIdeal.nD Cert.KernelIdeal.τ).loc Cert.KernelIdeal.main_arg0)
abbrev arg1 : Cert.KernelIdeal.S1024.Idx → EReal := m ((c.tc : Thread Cert.KernelIdeal.nD Cert.KernelIdeal.τ).loc Cert.KernelIdeal.main_arg1)
abbrev arg2 : Cert.KernelIdeal.S1x1024x6144.Idx → EReal := m ((c.tc : Thread Cert.KernelIdeal.nD Cert.KernelIdeal.τ).loc Cert.KernelIdeal.main_arg2)
abbrev arg3 : Cert.KernelIdeal.S1x6144.Idx → EReal := m ((c.tc : Thread Cert.KernelIdeal.nD Cert.KernelIdeal.τ).loc Cert.KernelIdeal.main_arg3)
abbrev res : Cert.KernelIdeal.S16x6144.Idx → EReal := Mod.result m c

theorem result_at (hp : Cert.Pre_KernelIdeal_finite_inputs m) (r : Fin 16) (j : Fin 6144) :
    res m c (ix2 r j) = Mod.refOf (Mod.refCond (arg0 m c) (arg1 m c)) (arg2 m c) (arg3 m c) (ix2 r j) := by
  obtain ⟨h0, h1, h2⟩ := finite_of_pre (hp c)
  rw [Mod.refOf_at]
  refine (Mod.resultOf_at c _ (Mod.XW m c) (Mod.XB m c) r j (Mod.condOf (arg0 m c) (arg1 m c)) ?_ ?_ ?_).trans ?_
  · refine Eq.trans ?_ (Mod.X4_eq m c)
    exact View.read_writes_whole ..
  · exact fun k => condOf_fin h0 h1 _
  · intro k
    have e : (Mod.XW m c : Cert.KernelIdeal.S1024x6144.Idx → EReal) (ix2 k j) = arg2 m c (ix3 0 k j) := Mod.XW_at m c k j
    exact (congrArg (fun z : EReal => z - z) e).trans (h2 _)
  · refine congrArg₂ (· + ·) (Finset.sum_congr rfl fun k _ => ?_) (Mod.XB_at m c j)
    rw [condOf_at]
    exact congrArg₂ (· * ·) rfl (Mod.XW_at m c k j)

theorem result_eq (hp : Cert.Pre_KernelIdeal_finite_inputs m) :
    res m c = Mod.refOf (Mod.refCond (arg0 m c) (arg1 m c)) (arg2 m c) (arg3 m c) := by
  funext i
  rw [show i = ix2 (i 0) (i 1) from funext fun a => by match a with | 0 => rfl | 1 => rfl]
  exact result_at m c hp _ _

end

theorem algebraic : Cert.algebraic_KernelIdeal_ReferenceIdeal_pre_finite_inputs := fun m g m' g' hp ha => by
  refine ⟨fun c => Mod.result m c, ?_, ?_⟩
  · exact (θ_run Cert.KernelIdeal.defs _ _).mono (fun _ h c => ⟨(h.1 c).2.2.2.2, (h.1 c).1, (h.1 c).2.1, (h.1 c).2.2.1, (h.1 c).2.2.2.1⟩) (Mod.run_main (F := Ideal) m g)
  · refine (θ_run Cert.ReferenceIdeal.defs _ _).mono (fun r h c => ⟨(h c).1.trans ?_, (h c).2⟩) (Cert.ReferenceIdeal.Value.run (F := Ideal) m' g')
    rw [(ha c).1, (ha c).2.1, (ha c).2.2.1, (ha c).2.2.2]
    exact (result_eq m c hp).symm

end Cert.Proof

end
-- ==== Proof.InprojBlock.lean ====
/-
  The input projection, one block: each of its elements is a normalised and modulated row against a column of the weight.
-/
module

public import proofs.«01_k».proof.Proof.Gen.Kernel2Ideal.Value
public import Idealize.ShloMosaic.Lib.Pipeline.ValueKit.Point
public import Idealize.ShloMosaic.Lib.IdealHost

@[expose] public section

noncomputable section

namespace Cert.Proof.Inproj

open Cert.Kernel2Ideal Cert.Kernel2Ideal.Gen
open Idealize.ShloMosaic
open Idealize.ShloMosaic.TcCoe

/-- A column tile: the rows against 512 of the weight's columns. -/
def tile (v : FVec Ideal S1024x1024 .bf16) (w : Vec Ideal S1024x512 .bf16) : FVec Ideal S1x1024x512 .bf16 := k0_pay5 v w

theorem tile_at (v : FVec Ideal S1024x1024 .bf16) (w : Vec Ideal S1024x512 .bf16) (r : Fin 1024) (l : Fin 512) :
    (tile v w (ix3 0 r l) : EReal) = ∑ k : Fin 1024, v (ix2 r k) * w (ix2 k l) := by
  pointwise [tile, k0_pay5]

theorem tile_ld (v : FVec Ideal S1024x1024 .bf16) (x4 : Vec Ideal S1024x3584 .bf16) (o : Nat) (inb : ∀ a, (![0, o] : Fin 2 → Nat) a + S1024x512.size a ≤ S1024x3584.size a)
    (x : S1x1024x512.Idx) (r : Fin 1024) (j : Fin 3584) (hr : r.val = (x 1).val) (hj : j.val = o + (x 2).val) :
    (tile v (View.ld x4 (Rect.unit (s := S1024x3584) ![0, o] S1024x512.size inb)) x : EReal) = ∑ k : Fin 1024, v (ix2 r k) * x4 (ix2 k j) := by
  rw [show x = ix3 0 (x 1) (x 2) from funext fun a => by match a with | 0 => exact Subsingleton.elim (α := Fin 1) _ _ | 1 => rfl | 2 => rfl]
  refine (tile_at v _ (x 1) (x 2)).trans (Finset.sum_congr rfl fun k _ => ?_)
  refine congrArg₂ (· * ·) (congrArg v ?_) ?_
  · exact congrArg (fun z => ix2 z k) (Fin.ext hr.symm)
  · refine View.ld_unit_apply_of (S := S1024x3584) (Val := Elt Ideal) (e := .bf16) x4 ![0, o] S1024x512.size inb _ (ix2 k j) fun a => ?_
    match a with
    | 0 => exact (Nat.zero_add _).symm
    | 1 => exact hj

/-- What a grid point leaves in its block. -/
theorem out_at (x0 : Vec Ideal S1x1024x1024 .f32) (x1 : Vec Ideal S1x1x1024 .f32) (x2 : Vec Ideal S1x1x1024 .f32) (x3 : Vec Ideal S1x1024 .f32) (x4 : Vec Ideal S1024x3584 .bf16)
    (r : Fin 1024) (j : Fin 3584) :
    (out0_5 x0 x1 x2 x3 x4 (ix3 0 r j) : EReal) = ∑ k : Fin 1024, k0_pay3 (F := Ideal) x0 x3 x2 x1 (ix2 r k) * x4 (ix2 k j) := by
  have e0 : View.ld x0 r0_0 = x0 := View.ld_unit_lit _ _ (by decide)
  have e3 : View.ld x3 r0_1 = x3 := View.ld_unit_lit _ _ (by decide)
  have e2 : View.ld x2 r0_2 = x2 := View.ld_unit_lit _ _ (by decide)
  have e1 : View.ld x1 r0_2 = x1 := View.ld_unit_lit _ _ (by decide)
  have hv : k0_pay10 x0 x1 x2 x3 x4 = k0_pay3 (F := Ideal) x0 x3 x2 x1 := by
    unfold k0_pay10; rw [e0, e1, e2, e3]
  unfold out0_5
  rw [hv, e0, e1, e2, e3]
  generalize hp : k0_pay3 (F := Ideal) x0 x3 x2 x1 = v
  have h4 : k0_pay4 (F := Ideal) x0 x3 x2 x1 (View.ld x4 r0_3) = tile v (View.ld x4 r0_3) := by rw [← hp]; rfl
  rw [h4]
  canon_tiles x h using cover0_5 ..
  · exact tile_ld v x4 3072 _ x r j h1 h2
  · exact tile_ld v x4 2560 _ x r j h1 h2
  · exact tile_ld v x4 2048 _ x r j h1 h2
  · exact tile_ld v x4 1536 _ x r j h1 h2
  · exact tile_ld v x4 1024 _ x r j h1 h2
  · exact tile_ld v x4 512 _ x r j h1 h2
  · exact tile_ld v x4 0 _ x r j h1 (h2.trans (Nat.zero_add _).symm)

/-- The row it projects: the input's row over its root mean square, by the norm's weight and `1 + scale`, plus `shift`. -/
theorem row_at (x0 : Vec Ideal S1x1024x1024 .f32) (x1 : Vec Ideal S1x1x1024 .f32) (x2 : Vec Ideal S1x1x1024 .f32) (x3 : Vec Ideal S1x1024 .f32) (r k : Fin 1024) :
    (k0_pay3 (F := Ideal) x0 x3 x2 x1 (ix2 r k) : EReal)
      = x0 (ix3 0 r k) * Ideal.rsqrt (Ideal.div (∑ l : Fin 1024, x0 (ix3 0 r l) * x0 (ix3 0 r l)) (Ideal.ofBits .f32 0x44800000#32) + Ideal.ofBits .f32 0x358637BD#32)
          * (x3 (ix2 0 k) * (1 + x2 (ix3 0 0 k))) + x1 (ix3 0 0 k) := by
  pointwise [k0_pay3]

end Cert.Proof.Inproj

end
-- ==== Proof.InprojRef.lean ====
/-
  The input projection's reference, at an index.
-/
module

public import proofs.«01_k».proof.Proof.Gen.Reference2Ideal
public import Idealize.ShloMosaic.Lib.Pointwise
public import Idealize.ShloMosaic.Lib.IdealHost

@[expose] public section

noncomputable section

namespace Cert.Proof.Inproj

open Cert.Reference2Ideal Cert.Reference2Ideal.Gen
open Idealize.ShloMosaic
open Idealize.ShloMosaic.TcCoe

/-- What the reference computes, of its four arguments. -/
def refOf (x : S8x2048x1024.Idx → EReal) (mod : S16x6144.Idx → EReal) (norm : S1x1024.Idx → EReal) (w : S1x1024x3584.Idx → EReal) : S8x2048x3584.Idx → EReal :=
  ref (F := Ideal) x mod norm w
where
  /-- The reference's own term. -/
  ref {F : FTy → Type} [FloatOps F] (x : FVec F S8x2048x1024 .f32) (mod : FVec F S16x6144 .f32) (norm : FVec F S1x1024 .f32) (w : FVec F S1x1024x3584 .f32) : FVec F S8x2048x3584 .bf16 :=
    truncf .bf16 (Host.dotGeneral dot_S8x2048x1024_S1024x3584_S8x2048x3584_2_0_01_1_n_n none (addf (mulf (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ norm shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (extractStridedSlice S8x6144 ![0, 0] mod slices_S16x6144_S8x6144_0_0)) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 (extractStridedSlice S8x6144 ![0, 0] mod slices_S16x6144_S8x6144_0_0)) slices_S8x1x6144_S8x1x1024_0_0_0))) (shapeCast _ w shapeCasts_S1x1024x3584_S1024x3584)) bitsLt_bf16_f32

theorem refOf_at (x : S8x2048x1024.Idx → EReal) (mod : S16x6144.Idx → EReal) (norm : S1x1024.Idx → EReal) (w : S1x1024x3584.Idx → EReal)
    (b : Fin 8) (r : Fin 2048) (j : Fin 3584) :
    refOf x mod norm w (ix3 b r j)
      = ∑ k : Fin 1024,
          (x (ix3 b r k) * Ideal.rsqrt (Ideal.div (∑ l : Fin 1024, x (ix3 b r l) * x (ix3 b r l)) (Ideal.ofBits .f32 0x44800000#32) + Ideal.ofBits .f32 0x358637BD#32)
              * norm (ix2 0 k) * (1 + mod (ix2 ⟨b.val, by omega⟩ ⟨1024 + k.val, by omega⟩)) + mod (ix2 ⟨b.val, by omega⟩ ⟨k.val, by omega⟩)) * w (ix3 0 k j) := by
  pointwise [refOf, refOf.ref]

end Cert.Proof.Inproj

end
-- ==== Proof.InprojValue.lean ====
/-
  The input projection's whole array: each grid point's block is the reference's block, and the blocks cover it.
-/
module

public import proofs.«01_k».proof.Proof.InprojBlock
public import proofs.«01_k».proof.Proof.InprojRef

@[expose] public section

noncomputable section

namespace Cert.Proof.Inproj

open Cert.Kernel2Ideal Cert.Kernel2Ideal.Gen
open Idealize.ShloMosaic Idealize.ShloMosaic.StableHlo
open Idealize.ShloMosaic.TcCoe

variable (m : (ℓ : Loc nD τ sig) → Buf (Elt Ideal) ℓ) (c : Dev nD)

/-- The input. -/
abbrev argX : S8x2048x1024.Idx → EReal := m ((c.tc : Thread nD τ).loc main_arg0)
/-- The modulation. -/
abbrev argMod : S16x6144.Idx → EReal := m ((c.tc : Thread nD τ).loc main_arg1)
/-- The norm's weight. -/
abbrev argNorm : S1x1024.Idx → EReal := m ((c.tc : Thread nD τ).loc main_arg2)
/-- The projection's weight. -/
abbrev argW : S1x1024x3584.Idx → EReal := m ((c.tc : Thread nD τ).loc main_arg3)

/-! ## The operands the call finds -/

theorem entry_mod : (V m c main_v0 : S96x1x1024.Idx → EReal) = shapeCast S96x1x1024 (argMod m c) shapeCasts_S16x6144_S96x1x1024 := by
  show StableHlo.after hostOps0 (fun b => m (c, b)) main_v0 = _
  after_results
  all_goals rfl

theorem entry_norm : (V m c main_v2 : S1x1024.Idx → EReal) = shapeCast S1x1024 (shapeCast S1024 (argNorm m c) shapeCasts_S1x1024_S1024) shapeCasts_S1024_S1x1024 := by
  show StableHlo.after hostOps0 (fun b => m (c, b)) main_v2 = _
  after_results
  all_goals rfl

theorem entry_w : (V m c main_v4 : S1024x3584.Idx → EReal) = shapeCast S1024x3584 (argW m c) shapeCasts_S1x1024x3584_S1024x3584 := by
  show StableHlo.after hostOps0 (fun b => m (c, b)) main_v4 = _
  after_results
  all_goals rfl

theorem mod_reshape (a : S16x6144.Idx → EReal) (q : Fin 96) (k : Fin 1024) (b : Fin 16) (l : Fin 6144) (hb : q.val / 6 = b.val) (hl : q.val % 6 * 1024 + k.val = l.val) :
    shapeCast S96x1x1024 a shapeCasts_S16x6144_S96x1x1024 (ix3 q 0 k) = a (ix2 b l) := by
  pointwise
  exact congrArg a (congrArg₂ ix2 (Fin.ext hb) (Fin.ext hl))

theorem norm_cast (a : S1x1024.Idx → EReal) (k : Fin 1024) :
    shapeCast S1x1024 (shapeCast S1024 a shapeCasts_S1x1024_S1024) shapeCasts_S1024_S1x1024 (ix2 0 k) = a (ix2 0 k) := by
  pointwise

theorem w_cast (a : S1x1024x3584.Idx → EReal) (k : Fin 1024) (j : Fin 3584) :
    shapeCast S1024x3584 a shapeCasts_S1x1024x3584_S1024x3584 (ix2 k j) = a (ix3 0 k j) := by
  pointwise

/-! ## Where a point's blocks lie -/

theorem e0 : ∀ t : Fin cfg0.N, win0_0.index t = ![t.val / 2, t.val % 2, 0] := (by decide +kernel : ∀ t : Fin grid0.N, _)
theorem e1 : ∀ t : Fin cfg0.N, win0_1.index t = ![t.val / 2 * 6, 0, 0] := (by decide +kernel : ∀ t : Fin grid0.N, _)
theorem e2 : ∀ t : Fin cfg0.N, win0_2.index t = ![t.val / 2 * 6 + 1, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 2, t.val % 2, 0] := (by decide +kernel : ∀ t : Fin grid0.N, _)

theorem blk_x (t : Fin cfg0.N) (b : Fin 8) (r : Fin 1024) (R : Fin 2048) (k : Fin 1024) (hb : t.val / 2 = b.val) (hR : t.val % 2 * 1024 + r.val = R.val) :
    (iblk m c 0 t (ix3 0 r k) : EReal) = argX m c (ix3 b R k) := by
  blk_ext! [iblk, V, e0 t]

theorem blk_shift (t : Fin cfg0.N) (b : Fin 16) (l : Fin 6144) (k : Fin 1024) (hb : t.val / 2 = b.val) (hl : k.val = l.val) :
    (iblk m c 1 t (ix3 0 0 k) : EReal) = argMod m c (ix2 b l) := by
  have ht : t.val < 16 := t.isLt
  have h : (iblk m c 1 t (ix3 0 0 k) : EReal) = (V m c main_v0 : S96x1x1024.Idx → EReal) (ix3 ⟨t.val / 2 * 6, by omega⟩ 0 k) := by
    blk_ext [iblk, e1 t]
  rw [h, entry_mod]
  exact mod_reshape _ _ _ _ _ (by show t.val / 2 * 6 / 6 = _; omega) (by show t.val / 2 * 6 % 6 * 1024 + _ = _; omega)

theorem blk_scale (t : Fin cfg0.N) (b : Fin 16) (l : Fin 6144) (k : Fin 1024) (hb : t.val / 2 = b.val) (hl : 1024 + k.val = l.val) :
    (iblk m c 2 t (ix3 0 0 k) : EReal) = argMod m c (ix2 b l) := by
  have ht : t.val < 16 := t.isLt
  have h : (iblk m c 2 t (ix3 0 0 k) : EReal) = (V m c main_v0 : S96x1x1024.Idx → EReal) (ix3 ⟨t.val / 2 * 6 + 1, by omega⟩ 0 k) := by
    blk_ext [iblk, e2 t]
  rw [h, entry_mod]
  exact mod_reshape _ _ _ _ _ (by show (t.val / 2 * 6 + 1) / 6 = _; omega) (by show (t.val / 2 * 6 + 1) % 6 * 1024 + _ = _; omega)

theorem blk_norm (t : Fin cfg0.N) (k : Fin 1024) :
    (iblk m c 3 t (ix2 0 k) : EReal) = argNorm m c (ix2 0 k) := by
  have h : (iblk m c 3 t (ix2 0 k) : EReal) = (V m c main_v2 : S1x1024.Idx → EReal) (ix2 0 k) := by
    blk_ext [iblk, e3 t]
  rw [h, entry_norm]
  exact norm_cast _ _

theorem blk_w (t : Fin cfg0.N) (k : Fin 1024) (j : Fin 3584) :
    (iblk m c 4 t (ix2 k j) : EReal) = argW m c (ix3 0 k j) := by
  have h : (iblk m c 4 t (ix2 k j) : EReal) = (V m c main_v4 : S1024x3584.Idx → EReal) (ix2 k j) := by
    blk_ext [iblk, e4 t]
  rw [h, entry_w]
  exact w_cast _ _ _

/-- The result: the reference of the four arguments. -/
abbrev result : S8x2048x3584.Idx → EReal := refOf (argX m c) (argMod m c) (argNorm m c) (argW m c)

theorem point (t : Fin cfg0.N) (r : Fin 1024) (j : Fin 3584) (b : Fin 8) (R : Fin 2048) (hb : t.val / 2 = b.val) (hR : t.val % 2 * 1024 + r.val = R.val) :
    (out0_5 (iblk m c 0 t) (iblk m c 1 t) (iblk m c 2 t) (iblk m c 3 t) (iblk m c 4 t) (ix3 0 r j) : EReal) = result m c (ix3 b R j) := by
  refine (out_at _ _ _ _ _ r j).trans (Eq.trans ?_ (refOf_at _ _ _ _ b R j).symm)
  refine Finset.sum_congr rfl fun k _ => congrArg₂ (· * ·) ?_ (blk_w m c t k j)
  refine (row_at _ _ _ _ r k).trans ?_
  rw [blk_norm m c t k, blk_shift m c t ⟨b.val, by omega⟩ ⟨k.val, by omega⟩ k hb rfl, blk_scale m c t ⟨b.val, by omega⟩ ⟨1024 + k.val, by omega⟩ k hb rfl,
    blk_x m c t b r R k hb hR, Finset.sum_congr rfl fun (l : Fin 1024) _ => by rw [blk_x m c t b r R l hb hR], mul_assoc (argX m c (ix3 b R k) * _)]

theorem final : ((dats m 0 c).arrAt 5 cfg0.N : S8x2048x3584.Idx → EReal) = result m c := by
  refine (dats m 0 c).arrAt_eq_of_covers 5 _ (by decide +kernel) fun t hf y => ?_
  have ht : t.val < 16 := t.isLt
  have h0 : (y 0).val < 1 := (y 0).isLt
  have h1 : (y 1).val < 1024 := (y 1).isLt
  have h2 : (y 2).val < 3584 := (y 2).isLt
  have hy : y = ix3 (⟨0, by omega⟩ : Fin 1) (⟨(y 1).val, h1⟩ : Fin 1024) (⟨(y 2).val, h2⟩ : Fin 3584) := funext fun a => by
    match a with
    | 0 => exact Fin.ext (by show (y 0).val = 0; omega)
    | 1 => rfl
    | 2 => rfl
  have he : ((cfg0.win 5).blk t).view.emb y = (ix3 (⟨t.val / 2, by omega⟩ : Fin 8) (⟨t.val % 2 * 1024 + (y 1).val, by omega⟩ : Fin 2048) (⟨(y 2).val, h2⟩ : Fin 3584) : S8x2048x3584.Idx) := funext fun a => by
    match a with
    | 0 => refine Fin.ext ?_; blk_simp [e5 t]
    | 1 => refine Fin.ext ?_; blk_simp [e5 t]
    | 2 => refine Fin.ext ?_; blk_simp [e5 t]
  rw [he]
  blk_simp [e5 t]
  rw [after0_5]
  refine (congrArg (out0_5 (iblk m c 0 t) (iblk m c 1 t) (iblk m c 2 t) (iblk m c 3 t) (iblk m c 4 t)) hy).trans ?_
  exact point m c t _ _ _ _ rfl rfl

end Cert.Proof.Inproj

end
-- ==== Proof.InprojAlgebraic.lean ====
/-
  The input projection: the kernel's result is the reference's.
-/
module

public import proofs.«01_k».proof.Defs
public import proofs.«01_k».proof.Proof.InprojValue
public import proofs.«01_k».proof.Proof.Gen.Reference2Ideal.Run

@[expose] public section

noncomputable section

namespace Cert.Proof

open Idealize.ShloMosaic
open Idealize.ShloMosaic.TcCoe

theorem algebraic2 : Cert.algebraic_Kernel2Ideal_Reference2Ideal := fun m g m' g' _ ha => by
  refine ⟨fun c => Inproj.result m c, ?_, ?_⟩
  · exact (θ_run Cert.Kernel2Ideal.defs _ _).mono (fun _ h c => ⟨(h c).1.trans (Inproj.final m c), (h c).2⟩) (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    rw [(ha c).1, (ha c).2.1, (ha c).2.2.1, (ha c).2.2.2]
    rfl

end Cert.Proof

end
-- ==== Proof.lean ====
/-
  The proof of the claims: the frames of the programs, and each call's kernel against its reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_inputs
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3Ideal
public import proofs.«01_k».proof.Proof.Gen.Pre_routed
public import proofs.«01_k».proof.Proof.Gen.Reference3Ideal
public import proofs.«01_k».proof.Proof.Gen.Reference3Ideal.Run
public import proofs.«01_k».proof.Proof.Frames
public import proofs.«01_k».proof.Proof.ExpFrames
public import proofs.«01_k».proof.Proof.ExpSum
public import proofs.«01_k».proof.Proof.ModAlgebraic
public import proofs.«01_k».proof.Proof.InprojAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_inputs.Gen.facts, Cert.Pre_routed.Gen.facts, by
  exact ⟨frame_kernel, frame_kernelIdeal, frame_kernelIdeal_pre, frame_reference, frame_reference_pre, frame_kernel2, frame_kernel2Ideal, frame_reference2,
    frame_kernel3, frame_kernel3Ideal, frame_reference3, frame_reference3_pre, trivial, algebraic, trivial, algebraic2, trivial, algebraic3⟩⟩

end Cert.Proof

end
